-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Kernel2Ideal_experts_named_weights_real [hPre_experts_named_weights_real : Cert.Pre_experts_named_weights_real.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named_weights_real.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_named_weights_real [hPre_experts_named_weights_real : Cert.Pre_experts_named_weights_real.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named_weights_real.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 [hPre_experts_named_last : Cert.Pre_experts_named_last.Facts] (m : (ℓ : Loc Cert.Kernel3.nD Cert.Kernel3.τ Cert.Kernel3.sig) → Buf (Elt Bits) ℓ) : Prop :=
  ∀ c : Dev Cert.Kernel3.nD,
    (Cert.Pre_experts_named_last.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts_named_last : Cert.Pre_experts_named_last.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_named_last.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Kernel3Ideal_experts_named_weights_real_last [hPre_experts_named_weights_real_last : Cert.Pre_experts_named_weights_real_last.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_named_weights_real_last.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_named_weights_real_last [hPre_experts_named_weights_real_last : Cert.Pre_experts_named_weights_real_last.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_named_weights_real_last.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 [hPre_positions_named : Cert.Pre_positions_named.Facts] (m : (ℓ : Loc Cert.Kernel4.nD Cert.Kernel4.τ Cert.Kernel4.sig) → Buf (Elt Bits) ℓ) : Prop :=
  ∀ c : Dev Cert.Kernel4.nD,
    (Cert.Pre_positions_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))) = (fun _ => 1#1)

def Pre_Kernel4Ideal [hPre_positions_named : Cert.Pre_positions_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_positions_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_positions_named [hPre_positions_named : Cert.Pre_positions_named.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_positions_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_conditioning [hPre_finite_conditioning : Cert.Pre_finite_conditioning.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_conditioning.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_conditioning [hPre_finite_conditioning : Cert.Pre_finite_conditioning.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_conditioning.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_tokens [hPre_finite_tokens : Cert.Pre_finite_tokens.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_tokens.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_tokens [hPre_finite_tokens : Cert.Pre_finite_tokens.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_tokens.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_experts_named_weights_real [hKernel2Ideal : Cert.Kernel2Ideal.Facts] [hPre_experts_named_weights_real : Cert.Pre_experts_named_weights_real.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_experts_named_weights_real m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_named_weights_real [hReference2Ideal : Cert.Reference2Ideal.Facts] [hPre_experts_named_weights_real : Cert.Pre_experts_named_weights_real.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_named_weights_real m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_experts_named_last : Cert.Pre_experts_named_last.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_named_last : Cert.Pre_experts_named_last.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_experts_named_weights_real_last [hKernel3Ideal : Cert.Kernel3Ideal.Facts] [hPre_experts_named_weights_real_last : Cert.Pre_experts_named_weights_real_last.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_experts_named_weights_real_last m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_named_weights_real_last [hReference3Ideal : Cert.Reference3Ideal.Facts] [hPre_experts_named_weights_real_last : Cert.Pre_experts_named_weights_real_last.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_named_weights_real_last m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] [hPre_positions_named : Cert.Pre_positions_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] [hPre_positions_named : Cert.Pre_positions_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_positions_named [hReference4Ideal : Cert.Reference4Ideal.Facts] [hPre_positions_named : Cert.Pre_positions_named.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_positions_named m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_conditioning [hKernel5Ideal : Cert.Kernel5Ideal.Facts] [hPre_finite_conditioning : Cert.Pre_finite_conditioning.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_conditioning m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_conditioning [hReference5Ideal : Cert.Reference5Ideal.Facts] [hPre_finite_conditioning : Cert.Pre_finite_conditioning.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_conditioning m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite_tokens [hKernel6Ideal : Cert.Kernel6Ideal.Facts] [hPre_finite_tokens : Cert.Pre_finite_tokens.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_tokens m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite_tokens [hReference6Ideal : Cert.Reference6Ideal.Facts] [hPre_finite_tokens : Cert.Pre_finite_tokens.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_tokens m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_experts_named_weights_real [hKernel2Ideal : Cert.Kernel2Ideal.Facts] [hReference2Ideal : Cert.Reference2Ideal.Facts] [hPre_experts_named_weights_real : Cert.Pre_experts_named_weights_real.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_experts_named_weights_real m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_experts_named_weights_real_last [hKernel3Ideal : Cert.Kernel3Ideal.Facts] [hReference3Ideal : Cert.Reference3Ideal.Facts] [hPre_experts_named_weights_real_last : Cert.Pre_experts_named_weights_real_last.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_experts_named_weights_real_last m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] [hPre_positions_named : Cert.Pre_positions_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_conditioning [hKernel5Ideal : Cert.Kernel5Ideal.Facts] [hReference5Ideal : Cert.Reference5Ideal.Facts] [hPre_finite_conditioning : Cert.Pre_finite_conditioning.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_conditioning m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_tokens [hKernel6Ideal : Cert.Kernel6Ideal.Facts] [hReference6Ideal : Cert.Reference6Ideal.Facts] [hPre_finite_tokens : Cert.Pre_finite_tokens.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_tokens m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)) (v2 : (c : Dev Cert.Kernel6Ideal.nD) → Buf (Elt Ideal) ((c.tc : Thread Cert.Kernel6Ideal.nD Cert.Kernel6Ideal.τ).loc Cert.Kernel6Ideal.main_v15_2)) (v3 : (c : Dev Cert.Kernel6Ideal.nD) → Buf (Elt Ideal) ((c.tc : Thread Cert.Kernel6Ideal.nD Cert.Kernel6Ideal.τ).loc Cert.Kernel6Ideal.main_v15_3)) (v4 : (c : Dev Cert.Kernel6Ideal.nD) → Buf (Elt Ideal) ((c.tc : Thread Cert.Kernel6Ideal.nD Cert.Kernel6Ideal.τ).loc Cert.Kernel6Ideal.main_v15_4)) (v5 : (c : Dev Cert.Kernel6Ideal.nD) → Buf (Elt Ideal) ((c.tc : Thread Cert.Kernel6Ideal.nD Cert.Kernel6Ideal.τ).loc Cert.Kernel6Ideal.main_v15_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_v15_2) = v2 c
          ∧ r.2.mem ((c.tc : Thread Cert.Kernel6Ideal.nD Cert.Kernel6Ideal.τ).loc Cert.Kernel6Ideal.main_v15_3) = v3 c
          ∧ r.2.mem ((c.tc : Thread Cert.Kernel6Ideal.nD Cert.Kernel6Ideal.τ).loc Cert.Kernel6Ideal.main_v15_4) = v4 c
          ∧ r.2.mem ((c.tc : Thread Cert.Kernel6Ideal.nD Cert.Kernel6Ideal.τ).loc Cert.Kernel6Ideal.main_v15_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v106) = v0 c
          ∧ r.2.mem ((c.tc : Thread Cert.Reference6Ideal.nD Cert.Reference6Ideal.τ).loc Cert.Reference6Ideal.main_v107) = v1 c
          ∧ r.2.mem ((c.tc : Thread Cert.Reference6Ideal.nD Cert.Reference6Ideal.τ).loc Cert.Reference6Ideal.main_v108) = v2 c
          ∧ r.2.mem ((c.tc : Thread Cert.Reference6Ideal.nD Cert.Reference6Ideal.τ).loc Cert.Reference6Ideal.main_v31) = v3 c
          ∧ r.2.mem ((c.tc : Thread Cert.Reference6Ideal.nD Cert.Reference6Ideal.τ).loc Cert.Reference6Ideal.main_v32) = v4 c
          ∧ r.2.mem ((c.tc : Thread Cert.Reference6Ideal.nD Cert.Reference6Ideal.τ).loc Cert.Reference6Ideal.main_v33) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_queries_keys : Cert.Pre_finite_queries_keys.Facts) (hPre_experts_named : Cert.Pre_experts_named.Facts) (hPre_experts_named_weights_real : Cert.Pre_experts_named_weights_real.Facts) (hPre_experts_named_last : Cert.Pre_experts_named_last.Facts) (hPre_experts_named_weights_real_last : Cert.Pre_experts_named_weights_real_last.Facts) (hPre_positions_named : Cert.Pre_positions_named.Facts) (hPre_finite_conditioning : Cert.Pre_finite_conditioning.Facts) (hPre_finite_tokens : Cert.Pre_finite_tokens.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2) (hPre_experts_named := hPre_experts_named)
    ∧ quiescent_Kernel2Ideal (hKernel2Ideal := hKernel2Ideal) (hPre_experts_named := hPre_experts_named)
    ∧ quiescent_Kernel2Ideal_pre_experts_named_weights_real (hKernel2Ideal := hKernel2Ideal) (hPre_experts_named_weights_real := hPre_experts_named_weights_real)
    ∧ quiescent_Reference2Ideal (hReference2Ideal := hReference2Ideal)
    ∧ quiescent_Reference2Ideal_pre_experts_named_weights_real (hReference2Ideal := hReference2Ideal) (hPre_experts_named_weights_real := hPre_experts_named_weights_real)
    ∧ quiescent_Kernel3 (hKernel3 := hKernel3) (hPre_experts_named_last := hPre_experts_named_last)
    ∧ quiescent_Kernel3Ideal (hKernel3Ideal := hKernel3Ideal) (hPre_experts_named_last := hPre_experts_named_last)
    ∧ quiescent_Kernel3Ideal_pre_experts_named_weights_real_last (hKernel3Ideal := hKernel3Ideal) (hPre_experts_named_weights_real_last := hPre_experts_named_weights_real_last)
    ∧ quiescent_Reference3Ideal (hReference3Ideal := hReference3Ideal)
    ∧ quiescent_Reference3Ideal_pre_experts_named_weights_real_last (hReference3Ideal := hReference3Ideal) (hPre_experts_named_weights_real_last := hPre_experts_named_weights_real_last)
    ∧ quiescent_Kernel4 (hKernel4 := hKernel4) (hPre_positions_named := hPre_positions_named)
    ∧ quiescent_Kernel4Ideal (hKernel4Ideal := hKernel4Ideal) (hPre_positions_named := hPre_positions_named)
    ∧ quiescent_Reference4Ideal (hReference4Ideal := hReference4Ideal)
    ∧ quiescent_Reference4Ideal_pre_positions_named (hReference4Ideal := hReference4Ideal) (hPre_positions_named := hPre_positions_named)
    ∧ quiescent_Kernel5 (hKernel5 := hKernel5)
    ∧ quiescent_Kernel5Ideal (hKernel5Ideal := hKernel5Ideal)
    ∧ quiescent_Kernel5Ideal_pre_finite_conditioning (hKernel5Ideal := hKernel5Ideal) (hPre_finite_conditioning := hPre_finite_conditioning)
    ∧ quiescent_Reference5Ideal (hReference5Ideal := hReference5Ideal)
    ∧ quiescent_Reference5Ideal_pre_finite_conditioning (hReference5Ideal := hReference5Ideal) (hPre_finite_conditioning := hPre_finite_conditioning)
    ∧ quiescent_Kernel6 (hKernel6 := hKernel6)
    ∧ quiescent_Kernel6Ideal (hKernel6Ideal := hKernel6Ideal)
    ∧ quiescent_Kernel6Ideal_pre_finite_tokens (hKernel6Ideal := hKernel6Ideal) (hPre_finite_tokens := hPre_finite_tokens)
    ∧ quiescent_Reference6Ideal (hReference6Ideal := hReference6Ideal)
    ∧ quiescent_Reference6Ideal_pre_finite_tokens (hReference6Ideal := hReference6Ideal) (hPre_finite_tokens := hPre_finite_tokens)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal_pre_experts_named_weights_real (hKernel2Ideal := hKernel2Ideal) (hReference2Ideal := hReference2Ideal) (hPre_experts_named_weights_real := hPre_experts_named_weights_real)
    ∧ preserves_Kernel3_Kernel3Ideal
    ∧ algebraic_Kernel3Ideal_Reference3Ideal_pre_experts_named_weights_real_last (hKernel3Ideal := hKernel3Ideal) (hReference3Ideal := hReference3Ideal) (hPre_experts_named_weights_real_last := hPre_experts_named_weights_real_last)
    ∧ preserves_Kernel4_Kernel4Ideal
    ∧ algebraic_Kernel4Ideal_Reference4Ideal (hKernel4Ideal := hKernel4Ideal) (hReference4Ideal := hReference4Ideal) (hPre_positions_named := hPre_positions_named)
    ∧ preserves_Kernel5_Kernel5Ideal
    ∧ algebraic_Kernel5Ideal_Reference5Ideal_pre_finite_conditioning (hKernel5Ideal := hKernel5Ideal) (hReference5Ideal := hReference5Ideal) (hPre_finite_conditioning := hPre_finite_conditioning)
    ∧ preserves_Kernel6_Kernel6Ideal
    ∧ algebraic_Kernel6Ideal_Reference6Ideal_pre_finite_tokens (hKernel6Ideal := hKernel6Ideal) (hReference6Ideal := hReference6Ideal) (hPre_finite_tokens := hPre_finite_tokens)
-- ==== Pre_experts_named.lean ====
abbrev S168 : Shape := ⟨1, ![168]⟩
abbrev S336 : Shape := ⟨1, ![336]⟩
abbrev S86528x1152 : Shape := ⟨2, ![86528, 1152]⟩
abbrev S16x1024x512 : Shape := ⟨3, ![16, 1024, 512]⟩
abbrev S16x512x1024 : Shape := ⟨3, ![16, 512, 1024]⟩
abbrev S_ : Shape := ⟨0, ![]⟩

class Facts : Prop where
  bcast_S_S336 : S_.BroadcastsInDim S336 (![] : Fin 0 → Fin S336.rank)
  reducesTo_S336_S_d0 : S336.ReducesTo [0] S_
  h_S_ : 0 < S_.numel

variable [Facts]

def fn {F : FTy → Type} [FloatOps F] (main_arg0 : IVec S168 32) (main_arg1 : IVec S336 32) (main_arg2 : FVec F S86528x1152 .f32) (main_arg3 : FVec F S16x1024x512 .bf16) (main_arg4 : FVec F S16x1024x512 .bf16) (main_arg5 : FVec F S16x512x1024 .bf16) : IVec S_ 1 :=
  let main_c : IVec S_ 32 := constantI S_ 32 0#32
  let main_v0 : IVec S336 32 := broadcastInDim S336 ![] bcast_S_S336 main_c
  let main_v1 : IVec S336 1 := cmpi .sge main_arg1 main_v0
  let main_c_0 : IVec S_ 32 := constantI S_ 32 16#32
  let main_v2 : IVec S336 32 := broadcastInDim S336 ![] bcast_S_S336 main_c_0
  let main_v3 : IVec S336 1 := cmpi .slt main_arg1 main_v2
  let main_v4 : IVec S336 1 := andi main_v1 main_v3
  let main_c_1 : IVec S_ 1 := constantI S_ 1 1#1
  let main_v5 : IVec S_ 1 := (fun x v => Host.reduce IntOp.andi x v reducesTo_S336_S_d0 h_S_) main_v4 main_c_1
  main_v5
-- ==== Pre_experts_named_last.lean ====
abbrev S152 : Shape := ⟨1, ![152]⟩
abbrev S304 : Shape := ⟨1, ![304]⟩
abbrev S78336x1152 : Shape := ⟨2, ![78336, 1152]⟩
abbrev S16x1024x512 : Shape := ⟨3, ![16, 1024, 512]⟩
abbrev S16x512x1024 : Shape := ⟨3, ![16, 512, 1024]⟩
abbrev S_ : Shape := ⟨0, ![]⟩

class Facts : Prop where
  bcast_S_S304 : S_.BroadcastsInDim S304 (![] : Fin 0 → Fin S304.rank)
  reducesTo_S304_S_d0 : S304.ReducesTo [0] S_
  h_S_ : 0 < S_.numel

variable [Facts]

def fn {F : FTy → Type} [FloatOps F] (main_arg0 : IVec S152 32) (main_arg1 : IVec S304 32) (main_arg2 : FVec F S78336x1152 .f32) (main_arg3 : FVec F S16x1024x512 .bf16) (main_arg4 : FVec F S16x1024x512 .bf16) (main_arg5 : FVec F S16x512x1024 .bf16) : IVec S_ 1 :=
  let main_c : IVec S_ 32 := constantI S_ 32 0#32
  let main_v0 : IVec S304 32 := broadcastInDim S304 ![] bcast_S_S304 main_c
  let main_v1 : IVec S304 1 := cmpi .sge main_arg1 main_v0
  let main_c_0 : IVec S_ 32 := constantI S_ 32 16#32
  let main_v2 : IVec S304 32 := broadcastInDim S304 ![] bcast_S_S304 main_c_0
  let main_v3 : IVec S304 1 := cmpi .slt main_arg1 main_v2
  let main_v4 : IVec S304 1 := andi main_v1 main_v3
  let main_c_1 : IVec S_ 1 := constantI S_ 1 1#1
  let main_v5 : IVec S_ 1 := (fun x v => Host.reduce IntOp.andi x v reducesTo_S304_S_d0 h_S_) main_v4 main_c_1
  main_v5
-- ==== Pre_experts_named_weights_real.lean ====
abbrev S168 : Shape := ⟨1, ![168]⟩
abbrev S336 : Shape := ⟨1, ![336]⟩
abbrev S86528x1152 : Shape := ⟨2, ![86528, 1152]⟩
abbrev S16x1024x512 : Shape := ⟨3, ![16, 1024, 512]⟩
abbrev S16x512x1024 : Shape := ⟨3, ![16, 512, 1024]⟩
abbrev S86016x2 : Shape := ⟨2, ![86016, 2]⟩
abbrev S_ : Shape := ⟨0, ![]⟩

class Facts : Prop where
  slices_S86528x1152_S86016x2_0_1024 : S86528x1152.Slices ![0, 1024] S86016x2
  bcast_S_S336 : S_.BroadcastsInDim S336 (![] : Fin 0 → Fin S336.rank)
  reducesTo_S336_S_d0 : S336.ReducesTo [0] S_
  h_S_ : 0 < S_.numel
  bcast_S_S86016x2 : S_.BroadcastsInDim S86016x2 (![] : Fin 0 → Fin S86016x2.rank)
  reducesTo_S86016x2_S_d0_1 : S86016x2.ReducesTo [0, 1] S_

variable [Facts]

def fn {F : FTy → Type} [FloatOps F] (main_arg0 : IVec S168 32) (main_arg1 : IVec S336 32) (main_arg2 : FVec F S86528x1152 .f32) (main_arg3 : FVec F S16x1024x512 .bf16) (main_arg4 : FVec F S16x1024x512 .bf16) (main_arg5 : FVec F S16x512x1024 .bf16) : IVec S_ 1 :=
  let main_v0 : FVec F S86016x2 .f32 := (extractStridedSlice S86016x2 ![0, 1024] · slices_S86528x1152_S86016x2_0_1024) main_arg2
  let main_c : IVec S_ 32 := constantI S_ 32 0#32
  let main_v1 : IVec S336 32 := broadcastInDim S336 ![] bcast_S_S336 main_c
  let main_v2 : IVec S336 1 := cmpi .sge main_arg1 main_v1
  let main_c_0 : IVec S_ 32 := constantI S_ 32 16#32
  let main_v3 : IVec S336 32 := broadcastInDim S336 ![] bcast_S_S336 main_c_0
  let main_v4 : IVec S336 1 := cmpi .slt main_arg1 main_v3
  let main_v5 : IVec S336 1 := andi main_v2 main_v4
  let main_c_1 : IVec S_ 1 := constantI S_ 1 1#1
  let main_v6 : IVec S_ 1 := (fun x v => Host.reduce IntOp.andi x v reducesTo_S336_S_d0 h_S_) main_v5 main_c_1
  let main_cst : FVec F S_ .f32 := constant S_ .f32 0x00000000#32
  let main_v7 : FVec F S86016x2 .f32 := broadcastInDim S86016x2 ![] bcast_S_S86016x2 main_cst
  let main_v8 : IVec S86016x2 1 := cmpf .oge main_v0 main_v7
  let main_cst_2 : FVec F S_ .f32 := constant S_ .f32 0x7F800000#32
  let main_v9 : FVec F S86016x2 .f32 := broadcastInDim S86016x2 ![] bcast_S_S86016x2 main_cst_2
  let main_v10 : IVec S86016x2 1 := cmpf .olt main_v0 main_v9
  let main_v11 : IVec S86016x2 1 := andi main_v8 main_v10
  let main_c_3 : IVec S_ 1 := constantI S_ 1 1#1
  let main_v12 : IVec S_ 1 := (fun x v => Host.reduce IntOp.andi x v reducesTo_S86016x2_S_d0_1 h_S_) main_v11 main_c_3
  let main_v13 : IVec S_ 1 := andi main_v6 main_v12
  main_v13
-- ==== Pre_experts_named_weights_real_last.lean ====
abbrev S152 : Shape := ⟨1, ![152]⟩
abbrev S304 : Shape := ⟨1, ![304]⟩
abbrev S78336x1152 : Shape := ⟨2, ![78336, 1152]⟩
abbrev S16x1024x512 : Shape := ⟨3, ![16, 1024, 512]⟩
abbrev S16x512x1024 : Shape := ⟨3, ![16, 512, 1024]⟩
abbrev S77824x2 : Shape := ⟨2, ![77824, 2]⟩
abbrev S_ : Shape := ⟨0, ![]⟩

class Facts : Prop where
  slices_S78336x1152_S77824x2_0_1024 : S78336x1152.Slices ![0, 1024] S77824x2
  bcast_S_S304 : S_.BroadcastsInDim S304 (![] : Fin 0 → Fin S304.rank)
  reducesTo_S304_S_d0 : S304.ReducesTo [0] S_
  h_S_ : 0 < S_.numel
  bcast_S_S77824x2 : S_.BroadcastsInDim S77824x2 (![] : Fin 0 → Fin S77824x2.rank)
  reducesTo_S77824x2_S_d0_1 : S77824x2.ReducesTo [0, 1] S_

variable [Facts]

def fn {F : FTy → Type} [FloatOps F] (main_arg0 : IVec S152 32) (main_arg1 : IVec S304 32) (main_arg2 : FVec F S78336x1152 .f32) (main_arg3 : FVec F S16x1024x512 .bf16) (main_arg4 : FVec F S16x1024x512 .bf16) (main_arg5 : FVec F S16x512x1024 .bf16) : IVec S_ 1 :=
  let main_v0 : FVec F S77824x2 .f32 := (extractStridedSlice S77824x2 ![0, 1024] · slices_S78336x1152_S77824x2_0_1024) main_arg2
  let main_c : IVec S_ 32 := constantI S_ 32 0#32
  let main_v1 : IVec S304 32 := broadcastInDim S304 ![] bcast_S_S304 main_c
  let main_v2 : IVec S304 1 := cmpi .sge main_arg1 main_v1
  let main_c_0 : IVec S_ 32 := constantI S_ 32 16#32
  let main_v3 : IVec S304 32 := broadcastInDim S304 ![] bcast_S_S304 main_c_0
  let main_v4 : IVec S304 1 := cmpi .slt main_arg1 main_v3
  let main_v5 : IVec S304 1 := andi main_v2 main_v4
  let main_c_1 : IVec S_ 1 := constantI S_ 1 1#1
  let main_v6 : IVec S_ 1 := (fun x v => Host.reduce IntOp.andi x v reducesTo_S304_S_d0 h_S_) main_v5 main_c_1
  let main_cst : FVec F S_ .f32 := constant S_ .f32 0x00000000#32
  let main_v7 : FVec F S77824x2 .f32 := broadcastInDim S77824x2 ![] bcast_S_S77824x2 main_cst
  let main_v8 : IVec S77824x2 1 := cmpf .oge main_v0 main_v7
  let main_cst_2 : FVec F S_ .f32 := constant S_ .f32 0x7F800000#32
  let main_v9 : FVec F S77824x2 .f32 := broadcastInDim S77824x2 ![] bcast_S_S77824x2 main_cst_2
  let main_v10 : IVec S77824x2 1 := cmpf .olt main_v0 main_v9
  let main_v11 : IVec S77824x2 1 := andi main_v8 main_v10
  let main_c_3 : IVec S_ 1 := constantI S_ 1 1#1
  let main_v12 : IVec S_ 1 := (fun x v => Host.reduce IntOp.andi x v reducesTo_S77824x2_S_d0_1 h_S_) main_v11 main_c_3
  let main_v13 : IVec S_ 1 := andi main_v6 main_v12
  main_v13
-- ==== Pre_finite_conditioning.lean ====
abbrev S40x1024 : Shape := ⟨2, ![40, 1024]⟩
abbrev S4x1024x6144 : Shape := ⟨3, ![4, 1024, 6144]⟩
abbrev S4x6144 : Shape := ⟨2, ![4, 6144]⟩
abbrev S_ : Shape := ⟨0, ![]⟩

class Facts : Prop where
  bcast_S_S40x1024 : S_.BroadcastsInDim S40x1024 (![] : Fin 0 → Fin S40x1024.rank)
  reducesTo_S40x1024_S_d0_1 : S40x1024.ReducesTo [0, 1] S_
  h_S_ : 0 < S_.numel
  bcast_S_S4x1024x6144 : S_.BroadcastsInDim S4x1024x6144 (![] : Fin 0 → Fin S4x1024x6144.rank)
  reducesTo_S4x1024x6144_S_d0_1_2 : S4x1024x6144.ReducesTo [0, 1, 2] S_

variable [Facts]

def fn {F : FTy → Type} [FloatOps F] (main_arg0 : FVec F S40x1024 .f32) (main_arg1 : FVec F S4x1024x6144 .f32) (main_arg2 : FVec F S4x6144 .f32) : IVec S_ 1 :=
  let main_v0 : FVec F S40x1024 .f32 := Host.absf main_arg0
  let main_cst : FVec F S_ .f32 := constant S_ .f32 0x7F800000#32
  let main_v1 : FVec F S40x1024 .f32 := broadcastInDim S40x1024 ![] bcast_S_S40x1024 main_cst
  let main_v2 : IVec S40x1024 1 := cmpf .olt main_v0 main_v1
  let main_c : IVec S_ 1 := constantI S_ 1 1#1
  let main_v3 : IVec S_ 1 := (fun x v => Host.reduce IntOp.andi x v reducesTo_S40x1024_S_d0_1 h_S_) main_v2 main_c
  let main_v4 : FVec F S4x1024x6144 .f32 := Host.absf main_arg1
  let main_cst_0 : FVec F S_ .f32 := constant S_ .f32 0x7F800000#32
  let main_v5 : FVec F S4x1024x6144 .f32 := broadcastInDim S4x1024x6144 ![] bcast_S_S4x1024x6144 main_cst_0
  let main_v6 : IVec S4x1024x6144 1 := cmpf .olt main_v4 main_v5
  let main_c_1 : IVec S_ 1 := constantI S_ 1 1#1
  let main_v7 : IVec S_ 1 := (fun x v => Host.reduce IntOp.andi x v reducesTo_S4x1024x6144_S_d0_1_2 h_S_) main_v6 main_c_1
  let main_v8 : IVec S_ 1 := andi main_v3 main_v7
  main_v8
-- ==== Pre_finite_queries_keys.lean ====
abbrev S65536x512 : Shape := ⟨2, ![65536, 512]⟩
abbrev S65536x128 : Shape := ⟨2, ![65536, 128]⟩
abbrev S8192x128 : Shape := ⟨2, ![8192, 128]⟩
abbrev S_ : Shape := ⟨0, ![]⟩

class Facts : Prop where
  bitsLt_bf16_f32 : FTy.bits .bf16 < FTy.bits .f32
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S65536x512 .bf16) (main_arg1 : FVec F S65536x128 .bf16) (main_arg2 : FVec F S65536x128 .bf16) (main_arg3 : FVec F S8192x128 .bf16) (main_arg4 : FVec F S8192x128 .bf16) : IVec S_ 1 :=
  let main_v0 : FVec F S65536x512 .f32 := (extf .f32 · bitsLt_bf16_f32) main_arg0
  let main_v1 : FVec F S65536x512 .f32 := Host.absf main_v0
  let main_cst : FVec F S_ .f32 := constant S_ .f32 0x7F800000#32
  let main_v2 : FVec F S65536x512 .f32 := broadcastInDim S65536x512 ![] bcast_S_S65536x512 main_cst
  let main_v3 : IVec S65536x512 1 := cmpf .olt main_v1 main_v2
  let main_c : IVec S_ 1 := constantI S_ 1 1#1
  let main_v4 : IVec S_ 1 := (fun x v => Host.reduce IntOp.andi x v reducesTo_S65536x512_S_d0_1 h_S_) main_v3 main_c
  let main_v5 : FVec F S65536x128 .f32 := (extf .f32 · bitsLt_bf16_f32) main_arg1
  let main_v6 : FVec F S65536x128 .f32 := Host.absf main_v5
  let main_cst_0 : FVec F S_ .f32 := constant S_ .f32 0x7F800000#32
  let main_v7 : FVec F S65536x128 .f32 := broadcastInDim S65536x128 ![] bcast_S_S65536x128 main_cst_0
  let main_v8 : IVec S65536x128 1 := cmpf .olt main_v6 main_v7
  let main_c_1 : IVec S_ 1 := constantI S_ 1 1#1
  let main_v9 : IVec S_ 1 := (fun x v => Host.reduce IntOp.andi x v reducesTo_S65536x128_S_d0_1 h_S_) main_v8 main_c_1
  let main_v10 : IVec S_ 1 := andi main_v4 main_v9
  let main_v11 : FVec F S8192x128 .f32 := (extf .f32 · bitsLt_bf16_f32) main_arg3
  let main_v12 : FVec F S8192x128 .f32 := Host.absf main_v11
  let main_cst_2 : FVec F S_ .f32 := constant S_ .f32 0x7F800000#32
  let main_v13 : FVec F S8192x128 .f32 := broadcastInDim S8192x128 ![] bcast_S_S8192x128 main_cst_2
  let main_v14 : IVec S8192x128 1 := cmpf .olt main_v12 main_v13
  let main_c_3 : IVec S_ 1 := constantI S_ 1 1#1
  let main_v15 : IVec S_ 1 := (fun x v => Host.reduce IntOp.andi x v reducesTo_S8192x128_S_d0_1 h_S_) main_v14 main_c_3
  let main_v16 : IVec S_ 1 := andi main_v10 main_v15
  main_v16
-- ==== Pre_finite_tokens.lean ====
abbrev S65536x1024 : Shape := ⟨2, ![65536, 1024]⟩
abbrev S32x1x6144 : Shape := ⟨3, ![32, 1, 6144]⟩
abbrev S1x1024 : Shape := ⟨2, ![1, 1024]⟩
abbrev S1024x5120 : Shape := ⟨2, ![1024, 5120]⟩
abbrev S2048x64 : Shape := ⟨2, ![2048, 64]⟩
abbrev S1x64 : Shape := ⟨2, ![1, 64]⟩
abbrev S_ : Shape := ⟨0, ![]⟩
abbrev S32x1x2048 : Shape := ⟨3, ![32, 1, 2048]⟩
abbrev S1024x640 : Shape := ⟨2, ![1024, 640]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  slices_S32x1x6144_S32x1x2048_0_0_0 : S32x1x6144.Slices ![0, 0, 0] S32x1x2048
  bcast_S_S32x1x2048 : S_.BroadcastsInDim S32x1x2048 (![] : Fin 0 → Fin S32x1x2048.rank)
  reducesTo_S32x1x2048_S_d0_1_2 : S32x1x2048.ReducesTo [0, 1, 2] S_
  bcast_S_S1x1024 : S_.BroadcastsInDim S1x1024 (![] : Fin 0 → Fin S1x1024.rank)
  reducesTo_S1x1024_S_d0_1 : S1x1024.ReducesTo [0, 1] S_
  slices_S1024x5120_S1024x640_0_0 : S1024x5120.Slices ![0, 0] S1024x640
  bitsLt_bf16_f32 : FTy.bits .bf16 < FTy.bits .f32
  bcast_S_S1024x640 : S_.BroadcastsInDim S1024x640 (![] : Fin 0 → Fin S1024x640.rank)
  reducesTo_S1024x640_S_d0_1 : S1024x640.ReducesTo [0, 1] S_

variable [Facts]

def fn_part1 {F : FTy → Type} [FloatOps F] (main_v14 : IVec S_ 1) (main_v17 : FVec F S1024x640 .f32) : IVec S_ 1 :=
  let main_cst_4 : FVec F S_ .f32 := constant S_ .f32 0x7F800000#32
  let main_v18 : FVec F S1024x640 .f32 := broadcastInDim S1024x640 ![] bcast_S_S1024x640 main_cst_4
  let main_v19 : IVec S1024x640 1 := cmpf .olt main_v17 main_v18
  let main_c_5 : IVec S_ 1 := constantI S_ 1 1#1
  let main_v20 : IVec S_ 1 := (fun x v => Host.reduce IntOp.andi x v reducesTo_S1024x640_S_d0_1 h_S_) main_v19 main_c_5
  let main_v21 : IVec S_ 1 := andi main_v14 main_v20
  main_v21

def fn {F : FTy → Type} [FloatOps F] (main_arg0 : FVec F S65536x1024 .f32) (main_arg1 : FVec F S32x1x6144 .f32) (main_arg2 : FVec F S1x1024 .f32) (main_arg3 : FVec F S1024x5120 .bf16) (main_arg4 : FVec F S2048x64 .f32) (main_arg5 : FVec F S2048x64 .f32) (main_arg6 : FVec F S1x64 .f32) (main_arg7 : FVec F S1x64 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S32x1x2048 .f32 := (extractStridedSlice S32x1x2048 ![0, 0, 0] · slices_S32x1x6144_S32x1x2048_0_0_0) main_arg1
  let main_v5 : FVec F S32x1x2048 .f32 := Host.absf main_v4
  let main_cst_0 : FVec F S_ .f32 := constant S_ .f32 0x7F800000#32
  let main_v6 : FVec F S32x1x2048 .f32 := broadcastInDim S32x1x2048 ![] bcast_S_S32x1x2048 main_cst_0
  let main_v7 : IVec S32x1x2048 1 := cmpf .olt main_v5 main_v6
  let main_c_1 : IVec S_ 1 := constantI S_ 1 1#1
  let main_v8 : IVec S_ 1 := (fun x v => Host.reduce IntOp.andi x v reducesTo_S32x1x2048_S_d0_1_2 h_S_) main_v7 main_c_1
  let main_v9 : IVec S_ 1 := andi main_v3 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S1024x640 .bf16 := (extractStridedSlice S1024x640 ![0, 0] · slices_S1024x5120_S1024x640_0_0) main_arg3
  let main_v16 : FVec F S1024x640 .f32 := (extf .f32 · bitsLt_bf16_f32) main_v15
  let main_v17 : FVec F S1024x640 .f32 := Host.absf main_v16
  fn_part1 (F := F) main_v14 main_v17
-- ==== Pre_positions_named.lean ====
abbrev S65536 : Shape := ⟨1, ![65536]⟩
abbrev S65536x1024 : Shape := ⟨2, ![65536, 1024]⟩
abbrev S32x1x6144 : Shape := ⟨3, ![32, 1, 6144]⟩
abbrev S77824x1024 : Shape := ⟨2, ![77824, 1024]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : IVec S65536 32) (main_arg1 : FVec F S65536x1024 .f32) (main_arg2 : FVec F S32x1x6144 .f32) (main_arg3 : FVec F S77824x1024 .f32) : IVec S_ 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 77824#32
  let main_v2 : IVec S65536 32 := broadcastInDim S65536 ![] bcast_S_S65536 main_c_0
  let main_v3 : IVec S65536 1 := cmpi .slt main_arg0 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  main_v5
-- ==== Kernel.lean ====
abbrev S65536x512 : Shape := ⟨2, ![65536, 512]⟩
abbrev S65536x128 : Shape := ⟨2, ![65536, 128]⟩
abbrev S8192x128 : Shape := ⟨2, ![8192, 128]⟩
abbrev S512x256 : Shape := ⟨2, ![512, 256]⟩
abbrev S2048x128 : Shape := ⟨2, ![2048, 128]⟩
abbrev S256x128 : Shape := ⟨2, ![256, 128]⟩
abbrev S2304x128 : Shape := ⟨2, ![2304, 128]⟩
abbrev S1x128 : Shape := ⟨2, ![1, 128]⟩
abbrev S512x128 : Shape := ⟨2, ![512, 128]⟩
abbrev S512x2304 : Shape := ⟨2, ![512, 2304]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S65536x512, .bf16⟩
  | .hbm, ⟨1, _⟩ => ⟨S65536x128, .bf16⟩
  | .hbm, ⟨2, _⟩ => ⟨S65536x128, .bf16⟩
  | .hbm, ⟨3, _⟩ => ⟨S8192x128, .bf16⟩
  | .hbm, ⟨4, _⟩ => ⟨S8192x128, .bf16⟩
  | .hbm, ⟨5, _⟩ => ⟨S65536x512, .bf16⟩
  | .local _ .vmem, ⟨0, _⟩ => ⟨S512x256, .bf16⟩
  | .local _ .vmem, ⟨1, _⟩ => ⟨S512x256, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S512x256, .bf16⟩
  | .local _ .vmem, ⟨11, _⟩ => ⟨S512x256, .bf16⟩
  | .local _ .vmem, ⟨12, _⟩ => ⟨S2304x128, .bf16⟩
  | .local _ .vmem, ⟨13, _⟩ => ⟨S2304x128, .bf16⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S65536x512 : Shape := ⟨2, ![65536, 512]⟩
abbrev S65536x128 : Shape := ⟨2, ![65536, 128]⟩
abbrev S8192x128 : Shape := ⟨2, ![8192, 128]⟩
abbrev S_ : Shape := ⟨0, ![]⟩
abbrev S32x2048x2x4x64 : Shape := ⟨5, ![32, 2048, 2, 4, 64]⟩
abbrev S32x2048x2x64 : Shape := ⟨4, ![32, 2048, 2, 64]⟩
abbrev S32x256x2x64 : Shape := ⟨4, ![32, 256, 2, 64]⟩
abbrev S32x2304x2x64 : Shape := ⟨4, ![32, 2304, 2, 64]⟩
abbrev S32x2x2304x2048x4 : Shape := ⟨5, ![32, 2, 2304, 2048, 4]⟩
abbrev S32x2x4x2048x2304 : Shape := ⟨5, ![32, 2, 4, 2048, 2304]⟩
abbrev S32x2x4x2048 : Shape := ⟨4, ![32, 2, 4, 2048]⟩
abbrev S32x2x4x2048x1 : Shape := ⟨5, ![32, 2, 4, 2048, 1]⟩
abbrev S32x2x64x4x2048 : Shape := ⟨5, ![32, 2, 64, 4, 2048]⟩

abbrev nBuf : Space → Nat
  | .hbm => 47
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x128, .bf16⟩
  | .hbm, ⟨2, _⟩ => ⟨S65536x128, .bf16⟩
  | .hbm, ⟨3, _⟩ => ⟨S8192x128, .bf16⟩
  | .hbm, ⟨4, _⟩ => ⟨S8192x128, .bf16⟩
  | .hbm, ⟨5, _⟩ => ⟨S65536x512, .f32⟩
  | .hbm, ⟨6, _⟩ => ⟨S65536x128, .f32⟩
  | .hbm, ⟨7, _⟩ => ⟨S65536x128, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S65536x512, .f32⟩
  | .hbm, ⟨16, _⟩ => ⟨S65536x512, .f32⟩
  | .hbm, ⟨17, _⟩ => ⟨S32x2048x2x4x64, .f32⟩
  | .hbm, ⟨18, _⟩ => ⟨S32x2048x2x64, .f32⟩
  | .hbm, ⟨19, _⟩ => ⟨S32x256x2x64, .f32⟩
  | .hbm, ⟨20, _⟩ => ⟨S32x2304x2x64, .f32⟩
  | .hbm, ⟨21, _⟩ => ⟨S32x2048x2x64, .f32⟩
  | .hbm, ⟨22, _⟩ => ⟨S32x256x2x64, .f32⟩
  | .hbm, ⟨23, _⟩ => ⟨S32x2304x2x64, .f32⟩
  | .hbm, ⟨24, _⟩ => ⟨S32x2x2304x2048x4, .f32⟩
  | .hbm, ⟨25, _⟩ => ⟨S32x2x4x2048x2304, .f32⟩
  | .hbm, ⟨26, _⟩ => ⟨S_, .f32⟩
  | .hbm, ⟨27, _⟩ => ⟨S32x2x4x2048x2304, .f32⟩
  | .hbm, ⟨28, _⟩ => ⟨S32x2x4x2048x2304, .f32⟩
  | .hbm, ⟨29, _⟩ => ⟨S_, .f32⟩
  | .hbm, ⟨30, _⟩ => ⟨S32x2x4x2048, .f32⟩
  | .hbm, ⟨31, _⟩ => ⟨S_, .f32⟩
  | .hbm, ⟨32, _⟩ => ⟨S32x2x4x2048, .f32⟩
  | .hbm, ⟨33, _⟩ => ⟨S32x2x4x2048, .f32⟩
  | .hbm, ⟨34, _⟩ => ⟨S32x2x4x2048x1, .f32⟩
  | .hbm, ⟨35, _⟩ => ⟨S32x2x4x2048x2304, .f32⟩
  | .hbm, ⟨36, _⟩ => ⟨S32x2x4x2048x2304, .f32⟩
  | .hbm, ⟨37, _⟩ => ⟨S32x2x4x2048x2304, .f32⟩
  | .hbm, ⟨38, _⟩ => ⟨S_, .f32⟩
  | .hbm, ⟨39, _⟩ => ⟨S32x2x4x2048, .f32⟩
  | .hbm, ⟨40, _⟩ => ⟨S32x2x4x2048x1, .f32⟩
  | .hbm, ⟨41, _⟩ => ⟨S32x2x4x2048x2304, .f32⟩
  | .hbm, ⟨42, _⟩ => ⟨S32x2x4x2048x2304, .f32⟩
  | .hbm, ⟨43, _⟩ => ⟨S32x2x64x4x2048, .f32⟩
  | .hbm, ⟨44, _⟩ => ⟨S32x2048x2x4x64, .f32⟩
  | .hbm, ⟨45, _⟩ => ⟨S65536x512, .f32⟩
  | .hbm, ⟨46, _⟩ => ⟨S65536x512, .bf16⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel2.lean ====
abbrev S168 : Shape := ⟨1, ![168]⟩
abbrev S336 : Shape := ⟨1, ![336]⟩
abbrev S86528x1152 : Shape := ⟨2, ![86528, 1152]⟩
abbrev S16x1024x512 : Shape := ⟨3, ![16, 1024, 512]⟩
abbrev S16x512x1024 : Shape := ⟨3, ![16, 512, 1024]⟩
abbrev S86016x1024 : Shape := ⟨2, ![86016, 1024]⟩
abbrev S512x1152 : Shape := ⟨2, ![512, 1152]⟩
abbrev S1x1024x512 : Shape := ⟨3, ![1, 1024, 512]⟩
abbrev S1 : Shape := ⟨1, ![1]⟩
abbrev S1x512x1024 : Shape := ⟨3, ![1, 512, 1024]⟩
abbrev S512x1024 : Shape := ⟨2, ![512, 1024]⟩
abbrev S1024x512 : Shape := ⟨2, ![1024, 512]⟩
abbrev S512x512 : Shape := ⟨2, ![512, 512]⟩
abbrev S512x1 : Shape := ⟨2, ![512, 1]⟩

abbrev nBuf : Space → Nat
  | .hbm => 5
  | .vmem => 16
  | .smem => 2
  | _ => 0

abbrev bufTy : (tb : Table) → Fin (tcTables nBuf tb) → BufTy
  | .hbm, ⟨0, _⟩ => ⟨S86528x1152, .f32⟩
  | .hbm, ⟨1, _⟩ => ⟨S16x1024x512, .bf16⟩
  | .hbm, ⟨2, _⟩ => ⟨S16x1024x512, .bf16⟩
  | .hbm, ⟨3, _⟩ => ⟨S16x512x1024, .bf16⟩
  | .hbm, ⟨4, _⟩ => ⟨S86016x1024, .f32⟩
  | .local _ .vmem, ⟨0, _⟩ => ⟨S512x1152, .f32⟩
  | .local _ .vmem, ⟨1, _⟩ => ⟨S512x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S512x1024, .f32⟩
  | .local _ .vmem, ⟨15, _⟩ => ⟨S512x1024, .f32⟩
  | .local _ .smem, ⟨0, _⟩ => ⟨S168, .i32⟩
  | .local _ .smem, ⟨1, _⟩ => ⟨S336, .i32⟩
  | _, _ => ⟨S86528x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![168], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let v0 : BitVec 32 := Scalar.addi c0_i32 arg0
  let v1 : Index := Scalar.indexCast v0
  ![v1.toNat]
def k0_off2 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c24_i32 : BitVec 32 := 24#32
  let v2 : BitVec 1 := Scalar.cmpi .slt v1 c24_i32
  let v3 : BitVec 32 := Scalar.extui v2
  let c0_i32 : BitVec 32 := 0#32
  let v4 : BitVec 1 := Scalar.cmpi .ne v3 c0_i32
  v4

def k0_cond2 (v1 : BitVec 32) : BitVec 1 :=
  let c24_i32 : BitVec 32 := 24#32
  let v2 : BitVec 1 := Scalar.cmpi .slt v1 c24_i32
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ (r : Fin 2), ∀ a, (k0_off1 i (BitVec.ofNat 32 (168 * r.val))) a + S1.size a ≤ S336.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 1 (Rect.unit (s := S336) ![v1.toNat] S1.size (k0_off1_inb i 0)) numel1_S1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ (r : Fin 2), ∀ a, (k0_off1 i (BitVec.ofNat 32 (168 * r.val))) a + S1.size a ≤ S336.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 1 (Rect.unit (s := S336) ![v1.toNat] S1.size (k0_off1_inb i 0)) numel1_S1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ (r : Fin 2), ∀ a, (k0_off1 i (BitVec.ofNat 32 (168 * r.val))) a + S1.size a ≤ S336.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 1 (Rect.unit (s := S336) ![v1.toNat] S1.size (k0_off1_inb i 0)) numel1_S1
  let c0_i32_0 : BitVec 32 := 0#32
  let c0_i32_1 : BitVec 32 := 0#32
  let c0_i32_2 : BitVec 32 := 0#32
  ![v2.toNat, c0_i32_0.toNat, c0_i32_1.toNat]

def cc0_transform_4 (k0_off1_inb : ∀ i : grid0.Coords, ∀ (r : Fin 2), ∀ a, (k0_off1 i (BitVec.ofNat 32 (168 * r.val))) a + S1.size a ≤ S336.size a) (numel1_S1 : S1.numel = 1) (pf : pre0.Contents (Elt F)) (i : grid0.Coords) : Fin 3 → Nat :=
  let arg0 : BitVec 32 := BitVec.ofNat 32 (i 0).val
  let c168_i32 : BitVec 32 := 168#32
  let v0 : BitVec 32 := Scalar.addi c168_i32 arg0
  let v1 : Index := Scalar.indexCast v0
  let v2 : BitVec 32 := pf.at 1 (Rect.unit (s := S336) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_5 (k0_off1_inb : ∀ i : grid0.Coords, ∀ (r : Fin 2), ∀ a, (k0_off1 i (BitVec.ofNat 32 (168 * r.val))) a + S1.size a ≤ S336.size a) (numel1_S1 : S1.numel = 1) (pf : pre0.Contents (Elt F)) (i : grid0.Coords) : Fin 3 → Nat :=
  let arg0 : BitVec 32 := BitVec.ofNat 32 (i 0).val
  let c168_i32 : BitVec 32 := 168#32
  let v0 : BitVec 32 := Scalar.addi c168_i32 arg0
  let v1 : Index := Scalar.indexCast v0
  let v2 : BitVec 32 := pf.at 1 (Rect.unit (s := S336) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_6 (k0_off1_inb : ∀ i : grid0.Coords, ∀ (r : Fin 2), ∀ a, (k0_off1 i (BitVec.ofNat 32 (168 * r.val))) a + S1.size a ≤ S336.size a) (numel1_S1 : S1.numel = 1) (pf : pre0.Contents (Elt F)) (i : grid0.Coords) : Fin 3 → Nat :=
  let arg0 : BitVec 32 := BitVec.ofNat 32 (i 0).val
  let c168_i32 : BitVec 32 := 168#32
  let v0 : BitVec 32 := Scalar.addi c168_i32 arg0
  let v1 : Index := Scalar.indexCast v0
  let v2 : BitVec 32 := pf.at 1 (Rect.unit (s := S336) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel2Ideal.lean ====
abbrev S168 : Shape := ⟨1, ![168]⟩
abbrev S336 : Shape := ⟨1, ![336]⟩
abbrev S86528x1152 : Shape := ⟨2, ![86528, 1152]⟩
abbrev S16x1024x512 : Shape := ⟨3, ![16, 1024, 512]⟩
abbrev S16x512x1024 : Shape := ⟨3, ![16, 512, 1024]⟩
abbrev S86016x1024 : Shape := ⟨2, ![86016, 1024]⟩
abbrev S512x1152 : Shape := ⟨2, ![512, 1152]⟩
abbrev S1x1024x512 : Shape := ⟨3, ![1, 1024, 512]⟩
abbrev S1 : Shape := ⟨1, ![1]⟩
abbrev S1x512x1024 : Shape := ⟨3, ![1, 512, 1024]⟩
abbrev S512x1024 : Shape := ⟨2, ![512, 1024]⟩
abbrev S1024x512 : Shape := ⟨2, ![1024, 512]⟩
abbrev S512x512 : Shape := ⟨2, ![512, 512]⟩
abbrev S512x1 : Shape := ⟨2, ![512, 1]⟩

abbrev nBuf : Space → Nat
  | .hbm => 5
  | .vmem => 16
  | .smem => 2
  | _ => 0

abbrev bufTy : (tb : Table) → Fin (tcTables nBuf tb) → BufTy
  | .hbm, ⟨0, _⟩ => ⟨S86528x1152, .f32⟩
  | .hbm, ⟨1, _⟩ => ⟨S16x1024x512, .bf16⟩
  | .hbm, ⟨2, _⟩ => ⟨S16x1024x512, .bf16⟩
  | .hbm, ⟨3, _⟩ => ⟨S16x512x1024, .bf16⟩
  | .hbm, ⟨4, _⟩ => ⟨S86016x1024, .f32⟩
  | .local _ .vmem, ⟨0, _⟩ => ⟨S512x1152, .f32⟩
  | .local _ .vmem, ⟨1, _⟩ => ⟨S512x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S512x1024, .f32⟩
  | .local _ .vmem, ⟨15, _⟩ => ⟨S512x1024, .f32⟩
  | .local _ .smem, ⟨0, _⟩ => ⟨S168, .i32⟩
  | .local _ .smem, ⟨1, _⟩ => ⟨S336, .i32⟩
  | _, _ => ⟨S86528x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![168], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let v0 : BitVec 32 := Scalar.addi c0_i32 arg0
  let v1 : Index := Scalar.indexCast v0
  ![v1.toNat]
def k0_off2 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c24_i32 : BitVec 32 := 24#32
  let v2 : BitVec 1 := Scalar.cmpi .slt v1 c24_i32
  let v3 : BitVec 32 := Scalar.extui v2
  let c0_i32 : BitVec 32 := 0#32
  let v4 : BitVec 1 := Scalar.cmpi .ne v3 c0_i32
  v4

def k0_cond2 (v1 : BitVec 32) : BitVec 1 :=
  let c24_i32 : BitVec 32 := 24#32
  let v2 : BitVec 1 := Scalar.cmpi .slt v1 c24_i32
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ (r : Fin 2), ∀ a, (k0_off1 i (BitVec.ofNat 32 (168 * r.val))) a + S1.size a ≤ S336.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 1 (Rect.unit (s := S336) ![v1.toNat] S1.size (k0_off1_inb i 0)) numel1_S1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ (r : Fin 2), ∀ a, (k0_off1 i (BitVec.ofNat 32 (168 * r.val))) a + S1.size a ≤ S336.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 1 (Rect.unit (s := S336) ![v1.toNat] S1.size (k0_off1_inb i 0)) numel1_S1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ (r : Fin 2), ∀ a, (k0_off1 i (BitVec.ofNat 32 (168 * r.val))) a + S1.size a ≤ S336.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 1 (Rect.unit (s := S336) ![v1.toNat] S1.size (k0_off1_inb i 0)) numel1_S1
  let c0_i32_0 : BitVec 32 := 0#32
  let c0_i32_1 : BitVec 32 := 0#32
  let c0_i32_2 : BitVec 32 := 0#32
  ![v2.toNat, c0_i32_0.toNat, c0_i32_1.toNat]

def cc0_transform_4 (k0_off1_inb : ∀ i : grid0.Coords, ∀ (r : Fin 2), ∀ a, (k0_off1 i (BitVec.ofNat 32 (168 * r.val))) a + S1.size a ≤ S336.size a) (numel1_S1 : S1.numel = 1) (pf : pre0.Contents (Elt F)) (i : grid0.Coords) : Fin 3 → Nat :=
  let arg0 : BitVec 32 := BitVec.ofNat 32 (i 0).val
  let c168_i32 : BitVec 32 := 168#32
  let v0 : BitVec 32 := Scalar.addi c168_i32 arg0
  let v1 : Index := Scalar.indexCast v0
  let v2 : BitVec 32 := pf.at 1 (Rect.unit (s := S336) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_5 (k0_off1_inb : ∀ i : grid0.Coords, ∀ (r : Fin 2), ∀ a, (k0_off1 i (BitVec.ofNat 32 (168 * r.val))) a + S1.size a ≤ S336.size a) (numel1_S1 : S1.numel = 1) (pf : pre0.Contents (Elt F)) (i : grid0.Coords) : Fin 3 → Nat :=
  let arg0 : BitVec 32 := BitVec.ofNat 32 (i 0).val
  let c168_i32 : BitVec 32 := 168#32
  let v0 : BitVec 32 := Scalar.addi c168_i32 arg0
  let v1 : Index := Scalar.indexCast v0
  let v2 : BitVec 32 := pf.at 1 (Rect.unit (s := S336) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_6 (k0_off1_inb : ∀ i : grid0.Coords, ∀ (r : Fin 2), ∀ a, (k0_off1 i (BitVec.ofNat 32 (168 * r.val))) a + S1.size a ≤ S336.size a) (numel1_S1 : S1.numel = 1) (pf : pre0.Contents (Elt F)) (i : grid0.Coords) : Fin 3 → Nat :=
  let arg0 : BitVec 32 := BitVec.ofNat 32 (i 0).val
  let c168_i32 : BitVec 32 := 168#32
  let v0 : BitVec 32 := Scalar.addi c168_i32 arg0
  let v1 : Index := Scalar.indexCast v0
  let v2 : BitVec 32 := pf.at 1 (Rect.unit (s := S336) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S168 : Shape := ⟨1, ![168]⟩
abbrev S336 : Shape := ⟨1, ![336]⟩
abbrev S86528x1152 : Shape := ⟨2, ![86528, 1152]⟩
abbrev S16x1024x512 : Shape := ⟨3, ![16, 1024, 512]⟩
abbrev S16x512x1024 : Shape := ⟨3, ![16, 512, 1024]⟩
abbrev S86016x1024 : Shape := ⟨2, ![86016, 1024]⟩
abbrev S86016x2 : Shape := ⟨2, ![86016, 2]⟩
abbrev S168x512x2 : Shape := ⟨3, ![168, 512, 2]⟩
abbrev S2x168 : Shape := ⟨2, ![2, 168]⟩
abbrev S2x168x1 : Shape := ⟨3, ![2, 168, 1]⟩
abbrev S1x1x16 : Shape := ⟨3, ![1, 1, 16]⟩
abbrev S2x168x16 : Shape := ⟨3, ![2, 168, 16]⟩
abbrev S1x168x16 : Shape := ⟨3, ![1, 168, 16]⟩
abbrev S168x16 : Shape := ⟨2, ![168, 16]⟩
abbrev S168x1x16 : Shape := ⟨3, ![168, 1, 16]⟩
abbrev S168x512x1 : Shape := ⟨3, ![168, 512, 1]⟩
abbrev S168x512x16 : Shape := ⟨3, ![168, 512, 16]⟩
abbrev S_ : Shape := ⟨0, ![]⟩
abbrev S168x1x1 : Shape := ⟨3, ![168, 1, 1]⟩
abbrev S86016x16 : Shape := ⟨2, ![86016, 16]⟩
abbrev S16x512x86016 : Shape := ⟨3, ![16, 512, 86016]⟩
abbrev S16x86016x512 : Shape := ⟨3, ![16, 86016, 512]⟩
abbrev S16x86016x1024 : Shape := ⟨3, ![16, 86016, 1024]⟩
abbrev S16x86016 : Shape := ⟨2, ![16, 86016]⟩
abbrev S16x86016x1 : Shape := ⟨3, ![16, 86016, 1]⟩

abbrev nBuf : Space → Nat
  | .hbm => 65
  | .vmem => 0
  | .smem => 0
  | _ => 0

abbrev bufTy : (tb : Table) → Fin (tcTables nBuf tb) → BufTy
  | .hbm, ⟨0, _⟩ => ⟨S168, .i32⟩
  | .hbm, ⟨1, _⟩ => ⟨S336, .i32⟩
  | .hbm, ⟨2, _⟩ => ⟨S86528x1152, .f32⟩
  | .hbm, ⟨3, _⟩ => ⟨S16x1024x512, .bf16⟩
  | .hbm, ⟨4, _⟩ => ⟨S16x1024x512, .bf16⟩
  | .hbm, ⟨5, _⟩ => ⟨S16x512x1024, .bf16⟩
  | .hbm, ⟨6, _⟩ => ⟨S86016x1024, .f32⟩
  | .hbm, ⟨7, _⟩ => ⟨S86016x2, .f32⟩
  | .hbm, ⟨8, _⟩ => ⟨S168x512x2, .f32⟩
  | .hbm, ⟨9, _⟩ => ⟨S2x168, .i32⟩
  | .hbm, ⟨10, _⟩ => ⟨S2x168x1, .i32⟩
  | .hbm, ⟨11, _⟩ => ⟨S1x1x16, .i32⟩
  | .hbm, ⟨12, _⟩ => ⟨S2x168x16, .i32⟩
  | .hbm, ⟨13, _⟩ => ⟨S2x168x16, .i32⟩
  | .hbm, ⟨14, _⟩ => ⟨S2x168x16, .i1⟩
  | .hbm, ⟨15, _⟩ => ⟨S2x168x16, .f32⟩
  | .hbm, ⟨16, _⟩ => ⟨S1x168x16, .f32⟩
  | .hbm, ⟨17, _⟩ => ⟨S168x16, .f32⟩
  | .hbm, ⟨18, _⟩ => ⟨S168x1x16, .f32⟩
  | .hbm, ⟨19, _⟩ => ⟨S168x512x1, .f32⟩
  | .hbm, ⟨20, _⟩ => ⟨S168x512x16, .f32⟩
  | .hbm, ⟨21, _⟩ => ⟨S168x512x16, .f32⟩
  | .hbm, ⟨22, _⟩ => ⟨S168x512x16, .f32⟩
  | .hbm, ⟨23, _⟩ => ⟨S1x168x16, .f32⟩
  | .hbm, ⟨24, _⟩ => ⟨S168x16, .f32⟩
  | .hbm, ⟨25, _⟩ => ⟨S168x1x16, .f32⟩
  | .hbm, ⟨26, _⟩ => ⟨S168x512x1, .f32⟩
  | .hbm, ⟨27, _⟩ => ⟨S168x512x16, .f32⟩
  | .hbm, ⟨28, _⟩ => ⟨S168x512x16, .f32⟩
  | .hbm, ⟨29, _⟩ => ⟨S168x512x16, .f32⟩
  | .hbm, ⟨30, _⟩ => ⟨S168x512x16, .f32⟩
  | .hbm, ⟨31, _⟩ => ⟨S_, .i32⟩
  | .hbm, ⟨32, _⟩ => ⟨S168, .i32⟩
  | .hbm, ⟨33, _⟩ => ⟨S168, .i1⟩
  | .hbm, ⟨34, _⟩ => ⟨S168x1x1, .i1⟩
  | .hbm, ⟨35, _⟩ => ⟨S_, .f32⟩
  | .hbm, ⟨36, _⟩ => ⟨S_, .f32⟩
  | .hbm, ⟨37, _⟩ => ⟨S168x512x16, .i1⟩
  | .hbm, ⟨38, _⟩ => ⟨S168x512x16, .f32⟩
  | .hbm, ⟨39, _⟩ => ⟨S168x512x16, .f32⟩
  | .hbm, ⟨40, _⟩ => ⟨S86016x16, .f32⟩
  | .hbm, ⟨41, _⟩ => ⟨S16x1024x512, .f32⟩
  | .hbm, ⟨42, _⟩ => ⟨S16x1024x512, .f32⟩
  | .hbm, ⟨43, _⟩ => ⟨S16x512x1024, .f32⟩
  | .hbm, ⟨44, _⟩ => ⟨S16x512x86016, .f32⟩
  | .hbm, ⟨45, _⟩ => ⟨S16x86016x512, .f32⟩
  | .hbm, ⟨46, _⟩ => ⟨S16x86016x512, .f32⟩
  | .hbm, ⟨47, _⟩ => ⟨S16x86016x512, .f32⟩
  | .hbm, ⟨48, _⟩ => ⟨S_, .f32⟩
  | .hbm, ⟨49, _⟩ => ⟨S16x86016x512, .f32⟩
  | .hbm, ⟨50, _⟩ => ⟨S16x86016x512, .f32⟩
  | .hbm, ⟨51, _⟩ => ⟨S_, .f32⟩
  | .hbm, ⟨52, _⟩ => ⟨S16x86016x512, .f32⟩
  | .hbm, ⟨53, _⟩ => ⟨S16x86016x512, .f32⟩
  | .hbm, ⟨54, _⟩ => ⟨S16x86016x512, .f32⟩
  | .hbm, ⟨55, _⟩ => ⟨S16x512x86016, .f32⟩
  | .hbm, ⟨56, _⟩ => ⟨S16x86016x512, .f32⟩
  | .hbm, ⟨57, _⟩ => ⟨S16x86016x512, .f32⟩
  | .hbm, ⟨58, _⟩ => ⟨S16x86016x1024, .f32⟩
  | .hbm, ⟨59, _⟩ => ⟨S16x86016, .f32⟩
  | .hbm, ⟨60, _⟩ => ⟨S16x86016x1, .f32⟩
  | .hbm, ⟨61, _⟩ => ⟨S16x86016x1024, .f32⟩
  | .hbm, ⟨62, _⟩ => ⟨S16x86016x1024, .f32⟩
  | .hbm, ⟨63, _⟩ => ⟨S_, .f32⟩
  | .hbm, ⟨64, _⟩ => ⟨S86016x1024, .f32⟩
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call2_v0 : Ref sig .tc := ⟨.hbm, 46, rfl⟩
abbrev main_call2_v1 : Ref sig .tc := ⟨.hbm, 47, rfl⟩
abbrev main_call2_cst : Ref sig .tc := ⟨.hbm, 48, rfl⟩
abbrev main_call2_v2 : Ref sig .tc := ⟨.hbm, 49, rfl⟩
abbrev main_call2_v3 : Ref sig .tc := ⟨.hbm, 50, rfl⟩
abbrev main_call2_cst_0 : Ref sig .tc := ⟨.hbm, 51, rfl⟩
abbrev main_call2_v4 : Ref sig .tc := ⟨.hbm, 52, rfl⟩
abbrev main_call2_v5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_0 : Ref sig .tc := ⟨.hbm, 63, rfl⟩
abbrev main_v39 : Ref sig .tc := ⟨.hbm, 64, rfl⟩

abbrev nD : Nat := 1
abbrev τ : Topo := Topo.v7x

variable {F : FTy → Type} [FloatOps F]
-- ==== Kernel3.lean ====
abbrev S152 : Shape := ⟨1, ![152]⟩
abbrev S304 : Shape := ⟨1, ![304]⟩
abbrev S78336x1152 : Shape := ⟨2, ![78336, 1152]⟩
abbrev S16x1024x512 : Shape := ⟨3, ![16, 1024, 512]⟩
abbrev S16x512x1024 : Shape := ⟨3, ![16, 512, 1024]⟩
abbrev S77824x1024 : Shape := ⟨2, ![77824, 1024]⟩
abbrev S512x1152 : Shape := ⟨2, ![512, 1152]⟩
abbrev S1x1024x512 : Shape := ⟨3, ![1, 1024, 512]⟩
abbrev S1 : Shape := ⟨1, ![1]⟩
abbrev S1x512x1024 : Shape := ⟨3, ![1, 512, 1024]⟩
abbrev S512x1024 : Shape := ⟨2, ![512, 1024]⟩
abbrev S1024x512 : Shape := ⟨2, ![1024, 512]⟩
abbrev S512x512 : Shape := ⟨2, ![512, 512]⟩
abbrev S512x1 : Shape := ⟨2, ![512, 1]⟩

abbrev nBuf : Space → Nat
  | .hbm => 5
  | .vmem => 16
  | .smem => 2
  | _ => 0

abbrev bufTy : (tb : Table) → Fin (tcTables nBuf tb) → BufTy
  | .hbm, ⟨0, _⟩ => ⟨S78336x1152, .f32⟩
  | .hbm, ⟨1, _⟩ => ⟨S16x1024x512, .bf16⟩
  | .hbm, ⟨2, _⟩ => ⟨S16x1024x512, .bf16⟩
  | .hbm, ⟨3, _⟩ => ⟨S16x512x1024, .bf16⟩
  | .hbm, ⟨4, _⟩ => ⟨S77824x1024, .f32⟩
  | .local _ .vmem, ⟨0, _⟩ => ⟨S512x1152, .f32⟩
  | .local _ .vmem, ⟨1, _⟩ => ⟨S512x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S512x1024, .f32⟩
  | .local _ .vmem, ⟨15, _⟩ => ⟨S512x1024, .f32⟩
  | .local _ .smem, ⟨0, _⟩ => ⟨S152, .i32⟩
  | .local _ .smem, ⟨1, _⟩ => ⟨S304, .i32⟩
  | _, _ => ⟨S78336x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![152], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let v0 : BitVec 32 := Scalar.addi c0_i32 arg0
  let v1 : Index := Scalar.indexCast v0
  ![v1.toNat]
def k0_off2 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c24_i32 : BitVec 32 := 24#32
  let v2 : BitVec 1 := Scalar.cmpi .slt v1 c24_i32
  let v3 : BitVec 32 := Scalar.extui v2
  let c0_i32 : BitVec 32 := 0#32
  let v4 : BitVec 1 := Scalar.cmpi .ne v3 c0_i32
  v4

def k0_cond2 (v1 : BitVec 32) : BitVec 1 :=
  let c24_i32 : BitVec 32 := 24#32
  let v2 : BitVec 1 := Scalar.cmpi .slt v1 c24_i32
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ (r : Fin 2), ∀ a, (k0_off1 i (BitVec.ofNat 32 (152 * r.val))) a + S1.size a ≤ S304.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 1 (Rect.unit (s := S304) ![v1.toNat] S1.size (k0_off1_inb i 0)) numel1_S1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ (r : Fin 2), ∀ a, (k0_off1 i (BitVec.ofNat 32 (152 * r.val))) a + S1.size a ≤ S304.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 1 (Rect.unit (s := S304) ![v1.toNat] S1.size (k0_off1_inb i 0)) numel1_S1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ (r : Fin 2), ∀ a, (k0_off1 i (BitVec.ofNat 32 (152 * r.val))) a + S1.size a ≤ S304.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 1 (Rect.unit (s := S304) ![v1.toNat] S1.size (k0_off1_inb i 0)) numel1_S1
  let c0_i32_0 : BitVec 32 := 0#32
  let c0_i32_1 : BitVec 32 := 0#32
  let c0_i32_2 : BitVec 32 := 0#32
  ![v2.toNat, c0_i32_0.toNat, c0_i32_1.toNat]

def cc0_transform_4 (k0_off1_inb : ∀ i : grid0.Coords, ∀ (r : Fin 2), ∀ a, (k0_off1 i (BitVec.ofNat 32 (152 * r.val))) a + S1.size a ≤ S304.size a) (numel1_S1 : S1.numel = 1) (pf : pre0.Contents (Elt F)) (i : grid0.Coords) : Fin 3 → Nat :=
  let arg0 : BitVec 32 := BitVec.ofNat 32 (i 0).val
  let c152_i32 : BitVec 32 := 152#32
  let v0 : BitVec 32 := Scalar.addi c152_i32 arg0
  let v1 : Index := Scalar.indexCast v0
  let v2 : BitVec 32 := pf.at 1 (Rect.unit (s := S304) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_5 (k0_off1_inb : ∀ i : grid0.Coords, ∀ (r : Fin 2), ∀ a, (k0_off1 i (BitVec.ofNat 32 (152 * r.val))) a + S1.size a ≤ S304.size a) (numel1_S1 : S1.numel = 1) (pf : pre0.Contents (Elt F)) (i : grid0.Coords) : Fin 3 → Nat :=
  let arg0 : BitVec 32 := BitVec.ofNat 32 (i 0).val
  let c152_i32 : BitVec 32 := 152#32
  let v0 : BitVec 32 := Scalar.addi c152_i32 arg0
  let v1 : Index := Scalar.indexCast v0
  let v2 : BitVec 32 := pf.at 1 (Rect.unit (s := S304) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_6 (k0_off1_inb : ∀ i : grid0.Coords, ∀ (r : Fin 2), ∀ a, (k0_off1 i (BitVec.ofNat 32 (152 * r.val))) a + S1.size a ≤ S304.size a) (numel1_S1 : S1.numel = 1) (pf : pre0.Contents (Elt F)) (i : grid0.Coords) : Fin 3 → Nat :=
  let arg0 : BitVec 32 := BitVec.ofNat 32 (i 0).val
  let c152_i32 : BitVec 32 := 152#32
  let v0 : BitVec 32 := Scalar.addi c152_i32 arg0
  let v1 : Index := Scalar.indexCast v0
  let v2 : BitVec 32 := pf.at 1 (Rect.unit (s := S304) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S152 : Shape := ⟨1, ![152]⟩
abbrev S304 : Shape := ⟨1, ![304]⟩
abbrev S78336x1152 : Shape := ⟨2, ![78336, 1152]⟩
abbrev S16x1024x512 : Shape := ⟨3, ![16, 1024, 512]⟩
abbrev S16x512x1024 : Shape := ⟨3, ![16, 512, 1024]⟩
abbrev S77824x1024 : Shape := ⟨2, ![77824, 1024]⟩
abbrev S77824x2 : Shape := ⟨2, ![77824, 2]⟩
abbrev S152x512x2 : Shape := ⟨3, ![152, 512, 2]⟩
abbrev S2x152 : Shape := ⟨2, ![2, 152]⟩
abbrev S2x152x1 : Shape := ⟨3, ![2, 152, 1]⟩
abbrev S1x1x16 : Shape := ⟨3, ![1, 1, 16]⟩
abbrev S2x152x16 : Shape := ⟨3, ![2, 152, 16]⟩
abbrev S1x152x16 : Shape := ⟨3, ![1, 152, 16]⟩
abbrev S152x16 : Shape := ⟨2, ![152, 16]⟩
abbrev S152x1x16 : Shape := ⟨3, ![152, 1, 16]⟩
abbrev S152x512x1 : Shape := ⟨3, ![152, 512, 1]⟩
abbrev S152x512x16 : Shape := ⟨3, ![152, 512, 16]⟩
abbrev S_ : Shape := ⟨0, ![]⟩
abbrev S152x1x1 : Shape := ⟨3, ![152, 1, 1]⟩
abbrev S77824x16 : Shape := ⟨2, ![77824, 16]⟩
abbrev S16x512x77824 : Shape := ⟨3, ![16, 512, 77824]⟩
abbrev S16x77824x512 : Shape := ⟨3, ![16, 77824, 512]⟩
abbrev S16x77824x1024 : Shape := ⟨3, ![16, 77824, 1024]⟩
abbrev S16x77824 : Shape := ⟨2, ![16, 77824]⟩
abbrev S16x77824x1 : Shape := ⟨3, ![16, 77824, 1]⟩

abbrev nBuf : Space → Nat
  | .hbm => 65
  | .vmem => 0
  | .smem => 0
  | _ => 0

abbrev bufTy : (tb : Table) → Fin (tcTables nBuf tb) → BufTy
  | .hbm, ⟨0, _⟩ => ⟨S152, .i32⟩
  | .hbm, ⟨1, _⟩ => ⟨S304, .i32⟩
  | .hbm, ⟨2, _⟩ => ⟨S78336x1152, .f32⟩
  | .hbm, ⟨3, _⟩ => ⟨S16x1024x512, .bf16⟩
  | .hbm, ⟨4, _⟩ => ⟨S16x1024x512, .bf16⟩
  | .hbm, ⟨5, _⟩ => ⟨S16x512x1024, .bf16⟩
  | .hbm, ⟨6, _⟩ => ⟨S77824x1024, .f32⟩
  | .hbm, ⟨7, _⟩ => ⟨S77824x2, .f32⟩
  | .hbm, ⟨8, _⟩ => ⟨S152x512x2, .f32⟩
  | .hbm, ⟨9, _⟩ => ⟨S2x152, .i32⟩
  | .hbm, ⟨10, _⟩ => ⟨S2x152x1, .i32⟩
  | .hbm, ⟨11, _⟩ => ⟨S1x1x16, .i32⟩
  | .hbm, ⟨12, _⟩ => ⟨S2x152x16, .i32⟩
  | .hbm, ⟨13, _⟩ => ⟨S2x152x16, .i32⟩
  | .hbm, ⟨14, _⟩ => ⟨S2x152x16, .i1⟩
  | .hbm, ⟨15, _⟩ => ⟨S2x152x16, .f32⟩
  | .hbm, ⟨16, _⟩ => ⟨S1x152x16, .f32⟩
  | .hbm, ⟨17, _⟩ => ⟨S152x16, .f32⟩
  | .hbm, ⟨18, _⟩ => ⟨S152x1x16, .f32⟩
  | .hbm, ⟨19, _⟩ => ⟨S152x512x1, .f32⟩
  | .hbm, ⟨20, _⟩ => ⟨S152x512x16, .f32⟩
  | .hbm, ⟨21, _⟩ => ⟨S152x512x16, .f32⟩
  | .hbm, ⟨22, _⟩ => ⟨S152x512x16, .f32⟩
  | .hbm, ⟨23, _⟩ => ⟨S1x152x16, .f32⟩
  | .hbm, ⟨24, _⟩ => ⟨S152x16, .f32⟩
  | .hbm, ⟨25, _⟩ => ⟨S152x1x16, .f32⟩
  | .hbm, ⟨26, _⟩ => ⟨S152x512x1, .f32⟩
  | .hbm, ⟨27, _⟩ => ⟨S152x512x16, .f32⟩
  | .hbm, ⟨28, _⟩ => ⟨S152x512x16, .f32⟩
  | .hbm, ⟨29, _⟩ => ⟨S152x512x16, .f32⟩
  | .hbm, ⟨30, _⟩ => ⟨S152x512x16, .f32⟩
  | .hbm, ⟨31, _⟩ => ⟨S_, .i32⟩
  | .hbm, ⟨32, _⟩ => ⟨S152, .i32⟩
  | .hbm, ⟨33, _⟩ => ⟨S152, .i1⟩
  | .hbm, ⟨34, _⟩ => ⟨S152x1x1, .i1⟩
  | .hbm, ⟨35, _⟩ => ⟨S_, .f32⟩
  | .hbm, ⟨36, _⟩ => ⟨S_, .f32⟩
  | .hbm, ⟨37, _⟩ => ⟨S152x512x16, .i1⟩
  | .hbm, ⟨38, _⟩ => ⟨S152x512x16, .f32⟩
  | .hbm, ⟨39, _⟩ => ⟨S152x512x16, .f32⟩
  | .hbm, ⟨40, _⟩ => ⟨S77824x16, .f32⟩
  | .hbm, ⟨41, _⟩ => ⟨S16x1024x512, .f32⟩
  | .hbm, ⟨42, _⟩ => ⟨S16x1024x512, .f32⟩
  | .hbm, ⟨43, _⟩ => ⟨S16x512x1024, .f32⟩
  | .hbm, ⟨44, _⟩ => ⟨S16x512x77824, .f32⟩
  | .hbm, ⟨45, _⟩ => ⟨S16x77824x512, .f32⟩
  | .hbm, ⟨46, _⟩ => ⟨S16x77824x512, .f32⟩
  | .hbm, ⟨47, _⟩ => ⟨S16x77824x512, .f32⟩
  | .hbm, ⟨48, _⟩ => ⟨S_, .f32⟩
  | .hbm, ⟨49, _⟩ => ⟨S16x77824x512, .f32⟩
  | .hbm, ⟨50, _⟩ => ⟨S16x77824x512, .f32⟩
  | .hbm, ⟨51, _⟩ => ⟨S_, .f32⟩
  | .hbm, ⟨52, _⟩ => ⟨S16x77824x512, .f32⟩
  | .hbm, ⟨53, _⟩ => ⟨S16x77824x512, .f32⟩
  | .hbm, ⟨54, _⟩ => ⟨S16x77824x512, .f32⟩
  | .hbm, ⟨55, _⟩ => ⟨S16x512x77824, .f32⟩
  | .hbm, ⟨56, _⟩ => ⟨S16x77824x512, .f32⟩
  | .hbm, ⟨57, _⟩ => ⟨S16x77824x512, .f32⟩
  | .hbm, ⟨58, _⟩ => ⟨S16x77824x1024, .f32⟩
  | .hbm, ⟨59, _⟩ => ⟨S16x77824, .f32⟩
  | .hbm, ⟨60, _⟩ => ⟨S16x77824x1, .f32⟩
  | .hbm, ⟨61, _⟩ => ⟨S16x77824x1024, .f32⟩
  | .hbm, ⟨62, _⟩ => ⟨S16x77824x1024, .f32⟩
  | .hbm, ⟨63, _⟩ => ⟨S_, .f32⟩
  | .hbm, ⟨64, _⟩ => ⟨S77824x1024, .f32⟩
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call2_v0 : Ref sig .tc := ⟨.hbm, 46, rfl⟩
abbrev main_call2_v1 : Ref sig .tc := ⟨.hbm, 47, rfl⟩
abbrev main_call2_cst : Ref sig .tc := ⟨.hbm, 48, rfl⟩
abbrev main_call2_v2 : Ref sig .tc := ⟨.hbm, 49, rfl⟩
abbrev main_call2_v3 : Ref sig .tc := ⟨.hbm, 50, rfl⟩
abbrev main_call2_cst_0 : Ref sig .tc := ⟨.hbm, 51, rfl⟩
abbrev main_call2_v4 : Ref sig .tc := ⟨.hbm, 52, rfl⟩
abbrev main_call2_v5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_0 : Ref sig .tc := ⟨.hbm, 63, rfl⟩
abbrev main_v39 : Ref sig .tc := ⟨.hbm, 64, rfl⟩

abbrev nD : Nat := 1
abbrev τ : Topo := Topo.v7x

variable {F : FTy → Type} [FloatOps F]
-- ==== Kernel4.lean ====
abbrev S65536 : Shape := ⟨1, ![65536]⟩
abbrev S65536x1024 : Shape := ⟨2, ![65536, 1024]⟩
abbrev S32x1x6144 : Shape := ⟨3, ![32, 1, 6144]⟩
abbrev S77824x1024 : Shape := ⟨2, ![77824, 1024]⟩
abbrev S9728x8x1024 : Shape := ⟨3, ![9728, 8, 1024]⟩
abbrev S512x1024 : Shape := ⟨2, ![512, 1024]⟩
abbrev S1x1x6144 : Shape := ⟨3, ![1, 1, 6144]⟩
abbrev S2x64x8x1024 : Shape := ⟨4, ![2, 64, 8, 1024]⟩
abbrev S2 : Shape := ⟨1, ![2]⟩
abbrev S1 : Shape := ⟨1, ![1]⟩
abbrev S_ : Shape := ⟨0, ![]⟩
abbrev S1x1x1x1024 : Shape := ⟨4, ![1, 1, 1, 1024]⟩
abbrev S1x1024 : Shape := ⟨2, ![1, 1024]⟩
abbrev S1x1x1024 : Shape := ⟨3, ![1, 1, 1024]⟩
abbrev S1x64x8x1024 : Shape := ⟨4, ![1, 64, 8, 1024]⟩
abbrev S64x8x1024 : Shape := ⟨3, ![64, 8, 1024]⟩

abbrev nBuf : Space → Nat
  | .hbm => 5
  | .vmem => 7
  | .smem => 1
  | _ => 0

abbrev bufTy : (tb : Table) → Fin (tcTables nBuf tb) → BufTy
  | .hbm, ⟨0, _⟩ => ⟨S65536x1024, .f32⟩
  | .hbm, ⟨1, _⟩ => ⟨S32x1x6144, .f32⟩
  | .hbm, ⟨2, _⟩ => ⟨S77824x1024, .f32⟩
  | .hbm, ⟨3, _⟩ => ⟨S9728x8x1024, .f32⟩
  | .hbm, ⟨4, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S512x1024, .f32⟩
  | .local _ .vmem, ⟨5, _⟩ => ⟨S512x1024, .f32⟩
  | .local _ .vmem, ⟨6, _⟩ => ⟨S2x64x8x1024, .f32⟩
  | .local _ .smem, ⟨0, _⟩ => ⟨S65536, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_30 : BitVec 32 := 0#32
  let c64_i32_31 : BitVec 32 := 64#32
  let v49 : BitVec 32 := Scalar.addi c0_i32_30 c64_i32_31
  let c1_i32_32 : BitVec 32 := 1#32
  ⟨c0_i32_30, v49, c1_i32_32⟩
def k0_off1 (i : grid0.Coords) (k0_t1 : Fin k0_t1_loop.trips) : Fin 1 → Nat :=
  let arg0 : BitVec 32 := BitVec.ofNat 32 (i 0).val
  let c512_i32 : BitVec 32 := 512#32
  let v50 : BitVec 32 := Scalar.muli arg0 c512_i32
  let c0_i32_30 : BitVec 32 := 0#32
  let c1_i32_32 : BitVec 32 := 1#32
  let arg8 : BitVec 32 := Scf.iv c0_i32_30 c1_i32_32 k0_t1
  let c8_i32 : BitVec 32 := 8#32
  let v51 : BitVec 32 := Scalar.muli arg8 c8_i32
  let v52 : BitVec 32 := Scalar.addi v50 v51
  let c0_i32_34 : BitVec 32 := 0#32
  let v53 : BitVec 32 := Scalar.addi v52 c0_i32_34
  let v54 : Index := Scalar.indexCast v53
  ![v54.toNat]
def k0_off2 (i : grid0.Coords) : Fin 1 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  ![v48.toNat]
def k0_off3 (i : grid0.Coords) (k0_t1 : Fin k0_t1_loop.trips) : Fin 4 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  let c0_i32_30 : BitVec 32 := 0#32
  let c1_i32_32 : BitVec 32 := 1#32
  let arg8 : BitVec 32 := Scf.iv c0_i32_30 c1_i32_32 k0_t1
  let c0_i32_35 : BitVec 32 := 0#32
  let c0_i32_36 : BitVec 32 := 0#32
  ![v48.toNat, arg8.toNat, 0, 0]
def k0_off4 (v55 : BitVec 32) : Fin 3 → Nat :=
  let c3_i32 : BitVec 32 := 3#32
  let v56 : BitVec 32 := Scalar.shrui v55 c3_i32
  let c7_i32 : BitVec 32 := 7#32
  let v57 : BitVec 32 := Scalar.andi v55 c7_i32
  let c0_i32_37 : BitVec 32 := 0#32
  ![v56.toNat, v57.toNat, 0]

def k0_chk1 (i : grid0.Coords) (v55 : BitVec 32) : Prop :=
  (∀ (k0_h1 : k0_cond1 i = 1#1), ∀ a, (k0_off4 v55) a + S1x1x1024.size a ≤ S9728x8x1024.size a)
theorem k0_off4_inb : ∀ (i : grid0.Coords) (v55 : BitVec 32) (k0_hw1 : k0_chk1 i v55), ∀ (k0_h1 : k0_cond1 i = 1#1), ∀ a, (k0_off4 v55) a + S1x1x1024.size a ≤ S9728x8x1024.size a := fun i v55 k0_hw1 k0_h1 => k0_hw1 k0_h1

def k0_off5 (i : grid0.Coords) (k0_t1 : Fin k0_t1_loop.trips) : Fin 1 → Nat :=
  let arg0 : BitVec 32 := BitVec.ofNat 32 (i 0).val
  let c512_i32_38 : BitVec 32 := 512#32
  let v64 : BitVec 32 := Scalar.muli arg0 c512_i32_38
  let c0_i32_30 : BitVec 32 := 0#32
  let c1_i32_32 : BitVec 32 := 1#32
  let arg8 : BitVec 32 := Scf.iv c0_i32_30 c1_i32_32 k0_t1
  let c8_i32_39 : BitVec 32 := 8#32
  let v65 : BitVec 32 := Scalar.muli arg8 c8_i32_39
  let v66 : BitVec 32 := Scalar.addi v64 v65
  let c1_i32_40 : BitVec 32 := 1#32
  let v67 : BitVec 32 := Scalar.addi v66 c1_i32_40
  let v68 : Index := Scalar.indexCast v67
  ![v68.toNat]
def k0_off6 (i : grid0.Coords) : Fin 1 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  ![v48.toNat]
def k0_off7 (i : grid0.Coords) (k0_t1 : Fin k0_t1_loop.trips) : Fin 4 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  let c0_i32_30 : BitVec 32 := 0#32
  let c1_i32_32 : BitVec 32 := 1#32
  let arg8 : BitVec 32 := Scf.iv c0_i32_30 c1_i32_32 k0_t1
  let c1_i32_43 : BitVec 32 := 1#32
  let c0_i32_44 : BitVec 32 := 0#32
  ![v48.toNat, arg8.toNat, 1, 0]
def k0_off8 (v69 : BitVec 32) : Fin 3 → Nat :=
  let c3_i32_41 : BitVec 32 := 3#32
  let v70 : BitVec 32 := Scalar.shrui v69 c3_i32_41
  let c7_i32_42 : BitVec 32 := 7#32
  let v71 : BitVec 32 := Scalar.andi v69 c7_i32_42
  let c0_i32_45 : BitVec 32 := 0#32
  ![v70.toNat, v71.toNat, 0]

def k0_chk2 (i : grid0.Coords) (v69 : BitVec 32) : Prop :=
  (∀ (k0_h1 : k0_cond1 i = 1#1), ∀ a, (k0_off8 v69) a + S1x1x1024.size a ≤ S9728x8x1024.size a)
theorem k0_off8_inb : ∀ (i : grid0.Coords) (v69 : BitVec 32) (k0_hw2 : k0_chk2 i v69), ∀ (k0_h1 : k0_cond1 i = 1#1), ∀ a, (k0_off8 v69) a + S1x1x1024.size a ≤ S9728x8x1024.size a := fun i v69 k0_hw2 k0_h1 => k0_hw2 k0_h1

def k0_off9 (i : grid0.Coords) (k0_t1 : Fin k0_t1_loop.trips) : Fin 1 → Nat :=
  let arg0 : BitVec 32 := BitVec.ofNat 32 (i 0).val
  let c512_i32_46 : BitVec 32 := 512#32
  let v78 : BitVec 32 := Scalar.muli arg0 c512_i32_46
  let c0_i32_30 : BitVec 32 := 0#32
  let c1_i32_32 : BitVec 32 := 1#32
  let arg8 : BitVec 32 := Scf.iv c0_i32_30 c1_i32_32 k0_t1
  let c8_i32_47 : BitVec 32 := 8#32
  let v79 : BitVec 32 := Scalar.muli arg8 c8_i32_47
  let v80 : BitVec 32 := Scalar.addi v78 v79
  let c2_i32_48 : BitVec 32 := 2#32
  let v81 : BitVec 32 := Scalar.addi v80 c2_i32_48
  let v82 : Index := Scalar.indexCast v81
  ![v82.toNat]
def k0_off10 (i : grid0.Coords) : Fin 1 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  ![v48.toNat]
def k0_off11 (i : grid0.Coords) (k0_t1 : Fin k0_t1_loop.trips) : Fin 4 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  let c0_i32_30 : BitVec 32 := 0#32
  let c1_i32_32 : BitVec 32 := 1#32
  let arg8 : BitVec 32 := Scf.iv c0_i32_30 c1_i32_32 k0_t1
  let c2_i32_51 : BitVec 32 := 2#32
  let c0_i32_52 : BitVec 32 := 0#32
  ![v48.toNat, arg8.toNat, 2, 0]
def k0_off12 (v83 : BitVec 32) : Fin 3 → Nat :=
  let c3_i32_49 : BitVec 32 := 3#32
  let v84 : BitVec 32 := Scalar.shrui v83 c3_i32_49
  let c7_i32_50 : BitVec 32 := 7#32
  let v85 : BitVec 32 := Scalar.andi v83 c7_i32_50
  let c0_i32_53 : BitVec 32 := 0#32
  ![v84.toNat, v85.toNat, 0]

def k0_chk3 (i : grid0.Coords) (v83 : BitVec 32) : Prop :=
  (∀ (k0_h1 : k0_cond1 i = 1#1), ∀ a, (k0_off12 v83) a + S1x1x1024.size a ≤ S9728x8x1024.size a)
theorem k0_off12_inb : ∀ (i : grid0.Coords) (v83 : BitVec 32) (k0_hw3 : k0_chk3 i v83), ∀ (k0_h1 : k0_cond1 i = 1#1), ∀ a, (k0_off12 v83) a + S1x1x1024.size a ≤ S9728x8x1024.size a := fun i v83 k0_hw3 k0_h1 => k0_hw3 k0_h1

def k0_off13 (i : grid0.Coords) (k0_t1 : Fin k0_t1_loop.trips) : Fin 1 → Nat :=
  let arg0 : BitVec 32 := BitVec.ofNat 32 (i 0).val
  let c512_i32_54 : BitVec 32 := 512#32
  let v92 : BitVec 32 := Scalar.muli arg0 c512_i32_54
  let c0_i32_30 : BitVec 32 := 0#32
  let c1_i32_32 : BitVec 32 := 1#32
  let arg8 : BitVec 32 := Scf.iv c0_i32_30 c1_i32_32 k0_t1
  let c8_i32_55 : BitVec 32 := 8#32
  let v93 : BitVec 32 := Scalar.muli arg8 c8_i32_55
  let v94 : BitVec 32 := Scalar.addi v92 v93
  let c3_i32_56 : BitVec 32 := 3#32
  let v95 : BitVec 32 := Scalar.addi v94 c3_i32_56
  let v96 : Index := Scalar.indexCast v95
  ![v96.toNat]
def k0_off14 (i : grid0.Coords) : Fin 1 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  ![v48.toNat]
def k0_off15 (i : grid0.Coords) (k0_t1 : Fin k0_t1_loop.trips) : Fin 4 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  let c0_i32_30 : BitVec 32 := 0#32
  let c1_i32_32 : BitVec 32 := 1#32
  let arg8 : BitVec 32 := Scf.iv c0_i32_30 c1_i32_32 k0_t1
  let c3_i32_59 : BitVec 32 := 3#32
  let c0_i32_60 : BitVec 32 := 0#32
  ![v48.toNat, arg8.toNat, 3, 0]
def k0_off16 (v97 : BitVec 32) : Fin 3 → Nat :=
  let c3_i32_57 : BitVec 32 := 3#32
  let v98 : BitVec 32 := Scalar.shrui v97 c3_i32_57
  let c7_i32_58 : BitVec 32 := 7#32
  let v99 : BitVec 32 := Scalar.andi v97 c7_i32_58
  let c0_i32_61 : BitVec 32 := 0#32
  ![v98.toNat, v99.toNat, 0]

def k0_chk4 (i : grid0.Coords) (v97 : BitVec 32) : Prop :=
  (∀ (k0_h1 : k0_cond1 i = 1#1), ∀ a, (k0_off16 v97) a + S1x1x1024.size a ≤ S9728x8x1024.size a)
theorem k0_off16_inb : ∀ (i : grid0.Coords) (v97 : BitVec 32) (k0_hw4 : k0_chk4 i v97), ∀ (k0_h1 : k0_cond1 i = 1#1), ∀ a, (k0_off16 v97) a + S1x1x1024.size a ≤ S9728x8x1024.size a := fun i v97 k0_hw4 k0_h1 => k0_hw4 k0_h1

def k0_off17 (i : grid0.Coords) (k0_t1 : Fin k0_t1_loop.trips) : Fin 1 → Nat :=
  let arg0 : BitVec 32 := BitVec.ofNat 32 (i 0).val
  let c512_i32_62 : BitVec 32 := 512#32
  let v106 : BitVec 32 := Scalar.muli arg0 c512_i32_62
  let c0_i32_30 : BitVec 32 := 0#32
  let c1_i32_32 : BitVec 32 := 1#32
  let arg8 : BitVec 32 := Scf.iv c0_i32_30 c1_i32_32 k0_t1
  let c8_i32_63 : BitVec 32 := 8#32
  let v107 : BitVec 32 := Scalar.muli arg8 c8_i32_63
  let v108 : BitVec 32 := Scalar.addi v106 v107
  let c4_i32 : BitVec 32 := 4#32
  let v109 : BitVec 32 := Scalar.addi v108 c4_i32
  let v110 : Index := Scalar.indexCast v109
  ![v110.toNat]
def k0_off18 (i : grid0.Coords) : Fin 1 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  ![v48.toNat]
def k0_off19 (i : grid0.Coords) (k0_t1 : Fin k0_t1_loop.trips) : Fin 4 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  let c0_i32_30 : BitVec 32 := 0#32
  let c1_i32_32 : BitVec 32 := 1#32
  let arg8 : BitVec 32 := Scf.iv c0_i32_30 c1_i32_32 k0_t1
  let c4_i32_66 : BitVec 32 := 4#32
  let c0_i32_67 : BitVec 32 := 0#32
  ![v48.toNat, arg8.toNat, 4, 0]
def k0_off20 (v111 : BitVec 32) : Fin 3 → Nat :=
  let c3_i32_64 : BitVec 32 := 3#32
  let v112 : BitVec 32 := Scalar.shrui v111 c3_i32_64
  let c7_i32_65 : BitVec 32 := 7#32
  let v113 : BitVec 32 := Scalar.andi v111 c7_i32_65
  let c0_i32_68 : BitVec 32 := 0#32
  ![v112.toNat, v113.toNat, 0]

def k0_chk5 (i : grid0.Coords) (v111 : BitVec 32) : Prop :=
  (∀ (k0_h1 : k0_cond1 i = 1#1), ∀ a, (k0_off20 v111) a + S1x1x1024.size a ≤ S9728x8x1024.size a)
theorem k0_off20_inb : ∀ (i : grid0.Coords) (v111 : BitVec 32) (k0_hw5 : k0_chk5 i v111), ∀ (k0_h1 : k0_cond1 i = 1#1), ∀ a, (k0_off20 v111) a + S1x1x1024.size a ≤ S9728x8x1024.size a := fun i v111 k0_hw5 k0_h1 => k0_hw5 k0_h1

def k0_off21 (i : grid0.Coords) (k0_t1 : Fin k0_t1_loop.trips) : Fin 1 → Nat :=
  let arg0 : BitVec 32 := BitVec.ofNat 32 (i 0).val
  let c512_i32_69 : BitVec 32 := 512#32
  let v120 : BitVec 32 := Scalar.muli arg0 c512_i32_69
  let c0_i32_30 : BitVec 32 := 0#32
  let c1_i32_32 : BitVec 32 := 1#32
  let arg8 : BitVec 32 := Scf.iv c0_i32_30 c1_i32_32 k0_t1
  let c8_i32_70 : BitVec 32 := 8#32
  let v121 : BitVec 32 := Scalar.muli arg8 c8_i32_70
  let v122 : BitVec 32 := Scalar.addi v120 v121
  let c5_i32 : BitVec 32 := 5#32
  let v123 : BitVec 32 := Scalar.addi v122 c5_i32
  let v124 : Index := Scalar.indexCast v123
  ![v124.toNat]
def k0_off22 (i : grid0.Coords) : Fin 1 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  ![v48.toNat]
def k0_off23 (i : grid0.Coords) (k0_t1 : Fin k0_t1_loop.trips) : Fin 4 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  let c0_i32_30 : BitVec 32 := 0#32
  let c1_i32_32 : BitVec 32 := 1#32
  let arg8 : BitVec 32 := Scf.iv c0_i32_30 c1_i32_32 k0_t1
  let c5_i32_73 : BitVec 32 := 5#32
  let c0_i32_74 : BitVec 32 := 0#32
  ![v48.toNat, arg8.toNat, 5, 0]
def k0_off24 (v125 : BitVec 32) : Fin 3 → Nat :=
  let c3_i32_71 : BitVec 32 := 3#32
  let v126 : BitVec 32 := Scalar.shrui v125 c3_i32_71
  let c7_i32_72 : BitVec 32 := 7#32
  let v127 : BitVec 32 := Scalar.andi v125 c7_i32_72
  let c0_i32_75 : BitVec 32 := 0#32
  ![v126.toNat, v127.toNat, 0]

def k0_chk6 (i : grid0.Coords) (v125 : BitVec 32) : Prop :=
  (∀ (k0_h1 : k0_cond1 i = 1#1), ∀ a, (k0_off24 v125) a + S1x1x1024.size a ≤ S9728x8x1024.size a)
theorem k0_off24_inb : ∀ (i : grid0.Coords) (v125 : BitVec 32) (k0_hw6 : k0_chk6 i v125), ∀ (k0_h1 : k0_cond1 i = 1#1), ∀ a, (k0_off24 v125) a + S1x1x1024.size a ≤ S9728x8x1024.size a := fun i v125 k0_hw6 k0_h1 => k0_hw6 k0_h1

def k0_off25 (i : grid0.Coords) (k0_t1 : Fin k0_t1_loop.trips) : Fin 1 → Nat :=
  let arg0 : BitVec 32 := BitVec.ofNat 32 (i 0).val
  let c512_i32_76 : BitVec 32 := 512#32
  let v134 : BitVec 32 := Scalar.muli arg0 c512_i32_76
  let c0_i32_30 : BitVec 32 := 0#32
  let c1_i32_32 : BitVec 32 := 1#32
  let arg8 : BitVec 32 := Scf.iv c0_i32_30 c1_i32_32 k0_t1
  let c8_i32_77 : BitVec 32 := 8#32
  let v135 : BitVec 32 := Scalar.muli arg8 c8_i32_77
  let v136 : BitVec 32 := Scalar.addi v134 v135
  let c6_i32 : BitVec 32 := 6#32
  let v137 : BitVec 32 := Scalar.addi v136 c6_i32
  let v138 : Index := Scalar.indexCast v137
  ![v138.toNat]
def k0_off26 (i : grid0.Coords) : Fin 1 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  ![v48.toNat]
def k0_off27 (i : grid0.Coords) (k0_t1 : Fin k0_t1_loop.trips) : Fin 4 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  let c0_i32_30 : BitVec 32 := 0#32
  let c1_i32_32 : BitVec 32 := 1#32
  let arg8 : BitVec 32 := Scf.iv c0_i32_30 c1_i32_32 k0_t1
  let c6_i32_80 : BitVec 32 := 6#32
  let c0_i32_81 : BitVec 32 := 0#32
  ![v48.toNat, arg8.toNat, 6, 0]
def k0_off28 (v139 : BitVec 32) : Fin 3 → Nat :=
  let c3_i32_78 : BitVec 32 := 3#32
  let v140 : BitVec 32 := Scalar.shrui v139 c3_i32_78
  let c7_i32_79 : BitVec 32 := 7#32
  let v141 : BitVec 32 := Scalar.andi v139 c7_i32_79
  let c0_i32_82 : BitVec 32 := 0#32
  ![v140.toNat, v141.toNat, 0]

def k0_chk7 (i : grid0.Coords) (v139 : BitVec 32) : Prop :=
  (∀ (k0_h1 : k0_cond1 i = 1#1), ∀ a, (k0_off28 v139) a + S1x1x1024.size a ≤ S9728x8x1024.size a)
theorem k0_off28_inb : ∀ (i : grid0.Coords) (v139 : BitVec 32) (k0_hw7 : k0_chk7 i v139), ∀ (k0_h1 : k0_cond1 i = 1#1), ∀ a, (k0_off28 v139) a + S1x1x1024.size a ≤ S9728x8x1024.size a := fun i v139 k0_hw7 k0_h1 => k0_hw7 k0_h1

def k0_off29 (i : grid0.Coords) (k0_t1 : Fin k0_t1_loop.trips) : Fin 1 → Nat :=
  let arg0 : BitVec 32 := BitVec.ofNat 32 (i 0).val
  let c512_i32_83 : BitVec 32 := 512#32
  let v148 : BitVec 32 := Scalar.muli arg0 c512_i32_83
  let c0_i32_30 : BitVec 32 := 0#32
  let c1_i32_32 : BitVec 32 := 1#32
  let arg8 : BitVec 32 := Scf.iv c0_i32_30 c1_i32_32 k0_t1
  let c8_i32_84 : BitVec 32 := 8#32
  let v149 : BitVec 32 := Scalar.muli arg8 c8_i32_84
  let v150 : BitVec 32 := Scalar.addi v148 v149
  let c7_i32_85 : BitVec 32 := 7#32
  let v151 : BitVec 32 := Scalar.addi v150 c7_i32_85
  let v152 : Index := Scalar.indexCast v151
  ![v152.toNat]
def k0_off30 (i : grid0.Coords) : Fin 1 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  ![v48.toNat]
def k0_off31 (i : grid0.Coords) (k0_t1 : Fin k0_t1_loop.trips) : Fin 4 → Nat :=
  let arg0 : BitVec 32 := BitVec.ofNat 32 (i 0).val
  let c2_i32_24 : BitVec 32 := 2#32
  let c0_i32_25 : BitVec 32 := 0#32
  let v39 : BitVec 1 := Scalar.cmpi .eq c2_i32_24 c0_i32_25
  let c1_i32_26 : BitVec 32 := 1#32
  let v40 : BitVec 32 := Scalar.select v39 c1_i32_26 c2_i32_24
  let v41 : BitVec 32 := Scalar.remsi arg0 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  let c0_i32_30 : BitVec 32 := 0#32
  let c1_i32_32 : BitVec 32 := 1#32
  let arg8 : BitVec 32 := Scf.iv c0_i32_30 c1_i32_32 k0_t1
  let c7_i32_88 : BitVec 32 := 7#32
  let c0_i32_89 : BitVec 32 := 0#32
  ![v48.toNat, arg8.toNat, 7, 0]
def k0_off32 (v153 : BitVec 32) : Fin 3 → Nat :=
  let c3_i32_86 : BitVec 32 := 3#32
  let v154 : BitVec 32 := Scalar.shrui v153 c3_i32_86
  let c7_i32_87 : BitVec 32 := 7#32
  let v155 : BitVec 32 := Scalar.andi v153 c7_i32_87
  let c0_i32_90 : BitVec 32 := 0#32
  ![v154.toNat, v155.toNat, 0]

def k0_chk8 (i : grid0.Coords) (v153 : BitVec 32) : Prop :=
  (∀ (k0_h1 : k0_cond1 i = 1#1), ∀ a, (k0_off32 v153) a + S1x1x1024.size a ≤ S9728x8x1024.size a)
theorem k0_off32_inb : ∀ (i : grid0.Coords) (v153 : BitVec 32) (k0_hw8 : k0_chk8 i v153), ∀ (k0_h1 : k0_cond1 i = 1#1), ∀ a, (k0_off32 v153) a + S1x1x1024.size a ≤ S9728x8x1024.size a := fun i v153 k0_hw8 k0_h1 => k0_hw8 k0_h1

def k0_cond2 (i : grid0.Coords) : BitVec 1 :=
  let arg0 : BitVec 32 := BitVec.ofNat 32 (i 0).val
  let c1_i32 : BitVec 32 := 1#32
  let v3 : BitVec 32 := Scalar.addi arg0 c1_i32
  let c128_i32 : BitVec 32 := 128#32
  let v4 : BitVec 1 := Scalar.cmpi .slt v3 c128_i32
  let v5 : BitVec 32 := Scalar.extui v4
  let c0_i32_1 : BitVec 32 := 0#32
  let v6 : BitVec 1 := Scalar.cmpi .ne v5 c0_i32_1
  v6

@[reducible] def k0_t2_loop : Scf.Loop 32 :=
  let c0_i32_31 : BitVec 32 := 0#32
  let c64_i32_32 : BitVec 32 := 64#32
  let v50 : BitVec 32 := Scalar.addi c0_i32_31 c64_i32_32
  let c1_i32_33 : BitVec 32 := 1#32
  ⟨c0_i32_31, v50, c1_i32_33⟩
def k0_off33 (i : grid0.Coords) (k0_t2 : Fin k0_t2_loop.trips) : Fin 1 → Nat :=
  let arg0 : BitVec 32 := BitVec.ofNat 32 (i 0).val
  let c1_i32_24 : BitVec 32 := 1#32
  let v39 : BitVec 32 := Scalar.addi arg0 c1_i32_24
  let c512_i32 : BitVec 32 := 512#32
  let v51 : BitVec 32 := Scalar.muli v39 c512_i32
  let c0_i32_31 : BitVec 32 := 0#32
  let c1_i32_33 : BitVec 32 := 1#32
  let arg8 : BitVec 32 := Scf.iv c0_i32_31 c1_i32_33 k0_t2
  let c8_i32 : BitVec 32 := 8#32
  let v52 : BitVec 32 := Scalar.muli arg8 c8_i32
  let v53 : BitVec 32 := Scalar.addi v51 v52
  let c0_i32_35 : BitVec 32 := 0#32
  let v54 : BitVec 32 := Scalar.addi v53 c0_i32_35
  let v55 : Index := Scalar.indexCast v54
  ![v55.toNat]
def k0_off34 (i : grid0.Coords) : Fin 1 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  ![v49.toNat]
def k0_off35 (i : grid0.Coords) (k0_t2 : Fin k0_t2_loop.trips) : Fin 4 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c0_i32_31 : BitVec 32 := 0#32
  let c1_i32_33 : BitVec 32 := 1#32
  let arg8 : BitVec 32 := Scf.iv c0_i32_31 c1_i32_33 k0_t2
  let c0_i32_36 : BitVec 32 := 0#32
  let c0_i32_37 : BitVec 32 := 0#32
  ![v49.toNat, arg8.toNat, 0, 0]
def k0_off36 (v56 : BitVec 32) : Fin 3 → Nat :=
  let c3_i32 : BitVec 32 := 3#32
  let v57 : BitVec 32 := Scalar.shrui v56 c3_i32
  let c7_i32 : BitVec 32 := 7#32
  let v58 : BitVec 32 := Scalar.andi v56 c7_i32
  let c0_i32_38 : BitVec 32 := 0#32
  ![v57.toNat, v58.toNat, 0]

def k0_chk9 (i : grid0.Coords) (v56 : BitVec 32) : Prop :=
  (∀ (k0_h2 : k0_cond2 i = 1#1), ∀ a, (k0_off36 v56) a + S1x1x1024.size a ≤ S9728x8x1024.size a)
theorem k0_off36_inb : ∀ (i : grid0.Coords) (v56 : BitVec 32) (k0_hw9 : k0_chk9 i v56), ∀ (k0_h2 : k0_cond2 i = 1#1), ∀ a, (k0_off36 v56) a + S1x1x1024.size a ≤ S9728x8x1024.size a := fun i v56 k0_hw9 k0_h2 => k0_hw9 k0_h2

def k0_off37 (i : grid0.Coords) (k0_t2 : Fin k0_t2_loop.trips) : Fin 1 → Nat :=
  let arg0 : BitVec 32 := BitVec.ofNat 32 (i 0).val
  let c1_i32_24 : BitVec 32 := 1#32
  let v39 : BitVec 32 := Scalar.addi arg0 c1_i32_24
  let c512_i32_39 : BitVec 32 := 512#32
  let v65 : BitVec 32 := Scalar.muli v39 c512_i32_39
  let c0_i32_31 : BitVec 32 := 0#32
  let c1_i32_33 : BitVec 32 := 1#32
  let arg8 : BitVec 32 := Scf.iv c0_i32_31 c1_i32_33 k0_t2
  let c8_i32_40 : BitVec 32 := 8#32
  let v66 : BitVec 32 := Scalar.muli arg8 c8_i32_40
  let v67 : BitVec 32 := Scalar.addi v65 v66
  let c1_i32_41 : BitVec 32 := 1#32
  let v68 : BitVec 32 := Scalar.addi v67 c1_i32_41
  let v69 : Index := Scalar.indexCast v68
  ![v69.toNat]
def k0_off38 (i : grid0.Coords) : Fin 1 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  ![v49.toNat]
def k0_off39 (i : grid0.Coords) (k0_t2 : Fin k0_t2_loop.trips) : Fin 4 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c0_i32_31 : BitVec 32 := 0#32
  let c1_i32_33 : BitVec 32 := 1#32
  let arg8 : BitVec 32 := Scf.iv c0_i32_31 c1_i32_33 k0_t2
  let c1_i32_44 : BitVec 32 := 1#32
  let c0_i32_45 : BitVec 32 := 0#32
  ![v49.toNat, arg8.toNat, 1, 0]
def k0_off40 (v70 : BitVec 32) : Fin 3 → Nat :=
  let c3_i32_42 : BitVec 32 := 3#32
  let v71 : BitVec 32 := Scalar.shrui v70 c3_i32_42
  let c7_i32_43 : BitVec 32 := 7#32
  let v72 : BitVec 32 := Scalar.andi v70 c7_i32_43
  let c0_i32_46 : BitVec 32 := 0#32
  ![v71.toNat, v72.toNat, 0]

def k0_chk10 (i : grid0.Coords) (v70 : BitVec 32) : Prop :=
  (∀ (k0_h2 : k0_cond2 i = 1#1), ∀ a, (k0_off40 v70) a + S1x1x1024.size a ≤ S9728x8x1024.size a)
theorem k0_off40_inb : ∀ (i : grid0.Coords) (v70 : BitVec 32) (k0_hw10 : k0_chk10 i v70), ∀ (k0_h2 : k0_cond2 i = 1#1), ∀ a, (k0_off40 v70) a + S1x1x1024.size a ≤ S9728x8x1024.size a := fun i v70 k0_hw10 k0_h2 => k0_hw10 k0_h2

def k0_off41 (i : grid0.Coords) (k0_t2 : Fin k0_t2_loop.trips) : Fin 1 → Nat :=
  let arg0 : BitVec 32 := BitVec.ofNat 32 (i 0).val
  let c1_i32_24 : BitVec 32 := 1#32
  let v39 : BitVec 32 := Scalar.addi arg0 c1_i32_24
  let c512_i32_47 : BitVec 32 := 512#32
  let v79 : BitVec 32 := Scalar.muli v39 c512_i32_47
  let c0_i32_31 : BitVec 32 := 0#32
  let c1_i32_33 : BitVec 32 := 1#32
  let arg8 : BitVec 32 := Scf.iv c0_i32_31 c1_i32_33 k0_t2
  let c8_i32_48 : BitVec 32 := 8#32
  let v80 : BitVec 32 := Scalar.muli arg8 c8_i32_48
  let v81 : BitVec 32 := Scalar.addi v79 v80
  let c2_i32_49 : BitVec 32 := 2#32
  let v82 : BitVec 32 := Scalar.addi v81 c2_i32_49
  let v83 : Index := Scalar.indexCast v82
  ![v83.toNat]
def k0_off42 (i : grid0.Coords) : Fin 1 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  ![v49.toNat]
def k0_off43 (i : grid0.Coords) (k0_t2 : Fin k0_t2_loop.trips) : Fin 4 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c0_i32_31 : BitVec 32 := 0#32
  let c1_i32_33 : BitVec 32 := 1#32
  let arg8 : BitVec 32 := Scf.iv c0_i32_31 c1_i32_33 k0_t2
  let c2_i32_52 : BitVec 32 := 2#32
  let c0_i32_53 : BitVec 32 := 0#32
  ![v49.toNat, arg8.toNat, 2, 0]
def k0_off44 (v84 : BitVec 32) : Fin 3 → Nat :=
  let c3_i32_50 : BitVec 32 := 3#32
  let v85 : BitVec 32 := Scalar.shrui v84 c3_i32_50
  let c7_i32_51 : BitVec 32 := 7#32
  let v86 : BitVec 32 := Scalar.andi v84 c7_i32_51
  let c0_i32_54 : BitVec 32 := 0#32
  ![v85.toNat, v86.toNat, 0]

def k0_chk11 (i : grid0.Coords) (v84 : BitVec 32) : Prop :=
  (∀ (k0_h2 : k0_cond2 i = 1#1), ∀ a, (k0_off44 v84) a + S1x1x1024.size a ≤ S9728x8x1024.size a)
theorem k0_off44_inb : ∀ (i : grid0.Coords) (v84 : BitVec 32) (k0_hw11 : k0_chk11 i v84), ∀ (k0_h2 : k0_cond2 i = 1#1), ∀ a, (k0_off44 v84) a + S1x1x1024.size a ≤ S9728x8x1024.size a := fun i v84 k0_hw11 k0_h2 => k0_hw11 k0_h2

def k0_off45 (i : grid0.Coords) (k0_t2 : Fin k0_t2_loop.trips) : Fin 1 → Nat :=
  let arg0 : BitVec 32 := BitVec.ofNat 32 (i 0).val
  let c1_i32_24 : BitVec 32 := 1#32
  let v39 : BitVec 32 := Scalar.addi arg0 c1_i32_24
  let c512_i32_55 : BitVec 32 := 512#32
  let v93 : BitVec 32 := Scalar.muli v39 c512_i32_55
  let c0_i32_31 : BitVec 32 := 0#32
  let c1_i32_33 : BitVec 32 := 1#32
  let arg8 : BitVec 32 := Scf.iv c0_i32_31 c1_i32_33 k0_t2
  let c8_i32_56 : BitVec 32 := 8#32
  let v94 : BitVec 32 := Scalar.muli arg8 c8_i32_56
  let v95 : BitVec 32 := Scalar.addi v93 v94
  let c3_i32_57 : BitVec 32 := 3#32
  let v96 : BitVec 32 := Scalar.addi v95 c3_i32_57
  let v97 : Index := Scalar.indexCast v96
  ![v97.toNat]
def k0_off46 (i : grid0.Coords) : Fin 1 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  ![v49.toNat]
def k0_off47 (i : grid0.Coords) (k0_t2 : Fin k0_t2_loop.trips) : Fin 4 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c0_i32_31 : BitVec 32 := 0#32
  let c1_i32_33 : BitVec 32 := 1#32
  let arg8 : BitVec 32 := Scf.iv c0_i32_31 c1_i32_33 k0_t2
  let c3_i32_60 : BitVec 32 := 3#32
  let c0_i32_61 : BitVec 32 := 0#32
  ![v49.toNat, arg8.toNat, 3, 0]
def k0_off48 (v98 : BitVec 32) : Fin 3 → Nat :=
  let c3_i32_58 : BitVec 32 := 3#32
  let v99 : BitVec 32 := Scalar.shrui v98 c3_i32_58
  let c7_i32_59 : BitVec 32 := 7#32
  let v100 : BitVec 32 := Scalar.andi v98 c7_i32_59
  let c0_i32_62 : BitVec 32 := 0#32
  ![v99.toNat, v100.toNat, 0]

def k0_chk12 (i : grid0.Coords) (v98 : BitVec 32) : Prop :=
  (∀ (k0_h2 : k0_cond2 i = 1#1), ∀ a, (k0_off48 v98) a + S1x1x1024.size a ≤ S9728x8x1024.size a)
theorem k0_off48_inb : ∀ (i : grid0.Coords) (v98 : BitVec 32) (k0_hw12 : k0_chk12 i v98), ∀ (k0_h2 : k0_cond2 i = 1#1), ∀ a, (k0_off48 v98) a + S1x1x1024.size a ≤ S9728x8x1024.size a := fun i v98 k0_hw12 k0_h2 => k0_hw12 k0_h2

def k0_off49 (i : grid0.Coords) (k0_t2 : Fin k0_t2_loop.trips) : Fin 1 → Nat :=
  let arg0 : BitVec 32 := BitVec.ofNat 32 (i 0).val
  let c1_i32_24 : BitVec 32 := 1#32
  let v39 : BitVec 32 := Scalar.addi arg0 c1_i32_24
  let c512_i32_63 : BitVec 32 := 512#32
  let v107 : BitVec 32 := Scalar.muli v39 c512_i32_63
  let c0_i32_31 : BitVec 32 := 0#32
  let c1_i32_33 : BitVec 32 := 1#32
  let arg8 : BitVec 32 := Scf.iv c0_i32_31 c1_i32_33 k0_t2
  let c8_i32_64 : BitVec 32 := 8#32
  let v108 : BitVec 32 := Scalar.muli arg8 c8_i32_64
  let v109 : BitVec 32 := Scalar.addi v107 v108
  let c4_i32 : BitVec 32 := 4#32
  let v110 : BitVec 32 := Scalar.addi v109 c4_i32
  let v111 : Index := Scalar.indexCast v110
  ![v111.toNat]
def k0_off50 (i : grid0.Coords) : Fin 1 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  ![v49.toNat]
def k0_off51 (i : grid0.Coords) (k0_t2 : Fin k0_t2_loop.trips) : Fin 4 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c0_i32_31 : BitVec 32 := 0#32
  let c1_i32_33 : BitVec 32 := 1#32
  let arg8 : BitVec 32 := Scf.iv c0_i32_31 c1_i32_33 k0_t2
  let c4_i32_67 : BitVec 32 := 4#32
  let c0_i32_68 : BitVec 32 := 0#32
  ![v49.toNat, arg8.toNat, 4, 0]
def k0_off52 (v112 : BitVec 32) : Fin 3 → Nat :=
  let c3_i32_65 : BitVec 32 := 3#32
  let v113 : BitVec 32 := Scalar.shrui v112 c3_i32_65
  let c7_i32_66 : BitVec 32 := 7#32
  let v114 : BitVec 32 := Scalar.andi v112 c7_i32_66
  let c0_i32_69 : BitVec 32 := 0#32
  ![v113.toNat, v114.toNat, 0]

def k0_chk13 (i : grid0.Coords) (v112 : BitVec 32) : Prop :=
  (∀ (k0_h2 : k0_cond2 i = 1#1), ∀ a, (k0_off52 v112) a + S1x1x1024.size a ≤ S9728x8x1024.size a)
theorem k0_off52_inb : ∀ (i : grid0.Coords) (v112 : BitVec 32) (k0_hw13 : k0_chk13 i v112), ∀ (k0_h2 : k0_cond2 i = 1#1), ∀ a, (k0_off52 v112) a + S1x1x1024.size a ≤ S9728x8x1024.size a := fun i v112 k0_hw13 k0_h2 => k0_hw13 k0_h2

def k0_off53 (i : grid0.Coords) (k0_t2 : Fin k0_t2_loop.trips) : Fin 1 → Nat :=
  let arg0 : BitVec 32 := BitVec.ofNat 32 (i 0).val
  let c1_i32_24 : BitVec 32 := 1#32
  let v39 : BitVec 32 := Scalar.addi arg0 c1_i32_24
  let c512_i32_70 : BitVec 32 := 512#32
  let v121 : BitVec 32 := Scalar.muli v39 c512_i32_70
  let c0_i32_31 : BitVec 32 := 0#32
  let c1_i32_33 : BitVec 32 := 1#32
  let arg8 : BitVec 32 := Scf.iv c0_i32_31 c1_i32_33 k0_t2
  let c8_i32_71 : BitVec 32 := 8#32
  let v122 : BitVec 32 := Scalar.muli arg8 c8_i32_71
  let v123 : BitVec 32 := Scalar.addi v121 v122
  let c5_i32 : BitVec 32 := 5#32
  let v124 : BitVec 32 := Scalar.addi v123 c5_i32
  let v125 : Index := Scalar.indexCast v124
  ![v125.toNat]
def k0_off54 (i : grid0.Coords) : Fin 1 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  ![v49.toNat]
def k0_off55 (i : grid0.Coords) (k0_t2 : Fin k0_t2_loop.trips) : Fin 4 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c0_i32_31 : BitVec 32 := 0#32
  let c1_i32_33 : BitVec 32 := 1#32
  let arg8 : BitVec 32 := Scf.iv c0_i32_31 c1_i32_33 k0_t2
  let c5_i32_74 : BitVec 32 := 5#32
  let c0_i32_75 : BitVec 32 := 0#32
  ![v49.toNat, arg8.toNat, 5, 0]
def k0_off56 (v126 : BitVec 32) : Fin 3 → Nat :=
  let c3_i32_72 : BitVec 32 := 3#32
  let v127 : BitVec 32 := Scalar.shrui v126 c3_i32_72
  let c7_i32_73 : BitVec 32 := 7#32
  let v128 : BitVec 32 := Scalar.andi v126 c7_i32_73
  let c0_i32_76 : BitVec 32 := 0#32
  ![v127.toNat, v128.toNat, 0]

def k0_chk14 (i : grid0.Coords) (v126 : BitVec 32) : Prop :=
  (∀ (k0_h2 : k0_cond2 i = 1#1), ∀ a, (k0_off56 v126) a + S1x1x1024.size a ≤ S9728x8x1024.size a)
theorem k0_off56_inb : ∀ (i : grid0.Coords) (v126 : BitVec 32) (k0_hw14 : k0_chk14 i v126), ∀ (k0_h2 : k0_cond2 i = 1#1), ∀ a, (k0_off56 v126) a + S1x1x1024.size a ≤ S9728x8x1024.size a := fun i v126 k0_hw14 k0_h2 => k0_hw14 k0_h2

def k0_off57 (i : grid0.Coords) (k0_t2 : Fin k0_t2_loop.trips) : Fin 1 → Nat :=
  let arg0 : BitVec 32 := BitVec.ofNat 32 (i 0).val
  let c1_i32_24 : BitVec 32 := 1#32
  let v39 : BitVec 32 := Scalar.addi arg0 c1_i32_24
  let c512_i32_77 : BitVec 32 := 512#32
  let v135 : BitVec 32 := Scalar.muli v39 c512_i32_77
  let c0_i32_31 : BitVec 32 := 0#32
  let c1_i32_33 : BitVec 32 := 1#32
  let arg8 : BitVec 32 := Scf.iv c0_i32_31 c1_i32_33 k0_t2
  let c8_i32_78 : BitVec 32 := 8#32
  let v136 : BitVec 32 := Scalar.muli arg8 c8_i32_78
  let v137 : BitVec 32 := Scalar.addi v135 v136
  let c6_i32 : BitVec 32 := 6#32
  let v138 : BitVec 32 := Scalar.addi v137 c6_i32
  let v139 : Index := Scalar.indexCast v138
  ![v139.toNat]
def k0_off58 (i : grid0.Coords) : Fin 1 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  ![v49.toNat]
def k0_off59 (i : grid0.Coords) (k0_t2 : Fin k0_t2_loop.trips) : Fin 4 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c0_i32_31 : BitVec 32 := 0#32
  let c1_i32_33 : BitVec 32 := 1#32
  let arg8 : BitVec 32 := Scf.iv c0_i32_31 c1_i32_33 k0_t2
  let c6_i32_81 : BitVec 32 := 6#32
  let c0_i32_82 : BitVec 32 := 0#32
  ![v49.toNat, arg8.toNat, 6, 0]
def k0_off60 (v140 : BitVec 32) : Fin 3 → Nat :=
  let c3_i32_79 : BitVec 32 := 3#32
  let v141 : BitVec 32 := Scalar.shrui v140 c3_i32_79
  let c7_i32_80 : BitVec 32 := 7#32
  let v142 : BitVec 32 := Scalar.andi v140 c7_i32_80
  let c0_i32_83 : BitVec 32 := 0#32
  ![v141.toNat, v142.toNat, 0]

def k0_chk15 (i : grid0.Coords) (v140 : BitVec 32) : Prop :=
  (∀ (k0_h2 : k0_cond2 i = 1#1), ∀ a, (k0_off60 v140) a + S1x1x1024.size a ≤ S9728x8x1024.size a)
theorem k0_off60_inb : ∀ (i : grid0.Coords) (v140 : BitVec 32) (k0_hw15 : k0_chk15 i v140), ∀ (k0_h2 : k0_cond2 i = 1#1), ∀ a, (k0_off60 v140) a + S1x1x1024.size a ≤ S9728x8x1024.size a := fun i v140 k0_hw15 k0_h2 => k0_hw15 k0_h2

def k0_off61 (i : grid0.Coords) (k0_t2 : Fin k0_t2_loop.trips) : Fin 1 → Nat :=
  let arg0 : BitVec 32 := BitVec.ofNat 32 (i 0).val
  let c1_i32_24 : BitVec 32 := 1#32
  let v39 : BitVec 32 := Scalar.addi arg0 c1_i32_24
  let c512_i32_84 : BitVec 32 := 512#32
  let v149 : BitVec 32 := Scalar.muli v39 c512_i32_84
  let c0_i32_31 : BitVec 32 := 0#32
  let c1_i32_33 : BitVec 32 := 1#32
  let arg8 : BitVec 32 := Scf.iv c0_i32_31 c1_i32_33 k0_t2
  let c8_i32_85 : BitVec 32 := 8#32
  let v150 : BitVec 32 := Scalar.muli arg8 c8_i32_85
  let v151 : BitVec 32 := Scalar.addi v149 v150
  let c7_i32_86 : BitVec 32 := 7#32
  let v152 : BitVec 32 := Scalar.addi v151 c7_i32_86
  let v153 : Index := Scalar.indexCast v152
  ![v153.toNat]
def k0_off62 (i : grid0.Coords) : Fin 1 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  ![v49.toNat]
def k0_off63 (i : grid0.Coords) (k0_t2 : Fin k0_t2_loop.trips) : Fin 4 → Nat :=
  let arg0 : BitVec 32 := BitVec.ofNat 32 (i 0).val
  let c1_i32_24 : BitVec 32 := 1#32
  let v39 : BitVec 32 := Scalar.addi arg0 c1_i32_24
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c0_i32_31 : BitVec 32 := 0#32
  let c1_i32_33 : BitVec 32 := 1#32
  let arg8 : BitVec 32 := Scf.iv c0_i32_31 c1_i32_33 k0_t2
  let c7_i32_89 : BitVec 32 := 7#32
  let c0_i32_90 : BitVec 32 := 0#32
  ![v49.toNat, arg8.toNat, 7, 0]
def k0_off64 (v154 : BitVec 32) : Fin 3 → Nat :=
  let c3_i32_87 : BitVec 32 := 3#32
  let v155 : BitVec 32 := Scalar.shrui v154 c3_i32_87
  let c7_i32_88 : BitVec 32 := 7#32
  let v156 : BitVec 32 := Scalar.andi v154 c7_i32_88
  let c0_i32_91 : BitVec 32 := 0#32
  ![v155.toNat, v156.toNat, 0]

def k0_chk16 (i : grid0.Coords) (v154 : BitVec 32) : Prop :=
  (∀ (k0_h2 : k0_cond2 i = 1#1), ∀ a, (k0_off64 v154) a + S1x1x1024.size a ≤ S9728x8x1024.size a)
theorem k0_off64_inb : ∀ (i : grid0.Coords) (v154 : BitVec 32) (k0_hw16 : k0_chk16 i v154), ∀ (k0_h2 : k0_cond2 i = 1#1), ∀ a, (k0_off64 v154) a + S1x1x1024.size a ≤ S9728x8x1024.size a := fun i v154 k0_hw16 k0_h2 => k0_hw16 k0_h2

@[reducible] def k0_t3_loop : Scf.Loop 32 :=
  let c0_i32_7 : BitVec 32 := 0#32
  let c64_i32 : BitVec 32 := 64#32
  let v17 : BitVec 32 := Scalar.addi c0_i32_7 c64_i32
  let c1_i32_8 : BitVec 32 := 1#32
  ⟨c0_i32_7, v17, c1_i32_8⟩
def k0_off65 (i : grid0.Coords) (k0_t3 : Fin k0_t3_loop.trips) : Fin 1 → Nat :=
  let arg0 : BitVec 32 := BitVec.ofNat 32 (i 0).val
  let c512_i32 : BitVec 32 := 512#32
  let v39 : BitVec 32 := Scalar.muli arg0 c512_i32
  let c0_i32_7 : BitVec 32 := 0#32
  let c1_i32_8 : BitVec 32 := 1#32
  let arg8 : BitVec 32 := Scf.iv c0_i32_7 c1_i32_8 k0_t3
  let c8_i32 : BitVec 32 := 8#32
  let v40 : BitVec 32 := Scalar.muli arg8 c8_i32
  let v41 : BitVec 32 := Scalar.addi v39 v40
  let c0_i32_24 : BitVec 32 := 0#32
  let v42 : BitVec 32 := Scalar.addi v41 c0_i32_24
  let v43 : Index := Scalar.indexCast v42
  ![v43.toNat]
def k0_off66 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off67 (i : grid0.Coords) (k0_t3 : Fin k0_t3_loop.trips) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let c1_i32_8 : BitVec 32 := 1#32
  let arg8 : BitVec 32 := Scf.iv c0_i32_7 c1_i32_8 k0_t3
  let c0_i32_25 : BitVec 32 := 0#32
  let c0_i32_26 : BitVec 32 := 0#32
  ![v16.toNat, arg8.toNat, 0, 0]
def k0_off68 (v44 : BitVec 32) : Fin 3 → Nat :=
  let c3_i32 : BitVec 32 := 3#32
  let v45 : BitVec 32 := Scalar.shrui v44 c3_i32
  let c7_i32 : BitVec 32 := 7#32
  let v46 : BitVec 32 := Scalar.andi v44 c7_i32
  let c0_i32_27 : BitVec 32 := 0#32
  ![v45.toNat, v46.toNat, 0]

def k0_chk17 (v44 : BitVec 32) : Prop :=
  (∀ a, (k0_off68 v44) a + S1x1x1024.size a ≤ S9728x8x1024.size a)
theorem k0_off68_inb : ∀ (v44 : BitVec 32) (k0_hw17 : k0_chk17 v44), ∀ a, (k0_off68 v44) a + S1x1x1024.size a ≤ S9728x8x1024.size a := fun v44 k0_hw17 => k0_hw17

def k0_off69 (i : grid0.Coords) (k0_t3 : Fin k0_t3_loop.trips) : Fin 1 → Nat :=
  let arg0 : BitVec 32 := BitVec.ofNat 32 (i 0).val
  let c512_i32_28 : BitVec 32 := 512#32
  let v53 : BitVec 32 := Scalar.muli arg0 c512_i32_28
  let c0_i32_7 : BitVec 32 := 0#32
  let c1_i32_8 : BitVec 32 := 1#32
  let arg8 : BitVec 32 := Scf.iv c0_i32_7 c1_i32_8 k0_t3
  let c8_i32_29 : BitVec 32 := 8#32
  let v54 : BitVec 32 := Scalar.muli arg8 c8_i32_29
  let v55 : BitVec 32 := Scalar.addi v53 v54
  let c1_i32_30 : BitVec 32 := 1#32
  let v56 : BitVec 32 := Scalar.addi v55 c1_i32_30
  let v57 : Index := Scalar.indexCast v56
  ![v57.toNat]
def k0_off70 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off71 (i : grid0.Coords) (k0_t3 : Fin k0_t3_loop.trips) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let c1_i32_8 : BitVec 32 := 1#32
  let arg8 : BitVec 32 := Scf.iv c0_i32_7 c1_i32_8 k0_t3
  let c1_i32_33 : BitVec 32 := 1#32
  let c0_i32_34 : BitVec 32 := 0#32
  ![v16.toNat, arg8.toNat, 1, 0]
def k0_off72 (v58 : BitVec 32) : Fin 3 → Nat :=
  let c3_i32_31 : BitVec 32 := 3#32
  let v59 : BitVec 32 := Scalar.shrui v58 c3_i32_31
  let c7_i32_32 : BitVec 32 := 7#32
  let v60 : BitVec 32 := Scalar.andi v58 c7_i32_32
  let c0_i32_35 : BitVec 32 := 0#32
  ![v59.toNat, v60.toNat, 0]

def k0_chk18 (v58 : BitVec 32) : Prop :=
  (∀ a, (k0_off72 v58) a + S1x1x1024.size a ≤ S9728x8x1024.size a)
theorem k0_off72_inb : ∀ (v58 : BitVec 32) (k0_hw18 : k0_chk18 v58), ∀ a, (k0_off72 v58) a + S1x1x1024.size a ≤ S9728x8x1024.size a := fun v58 k0_hw18 => k0_hw18

def k0_off73 (i : grid0.Coords) (k0_t3 : Fin k0_t3_loop.trips) : Fin 1 → Nat :=
  let arg0 : BitVec 32 := BitVec.ofNat 32 (i 0).val
  let c512_i32_36 : BitVec 32 := 512#32
  let v67 : BitVec 32 := Scalar.muli arg0 c512_i32_36
  let c0_i32_7 : BitVec 32 := 0#32
  let c1_i32_8 : BitVec 32 := 1#32
  let arg8 : BitVec 32 := Scf.iv c0_i32_7 c1_i32_8 k0_t3
  let c8_i32_37 : BitVec 32 := 8#32
  let v68 : BitVec 32 := Scalar.muli arg8 c8_i32_37
  let v69 : BitVec 32 := Scalar.addi v67 v68
  let c2_i32_38 : BitVec 32 := 2#32
  let v70 : BitVec 32 := Scalar.addi v69 c2_i32_38
  let v71 : Index := Scalar.indexCast v70
  ![v71.toNat]
def k0_off74 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off75 (i : grid0.Coords) (k0_t3 : Fin k0_t3_loop.trips) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let c1_i32_8 : BitVec 32 := 1#32
  let arg8 : BitVec 32 := Scf.iv c0_i32_7 c1_i32_8 k0_t3
  let c2_i32_41 : BitVec 32 := 2#32
  let c0_i32_42 : BitVec 32 := 0#32
  ![v16.toNat, arg8.toNat, 2, 0]
def k0_off76 (v72 : BitVec 32) : Fin 3 → Nat :=
  let c3_i32_39 : BitVec 32 := 3#32
  let v73 : BitVec 32 := Scalar.shrui v72 c3_i32_39
  let c7_i32_40 : BitVec 32 := 7#32
  let v74 : BitVec 32 := Scalar.andi v72 c7_i32_40
  let c0_i32_43 : BitVec 32 := 0#32
  ![v73.toNat, v74.toNat, 0]

def k0_chk19 (v72 : BitVec 32) : Prop :=
  (∀ a, (k0_off76 v72) a + S1x1x1024.size a ≤ S9728x8x1024.size a)
theorem k0_off76_inb : ∀ (v72 : BitVec 32) (k0_hw19 : k0_chk19 v72), ∀ a, (k0_off76 v72) a + S1x1x1024.size a ≤ S9728x8x1024.size a := fun v72 k0_hw19 => k0_hw19

def k0_off77 (i : grid0.Coords) (k0_t3 : Fin k0_t3_loop.trips) : Fin 1 → Nat :=
  let arg0 : BitVec 32 := BitVec.ofNat 32 (i 0).val
  let c512_i32_44 : BitVec 32 := 512#32
  let v81 : BitVec 32 := Scalar.muli arg0 c512_i32_44
  let c0_i32_7 : BitVec 32 := 0#32
  let c1_i32_8 : BitVec 32 := 1#32
  let arg8 : BitVec 32 := Scf.iv c0_i32_7 c1_i32_8 k0_t3
  let c8_i32_45 : BitVec 32 := 8#32
  let v82 : BitVec 32 := Scalar.muli arg8 c8_i32_45
  let v83 : BitVec 32 := Scalar.addi v81 v82
  let c3_i32_46 : BitVec 32 := 3#32
  let v84 : BitVec 32 := Scalar.addi v83 c3_i32_46
  let v85 : Index := Scalar.indexCast v84
  ![v85.toNat]
def k0_off78 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off79 (i : grid0.Coords) (k0_t3 : Fin k0_t3_loop.trips) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let c1_i32_8 : BitVec 32 := 1#32
  let arg8 : BitVec 32 := Scf.iv c0_i32_7 c1_i32_8 k0_t3
  let c3_i32_49 : BitVec 32 := 3#32
  let c0_i32_50 : BitVec 32 := 0#32
  ![v16.toNat, arg8.toNat, 3, 0]
def k0_off80 (v86 : BitVec 32) : Fin 3 → Nat :=
  let c3_i32_47 : BitVec 32 := 3#32
  let v87 : BitVec 32 := Scalar.shrui v86 c3_i32_47
  let c7_i32_48 : BitVec 32 := 7#32
  let v88 : BitVec 32 := Scalar.andi v86 c7_i32_48
  let c0_i32_51 : BitVec 32 := 0#32
  ![v87.toNat, v88.toNat, 0]

def k0_chk20 (v86 : BitVec 32) : Prop :=
  (∀ a, (k0_off80 v86) a + S1x1x1024.size a ≤ S9728x8x1024.size a)
theorem k0_off80_inb : ∀ (v86 : BitVec 32) (k0_hw20 : k0_chk20 v86), ∀ a, (k0_off80 v86) a + S1x1x1024.size a ≤ S9728x8x1024.size a := fun v86 k0_hw20 => k0_hw20

def k0_off81 (i : grid0.Coords) (k0_t3 : Fin k0_t3_loop.trips) : Fin 1 → Nat :=
  let arg0 : BitVec 32 := BitVec.ofNat 32 (i 0).val
  let c512_i32_52 : BitVec 32 := 512#32
  let v95 : BitVec 32 := Scalar.muli arg0 c512_i32_52
  let c0_i32_7 : BitVec 32 := 0#32
  let c1_i32_8 : BitVec 32 := 1#32
  let arg8 : BitVec 32 := Scf.iv c0_i32_7 c1_i32_8 k0_t3
  let c8_i32_53 : BitVec 32 := 8#32
  let v96 : BitVec 32 := Scalar.muli arg8 c8_i32_53
  let v97 : BitVec 32 := Scalar.addi v95 v96
  let c4_i32 : BitVec 32 := 4#32
  let v98 : BitVec 32 := Scalar.addi v97 c4_i32
  let v99 : Index := Scalar.indexCast v98
  ![v99.toNat]
def k0_off82 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off83 (i : grid0.Coords) (k0_t3 : Fin k0_t3_loop.trips) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let c1_i32_8 : BitVec 32 := 1#32
  let arg8 : BitVec 32 := Scf.iv c0_i32_7 c1_i32_8 k0_t3
  let c4_i32_56 : BitVec 32 := 4#32
  let c0_i32_57 : BitVec 32 := 0#32
  ![v16.toNat, arg8.toNat, 4, 0]
def k0_off84 (v100 : BitVec 32) : Fin 3 → Nat :=
  let c3_i32_54 : BitVec 32 := 3#32
  let v101 : BitVec 32 := Scalar.shrui v100 c3_i32_54
  let c7_i32_55 : BitVec 32 := 7#32
  let v102 : BitVec 32 := Scalar.andi v100 c7_i32_55
  let c0_i32_58 : BitVec 32 := 0#32
  ![v101.toNat, v102.toNat, 0]

def k0_chk21 (v100 : BitVec 32) : Prop :=
  (∀ a, (k0_off84 v100) a + S1x1x1024.size a ≤ S9728x8x1024.size a)
theorem k0_off84_inb : ∀ (v100 : BitVec 32) (k0_hw21 : k0_chk21 v100), ∀ a, (k0_off84 v100) a + S1x1x1024.size a ≤ S9728x8x1024.size a := fun v100 k0_hw21 => k0_hw21

def k0_off85 (i : grid0.Coords) (k0_t3 : Fin k0_t3_loop.trips) : Fin 1 → Nat :=
  let arg0 : BitVec 32 := BitVec.ofNat 32 (i 0).val
  let c512_i32_59 : BitVec 32 := 512#32
  let v109 : BitVec 32 := Scalar.muli arg0 c512_i32_59
  let c0_i32_7 : BitVec 32 := 0#32
  let c1_i32_8 : BitVec 32 := 1#32
  let arg8 : BitVec 32 := Scf.iv c0_i32_7 c1_i32_8 k0_t3
  let c8_i32_60 : BitVec 32 := 8#32
  let v110 : BitVec 32 := Scalar.muli arg8 c8_i32_60
  let v111 : BitVec 32 := Scalar.addi v109 v110
  let c5_i32 : BitVec 32 := 5#32
  let v112 : BitVec 32 := Scalar.addi v111 c5_i32
  let v113 : Index := Scalar.indexCast v112
  ![v113.toNat]
def k0_off86 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off87 (i : grid0.Coords) (k0_t3 : Fin k0_t3_loop.trips) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let c1_i32_8 : BitVec 32 := 1#32
  let arg8 : BitVec 32 := Scf.iv c0_i32_7 c1_i32_8 k0_t3
  let c5_i32_63 : BitVec 32 := 5#32
  let c0_i32_64 : BitVec 32 := 0#32
  ![v16.toNat, arg8.toNat, 5, 0]
def k0_off88 (v114 : BitVec 32) : Fin 3 → Nat :=
  let c3_i32_61 : BitVec 32 := 3#32
  let v115 : BitVec 32 := Scalar.shrui v114 c3_i32_61
  let c7_i32_62 : BitVec 32 := 7#32
  let v116 : BitVec 32 := Scalar.andi v114 c7_i32_62
  let c0_i32_65 : BitVec 32 := 0#32
  ![v115.toNat, v116.toNat, 0]

def k0_chk22 (v114 : BitVec 32) : Prop :=
  (∀ a, (k0_off88 v114) a + S1x1x1024.size a ≤ S9728x8x1024.size a)
theorem k0_off88_inb : ∀ (v114 : BitVec 32) (k0_hw22 : k0_chk22 v114), ∀ a, (k0_off88 v114) a + S1x1x1024.size a ≤ S9728x8x1024.size a := fun v114 k0_hw22 => k0_hw22

def k0_off89 (i : grid0.Coords) (k0_t3 : Fin k0_t3_loop.trips) : Fin 1 → Nat :=
  let arg0 : BitVec 32 := BitVec.ofNat 32 (i 0).val
  let c512_i32_66 : BitVec 32 := 512#32
  let v123 : BitVec 32 := Scalar.muli arg0 c512_i32_66
  let c0_i32_7 : BitVec 32 := 0#32
  let c1_i32_8 : BitVec 32 := 1#32
  let arg8 : BitVec 32 := Scf.iv c0_i32_7 c1_i32_8 k0_t3
  let c8_i32_67 : BitVec 32 := 8#32
  let v124 : BitVec 32 := Scalar.muli arg8 c8_i32_67
  let v125 : BitVec 32 := Scalar.addi v123 v124
  let c6_i32 : BitVec 32 := 6#32
  let v126 : BitVec 32 := Scalar.addi v125 c6_i32
  let v127 : Index := Scalar.indexCast v126
  ![v127.toNat]
def k0_off90 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off91 (i : grid0.Coords) (k0_t3 : Fin k0_t3_loop.trips) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let c1_i32_8 : BitVec 32 := 1#32
  let arg8 : BitVec 32 := Scf.iv c0_i32_7 c1_i32_8 k0_t3
  let c6_i32_70 : BitVec 32 := 6#32
  let c0_i32_71 : BitVec 32 := 0#32
  ![v16.toNat, arg8.toNat, 6, 0]
def k0_off92 (v128 : BitVec 32) : Fin 3 → Nat :=
  let c3_i32_68 : BitVec 32 := 3#32
  let v129 : BitVec 32 := Scalar.shrui v128 c3_i32_68
  let c7_i32_69 : BitVec 32 := 7#32
  let v130 : BitVec 32 := Scalar.andi v128 c7_i32_69
  let c0_i32_72 : BitVec 32 := 0#32
  ![v129.toNat, v130.toNat, 0]

def k0_chk23 (v128 : BitVec 32) : Prop :=
  (∀ a, (k0_off92 v128) a + S1x1x1024.size a ≤ S9728x8x1024.size a)
theorem k0_off92_inb : ∀ (v128 : BitVec 32) (k0_hw23 : k0_chk23 v128), ∀ a, (k0_off92 v128) a + S1x1x1024.size a ≤ S9728x8x1024.size a := fun v128 k0_hw23 => k0_hw23

def k0_off93 (i : grid0.Coords) (k0_t3 : Fin k0_t3_loop.trips) : Fin 1 → Nat :=
  let arg0 : BitVec 32 := BitVec.ofNat 32 (i 0).val
  let c512_i32_73 : BitVec 32 := 512#32
  let v137 : BitVec 32 := Scalar.muli arg0 c512_i32_73
  let c0_i32_7 : BitVec 32 := 0#32
  let c1_i32_8 : BitVec 32 := 1#32
  let arg8 : BitVec 32 := Scf.iv c0_i32_7 c1_i32_8 k0_t3
  let c8_i32_74 : BitVec 32 := 8#32
  let v138 : BitVec 32 := Scalar.muli arg8 c8_i32_74
  let v139 : BitVec 32 := Scalar.addi v137 v138
  let c7_i32_75 : BitVec 32 := 7#32
  let v140 : BitVec 32 := Scalar.addi v139 c7_i32_75
  let v141 : Index := Scalar.indexCast v140
  ![v141.toNat]
def k0_off94 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off95 (i : grid0.Coords) (k0_t3 : Fin k0_t3_loop.trips) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let c1_i32_8 : BitVec 32 := 1#32
  let arg8 : BitVec 32 := Scf.iv c0_i32_7 c1_i32_8 k0_t3
  let c7_i32_78 : BitVec 32 := 7#32
  let c0_i32_79 : BitVec 32 := 0#32
  ![v16.toNat, arg8.toNat, 7, 0]
def k0_off96 (v142 : BitVec 32) : Fin 3 → Nat :=
  let c3_i32_76 : BitVec 32 := 3#32
  let v143 : BitVec 32 := Scalar.shrui v142 c3_i32_76
  let c7_i32_77 : BitVec 32 := 7#32
  let v144 : BitVec 32 := Scalar.andi v142 c7_i32_77
  let c0_i32_80 : BitVec 32 := 0#32
  ![v143.toNat, v144.toNat, 0]

def k0_chk24 (v142 : BitVec 32) : Prop :=
  (∀ a, (k0_off96 v142) a + S1x1x1024.size a ≤ S9728x8x1024.size a)
theorem k0_off96_inb : ∀ (v142 : BitVec 32) (k0_hw24 : k0_chk24 v142), ∀ a, (k0_off96 v142) a + S1x1x1024.size a ≤ S9728x8x1024.size a := fun v142 k0_hw24 => k0_hw24

def k0_off97 (i : grid0.Coords) : Fin 4 → Nat :=
  let arg0 : BitVec 32 := BitVec.ofNat 32 (i 0).val
  let c2_i32_13 : BitVec 32 := 2#32
  let c0_i32_14 : BitVec 32 := 0#32
  let v21 : BitVec 1 := Scalar.cmpi .eq c2_i32_13 c0_i32_14
  let c1_i32_15 : BitVec 32 := 1#32
  let v22 : BitVec 32 := Scalar.select v21 c1_i32_15 c2_i32_13
  let v23 : BitVec 32 := Scalar.remsi arg0 v22
  let c0_i32_17 : BitVec 32 := 0#32
  let v25 : BitVec 1 := Scalar.cmpi .slt v23 c0_i32_17
  let c0_i32_18 : BitVec 32 := 0#32
  let v26 : BitVec 1 := Scalar.cmpi .slt v22 c0_i32_18
  let v27 : BitVec 1 := Scalar.xori v25 v26
  let c0_i32_16 : BitVec 32 := 0#32
  let v24 : BitVec 1 := Scalar.cmpi .ne v23 c0_i32_16
  let v28 : BitVec 1 := Scalar.andi v27 v24
  let v29 : BitVec 32 := Scalar.addi v23 v22
  let v30 : BitVec 32 := Scalar.select v28 v29 v23
  let v31 : Index := Scalar.indexCast v30
  let c0_19 : Index := 0#32
  let c0_20 : Index := 0#32
  let c0_21 : Index := 0#32
  ![v31.toNat, 0, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S65536 : Shape := ⟨1, ![65536]⟩
abbrev S65536x1024 : Shape := ⟨2, ![65536, 1024]⟩
abbrev S32x1x6144 : Shape := ⟨3, ![32, 1, 6144]⟩
abbrev S77824x1024 : Shape := ⟨2, ![77824, 1024]⟩
abbrev S32x1x1024 : Shape := ⟨3, ![32, 1, 1024]⟩
abbrev S_ : Shape := ⟨0, ![]⟩
abbrev S65536x1 : Shape := ⟨2, ![65536, 1]⟩
abbrev S32x2048x1024 : Shape := ⟨3, ![32, 2048, 1024]⟩

abbrev nBuf : Space → Nat
  | .hbm => 25
  | .vmem => 0
  | .smem => 0
  | _ => 0

abbrev bufTy : (tb : Table) → Fin (tcTables nBuf tb) → BufTy
  | .hbm, ⟨0, _⟩ => ⟨S65536, .i32⟩
  | .hbm, ⟨1, _⟩ => ⟨S65536x1024, .f32⟩
  | .hbm, ⟨2, _⟩ => ⟨S32x1x6144, .f32⟩
  | .hbm, ⟨3, _⟩ => ⟨S77824x1024, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S_, .i32⟩
  | .hbm, ⟨11, _⟩ => ⟨S65536, .i32⟩
  | .hbm, ⟨12, _⟩ => ⟨S65536, .i1⟩
  | .hbm, ⟨13, _⟩ => ⟨S_, .i32⟩
  | .hbm, ⟨14, _⟩ => ⟨S65536, .i32⟩
  | .hbm, ⟨15, _⟩ => ⟨S65536, .i32⟩
  | .hbm, ⟨16, _⟩ => ⟨S65536, .i32⟩
  | .hbm, ⟨17, _⟩ => ⟨S65536x1, .i32⟩
  | .hbm, ⟨18, _⟩ => ⟨S65536x1024, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S32x2048x1024, .f32⟩
  | .hbm, ⟨24, _⟩ => ⟨S65536x1024, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel5.lean ====
abbrev S40x1024 : Shape := ⟨2, ![40, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x40x6144 : Shape := ⟨3, ![4, 40, 6144]⟩
abbrev S1x1024x1536 : Shape := ⟨3, ![1, 1024, 1536]⟩
abbrev S1x1x1536 : Shape := ⟨3, ![1, 1, 1536]⟩
abbrev S1x40x1536 : Shape := ⟨3, ![1, 40, 1536]⟩
abbrev S1024x1536 : Shape := ⟨2, ![1024, 1536]⟩
abbrev S40x1536 : Shape := ⟨2, ![40, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x40x6144, .f32⟩
  | .local _ .vmem, ⟨0, _⟩ => ⟨S40x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x40x1536, .f32⟩
  | .local _ .vmem, ⟨6, _⟩ => ⟨S1x40x1536, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S40x1024 : Shape := ⟨2, ![40, 1024]⟩
abbrev S4x1024x6144 : Shape := ⟨3, ![4, 1024, 6144]⟩
abbrev S4x6144 : Shape := ⟨2, ![4, 6144]⟩
abbrev S_ : Shape := ⟨0, ![]⟩
abbrev S4x6144x40 : Shape := ⟨3, ![4, 6144, 40]⟩
abbrev S4x40x6144 : Shape := ⟨3, ![4, 40, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S4x1024x6144, .f32⟩
  | .hbm, ⟨2, _⟩ => ⟨S4x6144, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S4x6144x40, .f32⟩
  | .hbm, ⟨13, _⟩ => ⟨S4x40x6144, .f32⟩
  | .hbm, ⟨14, _⟩ => ⟨S4x1x6144, .f32⟩
  | .hbm, ⟨15, _⟩ => ⟨S4x40x6144, .f32⟩
  | .hbm, ⟨16, _⟩ => ⟨S4x40x6144, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel6.lean ====
abbrev S65536x1024 : Shape := ⟨2, ![65536, 1024]⟩
abbrev S32x1x6144 : Shape := ⟨3, ![32, 1, 6144]⟩
abbrev S1x1024 : Shape := ⟨2, ![1, 1024]⟩
abbrev S1024x5120 : Shape := ⟨2, ![1024, 5120]⟩
abbrev S2048x64 : Shape := ⟨2, ![2048, 64]⟩
abbrev S1x64 : Shape := ⟨2, ![1, 64]⟩
abbrev S2048x128 : Shape := ⟨2, ![2048, 128]⟩
abbrev S1x1x1x64 : Shape := ⟨4, ![1, 1, 1, 64]⟩
abbrev S1x1x2x64 : Shape := ⟨4, ![1, 1, 2, 64]⟩
abbrev S1x128 : Shape := ⟨2, ![1, 128]⟩
abbrev S128x128 : Shape := ⟨2, ![128, 128]⟩
abbrev S_ : Shape := ⟨0, ![]⟩
abbrev S65536x512 : Shape := ⟨2, ![65536, 512]⟩
abbrev S65536x128 : Shape := ⟨2, ![65536, 128]⟩
abbrev S65536x768 : Shape := ⟨2, ![65536, 768]⟩
abbrev S65536x3072 : Shape := ⟨2, ![65536, 3072]⟩
abbrev S512x1024 : Shape := ⟨2, ![512, 1024]⟩
abbrev S1x1x6144 : Shape := ⟨3, ![1, 1, 6144]⟩
abbrev S512x128 : Shape := ⟨2, ![512, 128]⟩
abbrev S512x512 : Shape := ⟨2, ![512, 512]⟩
abbrev S512x768 : Shape := ⟨2, ![512, 768]⟩
abbrev S512x3072 : Shape := ⟨2, ![512, 3072]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S1024x256 : Shape := ⟨2, ![1024, 256]⟩
abbrev S512x256 : Shape := ⟨2, ![512, 256]⟩
abbrev S1024x768 : Shape := ⟨2, ![1024, 768]⟩
abbrev S1024x1024 : Shape := ⟨2, ![1024, 1024]⟩

abbrev nBuf : Space → Nat
  | .hbm => 67
  | .vmem => 25
  | .smem => 0
  | _ => 0

abbrev bufTy : (tb : Table) → Fin (tcTables nBuf tb) → BufTy
  | .hbm, ⟨0, _⟩ => ⟨S65536x1024, .f32⟩
  | .hbm, ⟨1, _⟩ => ⟨S32x1x6144, .f32⟩
  | .hbm, ⟨2, _⟩ => ⟨S1x1024, .f32⟩
  | .hbm, ⟨3, _⟩ => ⟨S1024x5120, .bf16⟩
  | .hbm, ⟨4, _⟩ => ⟨S2048x64, .f32⟩
  | .hbm, ⟨5, _⟩ => ⟨S2048x64, .f32⟩
  | .hbm, ⟨6, _⟩ => ⟨S1x64, .f32⟩
  | .hbm, ⟨7, _⟩ => ⟨S1x64, .f32⟩
  | .hbm, ⟨8, _⟩ => ⟨S2048x128, .f32⟩
  | .hbm, ⟨9, _⟩ => ⟨S2048x128, .f32⟩
  | .hbm, ⟨10, _⟩ => ⟨S1x1x1x64, .f32⟩
  | .hbm, ⟨11, _⟩ => ⟨S1x1x2x64, .f32⟩
  | .hbm, ⟨12, _⟩ => ⟨S1x128, .f32⟩
  | .hbm, ⟨13, _⟩ => ⟨S1x1x1x64, .f32⟩
  | .hbm, ⟨14, _⟩ => ⟨S1x1x2x64, .f32⟩
  | .hbm, ⟨15, _⟩ => ⟨S1x128, .f32⟩
  | .hbm, ⟨16, _⟩ => ⟨S128x128, .i32⟩
  | .hbm, ⟨17, _⟩ => ⟨S_, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i1⟩
  | .hbm, ⟨25, _⟩ => ⟨S128x128, .i32⟩
  | .hbm, ⟨26, _⟩ => ⟨S128x128, .i32⟩
  | .hbm, ⟨27, _⟩ => ⟨S_, .i32⟩
  | .hbm, ⟨28, _⟩ => ⟨S128x128, .i32⟩
  | .hbm, ⟨29, _⟩ => ⟨S128x128, .i1⟩
  | .hbm, ⟨30, _⟩ => ⟨S128x128, .i1⟩
  | .hbm, ⟨31, _⟩ => ⟨S_, .i32⟩
  | .hbm, ⟨32, _⟩ => ⟨S128x128, .i32⟩
  | .hbm, ⟨33, _⟩ => ⟨S128x128, .i32⟩
  | .hbm, ⟨34, _⟩ => ⟨S128x128, .i32⟩
  | .hbm, ⟨35, _⟩ => ⟨S128x128, .i32⟩
  | .hbm, ⟨36, _⟩ => ⟨S_, .i32⟩
  | .hbm, ⟨37, _⟩ => ⟨S_, .i32⟩
  | .hbm, ⟨38, _⟩ => ⟨S128x128, .i32⟩
  | .hbm, ⟨39, _⟩ => ⟨S128x128, .i32⟩
  | .hbm, ⟨40, _⟩ => ⟨S128x128, .i32⟩
  | .hbm, ⟨41, _⟩ => ⟨S_, .i32⟩
  | .hbm, ⟨42, _⟩ => ⟨S128x128, .i32⟩
  | .hbm, ⟨43, _⟩ => ⟨S128x128, .i1⟩
  | .hbm, ⟨44, _⟩ => ⟨S128x128, .i32⟩
  | .hbm, ⟨45, _⟩ => ⟨S128x128, .i32⟩
  | .hbm, ⟨46, _⟩ => ⟨S_, .i32⟩
  | .hbm, ⟨47, _⟩ => ⟨S128x128, .i32⟩
  | .hbm, ⟨48, _⟩ => ⟨S128x128, .i1⟩
  | .hbm, ⟨49, _⟩ => ⟨S128x128, .i1⟩
  | .hbm, ⟨50, _⟩ => ⟨S_, .i32⟩
  | .hbm, ⟨51, _⟩ => ⟨S128x128, .i32⟩
  | .hbm, ⟨52, _⟩ => ⟨S128x128, .i32⟩
  | .hbm, ⟨53, _⟩ => ⟨S128x128, .i32⟩
  | .hbm, ⟨54, _⟩ => ⟨S128x128, .i1⟩
  | .hbm, ⟨55, _⟩ => ⟨S_, .f32⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S128x128, .bf16⟩
  | .hbm, ⟨61, _⟩ => ⟨S65536x512, .bf16⟩
  | .hbm, ⟨62, _⟩ => ⟨S65536x128, .bf16⟩
  | .hbm, ⟨63, _⟩ => ⟨S65536x128, .bf16⟩
  | .hbm, ⟨64, _⟩ => ⟨S65536x768, .f32⟩
  | .hbm, ⟨65, _⟩ => ⟨S65536x512, .f32⟩
  | .hbm, ⟨66, _⟩ => ⟨S65536x3072, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x5120, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S128x128, .bf16⟩
  | .local _ .vmem, ⟨13, _⟩ => ⟨S512x512, .bf16⟩
  | .local _ .vmem, ⟨14, _⟩ => ⟨S512x512, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x768, .f32⟩
  | .local _ .vmem, ⟨20, _⟩ => ⟨S512x768, .f32⟩
  | .local _ .vmem, ⟨21, _⟩ => ⟨S512x512, .f32⟩
  | .local _ .vmem, ⟨22, _⟩ => ⟨S512x512, .f32⟩
  | .local _ .vmem, ⟨23, _⟩ => ⟨S512x3072, .f32⟩
  | .local _ .vmem, ⟨24, _⟩ => ⟨S512x3072, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v9 : Ref sig .tc := ⟨.hbm, 34, rfl⟩
abbrev main_v10 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v11 : Ref sig .tc := ⟨.hbm, 53, rfl⟩
abbrev main_v12 : Ref sig .tc := ⟨.hbm, 54, rfl⟩
abbrev main_cst : Ref sig .tc := ⟨.hbm, 55, rfl⟩
abbrev main_cst_1 : Ref sig .tc := ⟨.hbm, 56, rfl⟩
abbrev main_call2_v0 : Ref sig .tc := ⟨.hbm, 57, rfl⟩
abbrev main_call2_v1 : Ref sig .tc := ⟨.hbm, 58, rfl⟩
abbrev main_v13 : Ref sig .tc := ⟨.hbm, 59, rfl⟩
abbrev main_v14 : Ref sig .tc := ⟨.hbm, 60, rfl⟩
abbrev main_v15_0 : Ref sig .tc := ⟨.hbm, 61, rfl⟩
abbrev main_v15_1 : Ref sig .tc := ⟨.hbm, 62, rfl⟩
abbrev main_v15_2 : Ref sig .tc := ⟨.hbm, 63, rfl⟩
abbrev main_v15_3 : Ref sig .tc := ⟨.hbm, 64, rfl⟩
abbrev main_v15_4 : Ref sig .tc := ⟨.hbm, 65, rfl⟩
abbrev main_v15_5 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S65536x1024 : Shape := ⟨2, ![65536, 1024]⟩
abbrev S32x1x6144 : Shape := ⟨3, ![32, 1, 6144]⟩
abbrev S1x1024 : Shape := ⟨2, ![1, 1024]⟩
abbrev S1024x5120 : Shape := ⟨2, ![1024, 5120]⟩
abbrev S2048x64 : Shape := ⟨2, ![2048, 64]⟩
abbrev S1x64 : Shape := ⟨2, ![1, 64]⟩
abbrev S32x1x1024 : Shape := ⟨3, ![32, 1, 1024]⟩
abbrev S_ : Shape := ⟨0, ![]⟩
abbrev S65536 : Shape := ⟨1, ![65536]⟩
abbrev S65536x1 : Shape := ⟨2, ![65536, 1]⟩
abbrev S32x2048x1024 : Shape := ⟨3, ![32, 2048, 1024]⟩
abbrev S65536x5120 : Shape := ⟨2, ![65536, 5120]⟩
abbrev S65536x512 : Shape := ⟨2, ![65536, 512]⟩
abbrev S65536x128 : Shape := ⟨2, ![65536, 128]⟩
abbrev S65536x768 : Shape := ⟨2, ![65536, 768]⟩
abbrev S65536x3072 : Shape := ⟨2, ![65536, 3072]⟩
abbrev S65536x8x64 : Shape := ⟨3, ![65536, 8, 64]⟩
abbrev S65536x8 : Shape := ⟨2, ![65536, 8]⟩
abbrev S65536x8x1 : Shape := ⟨3, ![65536, 8, 1]⟩
abbrev S1x1x64 : Shape := ⟨3, ![1, 1, 64]⟩
abbrev S65536x8x16 : Shape := ⟨3, ![65536, 8, 16]⟩
abbrev S1x2048x1x64 : Shape := ⟨4, ![1, 2048, 1, 64]⟩
abbrev S32x2048x1x64 : Shape := ⟨4, ![32, 2048, 1, 64]⟩
abbrev S65536x64 : Shape := ⟨2, ![65536, 64]⟩
abbrev S65536x1x64 : Shape := ⟨3, ![65536, 1, 64]⟩
abbrev S65536x2x64 : Shape := ⟨3, ![65536, 2, 64]⟩
abbrev S65536x2 : Shape := ⟨2, ![65536, 2]⟩
abbrev S65536x2x1 : Shape := ⟨3, ![65536, 2, 1]⟩
abbrev S65536x2x16 : Shape := ⟨3, ![65536, 2, 16]⟩

abbrev nBuf : Space → Nat
  | .hbm => 128
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S32x1x6144, .f32⟩
  | .hbm, ⟨2, _⟩ => ⟨S1x1024, .f32⟩
  | .hbm, ⟨3, _⟩ => ⟨S1024x5120, .bf16⟩
  | .hbm, ⟨4, _⟩ => ⟨S2048x64, .f32⟩
  | .hbm, ⟨5, _⟩ => ⟨S2048x64, .f32⟩
  | .hbm, ⟨6, _⟩ => ⟨S1x64, .f32⟩
  | .hbm, ⟨7, _⟩ => ⟨S1x64, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S65536x1024, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S32x2048x1024, .f32⟩
  | .hbm, ⟨30, _⟩ => ⟨S_, .f32⟩
  | .hbm, ⟨31, _⟩ => ⟨S32x1x1024, .f32⟩
  | .hbm, ⟨32, _⟩ => ⟨S32x1x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S65536x1024, .f32⟩
  | .hbm, ⟨38, _⟩ => ⟨S1024x5120, .f32⟩
  | .hbm, ⟨39, _⟩ => ⟨S65536x5120, .f32⟩
  | .hbm, ⟨40, _⟩ => ⟨S65536x512, .f32⟩
  | .hbm, ⟨41, _⟩ => ⟨S65536x128, .f32⟩
  | .hbm, ⟨42, _⟩ => ⟨S65536x128, .f32⟩
  | .hbm, ⟨43, _⟩ => ⟨S65536x768, .f32⟩
  | .hbm, ⟨44, _⟩ => ⟨S65536x512, .f32⟩
  | .hbm, ⟨45, _⟩ => ⟨S65536x3072, .f32⟩
  | .hbm, ⟨46, _⟩ => ⟨S65536x8x64, .f32⟩
  | .hbm, ⟨47, _⟩ => ⟨S65536x8x64, .f32⟩
  | .hbm, ⟨48, _⟩ => ⟨S_, .f32⟩
  | .hbm, ⟨49, _⟩ => ⟨S65536x8, .f32⟩
  | .hbm, ⟨50, _⟩ => ⟨S65536x8x1, .f32⟩
  | .hbm, ⟨51, _⟩ => ⟨S_, .f32⟩
  | .hbm, ⟨52, _⟩ => ⟨S65536x8x1, .f32⟩
  | .hbm, ⟨53, _⟩ => ⟨S65536x8x1, .f32⟩
  | .hbm, ⟨54, _⟩ => ⟨S_, .f32⟩
  | .hbm, ⟨55, _⟩ => ⟨S65536x8x1, .f32⟩
  | .hbm, ⟨56, _⟩ => ⟨S65536x8x1, .f32⟩
  | .hbm, ⟨57, _⟩ => ⟨S65536x8x1, .f32⟩
  | .hbm, ⟨58, _⟩ => ⟨S65536x8x64, .f32⟩
  | .hbm, ⟨59, _⟩ => ⟨S65536x8x64, .f32⟩
  | .hbm, ⟨60, _⟩ => ⟨S1x1x64, .f32⟩
  | .hbm, ⟨61, _⟩ => ⟨S65536x8x64, .f32⟩
  | .hbm, ⟨62, _⟩ => ⟨S65536x8x64, .f32⟩
  | .hbm, ⟨63, _⟩ => ⟨S65536x8x16, .f32⟩
  | .hbm, ⟨64, _⟩ => ⟨S65536x8x16, .f32⟩
  | .hbm, ⟨65, _⟩ => ⟨S65536x8x16, .f32⟩
  | .hbm, ⟨66, _⟩ => ⟨S65536x8x16, .f32⟩
  | .hbm, ⟨67, _⟩ => ⟨S65536x8x16, .f32⟩
  | .hbm, ⟨68, _⟩ => ⟨S65536x8x16, .f32⟩
  | .hbm, ⟨69, _⟩ => ⟨S65536x8x64, .f32⟩
  | .hbm, ⟨70, _⟩ => ⟨S1x2048x1x64, .f32⟩
  | .hbm, ⟨71, _⟩ => ⟨S32x2048x1x64, .f32⟩
  | .hbm, ⟨72, _⟩ => ⟨S65536x64, .f32⟩
  | .hbm, ⟨73, _⟩ => ⟨S65536x1x64, .f32⟩
  | .hbm, ⟨74, _⟩ => ⟨S1x2048x1x64, .f32⟩
  | .hbm, ⟨75, _⟩ => ⟨S32x2048x1x64, .f32⟩
  | .hbm, ⟨76, _⟩ => ⟨S65536x64, .f32⟩
  | .hbm, ⟨77, _⟩ => ⟨S65536x1x64, .f32⟩
  | .hbm, ⟨78, _⟩ => ⟨S65536x8x64, .f32⟩
  | .hbm, ⟨79, _⟩ => ⟨S65536x8x64, .f32⟩
  | .hbm, ⟨80, _⟩ => ⟨S65536x8x64, .f32⟩
  | .hbm, ⟨81, _⟩ => ⟨S65536x8x64, .f32⟩
  | .hbm, ⟨82, _⟩ => ⟨S65536x8x64, .f32⟩
  | .hbm, ⟨83, _⟩ => ⟨S65536x512, .f32⟩
  | .hbm, ⟨84, _⟩ => ⟨S_, .f32⟩
  | .hbm, ⟨85, _⟩ => ⟨S65536x512, .f32⟩
  | .hbm, ⟨86, _⟩ => ⟨S65536x512, .f32⟩
  | .hbm, ⟨87, _⟩ => ⟨S65536x2x64, .f32⟩
  | .hbm, ⟨88, _⟩ => ⟨S65536x2x64, .f32⟩
  | .hbm, ⟨89, _⟩ => ⟨S_, .f32⟩
  | .hbm, ⟨90, _⟩ => ⟨S65536x2, .f32⟩
  | .hbm, ⟨91, _⟩ => ⟨S65536x2x1, .f32⟩
  | .hbm, ⟨92, _⟩ => ⟨S_, .f32⟩
  | .hbm, ⟨93, _⟩ => ⟨S65536x2x1, .f32⟩
  | .hbm, ⟨94, _⟩ => ⟨S65536x2x1, .f32⟩
  | .hbm, ⟨95, _⟩ => ⟨S_, .f32⟩
  | .hbm, ⟨96, _⟩ => ⟨S65536x2x1, .f32⟩
  | .hbm, ⟨97, _⟩ => ⟨S65536x2x1, .f32⟩
  | .hbm, ⟨98, _⟩ => ⟨S65536x2x1, .f32⟩
  | .hbm, ⟨99, _⟩ => ⟨S65536x2x64, .f32⟩
  | .hbm, ⟨100, _⟩ => ⟨S65536x2x64, .f32⟩
  | .hbm, ⟨101, _⟩ => ⟨S1x1x64, .f32⟩
  | .hbm, ⟨102, _⟩ => ⟨S65536x2x64, .f32⟩
  | .hbm, ⟨103, _⟩ => ⟨S65536x2x64, .f32⟩
  | .hbm, ⟨104, _⟩ => ⟨S65536x2x16, .f32⟩
  | .hbm, ⟨105, _⟩ => ⟨S65536x2x16, .f32⟩
  | .hbm, ⟨106, _⟩ => ⟨S65536x2x16, .f32⟩
  | .hbm, ⟨107, _⟩ => ⟨S65536x2x16, .f32⟩
  | .hbm, ⟨108, _⟩ => ⟨S65536x2x16, .f32⟩
  | .hbm, ⟨109, _⟩ => ⟨S65536x2x16, .f32⟩
  | .hbm, ⟨110, _⟩ => ⟨S65536x2x64, .f32⟩
  | .hbm, ⟨111, _⟩ => ⟨S1x2048x1x64, .f32⟩
  | .hbm, ⟨112, _⟩ => ⟨S32x2048x1x64, .f32⟩
  | .hbm, ⟨113, _⟩ => ⟨S65536x64, .f32⟩
  | .hbm, ⟨114, _⟩ => ⟨S65536x1x64, .f32⟩
  | .hbm, ⟨115, _⟩ => ⟨S1x2048x1x64, .f32⟩
  | .hbm, ⟨116, _⟩ => ⟨S32x2048x1x64, .f32⟩
  | .hbm, ⟨117, _⟩ => ⟨S65536x64, .f32⟩
  | .hbm, ⟨118, _⟩ => ⟨S65536x1x64, .f32⟩
  | .hbm, ⟨119, _⟩ => ⟨S65536x2x64, .f32⟩
  | .hbm, ⟨120, _⟩ => ⟨S65536x2x64, .f32⟩
  | .hbm, ⟨121, _⟩ => ⟨S65536x2x64, .f32⟩
  | .hbm, ⟨122, _⟩ => ⟨S65536x2x64, .f32⟩
  | .hbm, ⟨123, _⟩ => ⟨S65536x2x64, .f32⟩
  | .hbm, ⟨124, _⟩ => ⟨S65536x128, .f32⟩
  | .hbm, ⟨125, _⟩ => ⟨S65536x512, .bf16⟩
  | .hbm, ⟨126, _⟩ => ⟨S65536x128, .bf16⟩
  | .hbm, ⟨127, _⟩ => ⟨S65536x128, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_6 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_7 : Ref sig .tc := ⟨.hbm, 89, rfl⟩
abbrev main_v73 : Ref sig .tc := ⟨.hbm, 90, rfl⟩
abbrev main_v74 : Ref sig .tc := ⟨.hbm, 91, rfl⟩
abbrev main_cst_8 : Ref sig .tc := ⟨.hbm, 92, rfl⟩
abbrev main_v75 : Ref sig .tc := ⟨.hbm, 93, rfl⟩
abbrev main_v76 : Ref sig .tc := ⟨.hbm, 94, rfl⟩
abbrev main_cst_9 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩

abbrev nD : Nat := 1
abbrev τ : Topo := Topo.v7x

variable {F : FTy → Type} [FloatOps F]
-- ==== Proof.Body.lean ====
/-
  What one grid point of the attention kernel leaves in its output block and in the two scratch buffers, as plain
  functions of the blocks it reads.

  A point with key block `i = 0` first rebuilds the scratch: the keys of the key/value head `h`, each row holding the
  head's 64 lanes twice, and the values of that head with the upper 64 lanes set to one. Every point then reads the
  scratch whole and stores two 128-lane halves of its output block.
-/
module

public import proofs.«01_k».proof.Proof.Gen.KernelIdeal.Frame
public import Idealize.ShloMosaic.Lib.Pipeline.Value
public import Idealize.ShloMosaic.Lib.Tactic

@[expose] public section

noncomputable section

namespace Cert.KernelIdeal.Body

open Cert.KernelIdeal Cert.KernelIdeal.Gen Idealize.ShloMosaic Idealize.ShloMosaic.TcCoe Idealize.SL.Sem

variable {F : FTy → Type} [FloatOps F]

/-- The lane number of each of the 128 lanes. -/
abbrev lanes : IVec S1x128 32 := iota .tc S1x128 32 [1] iota_S1x128_d1_w32

/-- The scratch of keys: the latent rows, then the context rows, each built for head `h`. -/
def keys (h : BitVec 32) (k : Vec F S2048x128 .bf16) (kc : Vec F S256x128 .bf16) : Vec F S2304x128 .bf16 :=
  View.canon (Val := Elt F)
    [⟨Rect.unit (s := S2304x128) ![2048, 0] S256x128.size inb_S2304x128_S256x128_2048_0, k0_pay8 (k0_pay2 h lanes) kc⟩,
     ⟨Rect.unit (s := S2304x128) ![0, 0] S2048x128.size inb_S2304x128_S2048x128_0_0, k0_pay3 h lanes k⟩]

/-- The scratch of values, likewise. -/
def vals (h : BitVec 32) (v : Vec F S2048x128 .bf16) (vc : Vec F S256x128 .bf16) : Vec F S2304x128 .bf16 :=
  View.canon (Val := Elt F)
    [⟨Rect.unit (s := S2304x128) ![2048, 0] S256x128.size inb_S2304x128_S256x128_2048_0, k0_pay9 (k0_pay2 h lanes) vc⟩,
     ⟨Rect.unit (s := S2304x128) ![0, 0] S2048x128.size inb_S2304x128_S2048x128_0_0,
      k0_pay7 (k0_pay4 h lanes v) (Scalar.ofBits .f32 0x3F800000#32) (k0_pay5 k0_pay6)⟩]

/-- The lower 128 lanes of a block of queries: query heads 0 and 1 of the group. -/
abbrev qLo (q : Vec F S512x256 .bf16) : Vec F S512x128 .bf16 :=
  View.ld q (Rect.unit (s := S512x256) ![0, 0] S512x128.size inb_S512x256_S512x128_0_0)

/-- The upper 128 lanes: query heads 2 and 3. -/
abbrev qHi (q : Vec F S512x256 .bf16) : Vec F S512x128 .bf16 :=
  View.ld q (Rect.unit (s := S512x256) ![0, 128] S512x128.size inb_S512x256_S512x128_0_128)

/-- The output block, from the block of queries and the two scratch buffers. -/
def outBlock (q : Vec F S512x256 .bf16) (kk vv : Vec F S2304x128 .bf16) : Vec F S512x256 .bf16 :=
  View.canon (Val := Elt F)
    [⟨Rect.unit (s := S512x256) ![0, 128] S512x128.size inb_S512x256_S512x128_0_128,
      k0_pay1 k0_pay6 (k0_pay14 vv (k0_pay12 kk (qHi q))) (k0_pay15 k0_pay6 kk vv (qHi q))⟩,
     ⟨Rect.unit (s := S512x256) ![0, 0] S512x128.size inb_S512x256_S512x128_0_0,
      k0_pay16 k0_pay6 vv (k0_pay10 kk (qLo q)) (k0_pay11 kk (qLo q)) (k0_pay13 kk (qLo q))⟩]

/-- The zero offset. -/
theorem hz : (![0, 0] : Fin 2 → Nat) = fun _ => 0 := funext fun a => by fin_cases a <;> rfl

section Cases

variable (c : Dev nD) (i : grid0.Coords) (a3 : Memref sig .tc .vmem S512x256 .bf16) (h3 : a3.IsWhole)
  (a4 : Memref sig .tc .vmem S2048x128 .bf16) (h4 : a4.IsWhole) (a5 : Memref sig .tc .vmem S2048x128 .bf16) (h5 : a5.IsWhole)
  (a6 : Memref sig .tc .vmem S256x128 .bf16) (h6 : a6.IsWhole) (a7 : Memref sig .tc .vmem S256x128 .bf16) (h7 : a7.IsWhole)
  (a8 : Memref sig .tc .vmem S512x256 .bf16) (h8 : a8.IsWhole) (a9 : Memref sig .tc .vmem S2304x128 .bf16) (h9 : a9.IsWhole)
  (a10 : Memref sig .tc .vmem S2304x128 .bf16) (h10 : a10.IsWhole)
  (x0 : Vec F S512x256 .bf16) (x1 x2 : Vec F S2048x128 .bf16) (x3 x4 : Vec F S256x128 .bf16)

/-- A point that rebuilds the scratch leaves the keys of its head in the first scratch buffer. -/
theorem sout_A_keys (hc : cond0_0 i) :
    sout0_A_0 c i a3 h3 a4 h4 a5 h5 a6 h6 a7 h7 a8 h8 a9 h9 a10 h10 hc x0 x1 x2 x3 x4 = keys (BitVec.ofNat 32 (i 1).val) x1 x3 := by
  unfold sout0_A_0
  rw [View.read_writes_junk_eq_canon]
  unfold kernelRun0_A
  dsimp only
  sl_unfold_words
  simp only [View.readAt_eq_ld, h4.read_unread, h6.read_unread,
    View.ld_unit_zero (S := S2048x128) hz, View.ld_unit_zero (S := S256x128) hz]
  rfl

/-- … and the values of its head in the second. -/
theorem sout_A_vals (hc : cond0_0 i) :
    sout0_A_1 c i a3 h3 a4 h4 a5 h5 a6 h6 a7 h7 a8 h8 a9 h9 a10 h10 hc x0 x1 x2 x3 x4 = vals (BitVec.ofNat 32 (i 1).val) x2 x4 := by
  unfold sout0_A_1
  rw [View.read_writes_junk_eq_canon]
  unfold kernelRun0_A
  dsimp only
  sl_unfold_words
  simp only [View.readAt_eq_ld, h5.read_unread, h7.read_unread,
    View.ld_unit_zero (S := S2048x128) hz, View.ld_unit_zero (S := S256x128) hz]
  rfl

/-- Its output block is computed from the scratch it just rebuilt. -/
theorem out_A (hc : cond0_0 i) :
    out0_A_5 c i a3 h3 a4 h4 a5 h5 a6 h6 a7 h7 a8 h8 a9 h9 a10 h10 hc x0 x1 x2 x3 x4
      = outBlock x0 (keys (BitVec.ofNat 32 (i 1).val) x1 x3) (vals (BitVec.ofNat 32 (i 1).val) x2 x4) := by
  unfold out0_A_5
  rw [View.read_writes_junk_eq_canon]
  unfold kernelRun0_A
  dsimp only
  sl_unfold_words
  simp only [View.readCov_eq_canon', View.readAt_eq_ld, h3.read_unread, h4.read_unread, h5.read_unread, h6.read_unread, h7.read_unread,
    View.ld_unit_zero (S := S2048x128) hz, View.ld_unit_zero (S := S256x128) hz]
  have e : ∀ (X : Vec F S2304x128 .bf16) (inb), (fun j => X ((Rect.unit (s := S2304x128) ![0, 0] S2304x128.size inb).toLoadRect.idx j)) = X :=
    fun X inb => View.ld_unit_zero (S := S2304x128) hz inb X
  simp only [e]
  rfl

/-- Any other point computes its output block from the scratch the point before left. -/
theorem out_B (hc : ¬cond0_0 i) (y0 y1 : Vec F S2304x128 .bf16) :
    out0_B_5 c i a3 h3 a4 h4 a5 h5 a6 h6 a7 h7 a8 h8 a9 h9 a10 h10 hc x0 x1 x2 x3 x4 y0 y1 = outBlock x0 y0 y1 := by
  unfold out0_B_5
  rw [View.read_writes_junk_eq_canon]
  unfold kernelRun0_B
  dsimp only
  sl_unfold_words
  simp only [View.readAt_eq_ld, h3.read_unread, h9.read_unread, h10.read_unread, View.ld_unit_zero (S := S2304x128) hz]
  rfl

end Cases

end Cert.KernelIdeal.Body

end
-- ==== Proof.Heads.lean ====
/-
  The attention kernel's blocks read at an index, over the extended reals: each lane of the output block is one query
  head's weighted mean of the values.
-/
module

public import proofs.«01_k».proof.Proof.Body
public import Idealize.ShloMosaic.Lib.ValueIdx
public import Idealize.ShloMosaic.Lib.KernelVsHost

@[expose] public section

noncomputable section

namespace Cert.KernelIdeal.Body

open Cert.KernelIdeal Cert.KernelIdeal.Gen Idealize.ShloMosaic Idealize.ShloMosaic.TcCoe Idealize.SL.Sem
open Idealize.ShloMosaic.ValueIdx

section Shapes

variable {F : FTy → Type} [FloatOps F]

/-- The weights of a block of scores: two to the power of each score less its row's maximum. -/
def weights (sc : FVec F S512x2304 .f32) : FVec F S512x2304 .bf16 :=
  truncf .bf16 (exp2 (subf sc (broadcastTo S512x2304 (shapeCast S512x1
    (multiReduction .maximumf [1] S512 sc 0xFF800000#32 reduces_S512x2304_S512 (.inl rfl) rfl)
    shapeCasts_S512_S512x1) broadcasts_S512x1_S512x2304))) bitsLt_bf16_f32

/-- The weighted values over the weighted ones. -/
def mean (p : FVec F S512x2304 .bf16) (vv : Vec F S2304x128 .bf16) : FVec F S512x128 .f32 :=
  divf (matmul dot_S512x2304_S2304x128_S512x128_1_0_0_1_n_n none p vv (constant S512x128 .f32 0x00000000#32))
    (broadcastTo S512x128 (extractStridedSlice S512x1 ![0, 64]
      (matmul dot_S512x2304_S2304x128_S512x128_1_0_0_1_n_n none p vv (constant S512x128 .f32 0x00000000#32))
      slices_S512x128_o0_64_S512x1) broadcasts_S512x1_S512x128)

/-- Two heads side by side: the even one in the lower 64 lanes, the odd one turned into the upper 64. -/
def join (a b : FVec F S512x128 .f32) : FVec F S512x128 .bf16 :=
  truncf .bf16 (select (broadcastTo S512x128 (shapeCast S1x128 k0_pay6 shapeCasts_S1x128_S1x128) broadcasts_S1x128_S512x128)
    a (dynamicRotate 1 64#32 none b rotates_S512x128_d1)) bitsLt_bf16_f32

/-- One stored half of the output block, from its 128 lanes of queries. -/
def half (q : Vec F S512x128 .bf16) (kk vv : Vec F S2304x128 .bf16) : FVec F S512x128 .bf16 :=
  join (mean (weights (k0_pay12 kk q)) vv) (mean (weights (k0_pay10 kk q)) vv)

/-- The output block is its two halves. -/
theorem outBlock_eq (q : Vec F S512x256 .bf16) (kk vv : Vec F S2304x128 .bf16) : outBlock q kk vv =
    View.canon (Val := Elt F)
      [⟨Rect.unit (s := S512x256) ![0, 128] S512x128.size inb_S512x256_S512x128_0_128, half (qHi q) kk vv⟩,
       ⟨Rect.unit (s := S512x256) ![0, 0] S512x128.size inb_S512x256_S512x128_0_0, half (qLo q) kk vv⟩] := rfl

end Shapes

/-! ## The masks -/

/-- The mask of the lower 64 lanes. -/
theorem low_apply (l : Fin 128) : k0_pay6 (ix2 0 l) = if l.val < 64 then 1#1 else 0#1 := by
  revert l; decide +kernel

/-- The mask of the lanes of head `h`. -/
theorem own_apply (h : Fin 2) (l : Fin 128) :
    k0_pay2 (BitVec.ofNat 32 h.val) lanes (ix2 0 l) = if l.val / 64 = h.val then 1#1 else 0#1 := by
  revert h l; decide +kernel

/-- A row of lane flags laid over every row. -/
theorem mask_apply {n : Nat} (m : IVec S1x128 1) (hb : S1x128.Broadcasts ⟨2, ![n, 128]⟩) (r : Fin n) (l : Fin 128) :
    broadcastTo ⟨2, ![n, 128]⟩ (shapeCast S1x128 m shapeCasts_S1x128_S1x128) hb (ix2 r l) = m (ix2 0 l) := by
  rw [shapeCast_self]
  refine broadcastTo_apply _ _ _ _ fun a => ?_
  match a with
  | ⟨0, _⟩ => rfl
  | ⟨1, _⟩ => rfl

/-- A half turn of the 128 lanes. -/
theorem turn_apply {n : Nat} {α : Type} (x : (⟨2, ![n, 128]⟩ : Shape).Idx → α) (hr : (⟨2, ![n, 128]⟩ : Shape).Rotates 1 none)
    (r : Fin n) (l : Fin 128) :
    dynamicRotate 1 64#32 none x hr (ix2 r l) = x (ix2 r ⟨(l.val + 64) % 128, Nat.mod_lt _ (by decide)⟩) := by
  refine dynamicRotate_apply _ _ _ _ _ _ fun b => ?_
  match b with
  | ⟨0, _⟩ => rfl
  | ⟨1, _⟩ =>
    show (l.val + 64) % 128 = if _ then (l.val + 128 - 64 % 128) % 128 else _
    refine Eq.trans ?_ (if_pos rfl).symm
    omega

/-! ## The scratch -/

/-- A head's 64 lanes laid twice along a row of 128. -/
theorem twice_apply {n : Nat} (h : Fin 2) (x : FVec Ideal ⟨2, ![n, 128]⟩ .bf16) (hb : S1x128.Broadcasts ⟨2, ![n, 128]⟩)
    (hr : (⟨2, ![n, 128]⟩ : Shape).Rotates 1 none) (r : Fin n) (l : Fin 128) :
    select (broadcastTo ⟨2, ![n, 128]⟩ (shapeCast S1x128 (k0_pay2 (BitVec.ofNat 32 h.val) lanes) shapeCasts_S1x128_S1x128) hb)
      (extf (F := Ideal) .f32 x bitsLt_bf16_f32) (dynamicRotate 1 64#32 none (extf (F := Ideal) .f32 x bitsLt_bf16_f32) hr) (ix2 r l)
      = x (ix2 r ⟨h.val * 64 + l.val % 64, by omega⟩) := by
  rw [select_apply, mask_apply, own_apply, turn_apply]
  have h2 := h.isLt; have hl := l.isLt
  by_cases e : l.val / 64 = h.val
  · rw [if_pos e, select_one, extf_apply]
    exact congrArg x (congrArg (ix2 r) (Fin.ext (by show l.val = h.val * 64 + l.val % 64; omega)))
  · rw [if_neg e, select_zero, extf_apply]
    exact congrArg x (congrArg (ix2 r) (Fin.ext (by show (l.val + 64) % 128 = h.val * 64 + l.val % 64; omega)))

/-- A head's keys of the latents, read at an element. -/
theorem k_lat_apply (h : Fin 2) (k : Vec Ideal S2048x128 .bf16) (r : Fin 2048) (l : Fin 128) :
    k0_pay3 (F := Ideal) (BitVec.ofNat 32 h.val) lanes k (ix2 r l) = k (ix2 r ⟨h.val * 64 + l.val % 64, by omega⟩) := by
  unfold k0_pay3
  dsimp only
  rw [shapeCast_self]
  exact twice_apply h k _ _ r l

/-- A head's keys of the context, read at an element. -/
theorem k_ctx_apply (h : Fin 2) (k : Vec Ideal S256x128 .bf16) (r : Fin 256) (l : Fin 128) :
    k0_pay8 (F := Ideal) (k0_pay2 (BitVec.ofNat 32 h.val) lanes) k (ix2 r l) = k (ix2 r ⟨h.val * 64 + l.val % 64, by omega⟩) := by
  unfold k0_pay8
  dsimp only
  rw [shapeCast_self]
  exact twice_apply h k _ _ r l

/-- The word of the scratch's ones is one. -/
theorem one_eq : Ideal.ofBits .f32 0x3F800000#32 = (1 : EReal) := by
  have : Ideal.ofBits .f32 0x3F800000#32 = ((1 : ℝ) : EReal) := by
    simp [Ideal.ofBits, Ideal.ieee, -EReal.coe_mul]; norm_num
  rw [this]; rfl

/-- A head's values of the latents, read at an element. -/
theorem v_lat_apply (h : Fin 2) (v : Vec Ideal S2048x128 .bf16) (r : Fin 2048) (l : Fin 128) :
    k0_pay7 (F := Ideal) (k0_pay4 (BitVec.ofNat 32 h.val) lanes v) (Scalar.ofBits .f32 0x3F800000#32) (k0_pay5 k0_pay6) (ix2 r l)
      = if l.val < 64 then v (ix2 r ⟨h.val * 64 + l.val % 64, by omega⟩) else 1 := by
  unfold k0_pay7 k0_pay4 k0_pay5
  dsimp only
  rw [shapeCast_self, truncf_apply, select_apply, mask_apply, low_apply]
  by_cases e : l.val < 64
  · rw [if_pos e, if_pos e, select_one]; exact twice_apply h v _ _ r l
  · rw [if_neg e, if_neg e, select_zero]; exact one_eq

/-- A head's values of the context, read at an element. -/
theorem v_ctx_apply (h : Fin 2) (v : Vec Ideal S256x128 .bf16) (r : Fin 256) (l : Fin 128) :
    k0_pay9 (F := Ideal) (k0_pay2 (BitVec.ofNat 32 h.val) lanes) v (ix2 r l)
      = if l.val < 64 then v (ix2 r ⟨h.val * 64 + l.val % 64, by omega⟩) else 1 := by
  unfold k0_pay9
  dsimp only
  rw [shapeCast_self, truncf_apply, select_apply, mask_apply, low_apply]
  by_cases e : l.val < 64
  · rw [if_pos e, if_pos e, select_one]; exact twice_apply h v _ _ r l
  · rw [if_neg e, if_neg e, select_zero]; exact one_eq

/-- Rows `0 … 2047` of one array followed by the 256 rows of another. -/
def rows2 {α : Type} (a : S2048x128.Idx → α) (b : S256x128.Idx → α) (s : Fin 2304) (l : Fin 128) : α :=
  if h : s.val < 2048 then a (ix2 ⟨s.val, h⟩ l) else b (ix2 ⟨s.val - 2048, by omega⟩ l)

/-- Two stores, one of the first 2048 rows and one of the last 256, read back at a row and lane. -/
theorem canon_rows {e : EltTy} (a : Vec Ideal S2048x128 e) (b : Vec Ideal S256x128 e) (i0 i1) (s : Fin 2304) (l : Fin 128) :
    View.canon (Val := Elt Ideal)
      [⟨Rect.unit (s := S2304x128) ![2048, 0] S256x128.size i1, b⟩, ⟨Rect.unit (s := S2304x128) ![0, 0] S2048x128.size i0, a⟩] (ix2 s l)
      = rows2 a b s l := by
  unfold rows2
  by_cases h : s.val < 2048
  · rw [dif_pos h, View.canon_cons_of_not_mem]
    · have e : ix2 s l = (Rect.unit (s := S2304x128) ![0, 0] S2048x128.size i0).emb (ix2 ⟨s.val, h⟩ l) := by
        refine Shape.idx_ext₂ ?_ ?_
        · show s.val = 0 + 1 * s.val; omega
        · show l.val = 0 + 1 * l.val; omega
      rw [e]; exact View.canon_cons_emb _ _ _ _
    · rw [Rect.mem_set_unit]
      intro hh
      have := (hh 0).1
      have h' : 2048 ≤ s.val := this
      omega
  · rw [dif_neg h]
    have hs := s.isLt
    have e : ix2 s l = (Rect.unit (s := S2304x128) ![2048, 0] S256x128.size i1).emb (ix2 ⟨s.val - 2048, by omega⟩ l) := by
      refine Shape.idx_ext₂ ?_ ?_
      · show s.val = 2048 + 1 * (s.val - 2048); omega
      · show l.val = 0 + 1 * l.val; omega
    rw [e]; exact View.canon_cons_emb _ _ _ _

/-- The keys' scratch at a row and lane: lane `l % 64` of head `h`. -/
theorem keys_apply (h : Fin 2) (k : Vec Ideal S2048x128 .bf16) (kc : Vec Ideal S256x128 .bf16) (s : Fin 2304) (l : Fin 128) :
    keys (F := Ideal) (BitVec.ofNat 32 h.val) k kc (ix2 s l) = rows2 k kc s ⟨h.val * 64 + l.val % 64, by omega⟩ := by
  unfold keys
  rw [canon_rows]
  unfold rows2
  by_cases hs : s.val < 2048
  · rw [dif_pos hs, dif_pos hs]; exact k_lat_apply h k _ l
  · rw [dif_neg hs, dif_neg hs]; exact k_ctx_apply h kc _ l

/-- The values' scratch at a row and lane: head `h`'s lane in the lower half, one in the upper. -/
theorem vals_apply (h : Fin 2) (v : Vec Ideal S2048x128 .bf16) (vc : Vec Ideal S256x128 .bf16) (s : Fin 2304) (l : Fin 128) :
    vals (F := Ideal) (BitVec.ofNat 32 h.val) v vc (ix2 s l)
      = if l.val < 64 then rows2 v vc s ⟨h.val * 64 + l.val % 64, by omega⟩ else 1 := by
  unfold vals
  rw [canon_rows]
  unfold rows2
  by_cases hs : s.val < 2048
  · rw [dif_pos hs, dif_pos hs]; exact v_lat_apply h v _ l
  · rw [dif_neg hs, dif_neg hs]; exact v_ctx_apply h vc _ l

end Cert.KernelIdeal.Body

end
-- ==== Proof.Mean.lean ====
/-
  The attention kernel's output block at a row and lane: the mean of one head's values, weighted by two to the power of
  each score less the largest score.
-/
module

public import proofs.«01_k».proof.Proof.Heads

@[expose] public section

noncomputable section

namespace Cert.KernelIdeal.Body

open Cert.KernelIdeal Cert.KernelIdeal.Gen Idealize.ShloMosaic Idealize.ShloMosaic.TcCoe Idealize.SL.Sem
open Idealize.ShloMosaic.ValueIdx

/-- The queries' product with the keys at a row and a key. -/
theorem qk_apply (q : FVec Ideal S512x128 .bf16) (kk : FVec Ideal S2304x128 .bf16) (r : Fin 512) (s : Fin 2304) :
    matmul dot_S512x128_S2304x128_S512x2304_1_1_0_0_n_n none q kk (constant S512x2304 .f32 0x00000000#32) (ix2 r s)
      = ∑ l : Fin 128, q (ix2 r l) * kk (ix2 s l) := by
  simp only [matmul]
  rw [Ideal.matmul_apply, constant_apply, Ideal.ofBits_zero_f32, zero_add,
    ← Equiv.sum_comp (contrEquiv1 dot_S512x128_S2304x128_S512x2304_1_1_0_0_n_n 128 rfl rfl).symm]
  refine Finset.sum_congr rfl fun l _ => ?_
  have hl := contrEquiv1_symm_val dot_S512x128_S2304x128_S512x2304_1_1_0_0_n_n 128 rfl rfl l
  congr 1
  · refine congrArg q (Shape.idx_ext₂ ?_ ?_)
    · rfl
    · exact (DotDims.lhsIdx_val_of_single _ rfl _ _).trans hl
  · refine congrArg kk (Shape.idx_ext₂ ?_ ?_)
    · rfl
    · exact (DotDims.rhsIdx_val_of_single _ rfl _ _).trans hl

/-- The weights' product with the values at a row and a lane. -/
theorem pv_apply (p : FVec Ideal S512x2304 .bf16) (vv : FVec Ideal S2304x128 .bf16) (r : Fin 512) (l : Fin 128) :
    matmul dot_S512x2304_S2304x128_S512x128_1_0_0_1_n_n none p vv (constant S512x128 .f32 0x00000000#32) (ix2 r l)
      = ∑ s : Fin 2304, p (ix2 r s) * vv (ix2 s l) := by
  simp only [matmul]
  rw [Ideal.matmul_apply, constant_apply, Ideal.ofBits_zero_f32, zero_add,
    ← Equiv.sum_comp (contrEquiv1 dot_S512x2304_S2304x128_S512x128_1_0_0_1_n_n 2304 rfl rfl).symm]
  refine Finset.sum_congr rfl fun s _ => ?_
  have hs := contrEquiv1_symm_val dot_S512x2304_S2304x128_S512x128_1_0_0_1_n_n 2304 rfl rfl s
  congr 1
  · refine congrArg p (Shape.idx_ext₂ ?_ ?_)
    · rfl
    · exact (DotDims.lhsIdx_val_of_single _ rfl _ _).trans hs
  · refine congrArg vv (Shape.idx_ext₂ ?_ ?_)
    · exact (DotDims.rhsIdx_val_of_single _ rfl _ _).trans hs
    · rfl

/-- The largest of a row of scores, from the word of minus infinity. -/
def top (sc : Fin 2304 → EReal) : EReal := Finset.univ.fold max (Ideal.ofBits .f32 0xFF800000#32) sc

/-- The mean of `v` under the weights `2 ^ (sc s - top sc)`. -/
def attend (sc v : Fin 2304 → EReal) : EReal :=
  Ideal.div (∑ s, Ideal.exp2 (sc s - top sc) * v s) (∑ s, Ideal.exp2 (sc s - top sc) * 1)

/-- A column of 512 entries laid along every lane. -/
theorem col_apply {n : Nat} (hn : n ≠ 1) (x : S512x1.Idx → EReal) (hb : S512x1.Broadcasts ⟨2, ![512, n]⟩) (r : Fin 512) (l : Fin n) :
    broadcastTo ⟨2, ![512, n]⟩ x hb (ix2 r l) = x (ix2 r 0) := by
  refine broadcastTo_apply _ _ _ _ fun a => ?_
  match a with
  | ⟨0, _⟩ => rfl
  | ⟨1, _⟩ => rfl

/-- The weights at a row and a key. -/
theorem weights_apply (sc : FVec Ideal S512x2304 .f32) (r : Fin 512) (s : Fin 2304) :
    weights (F := Ideal) sc (ix2 r s) = Ideal.exp2 (sc (ix2 r s) - top fun t => sc (ix2 r t)) := by
  unfold weights
  rw [truncf_apply]
  show Ideal.exp2 (subf sc _ (ix2 r s)) = _
  rw [subf_apply, col_apply (by decide)]
  rw [shapeCast_apply _ _ (ix2 r 0) (ix1 r) (by
    rw [Shape.rowMajor_val_one, Shape.rowMajor_val_two]; show r.val = r.val * 1 + 0; omega)]
  have e := Ideal.multiReduction_maximumf_single sc 0xFF800000#32 reduces_S512x2304_S512 (.inl rfl) rfl (ix1 r)
  refine congrArg (fun z => Ideal.exp2 (sc (ix2 r s) - z)) (e.trans ?_)
  unfold top
  refine congrArg (Finset.fold max _ · _) (funext fun t => congrArg sc (Shape.idx_ext₂ rfl rfl))

/-- The mean at a row and a lane. -/
theorem mean_apply (p : FVec Ideal S512x2304 .bf16) (vv : FVec Ideal S2304x128 .bf16) (r : Fin 512) (l : Fin 128) :
    mean (F := Ideal) p vv (ix2 r l)
      = Ideal.div (∑ s : Fin 2304, p (ix2 r s) * vv (ix2 s l)) (∑ s : Fin 2304, p (ix2 r s) * vv (ix2 s 64)) := by
  unfold mean
  rw [divf_apply, col_apply (by decide), pv_apply]
  rw [extractStridedSlice_apply _ _ _ (ix2 r 0) (ix2 r 64) (fun a => by
    match a with
    | ⟨0, _⟩ => show r.val = 0 + r.val; omega
    | ⟨1, _⟩ => rfl), pv_apply]

/-- Two heads side by side at a row and a lane. -/
theorem join_apply (a b : FVec Ideal S512x128 .f32) (r : Fin 512) (l : Fin 128) :
    join (F := Ideal) a b (ix2 r l) = if l.val < 64 then a (ix2 r l) else b (ix2 r ⟨l.val % 64, by omega⟩) := by
  unfold join
  rw [truncf_apply, select_apply, mask_apply, low_apply]
  have hl := l.isLt
  by_cases e : l.val < 64
  · rw [if_pos e, if_pos e, select_one]
  · rw [if_neg e, if_neg e, select_zero, turn_apply]
    exact congrArg b (congrArg (ix2 r) (Fin.ext (by show (l.val + 64) % 128 = l.val % 64; omega)))

/-- A sum over 128 lanes is the sum over the lower 64 and the sum over the upper 64. -/
theorem sum_lanes (f : Fin 128 → EReal) :
    ∑ l, f l = (∑ d : Fin 64, f ⟨d.val, by omega⟩) + ∑ d : Fin 64, f ⟨64 + d.val, by omega⟩ :=
  Fin.sum_univ_add (a := 64) (b := 64) f

/-- The zero of the short format. -/
theorem zero_bf16 : Ideal.ofBits .bf16 0x0000#16 = 0 := by simp [Ideal.ofBits, Ideal.ieee]

variable (q : Vec Ideal S512x128 .bf16) (kk vv : Vec Ideal S2304x128 .bf16) (K V : Fin 2304 → Fin 64 → EReal)

/-- The even head's scores: its 64 lanes of queries against the head's keys. -/
theorem score_even (hk : ∀ s l, kk (ix2 s l) = K s ⟨l.val % 64, by omega⟩) (r : Fin 512) (s : Fin 2304) :
    k0_pay12 (F := Ideal) kk q (ix2 r s) = ∑ d : Fin 64, q (ix2 r ⟨d.val, by omega⟩) * K s d := by
  unfold k0_pay12
  rw [qk_apply, sum_lanes]
  rw [Finset.sum_eq_zero (s := Finset.univ) (f := fun d : Fin 64 => _ * kk (ix2 s ⟨64 + d.val, _⟩)), add_zero]
  · refine Finset.sum_congr rfl fun d _ => ?_
    rw [select_apply, mask_apply, low_apply, if_pos d.isLt, select_one, hk]
    exact congrArg (q _ * K s ·) (Fin.ext (Nat.mod_eq_of_lt d.isLt))
  · intro d _
    rw [select_apply, mask_apply, low_apply, if_neg (show ¬(64 + d.val < 64) by omega), select_zero]
    exact (congrArg (· * _) zero_bf16).trans (zero_mul _)

/-- The odd head's scores. -/
theorem score_odd (hk : ∀ s l, kk (ix2 s l) = K s ⟨l.val % 64, by omega⟩) (r : Fin 512) (s : Fin 2304) :
    k0_pay10 (F := Ideal) kk q (ix2 r s) = ∑ d : Fin 64, q (ix2 r ⟨64 + d.val, by omega⟩) * K s d := by
  unfold k0_pay10
  rw [qk_apply, sum_lanes]
  have hx : ∀ l : Fin 128, xori k0_pay6 (constantI S1x128 1 1#1) (ix2 0 l) = if l.val < 64 then 0#1 else 1#1 := by
    decide +kernel
  rw [Finset.sum_eq_zero (s := Finset.univ) (f := fun d : Fin 64 => _ * kk (ix2 s ⟨d.val, _⟩)), zero_add]
  · refine Finset.sum_congr rfl fun d _ => ?_
    rw [select_apply, mask_apply, hx, if_neg (show ¬(64 + d.val < 64) by omega), select_one, hk]
    exact congrArg (q _ * K s ·) (Fin.ext (by show (64 + d.val) % 64 = d.val; omega))
  · intro d _
    rw [select_apply, mask_apply, hx, if_pos d.isLt, select_zero]
    exact (congrArg (· * _) zero_bf16).trans (zero_mul _)

/-- A stored half at a row and lane: the mean for the query head the lane belongs to. -/
theorem half_apply (hk : ∀ s l, kk (ix2 s l) = K s ⟨l.val % 64, by omega⟩)
    (hv : ∀ s (l : Fin 128), vv (ix2 s l) = if l.val < 64 then V s ⟨l.val % 64, by omega⟩ else 1) (r : Fin 512) (l : Fin 128) :
    half (F := Ideal) q kk vv (ix2 r l)
      = attend (fun s => ∑ d : Fin 64, q (ix2 r ⟨l.val / 64 * 64 + d.val, by omega⟩) * K s d) (fun s => V s ⟨l.val % 64, by omega⟩) := by
  have hl := l.isLt
  have h64 : ∀ s, vv (ix2 s 64) = 1 := fun s => (hv s 64).trans (if_neg (by decide))
  unfold half
  rw [join_apply]
  by_cases e : l.val < 64
  · rw [if_pos e, mean_apply]
    simp only [weights_apply, score_even q kk K hk, hv, h64, if_pos e]
    have : ∀ d : Fin 64, (⟨d.val, by omega⟩ : Fin 128) = ⟨l.val / 64 * 64 + d.val, by omega⟩ := fun d => Fin.ext (by
      show d.val = l.val / 64 * 64 + d.val; omega)
    simp only [this]
    rfl
  · rw [if_neg e, mean_apply]
    have e' : l.val % 64 < 64 := by omega
    have e2 : l.val % 64 % 64 = l.val % 64 := by omega
    simp only [weights_apply, score_odd q kk K hk, hv, h64, if_pos e', e2]
    have : ∀ d : Fin 64, (⟨64 + d.val, by omega⟩ : Fin 128) = ⟨l.val / 64 * 64 + d.val, by omega⟩ := fun d => Fin.ext (by
      show 64 + d.val = l.val / 64 * 64 + d.val; omega)
    simp only [this]
    rfl

/-- Two stored halves of 128 lanes, read back at a row and lane. -/
theorem canon_halves (a b : Vec Ideal S512x128 .bf16) (i0 i1) (r : Fin 512) (l : Fin 256) :
    View.canon (Val := Elt Ideal)
      [⟨Rect.unit (s := S512x256) ![0, 128] S512x128.size i1, b⟩, ⟨Rect.unit (s := S512x256) ![0, 0] S512x128.size i0, a⟩] (ix2 r l)
      = if h : l.val < 128 then a (ix2 r ⟨l.val, h⟩) else b (ix2 r ⟨l.val - 128, by omega⟩) := by
  by_cases h : l.val < 128
  · rw [dif_pos h, View.canon_cons_of_not_mem]
    · have e : ix2 r l = (Rect.unit (s := S512x256) ![0, 0] S512x128.size i0).emb (ix2 r ⟨l.val, h⟩) := by
        refine Shape.idx_ext₂ ?_ ?_
        · show r.val = 0 + 1 * r.val; omega
        · show l.val = 0 + 1 * l.val; omega
      rw [e]; exact View.canon_cons_emb _ _ _ _
    · rw [Rect.mem_set_unit]
      intro hh
      have h' : 128 ≤ l.val := (hh 1).1
      omega
  · rw [dif_neg h]
    have hs := l.isLt
    have e : ix2 r l = (Rect.unit (s := S512x256) ![0, 128] S512x128.size i1).emb (ix2 r ⟨l.val - 128, by omega⟩) := by
      refine Shape.idx_ext₂ ?_ ?_
      · show r.val = 0 + 1 * r.val; omega
      · show l.val = 128 + 1 * (l.val - 128); omega
    rw [e]; exact View.canon_cons_emb _ _ _ _

/-- The output block at a row and lane: lane `l` belongs to query head `l / 64` of the group. -/
theorem outBlock_apply (q : Vec Ideal S512x256 .bf16) (hk : ∀ s l, kk (ix2 s l) = K s ⟨l.val % 64, by omega⟩)
    (hv : ∀ s (l : Fin 128), vv (ix2 s l) = if l.val < 64 then V s ⟨l.val % 64, by omega⟩ else 1) (r : Fin 512) (l : Fin 256) :
    outBlock (F := Ideal) q kk vv (ix2 r l)
      = attend (fun s => ∑ d : Fin 64, q (ix2 r ⟨l.val / 64 * 64 + d.val, by omega⟩) * K s d) (fun s => V s ⟨l.val % 64, by omega⟩) := by
  have hl := l.isLt
  rw [outBlock_eq, canon_halves]
  by_cases h : l.val < 128
  · rw [dif_pos h, half_apply _ _ _ K V hk hv]
    have : ∀ d : Fin 64, qLo q (ix2 r ⟨l.val / 64 * 64 + d.val, by omega⟩) = q (ix2 r ⟨l.val / 64 * 64 + d.val, by omega⟩) := fun d =>
      congrArg q (Shape.idx_ext₂ (by show 0 + 1 * r.val = r.val; omega)
        (by show 0 + 1 * (l.val / 64 * 64 + d.val) = l.val / 64 * 64 + d.val; omega))
    simp only [this]
  · rw [dif_neg h, half_apply _ _ _ K V hk hv]
    have : ∀ d : Fin 64, qHi q (ix2 r ⟨(l.val - 128) / 64 * 64 + d.val, by omega⟩) = q (ix2 r ⟨l.val / 64 * 64 + d.val, by omega⟩) := fun d =>
      congrArg q (Shape.idx_ext₂ (by show 0 + 1 * r.val = r.val; omega)
        (by show 128 + 1 * ((l.val - 128) / 64 * 64 + d.val) = l.val / 64 * 64 + d.val; omega))
    simp only [this]
    have e : (⟨(l.val - 128) % 64, by omega⟩ : Fin 64) = ⟨l.val % 64, by omega⟩ := Fin.ext (by show (l.val - 128) % 64 = l.val % 64; omega)
    simp only [e]

end Cert.KernelIdeal.Body

end
-- ==== Proof.Result.lean ====
/-
  The attention kernel's result array, as one function of its five arguments.

  Point `t` of the grid works on batch `t / 8`, key/value head `t / 4 % 2` and query block `t % 4`. The scratch is
  rebuilt where the query block is 0 and is the same at the three points after it, as they read the same blocks.
-/
module

public import proofs.«01_k».proof.Proof.Mean
public import proofs.«01_k».proof.Proof.Gen.KernelIdeal.Value

@[expose] public section

noncomputable section

namespace Cert.KernelIdeal.Body

open Cert.KernelIdeal Cert.KernelIdeal.Gen Idealize.ShloMosaic Idealize.ShloMosaic.TcCoe Idealize.SL.Sem
open Idealize.ShloMosaic.ValueIdx
open Idealize.ShloMosaic.Pipeline (Dat)

/-- There are 256 points. -/
theorem points : cfg0.N = 256 := N_0

/-- There are 256 points. -/
theorem lt_points (t : Fin cfg0.N) : t.val < 256 := lt_of_lt_of_eq t.isLt points

/-- The key/value head of a point. -/
theorem head_eq : ∀ t : Fin cfg0.N, (grid0.coords t 1).val = t.val / 4 % 2 :=
  (by decide +kernel : ∀ t : Fin grid0.N, (grid0.coords t 1).val = t.val / 4 % 2)

/-- Window 0's block at a point. -/
theorem index0 : ∀ t : Fin cfg0.N, win0_0.index t 0 = t.val / 8 * 4 + t.val % 4 ∧ win0_0.index t 1 = t.val / 4 % 2 :=
  (by decide +kernel : ∀ t : Fin grid0.N, win0_0.index t 0 = t.val / 8 * 4 + t.val % 4 ∧ win0_0.index t 1 = t.val / 4 % 2)
/-- Window 1's block at a point. -/
theorem index1 : ∀ t : Fin cfg0.N, win0_1.index t 0 = t.val / 8 ∧ win0_1.index t 1 = 0 :=
  (by decide +kernel : ∀ t : Fin grid0.N, win0_1.index t 0 = t.val / 8 ∧ win0_1.index t 1 = 0)
/-- Window 2's block at a point. -/
theorem index2 : ∀ t : Fin cfg0.N, win0_2.index t 0 = t.val / 8 ∧ win0_2.index t 1 = 0 :=
  (by decide +kernel : ∀ t : Fin grid0.N, win0_2.index t 0 = t.val / 8 ∧ win0_2.index t 1 = 0)
/-- Window 3's block at a point. -/
theorem index3 : ∀ t : Fin cfg0.N, win0_3.index t 0 = t.val / 8 ∧ win0_3.index t 1 = 0 :=
  (by decide +kernel : ∀ t : Fin grid0.N, win0_3.index t 0 = t.val / 8 ∧ win0_3.index t 1 = 0)
/-- Window 4's block at a point. -/
theorem index4 : ∀ t : Fin cfg0.N, win0_4.index t 0 = t.val / 8 ∧ win0_4.index t 1 = 0 :=
  (by decide +kernel : ∀ t : Fin grid0.N, win0_4.index t 0 = t.val / 8 ∧ win0_4.index t 1 = 0)
/-- Window 5's block at a point. -/
theorem index5 : ∀ t : Fin cfg0.N, win0_5.index t 0 = t.val / 8 * 4 + t.val % 4 ∧ win0_5.index t 1 = t.val / 4 % 2 :=
  (by decide +kernel : ∀ t : Fin grid0.N, win0_5.index t 0 = t.val / 8 * 4 + t.val % 4 ∧ win0_5.index t 1 = t.val / 4 % 2)
/-- The result's block is whole at every point. -/
theorem size5 : ∀ t : Fin cfg0.N, win0_5.xsize (grid0.coords t) 0 = 512 ∧ win0_5.xsize (grid0.coords t) 1 = 256 :=
  (by decide +kernel : ∀ t : Fin grid0.N, win0_5.xsize (grid0.coords t) 0 = 512 ∧ win0_5.xsize (grid0.coords t) 1 = 256)

section Blocks

variable {F : FTy → Type} [FloatOps F]
variable (m : (ℓ : Loc nD τ sig) → Buf (Elt F) ℓ) (c : Dev nD)

/-- The block of queries at a point. -/
theorem block0 (t : Fin cfg0.N) (r : Fin 512) (l : Fin 256) :
    (iblk m c 0 t : Vec F S512x256 .bf16) (ix2 r l) = (m ((c : Thread nD τ).loc main_arg0) : Vec F S65536x512 .bf16)
      (ix2 ⟨t.val / 8 * 2048 + t.val % 4 * 512 + r.val, by have := lt_points t; omega⟩
        ⟨t.val / 4 % 2 * 256 + l.val, by omega⟩) := by
  unfold iblk
  rw [View.read_apply]
  show V m c main_arg0 _ = _
  rw [V_main_arg0]
  refine congrArg (m ((c : Thread nD τ).loc main_arg0)) (Shape.idx_ext₂ ?_ ?_)
  · show win0_0.index t 0 * 512 + 1 * r.val = t.val / 8 * 2048 + t.val % 4 * 512 + r.val; rw [(index0 t).1]; omega
  · show win0_0.index t 1 * 256 + 1 * l.val = t.val / 4 % 2 * 256 + l.val; rw [(index0 t).2]; omega

/-- The block of latent keys at a point: all rows of the point's batch. -/
theorem block1 (t : Fin cfg0.N) (r : Fin 2048) (l : Fin 128) :
    (iblk m c 1 t : Vec F S2048x128 .bf16) (ix2 r l) = (m ((c : Thread nD τ).loc main_arg1) : Vec F S65536x128 .bf16)
      (ix2 ⟨t.val / 8 * 2048 + r.val, by have := lt_points t; omega⟩ l) := by
  unfold iblk
  rw [View.read_apply]
  show V m c main_arg1 _ = _
  rw [V_main_arg1]
  refine congrArg (m ((c : Thread nD τ).loc main_arg1)) (Shape.idx_ext₂ ?_ ?_)
  · show win0_1.index t 0 * 2048 + 1 * r.val = t.val / 8 * 2048 + r.val; rw [(index1 t).1]; omega
  · show win0_1.index t 1 * 128 + 1 * l.val = l.val; rw [(index1 t).2]; omega

/-- The block of latent values at a point. -/
theorem block2 (t : Fin cfg0.N) (r : Fin 2048) (l : Fin 128) :
    (iblk m c 2 t : Vec F S2048x128 .bf16) (ix2 r l) = (m ((c : Thread nD τ).loc main_arg2) : Vec F S65536x128 .bf16)
      (ix2 ⟨t.val / 8 * 2048 + r.val, by have := lt_points t; omega⟩ l) := by
  unfold iblk
  rw [View.read_apply]
  show V m c main_arg2 _ = _
  rw [V_main_arg2]
  refine congrArg (m ((c : Thread nD τ).loc main_arg2)) (Shape.idx_ext₂ ?_ ?_)
  · show win0_2.index t 0 * 2048 + 1 * r.val = t.val / 8 * 2048 + r.val; rw [(index2 t).1]; omega
  · show win0_2.index t 1 * 128 + 1 * l.val = l.val; rw [(index2 t).2]; omega

/-- The block of context keys at a point. -/
theorem block3 (t : Fin cfg0.N) (r : Fin 256) (l : Fin 128) :
    (iblk m c 3 t : Vec F S256x128 .bf16) (ix2 r l) = (m ((c : Thread nD τ).loc main_arg3) : Vec F S8192x128 .bf16)
      (ix2 ⟨t.val / 8 * 256 + r.val, by have := lt_points t; omega⟩ l) := by
  unfold iblk
  rw [View.read_apply]
  show V m c main_arg3 _ = _
  rw [V_main_arg3]
  refine congrArg (m ((c : Thread nD τ).loc main_arg3)) (Shape.idx_ext₂ ?_ ?_)
  · show win0_3.index t 0 * 256 + 1 * r.val = t.val / 8 * 256 + r.val; rw [(index3 t).1]; omega
  · show win0_3.index t 1 * 128 + 1 * l.val = l.val; rw [(index3 t).2]; omega

/-- The block of context values at a point. -/
theorem block4 (t : Fin cfg0.N) (r : Fin 256) (l : Fin 128) :
    (iblk m c 4 t : Vec F S256x128 .bf16) (ix2 r l) = (m ((c : Thread nD τ).loc main_arg4) : Vec F S8192x128 .bf16)
      (ix2 ⟨t.val / 8 * 256 + r.val, by have := lt_points t; omega⟩ l) := by
  unfold iblk
  rw [View.read_apply]
  show V m c main_arg4 _ = _
  rw [V_main_arg4]
  refine congrArg (m ((c : Thread nD τ).loc main_arg4)) (Shape.idx_ext₂ ?_ ?_)
  · show win0_4.index t 0 * 256 + 1 * r.val = t.val / 8 * 256 + r.val; rw [(index4 t).1]; omega
  · show win0_4.index t 1 * 128 + 1 * l.val = l.val; rw [(index4 t).2]; omega

/-- The keys a point works with: its head's, of its batch. -/
abbrev keysAt (t : Fin cfg0.N) : Vec F S2304x128 .bf16 := keys (BitVec.ofNat 32 (t.val / 4 % 2)) (iblk m c 1 t) (iblk m c 3 t)

/-- The values a point works with. -/
abbrev valsAt (t : Fin cfg0.N) : Vec F S2304x128 .bf16 := vals (BitVec.ofNat 32 (t.val / 4 % 2)) (iblk m c 2 t) (iblk m c 4 t)

/-- Points of one head and batch work with the same keys and values. -/
theorem keysAt_congr (t u : Fin cfg0.N) (h : t.val / 4 = u.val / 4) : keysAt m c t = keysAt m c u := by
  have e1 : (iblk m c 1 t : Vec F S2048x128 .bf16) = iblk m c 1 u := funext fun j => by
    rw [eq_ix2 j]; refine (block1 m c t _ _).trans (Eq.trans ?_ (block1 m c u _ _).symm)
    exact congrArg (m ((c : Thread nD τ).loc main_arg1)) (Shape.idx_ext₂ (by
      show t.val / 8 * 2048 + _ = u.val / 8 * 2048 + _; omega) rfl)
  have e3 : (iblk m c 3 t : Vec F S256x128 .bf16) = iblk m c 3 u := funext fun j => by
    rw [eq_ix2 j]; refine (block3 m c t _ _).trans (Eq.trans ?_ (block3 m c u _ _).symm)
    exact congrArg (m ((c : Thread nD τ).loc main_arg3)) (Shape.idx_ext₂ (by
      show t.val / 8 * 256 + _ = u.val / 8 * 256 + _; omega) rfl)
  unfold keysAt
  rw [h, e1, e3]

/-- Points of one group of heads hold the same values. -/
theorem valsAt_congr (t u : Fin cfg0.N) (h : t.val / 4 = u.val / 4) : valsAt m c t = valsAt m c u := by
  have e2 : (iblk m c 2 t : Vec F S2048x128 .bf16) = iblk m c 2 u := funext fun j => by
    rw [eq_ix2 j]; refine (block2 m c t _ _).trans (Eq.trans ?_ (block2 m c u _ _).symm)
    exact congrArg (m ((c : Thread nD τ).loc main_arg2)) (Shape.idx_ext₂ (by
      show t.val / 8 * 2048 + _ = u.val / 8 * 2048 + _; omega) rfl)
  have e4 : (iblk m c 4 t : Vec F S256x128 .bf16) = iblk m c 4 u := funext fun j => by
    rw [eq_ix2 j]; refine (block4 m c t _ _).trans (Eq.trans ?_ (block4 m c u _ _).symm)
    exact congrArg (m ((c : Thread nD τ).loc main_arg4)) (Shape.idx_ext₂ (by
      show t.val / 8 * 256 + _ = u.val / 8 * 256 + _; omega) rfl)
  unfold valsAt
  rw [h, e2, e4]

/-- What the output block and the scratch hold after each point, by induction on the point. -/
theorem outs_eq : ∀ (n : ℕ) (h : n < cfg0.N), outsAt0 m c n h
    = (outBlock (iblk m c 0 ⟨n, h⟩) (keysAt m c ⟨n, h⟩) (valsAt m c ⟨n, h⟩), keysAt m c ⟨n, h⟩, valsAt m c ⟨n, h⟩) := by
  intro n
  induction n with
  | zero =>
    intro h
    refine (outsAt0_A m c ⟨0, h⟩ rfl).trans ?_
    rw [out_A, sout_A_keys, sout_A_vals, head_eq]
  | succ n ih =>
    intro h
    by_cases h0 : (n + 1) % 4 = 0
    · refine (outsAt0_A m c ⟨n + 1, h⟩ h0).trans ?_
      rw [out_A, sout_A_keys, sout_A_vals, head_eq]
    · refine (outsAt0_B m c ⟨n + 1, h⟩ h0).trans ?_
      rw [out_B]
      unfold sout0_B_0 sout0_B_1
      have hp : outsAt0 m c ((⟨n + 1, h⟩ : Fin cfg0.N).val - 1) (Nat.lt_of_le_of_lt (Nat.sub_le _ _) h)
          = outsAt0 m c n (Nat.lt_of_succ_lt h) := rfl
      rw [hp, ih (Nat.lt_of_succ_lt h)]
      have hq : (⟨n, Nat.lt_of_succ_lt h⟩ : Fin cfg0.N).val / 4 = (⟨n + 1, h⟩ : Fin cfg0.N).val / 4 := by
        show n / 4 = (n + 1) / 4; omega
      rw [keysAt_congr m c _ _ hq, valsAt_congr m c _ _ hq]

end Blocks

/-! ## The result array over the extended reals -/

/-- Row `s` of batch `b`'s keys or values: the 2048 latent rows, then the 256 context rows. -/
def joined (x : S65536x128.Idx → EReal) (xc : S8192x128.Idx → EReal) (b : Fin 32) (s : Fin 2304) (l : Fin 128) : EReal :=
  if h : s.val < 2048 then x (ix2 ⟨b.val * 2048 + s.val, by omega⟩ l) else xc (ix2 ⟨b.val * 256 + (s.val - 2048), by omega⟩ l)

/-- A row and column's score against key `s`: the 64 lanes of the column's query head. -/
def score (q : S65536x512.Idx → EReal) (k : S65536x128.Idx → EReal) (kc : S8192x128.Idx → EReal) (R : Fin 65536) (C : Fin 512)
    (s : Fin 2304) : EReal :=
  ∑ d : Fin 64, q (ix2 R ⟨C.val / 64 * 64 + d.val, by omega⟩)
    * joined k kc ⟨R.val / 2048, by omega⟩ s ⟨C.val / 256 * 64 + d.val, by omega⟩

/-- The result at a row and column. -/
def resultAt (q : S65536x512.Idx → EReal) (k v : S65536x128.Idx → EReal) (kc vc : S8192x128.Idx → EReal) (R : Fin 65536) (C : Fin 512) : EReal :=
  attend (score q k kc R C) fun s => joined v vc ⟨R.val / 2048, by omega⟩ s ⟨C.val / 256 * 64 + C.val % 64, by omega⟩

variable (m : (ℓ : Loc nD τ sig) → Buf (Elt Ideal) ℓ) (ρ : Dev nD → PrngReg) (c : Dev nD)

/-- The result, as contents of the result array. -/
def result : Buf (Elt Ideal) ((c : Thread nD τ).loc main_v0) := fun j : S65536x512.Idx =>
  resultAt (m ((c : Thread nD τ).loc main_arg0)) (m ((c : Thread nD τ).loc main_arg1)) (m ((c : Thread nD τ).loc main_arg2))
    (m ((c : Thread nD τ).loc main_arg3)) (m ((c : Thread nD τ).loc main_arg4)) (j 0) (j 1)

/-- The joined keys, read at an element. -/
theorem rows_keys (t : Fin cfg0.N) (s : Fin 2304) (l : Fin 128) :
    rows2 (iblk m c 1 t : Vec Ideal S2048x128 .bf16) (iblk m c 3 t : Vec Ideal S256x128 .bf16) s l
      = joined (m ((c : Thread nD τ).loc main_arg1)) (m ((c : Thread nD τ).loc main_arg3))
          ⟨t.val / 8, by have := lt_points t; omega⟩ s l := by
  unfold rows2 joined
  by_cases h : s.val < 2048
  · rw [dif_pos h, dif_pos h]; exact block1 m c t _ l
  · rw [dif_neg h, dif_neg h]; exact block3 m c t _ l

/-- The joined values, read at an element. -/
theorem rows_vals (t : Fin cfg0.N) (s : Fin 2304) (l : Fin 128) :
    rows2 (iblk m c 2 t : Vec Ideal S2048x128 .bf16) (iblk m c 4 t : Vec Ideal S256x128 .bf16) s l
      = joined (m ((c : Thread nD τ).loc main_arg2)) (m ((c : Thread nD τ).loc main_arg4))
          ⟨t.val / 8, by have := lt_points t; omega⟩ s l := by
  unfold rows2 joined
  by_cases h : s.val < 2048
  · rw [dif_pos h, dif_pos h]; exact block2 m c t _ l
  · rw [dif_neg h, dif_neg h]; exact block4 m c t _ l

/-- A point's output block at a row and lane is the result at the row and column it is written to. -/
theorem out_apply (t : Fin cfg0.N) (r : Fin 512) (l : Fin 256) :
    outBlock (F := Ideal) (iblk m c 0 t) (keysAt m c t) (valsAt m c t) (ix2 r l)
      = resultAt (m ((c : Thread nD τ).loc main_arg0)) (m ((c : Thread nD τ).loc main_arg1)) (m ((c : Thread nD τ).loc main_arg2))
          (m ((c : Thread nD τ).loc main_arg3)) (m ((c : Thread nD τ).loc main_arg4))
          ⟨t.val / 8 * 2048 + t.val % 4 * 512 + r.val, by have := lt_points t; omega⟩
          ⟨t.val / 4 % 2 * 256 + l.val, by omega⟩ := by
  have ht := lt_points t
  have hh : t.val / 4 % 2 < 2 := by omega
  have hl := l.isLt; have hr := r.isLt
  rw [outBlock_apply (keysAt m c t) (valsAt m c t)
    (fun s d => joined (m ((c : Thread nD τ).loc main_arg1)) (m ((c : Thread nD τ).loc main_arg3)) ⟨t.val / 8, by omega⟩ s
      ⟨t.val / 4 % 2 * 64 + d.val, by omega⟩)
    (fun s d => joined (m ((c : Thread nD τ).loc main_arg2)) (m ((c : Thread nD τ).loc main_arg4)) ⟨t.val / 8, by omega⟩ s
      ⟨t.val / 4 % 2 * 64 + d.val, by omega⟩)
    (iblk m c 0 t)
    (fun s l' => (keys_apply ⟨t.val / 4 % 2, hh⟩ _ _ s l').trans (rows_keys m c t s _))
    (fun s l' => (vals_apply ⟨t.val / 4 % 2, hh⟩ _ _ s l').trans (by rw [rows_vals]))]
  unfold resultAt score
  have eb : (⟨(t.val / 8 * 2048 + t.val % 4 * 512 + r.val) / 2048, by omega⟩ : Fin 32) = ⟨t.val / 8, by omega⟩ := Fin.ext (by
    show (t.val / 8 * 2048 + t.val % 4 * 512 + r.val) / 2048 = t.val / 8; omega)
  simp only [eb]
  congr 1
  · funext s
    refine Finset.sum_congr rfl fun d _ => ?_
    rw [block0]
    congr 1
    · exact congrArg (m ((c : Thread nD τ).loc main_arg0)) (Shape.idx_ext₂ rfl (by
        show t.val / 4 % 2 * 256 + (l.val / 64 * 64 + d.val) = (t.val / 4 % 2 * 256 + l.val) / 64 * 64 + d.val; omega))
    · exact congrArg (joined _ _ _ s) (Fin.ext (by
        show t.val / 4 % 2 * 64 + d.val = (t.val / 4 % 2 * 256 + l.val) / 256 * 64 + d.val; omega))
  · funext s
    exact congrArg (joined _ _ _ s) (Fin.ext (by
      show t.val / 4 % 2 * 64 + l.val % 64 = (t.val / 4 % 2 * 256 + l.val) / 256 * 64 + (t.val / 4 % 2 * 256 + l.val) % 64; omega))

/-- What each point writes back is the result read through its block. -/
theorem flushed_eq (t : Fin cfg0.N) : (dats m 0 c).flushed 5 t = ((cfg0.win 5).blk t).view.read (Elt Ideal) (result m c) := by
  rw [Value.flushed5, outs_eq]
  have e : outBlock (F := Ideal) (iblk m c 0 t) (keysAt m c t) (valsAt m c t) = fun j : S512x256.Idx =>
      resultAt (m ((c : Thread nD τ).loc main_arg0)) (m ((c : Thread nD τ).loc main_arg1)) (m ((c : Thread nD τ).loc main_arg2))
          (m ((c : Thread nD τ).loc main_arg3)) (m ((c : Thread nD τ).loc main_arg4))
          ⟨t.val / 8 * 2048 + t.val % 4 * 512 + (j 0).val, by
            have := lt_points t; have : (j 0).val < 512 := (j 0).isLt; omega⟩
          ⟨t.val / 4 % 2 * 256 + (j 1).val, by have : (j 1).val < 256 := (j 1).isLt; omega⟩ := funext fun j => by
    rw [eq_ix2 j]; exact out_apply m c t (j 0) (j 1)
  show (cfg0.win 5).cut (grid0.coords t) (outBlock (F := Ideal) (iblk m c 0 t) (keysAt m c t) (valsAt m c t)) = _
  rw [e]
  funext j
  rw [View.read_apply]
  unfold result
  refine congr (congrArg _ (Fin.ext ?_)) (Fin.ext ?_)
  · show t.val / 8 * 2048 + t.val % 4 * 512 + (j 0).val = win0_5.index t 0 * 512 + 1 * (j 0).val; rw [(index5 t).1]; omega
  · show t.val / 4 % 2 * 256 + (j 1).val = win0_5.index t 1 * 256 + 1 * (j 1).val; rw [(index5 t).2]; omega

/-- An index of the result array is in point `t`'s block: 512 rows and 256 columns from the block's corner. -/
theorem mem_blk (t : Fin cfg0.N) (i : S65536x512.Idx) : i ∈ ((cfg0.win 5).blk t).view.set ↔
    ((t.val / 8 * 4 + t.val % 4) * 512 ≤ (i 0).val ∧ (i 0).val < (t.val / 8 * 4 + t.val % 4) * 512 + 512)
      ∧ (t.val / 4 % 2 * 256 ≤ (i 1).val ∧ (i 1).val < t.val / 4 % 2 * 256 + 256) := by
  show i ∈ ((View.whole main_v0).slice (win0_5.rect t)).set ↔ _
  rw [View.set_slice_whole, Rect.mem_set_unit]
  have e0 := index5 t
  have e1 := size5 t
  refine ⟨fun h => ⟨?_, ?_⟩, fun h a => ?_⟩
  · have : win0_5.index t 0 * 512 ≤ (i 0).val ∧ (i 0).val < win0_5.index t 0 * 512 + win0_5.xsize (grid0.coords t) 0 := h 0
    rw [e0.1, e1.1] at this; exact this
  · have : win0_5.index t 1 * 256 ≤ (i 1).val ∧ (i 1).val < win0_5.index t 1 * 256 + win0_5.xsize (grid0.coords t) 1 := h 1
    rw [e0.2, e1.2] at this; exact this
  · match a with
    | ⟨0, _⟩ => show win0_5.index t 0 * 512 ≤ (i 0).val ∧ (i 0).val < win0_5.index t 0 * 512 + win0_5.xsize (grid0.coords t) 0
                rw [e0.1, e1.1]; exact h.1
    | ⟨1, _⟩ => show win0_5.index t 1 * 256 ≤ (i 1).val ∧ (i 1).val < win0_5.index t 1 * 256 + win0_5.xsize (grid0.coords t) 1
                rw [e0.2, e1.2]; exact h.2

/-- The points' blocks cover the result array. -/
theorem cover (i : S65536x512.Idx) : ∃ t : Fin cfg0.N, (cfg0.win 5).flush t = true ∧ i ∈ ((cfg0.win 5).blk t).view.set := by
  have h0 : (i 0).val < 65536 := (i 0).isLt
  have h1 : (i 1).val < 512 := (i 1).isLt
  refine ⟨⟨(i 0).val / 2048 * 8 + (i 1).val / 256 * 4 + (i 0).val / 512 % 4, by rw [points]; omega⟩, flush0_5 _, ?_⟩
  rw [mem_blk]
  dsimp only
  omega

/-- So the result array ends holding the result. -/
theorem final : (dats m 0 c).arrAt 5 cfg0.N = result m c :=
  (dats m 0 c).arrAt_eq_of_cover 5 (result m c) (fun t _ => flushed_eq m c t) cover

/-- The run, read: the result array at the result. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Body

end
-- ==== Proof.Softmax.lean ====
/-
  The two spellings of a weighted mean over the extended reals: the kernel's, one division after the sum with powers of
  two, and the reference's, a softmax by the exponential whose weights are divided before the sum.
-/
module

public import proofs.«01_k».proof.Proof.Mean

@[expose] public section

noncomputable section

namespace Cert.KernelIdeal.Body

open Idealize.ShloMosaic

/-- The reference's mean: each weight is divided by the weights' sum, then multiplied into its value. -/
def softmaxMean (sc v : Fin 2304 → EReal) : EReal :=
  ∑ s, v s * Ideal.div (Ideal.exp (sc s - top sc)) (0 + ∑ u, Ideal.exp (sc u - top sc))

/-- A sum of reals is the sum of them as extended reals. -/
theorem coe_sum {ι : Type} (A : Finset ι) (f : ι → ℝ) : ((∑ i ∈ A, f i : ℝ) : EReal) = ∑ i ∈ A, (f i : EReal) := by
  classical
  induction A using Finset.induction_on with
  | empty => rfl
  | insert a A h ih => rw [Finset.sum_insert h, Finset.sum_insert h, EReal.coe_add, ih]

/-- A nonnegative real factor comes out of a sum, whatever the terms. -/
theorem sum_mul_coe {ι : Type} (A : Finset ι) (f : ι → EReal) (x : ℝ) (hx : 0 ≤ x) :
    (∑ i ∈ A, f i) * (x : EReal) = ∑ i ∈ A, f i * (x : EReal) := by
  classical
  induction A using Finset.induction_on with
  | empty => simp
  | insert a A h ih =>
    rw [Finset.sum_insert h, Finset.sum_insert h,
      EReal.right_distrib_of_nonneg_of_ne_top (by exact_mod_cast hx) (EReal.coe_ne_top x), ih]

/-- The word the maximum starts from is minus infinity. -/
theorem bot_eq : Ideal.ofBits .f32 0xFF800000#32 = (⊥ : EReal) := by
  simp [Ideal.ofBits, Ideal.ieee]

/-- The maximum is the score that no score exceeds. -/
theorem top_eq (sc : Fin 2304 → EReal) (s₀ : Fin 2304) (h : ∀ s, sc s ≤ sc s₀) : top sc = sc s₀ := by
  unfold top
  refine le_antisymm ?_ ?_
  · rw [Finset.fold_max_le]
    exact ⟨by rw [bot_eq]; exact bot_le, fun s _ => h s⟩
  · rw [Finset.le_fold_max]
    exact .inr ⟨s₀, Finset.mem_univ _, le_refl _⟩

/-- On real scores the kernel's mean is the softmax of the scores times the logarithm of two. -/
theorem attend_eq (S : Fin 2304 → ℝ) (v : Fin 2304 → EReal) :
    attend (fun s => (S s : EReal)) v = softmaxMean (fun s => ((Real.log 2 * S s : ℝ) : EReal)) v := by
  obtain ⟨s₀, -, hs₀⟩ := Finset.exists_max_image (Finset.univ : Finset (Fin 2304)) S ⟨0, Finset.mem_univ _⟩
  have hlog : 0 ≤ Real.log 2 := Real.log_nonneg (by norm_num)
  have h1 : top (fun s => (S s : EReal)) = (S s₀ : EReal) :=
    top_eq _ s₀ fun s => EReal.coe_le_coe_iff.2 (hs₀ s (Finset.mem_univ _))
  have h2 : top (fun s => ((Real.log 2 * S s : ℝ) : EReal)) = ((Real.log 2 * S s₀ : ℝ) : EReal) :=
    top_eq _ s₀ fun s => EReal.coe_le_coe_iff.2 (mul_le_mul_of_nonneg_left (hs₀ s (Finset.mem_univ _)) hlog)
  unfold attend softmaxMean
  rw [h1, h2]
  have w1 : ∀ s, Ideal.exp2 ((S s : EReal) - (S s₀ : EReal)) = ((Real.exp (Real.log 2 * (S s - S s₀)) : ℝ) : EReal) := fun s => by
    rw [← EReal.coe_sub, Ideal.exp2_coe]
    exact congrArg _ (Real.rpow_def_of_pos (by norm_num) _)
  have w2 : ∀ s, Ideal.exp (((Real.log 2 * S s : ℝ) : EReal) - ((Real.log 2 * S s₀ : ℝ) : EReal))
      = ((Real.exp (Real.log 2 * (S s - S s₀)) : ℝ) : EReal) := fun s => by
    rw [← EReal.coe_sub, Ideal.exp_coe, mul_sub]
  simp only [w1, w2, mul_one, zero_add]
  have hpos : 0 < ∑ s, Real.exp (Real.log 2 * (S s - S s₀)) :=
    Finset.sum_pos (fun s _ => Real.exp_pos _) ⟨0, Finset.mem_univ _⟩
  rw [← coe_sum, Ideal.div_coe hpos.ne', sum_mul_coe _ _ _ (one_div_pos.2 hpos).le]
  refine Finset.sum_congr rfl fun s _ => ?_
  rw [Ideal.div_coe hpos.ne', ← mul_assoc, mul_comm (v s)]

end Cert.KernelIdeal.Body

end
-- ==== Proof.RefRead.lean ====
/-
  The attention reference's result at a row and column: a softmax mean over the joined keys and values.
-/
module

public import proofs.«01_k».proof.Proof.Result
public import proofs.«01_k».proof.Proof.Softmax
public import proofs.«01_k».proof.Proof.Gen.ReferenceIdeal.Read
public import Idealize.ShloMosaic.Lib.KernelVsHost

@[expose] public section

noncomputable section

namespace Cert.ReferenceIdeal.Attention

open Cert.ReferenceIdeal Cert.ReferenceIdeal.Gen Cert.ReferenceIdeal.Read Idealize.ShloMosaic
open Idealize.ShloMosaic.ValueIdx
open Cert.KernelIdeal.Body (joined top softmaxMean bot_eq)

variable (x0 : S65536x512.Idx → EReal) (x1 x2 : S65536x128.Idx → EReal) (x3 x4 : S8192x128.Idx → EReal)

/-- The reference's keys, latent rows then context rows, at a batch, row, head and lane. -/
theorem keys_at (b : Fin 32) (s : Fin 2304) (h : Fin 2) (d : Fin 64) :
    val_main_v13 (F := Ideal) x1 x3 (ix4 b s h d) = joined x1 x3 b s ⟨h.val * 64 + d.val, by omega⟩ := by
  unfold val_main_v13 joined
  by_cases hs : s.val < 2048
  · rw [dif_pos hs]
    refine (concatenate_pair_apply_left (s₁ := S32x2048x2x64) (s₂ := S32x256x2x64) 1 _ _ _ (ix4 b s h d) rfl (ix4 b (⟨s.val, hs⟩ : Fin 2048) h d) (fun a => by
      match a with | ⟨0, _⟩ => rfl | ⟨1, _⟩ => rfl | ⟨2, _⟩ => rfl | ⟨3, _⟩ => rfl)).trans ?_
    rw [val_main_v11_apply]
    show x1 _ = _
    refine congrArg x1 (Shape.idx_ext₂ ?_ ?_)
    · show (((b.val * 2048 + s.val) * 2 + h.val) * 64 + d.val) / 128 = b.val * 2048 + s.val; omega
    · show (((b.val * 2048 + s.val) * 2 + h.val) * 64 + d.val) % 128 = h.val * 64 + d.val; omega
  · rw [dif_neg hs]
    have hlt := s.isLt
    refine (concatenate_pair_apply_right (s₁ := S32x2048x2x64) (s₂ := S32x256x2x64) 1 _ _ _ (ix4 b s h d) rfl rfl (ix4 b (⟨s.val - 2048, by omega⟩ : Fin 256) h d) (fun a => by
      match a with | ⟨0, _⟩ => exact fun _ => rfl | ⟨1, _⟩ => exact fun hne => absurd rfl hne | ⟨2, _⟩ => exact fun _ => rfl | ⟨3, _⟩ => exact fun _ => rfl) (by
      show s.val - 2048 + 2048 = s.val; omega)).trans ?_
    rw [val_main_v12_apply]
    show x3 _ = _
    refine congrArg x3 (Shape.idx_ext₂ ?_ ?_)
    · show (((b.val * 256 + (s.val - 2048)) * 2 + h.val) * 64 + d.val) / 128 = b.val * 256 + (s.val - 2048); omega
    · show (((b.val * 256 + (s.val - 2048)) * 2 + h.val) * 64 + d.val) % 128 = h.val * 64 + d.val; omega

/-- The reference's values, latent rows then context rows. -/
theorem vals_at (b : Fin 32) (s : Fin 2304) (h : Fin 2) (d : Fin 64) :
    val_main_v16 (F := Ideal) x2 x4 (ix4 b s h d) = joined x2 x4 b s ⟨h.val * 64 + d.val, by omega⟩ := by
  unfold val_main_v16 joined
  by_cases hs : s.val < 2048
  · rw [dif_pos hs]
    refine (concatenate_pair_apply_left (s₁ := S32x2048x2x64) (s₂ := S32x256x2x64) 1 _ _ _ (ix4 b s h d) rfl (ix4 b (⟨s.val, hs⟩ : Fin 2048) h d) (fun a => by
      match a with | ⟨0, _⟩ => rfl | ⟨1, _⟩ => rfl | ⟨2, _⟩ => rfl | ⟨3, _⟩ => rfl)).trans ?_
    rw [val_main_v14_apply]
    show x2 _ = _
    refine congrArg x2 (Shape.idx_ext₂ ?_ ?_)
    · show (((b.val * 2048 + s.val) * 2 + h.val) * 64 + d.val) / 128 = b.val * 2048 + s.val; omega
    · show (((b.val * 2048 + s.val) * 2 + h.val) * 64 + d.val) % 128 = h.val * 64 + d.val; omega
  · rw [dif_neg hs]
    have hlt := s.isLt
    refine (concatenate_pair_apply_right (s₁ := S32x2048x2x64) (s₂ := S32x256x2x64) 1 _ _ _ (ix4 b s h d) rfl rfl (ix4 b (⟨s.val - 2048, by omega⟩ : Fin 256) h d) (fun a => by
      match a with | ⟨0, _⟩ => exact fun _ => rfl | ⟨1, _⟩ => exact fun hne => absurd rfl hne | ⟨2, _⟩ => exact fun _ => rfl | ⟨3, _⟩ => exact fun _ => rfl) (by
      show s.val - 2048 + 2048 = s.val; omega)).trans ?_
    rw [val_main_v15_apply]
    show x4 _ = _
    refine congrArg x4 (Shape.idx_ext₂ ?_ ?_)
    · show (((b.val * 256 + (s.val - 2048)) * 2 + h.val) * 64 + d.val) / 128 = b.val * 256 + (s.val - 2048); omega
    · show (((b.val * 256 + (s.val - 2048)) * 2 + h.val) * 64 + d.val) % 128 = h.val * 64 + d.val; omega

/-- The factor the queries take is the logarithm of two times eight. -/
theorem scale_eq (i : S_.Idx) : val_main_v7 (F := Ideal) i = ((Real.log 2 * 8 : ℝ) : EReal) := by
  have h2 : Ideal.ofBits .f32 0x40000000#32 = ((2 : ℝ) : EReal) := by
    simp [Ideal.ofBits, Ideal.ieee, -EReal.coe_mul]; norm_num
  have h64 : Ideal.ofBits .f32 0x42800000#32 = ((64 : ℝ) : EReal) := by
    simp [Ideal.ofBits, Ideal.ieee, -EReal.coe_mul]; norm_num
  show Ideal.log (Ideal.ofBits .f32 0x40000000#32) * Ideal.sqrt (Ideal.ofBits .f32 0x42800000#32) = _
  have h8 : Real.sqrt 64 = 8 := by
    rw [show (64 : ℝ) = 8 ^ 2 by norm_num]; exact Real.sqrt_sq (by norm_num)
  rw [h2, h64, Ideal.log_coe, Ideal.sqrt_coe, if_neg (by norm_num), if_neg (by norm_num), h8, ← EReal.coe_mul]

/-- The factor the scores take is one eighth. -/
theorem eighth_eq (i : S_.Idx) : val_main_cst_1 (F := Ideal) i = ((1 / 8 : ℝ) : EReal) := by
  show Ideal.ofBits .f32 0x3E000000#32 = _
  simp [Ideal.ofBits, Ideal.ieee, -EReal.coe_mul]; norm_num

/-- The reference's score of a query against key `s`. -/
def refScore (b : Fin 32) (h : Fin 2) (g : Fin 4) (q : Fin 2048) (s : Fin 2304) : EReal :=
  (∑ d : Fin 64, joined x1 x3 b s ⟨h.val * 64 + d.val, by omega⟩
    * (x0 (ix2 ⟨b.val * 2048 + q.val, by omega⟩ ⟨h.val * 256 + g.val * 64 + d.val, by omega⟩) * ((Real.log 2 * 8 : ℝ) : EReal)))
    * ((1 / 8 : ℝ) : EReal)

/-- The reference's score, read at an element. -/
theorem score_at (b : Fin 32) (h : Fin 2) (g : Fin 4) (q : Fin 2048) (s : Fin 2304) :
    val_main_v20 (F := Ideal) x0 x1 x3 (ix5 b h g q s) = refScore x0 x1 x3 b h g q s := by
  rw [val_main_v20_apply, val_main_v19_apply, eighth_eq, val_main_v18_apply, val_main_v17_apply]
  unfold refScore
  refine congrArg (· * ((1 / 8 : ℝ) : EReal)) (Finset.sum_congr rfl fun d _ => ?_)
  have el : lidx_main_v17 (idx_main_v18 (ix5 b h g q s)) d = ix4 b s h d := funext fun a => Fin.ext (by
    match a with | ⟨0, _⟩ => rfl | ⟨1, _⟩ => rfl | ⟨2, _⟩ => rfl | ⟨3, _⟩ => rfl)
  have er : ridx_main_v17 (idx_main_v18 (ix5 b h g q s)) d = ix5 b q h g d := funext fun a => Fin.ext (by
    match a with | ⟨0, _⟩ => rfl | ⟨1, _⟩ => rfl | ⟨2, _⟩ => rfl | ⟨3, _⟩ => rfl | ⟨4, _⟩ => rfl)
  rw [el, er, keys_at, val_main_v10_apply, val_main_v9_apply, val_main_v8_apply, scale_eq]
  refine congrArg (_ * ·) (congrArg (· * _) ?_)
  show x0 _ = x0 _
  refine congrArg x0 (Shape.idx_ext₂ ?_ ?_)
  · show ((((b.val * 2048 + q.val) * 2 + h.val) * 4 + g.val) * 64 + d.val) / 512 = b.val * 2048 + q.val; omega
  · show ((((b.val * 2048 + q.val) * 2 + h.val) * 4 + g.val) * 64 + d.val) % 512 = h.val * 256 + g.val * 64 + d.val; omega

/-- The reference's row maximum. -/
theorem max_at (b : Fin 32) (h : Fin 2) (g : Fin 4) (q : Fin 2048) :
    val_main_v23 (F := Ideal) x0 x1 x3 (ix4 b h g q) = top (refScore x0 x1 x3 b h g q) := by
  have hr : S32x2x4x2048x2304.Reduces [4] S32x2x4x2048 := by decide
  have e : val_main_v21 (F := Ideal) x0 x1 x3 (ix4 b h g q) = top (refScore x0 x1 x3 b h g q) := by
    unfold val_main_v21
    have e1 := congrFun (hostReduce_maximumf_eq_multiReduction (F := Ideal) (φ := .f32) (val_main_v20 (F := Ideal) x0 x1 x3) 0xFF800000#32
      reducesTo_S32x2x4x2048x2304_S32x2x4x2048_d4 h_S_ hr (.inl rfl) rfl) (ix4 b h g q)
    refine e1.trans ?_
    have e2 := Ideal.multiReduction_maximumf_single (φ := .f32) (val_main_v20 (F := Ideal) x0 x1 x3) 0xFF800000#32 hr (.inl rfl) rfl (ix4 b h g q)
    refine e2.trans ?_
    unfold top
    refine congrArg (Finset.fold max _ · _) (funext fun (s : Fin 2304) => ?_)
    have el : hr.lift (ix4 b h g q) s = ix5 b h g q s := funext fun a => Fin.ext (by
      match a with | ⟨0, _⟩ => rfl | ⟨1, _⟩ => rfl | ⟨2, _⟩ => rfl | ⟨3, _⟩ => rfl | ⟨4, _⟩ => rfl)
    show val_main_v20 (F := Ideal) x0 x1 x3 (hr.lift (ix4 b h g q) s) = _
    rw [el, score_at]
  rw [val_main_v23_apply, e, val_main_v22_apply]
  show max (Ideal.ofBits .f32 0xFF800000#32) _ = _
  rw [bot_eq]
  exact max_eq_right bot_le

/-- The reference's weight before the division. -/
theorem weight_at (b : Fin 32) (h : Fin 2) (g : Fin 4) (q : Fin 2048) (s : Fin 2304) :
    val_main_v27 (F := Ideal) x0 x1 x3 (ix5 b h g q s)
      = Ideal.exp (refScore x0 x1 x3 b h g q s - top (refScore x0 x1 x3 b h g q)) := by
  rw [val_main_v27_apply, val_main_v26_apply, score_at, val_main_v25_apply, val_main_v24_apply]
  have e : idx_main_v24 (idx_main_v25 (ix5 b h g q s)) = ix4 b h g q := funext fun a => Fin.ext (by
    match a with | ⟨0, _⟩ => rfl | ⟨1, _⟩ => rfl | ⟨2, _⟩ => rfl | ⟨3, _⟩ => rfl)
  rw [e, max_at]
  rfl

/-- The reference's weight after the division. -/
theorem prob_at (b : Fin 32) (h : Fin 2) (g : Fin 4) (q : Fin 2048) (s : Fin 2304) :
    val_main_v31 (F := Ideal) x0 x1 x3 (ix5 b h g q s)
      = Ideal.div (Ideal.exp (refScore x0 x1 x3 b h g q s - top (refScore x0 x1 x3 b h g q)))
          (0 + ∑ u, Ideal.exp (refScore x0 x1 x3 b h g q u - top (refScore x0 x1 x3 b h g q))) := by
  rw [val_main_v31_apply, weight_at, val_main_v30_apply, val_main_v29_apply]
  have e : idx_main_v29 (idx_main_v30 (ix5 b h g q s)) = ix4 b h g q := funext fun a => Fin.ext (by
    match a with | ⟨0, _⟩ => rfl | ⟨1, _⟩ => rfl | ⟨2, _⟩ => rfl | ⟨3, _⟩ => rfl)
  rw [e, val_main_v28_apply]
  have es : ∀ k, idx_main_v28 (ix4 b h g q) k = ix5 b h g q k := fun k => funext fun a => Fin.ext (by
    match a with | ⟨0, _⟩ => rfl | ⟨1, _⟩ => rfl | ⟨2, _⟩ => rfl | ⟨3, _⟩ => rfl | ⟨4, _⟩ => rfl)
  simp only [es, weight_at]
  have ez : val_main_cst_4 (F := Ideal) (Shape.Idx.first h_S_) = (0 : EReal) := Ideal.ofBits_zero_f32
  rw [ez]
  rfl

/-- The reference's result at a row and column. -/
theorem result_at (R : Fin 65536) (C : Fin 512) :
    val_main_v35 (F := Ideal) x0 x1 x2 x3 x4 (ix2 R C)
      = softmaxMean (refScore x0 x1 x3 ⟨R.val / 2048, by omega⟩ ⟨C.val / 256, by omega⟩ ⟨C.val / 64 % 4, by omega⟩ ⟨R.val % 2048, by omega⟩)
          fun s => joined x2 x4 ⟨R.val / 2048, by omega⟩ s ⟨C.val / 256 * 64 + C.val % 64, by omega⟩ := by
  rw [val_main_v35_apply]
  show val_main_v34 (F := Ideal) x0 x1 x2 x3 x4 (ix2 R C) = _
  have e : idx_main_v34 (ix2 R C) = ix5 (⟨R.val / 2048, by omega⟩ : Fin 32) (⟨R.val % 2048, by omega⟩ : Fin 2048)
      (⟨C.val / 256, by omega⟩ : Fin 2) (⟨C.val / 64 % 4, by omega⟩ : Fin 4) (⟨C.val % 64, by omega⟩ : Fin 64) := funext fun a => Fin.ext (by
    have hR := R.isLt; have hC := C.isLt
    match a with
    | ⟨0, _⟩ => show (R.val * 512 + C.val) / 1048576 = R.val / 2048; omega
    | ⟨1, _⟩ => show (R.val * 512 + C.val) / 512 % 2048 = R.val % 2048; omega
    | ⟨2, _⟩ => show (R.val * 512 + C.val) / 256 % 2 = C.val / 256; omega
    | ⟨3, _⟩ => show (R.val * 512 + C.val) / 64 % 4 = C.val / 64 % 4; omega
    | ⟨4, _⟩ => show (R.val * 512 + C.val) % 64 = C.val % 64; omega)
  rw [val_main_v34_apply, e, val_main_v33_apply, val_main_v32_apply]
  unfold softmaxMean
  refine Finset.sum_congr rfl fun s _ => ?_
  have el : lidx_main_v32 (idx_main_v33 (ix5 (⟨R.val / 2048, by omega⟩ : Fin 32) (⟨R.val % 2048, by omega⟩ : Fin 2048)
      (⟨C.val / 256, by omega⟩ : Fin 2) (⟨C.val / 64 % 4, by omega⟩ : Fin 4) (⟨C.val % 64, by omega⟩ : Fin 64))) s
      = ix4 (⟨R.val / 2048, by omega⟩ : Fin 32) s (⟨C.val / 256, by omega⟩ : Fin 2) (⟨C.val % 64, by omega⟩ : Fin 64) := funext fun a => Fin.ext (by
    match a with | ⟨0, _⟩ => rfl | ⟨1, _⟩ => rfl | ⟨2, _⟩ => rfl | ⟨3, _⟩ => rfl)
  have er : ridx_main_v32 (idx_main_v33 (ix5 (⟨R.val / 2048, by omega⟩ : Fin 32) (⟨R.val % 2048, by omega⟩ : Fin 2048)
      (⟨C.val / 256, by omega⟩ : Fin 2) (⟨C.val / 64 % 4, by omega⟩ : Fin 4) (⟨C.val % 64, by omega⟩ : Fin 64))) s
      = ix5 (⟨R.val / 2048, by omega⟩ : Fin 32) (⟨C.val / 256, by omega⟩ : Fin 2) (⟨C.val / 64 % 4, by omega⟩ : Fin 4)
        (⟨R.val % 2048, by omega⟩ : Fin 2048) s := funext fun a => Fin.ext (by
    match a with | ⟨0, _⟩ => rfl | ⟨1, _⟩ => rfl | ⟨2, _⟩ => rfl | ⟨3, _⟩ => rfl | ⟨4, _⟩ => rfl)
  rw [el, er, vals_at, prob_at]

end Cert.ReferenceIdeal.Attention

end
-- ==== Proof.Finite.lean ====
/-
  The attention's precondition read, and under it the equation between the kernel's result and the reference's.
-/
module

public import proofs.«01_k».proof.Defs
public import proofs.«01_k».proof.Proof.RefRead
public import proofs.«01_k».proof.Proof.Gen.Pre_finite_queries_keys
public import Idealize.ShloMosaic.Lib.ReduceAll
public import Idealize.ShloMosaic.Lib.Affine

@[expose] public section

noncomputable section

namespace Cert.Attention

open Idealize.ShloMosaic Idealize.ShloMosaic.ValueIdx
open Cert.KernelIdeal (S65536x512 S65536x128 S8192x128)
open Cert.KernelIdeal.Body (joined score resultAt attend softmaxMean attend_eq coe_sum)
open Cert.ReferenceIdeal.Attention (refScore)

/-- A value whose absolute value compares below infinity is a real number. -/
theorem real_of_lt (x : EReal) (h : Ideal.cmp .olt (max x (-x)) (Ideal.ofBits .f32 0x7F800000#32) = 1#1) : ∃ r : ℝ, x = (r : EReal) := by
  have e : Ideal.ofBits .f32 0x7F800000#32 = (⊤ : EReal) := by simp [Ideal.ofBits, Ideal.ieee]
  rw [e] at h
  have h' : max x (-x) < ⊤ := by
    by_contra hn
    rw [Ideal.cmp, decide_eq_false hn] at h
    exact absurd h (by decide)
  rw [max_lt_iff] at h'
  induction x with
  | bot => exact absurd h'.2 (by simp)
  | top => exact absurd h'.1 (by simp)
  | coe r => exact ⟨r, rfl⟩

/-- The precondition: every query and key is a real number. -/
theorem reals_of_pre (x0 : S65536x512.Idx → EReal) (x1 x2 : S65536x128.Idx → EReal) (x3 x4 : S8192x128.Idx → EReal)
    (h : Cert.Pre_finite_queries_keys.fn (F := Ideal) x0 x1 x2 x3 x4 = fun _ => 1#1) :
    (∀ i, ∃ r : ℝ, x0 i = (r : EReal)) ∧ (∀ i, ∃ r : ℝ, x1 i = (r : EReal)) ∧ ∀ i, ∃ r : ℝ, x3 i = (r : EReal) := by
  have h0 := congrFun h (fun a : Fin 0 => a.elim0)
  have : Subsingleton Cert.Pre_finite_queries_keys.S_.Idx := ⟨fun a b => funext fun d : Fin 0 => d.elim0⟩
  unfold Cert.Pre_finite_queries_keys.fn at h0
  obtain ⟨h1, hc⟩ := IntOp.andi_eq_one.1 h0
  obtain ⟨ha, hb⟩ := IntOp.andi_eq_one.1 h1
  exact ⟨fun i => real_of_lt _ (Host.reduce_andi_all _ _ _ _ _ ha i), fun i => real_of_lt _ (Host.reduce_andi_all _ _ _ _ _ hb i),
    fun i => real_of_lt _ (Host.reduce_andi_all _ _ _ _ _ hc i)⟩

/-- On real queries and keys the kernel's result is the reference's, at every row and column. -/
theorem result_eq (x0 : S65536x512.Idx → EReal) (x1 x2 : S65536x128.Idx → EReal) (x3 x4 : S8192x128.Idx → EReal)
    (h0 : ∀ i, ∃ r : ℝ, x0 i = (r : EReal)) (h1 : ∀ i, ∃ r : ℝ, x1 i = (r : EReal)) (h3 : ∀ i, ∃ r : ℝ, x3 i = (r : EReal))
    (R : Fin 65536) (C : Fin 512) :
    resultAt x0 x1 x2 x3 x4 R C = Cert.ReferenceIdeal.Read.val_main_v35 (F := Ideal) x0 x1 x2 x3 x4 (ix2 R C) := by
  rw [Cert.ReferenceIdeal.Attention.result_at]
  unfold resultAt
  choose q hq using h0
  have hk : ∀ b s l, ∃ r : ℝ, joined x1 x3 b s l = (r : EReal) := fun b s l => by
    unfold joined
    by_cases hs : s.val < 2048
    · rw [dif_pos hs]; exact h1 _
    · rw [dif_neg hs]; exact h3 _
  choose k hk using hk
  let S : Fin 2304 → ℝ := fun s => ∑ d : Fin 64, q (ix2 R ⟨C.val / 64 * 64 + d.val, by omega⟩)
    * k ⟨R.val / 2048, by omega⟩ s ⟨C.val / 256 * 64 + d.val, by omega⟩
  have e1 : score x0 x1 x3 R C = fun s => (S s : EReal) := funext fun s => by
    unfold score
    show _ = ((∑ d : Fin 64, _ : ℝ) : EReal)
    rw [coe_sum]
    refine Finset.sum_congr rfl fun d _ => ?_
    rw [hq, hk, ← EReal.coe_mul]
  have e2 : refScore x0 x1 x3 ⟨R.val / 2048, by omega⟩ ⟨C.val / 256, by omega⟩ ⟨C.val / 64 % 4, by omega⟩ ⟨R.val % 2048, by omega⟩
      = fun s => ((Real.log 2 * S s : ℝ) : EReal) := funext fun s => by
    unfold refScore
    have ei : ∀ d : Fin 64, (ix2 (⟨R.val / 2048 * 2048 + R.val % 2048, by omega⟩ : Fin 65536)
        (⟨C.val / 256 * 256 + C.val / 64 % 4 * 64 + d.val, by omega⟩ : Fin 512)) = ix2 R ⟨C.val / 64 * 64 + d.val, by omega⟩ := fun d =>
      Shape.idx_ext₂ (by show R.val / 2048 * 2048 + R.val % 2048 = R.val; omega)
        (by show C.val / 256 * 256 + C.val / 64 % 4 * 64 + d.val = C.val / 64 * 64 + d.val; omega)
    simp only [ei, hq, hk, ← EReal.coe_mul]
    rw [← coe_sum, ← EReal.coe_mul]
    refine congrArg _ ?_
    show _ = Real.log 2 * ∑ d : Fin 64, _
    rw [Finset.sum_mul, Finset.mul_sum]
    refine Finset.sum_congr rfl fun d _ => ?_
    ring
  rw [e1, e2, attend_eq]

end Cert.Attention

end
-- ==== Proof.Attention.lean ====
/-
  The claims about the attention kernel: frames, and its result the reference's over the extended reals.
-/
module

public import proofs.«01_k».proof.Proof.Finite
public import proofs.«01_k».proof.Proof.Gen.Kernel.Frame
public import proofs.«01_k».proof.Proof.Gen.ReferenceIdeal.Run
public import Idealize.ShloMosaic.Lib.Quiescent

@[expose] public section

noncomputable section

namespace Cert.Attention

open Idealize.ShloMosaic Idealize.ShloMosaic.TcCoe Idealize.SL.Sem Idealize.ShloMosaic.ValueIdx

/-- The reference runs, leaves its arguments and declares no semaphore. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Under the precondition the kernel's result array is the reference's. -/
theorem algebraic : Cert.algebraic_KernelIdeal_ReferenceIdeal_pre_finite_queries_keys := by
  intro m ρ m' ρ' hpre hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2.1, (hagree c).2.2.2.2]
  obtain ⟨h0, h1, h3⟩ := reals_of_pre _ _ _ _ _ (hpre c)
  refine funext fun (j : Cert.KernelIdeal.S65536x512.Idx) => ?_
  rw [eq_ix2 j]
  exact (result_eq _ _ _ _ _ h0 h1 h3 (j 0) (j 1)).symm

end Cert.Attention

end
-- ==== Proof.ExpertsPre.lean ====
/-
  The experts' preconditions read: every word of the table is the number of an expert, and every weight is a nonnegative
  real number.
-/
module

public import proofs.«01_k».proof.Defs
public import proofs.«01_k».proof.Proof.Gen.Pre_experts_named
public import proofs.«01_k».proof.Proof.Gen.Pre_experts_named_weights_real
public import Idealize.ShloMosaic.Lib.ReduceAll
public import Idealize.ShloMosaic.Lib.Affine
public import Idealize.ShloMosaic.Lib.ValueIdx
public import Idealize.ShloMosaic.Lib.KernelVsHost

@[expose] public section

noncomputable section

namespace Cert.Experts

open Idealize.ShloMosaic Idealize.ShloMosaic.ValueIdx
open Cert.Kernel2Ideal (S168 S336 S86528x1152 S16x1024x512 S16x512x1024)

/-- A word from zero up to sixteen, read signed, is below sixteen read unsigned. -/
theorem word_small (w : BitVec 32) (h : IntOp.andi (IntOp.cmpi .sge w 0#32) (IntOp.cmpi .slt w 16#32) = 1#1) : w.toNat < 16 := by
  obtain ⟨h1, h2⟩ := IntOp.andi_eq_one.1 h
  have e1 : (0#32 : BitVec 32).toInt ≤ w.toInt := by
    by_contra hn
    rw [show IntOp.cmpi .sge w 0#32 = BitVec.ofBool (decide ((0#32 : BitVec 32).toInt ≤ w.toInt)) from rfl, decide_eq_false hn] at h1
    exact absurd h1 (by decide)
  have e2 : w.toInt < (16#32 : BitVec 32).toInt := by
    by_contra hn
    rw [show IntOp.cmpi .slt w 16#32 = BitVec.ofBool (decide (w.toInt < (16#32 : BitVec 32).toInt)) from rfl, decide_eq_false hn] at h2
    exact absurd h2 (by decide)
  have z : (0#32 : BitVec 32).toInt = 0 := by decide
  have s : (16#32 : BitVec 32).toInt = 16 := by decide
  rw [z] at e1
  rw [s] at e2
  rw [BitVec.toInt_eq_toNat_cond] at e1 e2
  have := w.isLt
  split at e1 <;> omega

/-- A value at least zero and below infinity is nonnegative and not infinite. -/
theorem weight_real (x : EReal) (h : IntOp.andi (Ideal.cmp .oge x (Ideal.ofBits .f32 0x00000000#32))
    (Ideal.cmp .olt x (Ideal.ofBits .f32 0x7F800000#32)) = 1#1) : 0 ≤ x ∧ x ≠ ⊤ := by
  have e : Ideal.ofBits .f32 0x7F800000#32 = (⊤ : EReal) := by simp [Ideal.ofBits, Ideal.ieee]
  rw [e, Ideal.ofBits_zero_f32] at h
  obtain ⟨h1, h2⟩ := IntOp.andi_eq_one.1 h
  constructor
  · by_contra hn
    rw [Ideal.cmp, decide_eq_false hn] at h1
    exact absurd h1 (by decide)
  · intro hn
    rw [Ideal.cmp, decide_eq_false (by rw [hn]; exact lt_irrefl _)] at h2
    exact absurd h2 (by decide)

/-- Under the first precondition every word of the table is the number of an expert. -/
theorem named_of_pre {F : FTy → Type} [FloatOps F] (x0 : IVec S168 32) (x1 : IVec S336 32) (x2 : FVec F S86528x1152 .f32)
    (x3 x4 : FVec F S16x1024x512 .bf16) (x5 : FVec F S16x512x1024 .bf16)
    (h : Cert.Pre_experts_named.fn (F := F) x0 x1 x2 x3 x4 x5 = fun _ => 1#1) (j : S336.Idx) : (x1 j).toNat < 16 := by
  have h0 := congrFun h (fun a : Fin 0 => a.elim0)
  have : Subsingleton Cert.Pre_experts_named.S_.Idx := ⟨fun a b => funext fun d : Fin 0 => d.elim0⟩
  unfold Cert.Pre_experts_named.fn at h0
  exact word_small _ (Host.reduce_andi_all _ _ _ _ _ h0 j)

/-- Under the second precondition every word of the table is the number of an expert, and the two columns of weights hold
    nonnegative real numbers. -/
theorem reals_of_pre (x0 : S168.Idx → BitVec 32) (x1 : S336.Idx → BitVec 32) (x2 : S86528x1152.Idx → EReal)
    (x3 x4 : S16x1024x512.Idx → EReal) (x5 : S16x512x1024.Idx → EReal)
    (h : Cert.Pre_experts_named_weights_real.fn (F := Ideal) x0 x1 x2 x3 x4 x5 = fun _ => 1#1) :
    (∀ j, (x1 j).toNat < 16) ∧ ∀ (R : Fin 86016) (l : Fin 2), 0 ≤ x2 (ix2 ⟨R.val, by omega⟩ ⟨1024 + l.val, by omega⟩) ∧ x2 (ix2 ⟨R.val, by omega⟩ ⟨1024 + l.val, by omega⟩) ≠ ⊤ := by
  have h0 := congrFun h (fun a : Fin 0 => a.elim0)
  have : Subsingleton Cert.Pre_experts_named_weights_real.S_.Idx := ⟨fun a b => funext fun d : Fin 0 => d.elim0⟩
  unfold Cert.Pre_experts_named_weights_real.fn at h0
  obtain ⟨ha, hb⟩ := IntOp.andi_eq_one.1 h0
  refine ⟨fun j => word_small _ (Host.reduce_andi_all _ _ _ _ _ ha j), fun R l => ?_⟩
  have hl := weight_real _ (Host.reduce_andi_all _ _ _ _ _ hb (ix2 R l))
  dsimp only at hl
  rwa [show extractStridedSlice Cert.Pre_experts_named_weights_real.S86016x2 ![0, 1024] x2 _ (ix2 R l) = x2 (ix2 ⟨R.val, by omega⟩ ⟨1024 + l.val, by omega⟩)
    from extractStridedSlice_apply ![0, 1024] x2 _ (ix2 R l) (ix2 ⟨R.val, by omega⟩ ⟨1024 + l.val, by omega⟩) (fun a => match a with
      | ⟨0, _⟩ => by show R.val = 0 + R.val; omega
      | ⟨1, _⟩ => by show 1024 + l.val = 1024 + l.val; omega)] at hl

end Cert.Experts

end
-- ==== Proof.ExpertsKit.lean ====
/- The experts' feed-forward as a program: what its run is stated over — the tables the index maps read, each window's
   block at a point, and what the body leaves in the output window's staging buffer. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Value
public import Idealize.ShloMosaic.Lib.VecWindow
public import Idealize.ShloMosaic.Lib.Tactic
public import Idealize.ShloMosaic.Lib.WordCmp

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ)

/-- The arrays as the region finds them: as launched, the region being all of `main`. -/
abbrev entry (c : Dev nD) (b : Ref sig .tc) : Buf (Elt F) ((c : Thread nD τ).loc b) := m ((c : Thread nD τ).loc b)

set_option maxHeartbeats 800000 in
/-- `main` runs to the region with the arrays as launched. -/
theorem main_enters (𝒱₀ : Variants) : Pipeline.HMainP (Ix := Unit) (Name := ℕ) (U := UR sig nD τ) (Lvl := ℕ) pcfgs 0 defs₀ 𝒱₀ m (main (F := F)) (entry m) :=
  Pipeline.hmainP_region pcfgs 0 defs₀ 𝒱₀ m main fun c => (main_chain c).trans rfl

/-- The two tables' contents. -/
def tables : pre0.Contents (Elt F) := fun j => entry m (0 : Dev nD) (pre0.ref j)

/-- Every device's copy of a table is the table. -/
theorem entry_tables (c : Dev nD) (j : Fin 2) : entry m c (pre0.ref j) = tables m j := by
  obtain rfl : c = 0 := Subsingleton.elim _ _
  rfl

/-- Every word of the experts' table names an expert, in the form the pipeline asks for. -/
abbrev Named : Prop := ok0 (F := F) (tables m)

/-- The tables as contents the pipeline accepts. -/
abbrev accepted (hN : Named m) : (pcfg0 (F := F)).Adm := ⟨tables m, hN⟩
/-- The call's pipeline at the tables. -/
abbrev pipe (hN : Named m) : Pipeline.Cfg sig Λ₀ := cfg0 (accepted m hN)

/-- The table of class words. -/
abbrev classes : Memref sig .tc .smem S168 .i32 := Memref.whole main_arg0
/-- The table of experts, a tile's first and then its second. -/
abbrev experts : Memref sig .tc .smem S336 .i32 := Memref.whole main_arg1

/-- A table's contents on a core. -/
abbrev TabBuf (c : Dev nD) {S : Shape} {e : EltTy} (M : Memref sig .tc .smem S e) : Type := Buf (Elt F) (M.view.loc (c : Thread nD τ))
/-- A table held on a core, at half the full share. -/
abbrev tabHeld (c : Dev nD) {S : Shape} {e : EltTy} (M : Memref sig .tc .smem S e) (f : TabBuf (F := F) c M) : sProp 𝕄 :=
  M.view.loc (c : Thread nD τ) ↦{fullShare.right} f

/-- The launch holds both tables. -/
theorem tables_held (c : Dev nD) : (Pipeline.ΦT pre0 (tables m) c : sProp 𝕄) = iprop(tabHeld c classes (tables m 0) ∗ tabHeld c experts (tables m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at a point, read off its array as launched. -/
def block (hN : Named m) (c : Dev nD) (w : Fin (pipe m hN).W) (t : Fin (pipe m hN).N) : (((pipe m hN).win w).xblock ((pipe m hN).grid.coords t)).Idx → Elt F ((pipe m hN).win w).elt :=
  (((pipe m hN).win w).blk t).view.read (Elt F) (entry m c (Pipeline.arrRef spec0 w))

/-- The 1024 lanes of a block of tokens that the experts read. -/
abbrev lanes (x : Vec F S512x1152 .f32) : Vec F S512x1024 .f32 :=
  View.ld x (Rect.unit (s := S512x1152) ![0, 0] S512x1024.size inb_S512x1152_S512x1024_0_0)
/-- The lane of a block that holds the first weights. -/
abbrev wt1 (x : Vec F S512x1152 .f32) : Vec F S512x1 .f32 :=
  View.ld x (Rect.unit (s := S512x1152) ![0, 1024] S512x1.size inb_S512x1152_S512x1_0_1024)
/-- The lane of a block that holds the second weights. -/
abbrev wt2 (x : Vec F S512x1152 .f32) : Vec F S512x1 .f32 :=
  View.ld x (Rect.unit (s := S512x1152) ![0, 1025] S512x1.size inb_S512x1152_S512x1_0_1025)

/-- What the body leaves in the output's buffer: at a tile of a class, both experts' terms added; elsewhere zeros. -/
def tileOut (w : BitVec 32) (x0 : Vec F S512x1152 .f32) (x1 x2 : Vec F S1x1024x512 .bf16) (x3 : Vec F S1x512x1024 .bf16)
    (x4 x5 : Vec F S1x1024x512 .bf16) (x6 : Vec F S1x512x1024 .bf16) : Vec F S512x1024 .f32 :=
  if k0_cond1 w = 1#1 then k0_pay1 (k0_pay4 (lanes x0) x1 x2 (wt1 x0) x3) (k0_pay5 (lanes x0) x4 x5 (wt2 x0)) x6 else k0_pay2

/-- The two branches of the body exclude each other, and one of them runs. -/
theorem cond2_iff (w : BitVec 32) : k0_cond2 w = 1#1 ↔ ¬ k0_cond1 w = 1#1 := by
  unfold k0_cond1 k0_cond2
  dsimp only
  rcases BitVec.eq_zero_or_eq_one (Scalar.cmpi .slt w 24#32) with h | h <;> rw [h] <;> decide

/-- The class word a point's body loads. -/
def classWord (T : pre0.Contents (Elt F)) (i : grid0.Coords) : BitVec 32 := T.atD 0 (k0_off2 i)

/-- The zero offset, in two dimensions. -/
theorem hz2 : (![0, 0] : Fin 2 → Nat) = fun _ => 0 := funext fun a => by fin_cases a <;> rfl
/-- The zero offset, in three dimensions. -/
theorem hz3 : (![0, 0, 0] : Fin 3 → Nat) = fun _ => 0 := funext fun a => by fin_cases a <;> rfl

/-- The one-word load at the point's offset reads that word. -/
theorem word_eq (T : pre0.Contents (Elt F)) (i : grid0.Coords) :
    View.readAt (Elt F) classes.view (Rect.unit (s := S168) (k0_off2 i) S1.size (k0_off2_inb i)).toLoadRect (T 0) (Shape.Idx.first numel1_S1.symm.le) = T.atD 0 (k0_off2 i) := by
  have h : ∀ a, k0_off2 i a + 1 ≤ (pre0.ref 0).ty.shape.size a := fun a => by
    fin_cases a
    exact k0_off2_inb i 0
  refine Eq.trans ?_ (dif_pos h).symm
  show T 0 _ = T 0 _
  refine congrArg (T 0) (funext fun a => Fin.ext ?_)
  fin_cases a
  show k0_off2 i 0 + 1 * _ = k0_off2 i 0
  rfl

set_option maxHeartbeats 1000000 in
/-- The body at a point, on any whole staging buffers: the inputs' buffers and the tables come back as they were, the
    output's holds `tileOut`. -/
theorem body_runs (c : Dev nD) (i : grid0.Coords) (arg3 : Memref sig .tc .vmem S512x1152 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S512x1024 .f32) (harg10 : arg10.IsWhole)
    (x0 : Vec F S512x1152 .f32) (x1 x2 : Vec F S1x1024x512 .bf16) (x3 : Vec F S1x512x1024 .bf16) (x4 x5 : Vec F S1x1024x512 .bf16) (x6 : Vec F S1x512x1024 .bf16) (T : pre0.Contents (Elt F)) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ (∃ d, owns (c : Thread nD τ) arg10 fullShare d)
        ∗ tabHeld c classes (T 0) ∗ tabHeld c experts (T 1)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare (tileOut (classWord T i) x0 x1 x2 x3 x4 x5 x6)
            ∗ tabHeld c classes (T 0) ∗ tabHeld c experts (T 1)) -∗ K ⟨⟩))
      ⊢ wp frame (wpE (defs₀ (F := F)) Variants.none c none) E (cc0_moe_ffn i classes (Memref.isWhole_whole _) experts (Memref.isWhole_whole _) arg3 harg3 arg4 harg4 arg5 harg5 arg6 harg6 arg7 harg7 arg8 harg8 arg9 harg9 arg10 harg10) K := by
  simp only [cc0_moe_ffn_eq_skeleton]; unfold cc0_moe_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr [H7]
    swap
    · iexact H7
    ipureintro
    have hw : body_runs.sl.r i T = classWord T i := by
      unfold body_runs.sl.r classWord
      exact word_eq T i
    unfold tileOut
    by_cases h : k0_cond1 (classWord T i) = 1#1
    · have h2 : ¬ k0_cond2 (classWord T i) = 1#1 := fun e => (cond2_iff _).1 e h
      rw [hw, dif_neg h2, dif_pos h, if_pos h]
      unfold body_runs.sl.r_1 body_runs.sl.r_2
      simp only [View.readAt_eq_ld, hf0, hf1, hf2, hf3, hf4, hf5, hf6,
        View.ld_unit_zero (S := S1x1024x512) hz3, View.ld_unit_zero (S := S1x512x1024) hz3]
      exact View.read_writes_full (s := S512x1024) _ _ inb_S512x1024_S512x1024_0_0 _ []
    · have h2 : k0_cond2 (classWord T i) = 1#1 := (cond2_iff _).2 h
      rw [hw, dif_pos h2, if_neg h]
      exact View.read_writes_full (s := S512x1024) _ _ inb_S512x1024_S512x1024_0_0 _ []
  isplitl [HT0]; · iexact HT0
  iexact HT1

/-! ## The pipeline's proof data -/

variable (ρ : Dev nD → PrngReg)

/-- What the output's buffer holds after the body at a point: `tileOut` of the point's blocks. -/
def tileAt (hN : Named m) (c : Dev nD) (t : Fin (pipe m hN).N) : Vec F S512x1024 .f32 :=
  tileOut (classWord (tables m) (grid0.coords t)) (block m hN c 0 t) (block m hN c 1 t) (block m hN c 2 t) (block m hN c 3 t)
    (block m hN c 4 t) (block m hN c 5 t) (block m hN c 6 t)

/-- The proof data: the arrays as launched; each input's buffer at its block, the output's at `tileAt`; nothing owed. -/
def dat (hN : Named m) (_ : Fin 1) (c : Dev nD) : Dat τ (Elt F) Unit ℕ (UR sig nD τ) ℕ (pipe m hN) c where
  A w := entry m c (Pipeline.arrRef spec0 w)
  after w t := match w with
    | ⟨0, _⟩ => block m hN c 0 t
    | ⟨1, _⟩ => block m hN c 1 t
    | ⟨2, _⟩ => block m hN c 2 t
    | ⟨3, _⟩ => block m hN c 3 t
    | ⟨4, _⟩ => block m hN c 4 t
    | ⟨5, _⟩ => block m hN c 5 t
    | ⟨6, _⟩ => block m hN c 6 t
    | ⟨7, _⟩ => tileAt m hN c t
  Φ _ := iprop(Pipeline.ΦA spec0 c ∗ Pipeline.ΦT pre0 (tables m) c)
  q w := Pipeline.shareOf spec0 w
  owed _ := 0

/-- The array a window starts from is the argument as launched. -/
theorem dat_arr (hN : Named m) (c : Dev nD) (w : Fin (pipe m hN).W) : (dat m hN 0 c).A w = entry m c (Pipeline.arrRef spec0 w) := by
  dsimp only [dat]

/-! An input's buffer holds its block when the body starts, fetched at that point or at an earlier one. -/

/-- Before a point runs, window 0's buffer holds the point's block. -/
theorem before_0 (hN : Named m) (c : Dev nD) (t : Fin (pipe m hN).N) (d) : (dat m hN 0 c).before 0 t d = block m hN c 0 t :=
  ((dat m hN 0 c).before_in_eq_fetched 0 rfl (fun _ => rfl) (fun _ _ _ => rfl) (fun _ => rfl) t d).trans rfl
/-- Before a point runs, window 1's buffer holds the point's block. -/
theorem before_1 (hN : Named m) (c : Dev nD) (t : Fin (pipe m hN).N) (d) : (dat m hN 0 c).before 1 t d = block m hN c 1 t :=
  ((dat m hN 0 c).before_in_eq_fetched 1 rfl (fun _ => rfl) (fun _ _ _ => rfl) (fun _ => rfl) t d).trans rfl
/-- Before a point runs, window 2's buffer holds the point's block. -/
theorem before_2 (hN : Named m) (c : Dev nD) (t : Fin (pipe m hN).N) (d) : (dat m hN 0 c).before 2 t d = block m hN c 2 t :=
  ((dat m hN 0 c).before_in_eq_fetched 2 rfl (fun _ => rfl) (fun _ _ _ => rfl) (fun _ => rfl) t d).trans rfl
/-- Before a point runs, window 3's buffer holds the point's block. -/
theorem before_3 (hN : Named m) (c : Dev nD) (t : Fin (pipe m hN).N) (d) : (dat m hN 0 c).before 3 t d = block m hN c 3 t :=
  ((dat m hN 0 c).before_in_eq_fetched 3 rfl (fun _ => rfl) (fun _ _ _ => rfl) (fun _ => rfl) t d).trans rfl
/-- Before a point runs, window 4's buffer holds the point's block. -/
theorem before_4 (hN : Named m) (c : Dev nD) (t : Fin (pipe m hN).N) (d) : (dat m hN 0 c).before 4 t d = block m hN c 4 t :=
  ((dat m hN 0 c).before_in_eq_fetched 4 rfl (fun _ => rfl) (fun _ _ _ => rfl) (fun _ => rfl) t d).trans rfl
/-- Before a point runs, window 5's buffer holds the point's block. -/
theorem before_5 (hN : Named m) (c : Dev nD) (t : Fin (pipe m hN).N) (d) : (dat m hN 0 c).before 5 t d = block m hN c 5 t :=
  ((dat m hN 0 c).before_in_eq_fetched 5 rfl (fun _ => rfl) (fun _ _ _ => rfl) (fun _ => rfl) t d).trans rfl
/-- Before a point runs, window 6's buffer holds the point's block. -/
theorem before_6 (hN : Named m) (c : Dev nD) (t : Fin (pipe m hN).N) (d) : (dat m hN 0 c).before 6 t d = block m hN c 6 t :=
  ((dat m hN 0 c).before_in_eq_fetched 6 rfl (fun _ => rfl) (fun _ _ _ => rfl) (fun _ => rfl) t d).trans rfl

/-- The body's table entry at a point's buffers is the body there. -/
theorem row (hN : Named m) (t : Fin (pipe m hN).N) :
    defs₀ (F := F) .tc (pipe m hN).body ((pipe m hN).bodyArgs t ((pipe m hN).slots t))
      = cc0_moe_ffn (grid0.coords t) classes (Memref.isWhole_whole _) experts (Memref.isWhole_whole _)
          (spec0_0.stage ((pipe m hN).slots t 0)) (hstage0_0 (((pipe m hN).slots t 0).cast nbuf0_0))
          (spec0_1.stage ((pipe m hN).slots t 1)) (hstage0_1 (((pipe m hN).slots t 1).cast nbuf0_1))
          (spec0_2.stage ((pipe m hN).slots t 2)) (hstage0_2 (((pipe m hN).slots t 2).cast nbuf0_2))
          (spec0_3.stage ((pipe m hN).slots t 3)) (hstage0_3 (((pipe m hN).slots t 3).cast nbuf0_3))
          (spec0_4.stage ((pipe m hN).slots t 4)) (hstage0_4 (((pipe m hN).slots t 4).cast nbuf0_4))
          (spec0_5.stage ((pipe m hN).slots t 5)) (hstage0_5 (((pipe m hN).slots t 5).cast nbuf0_5))
          (spec0_6.stage ((pipe m hN).slots t 6)) (hstage0_6 (((pipe m hN).slots t 6).cast nbuf0_6))
          (spec0_7.stage ((pipe m hN).slots t 7)) (hstage0_7 (((pipe m hN).slots t 7).cast nbuf0_7)) := by
  unfold defs₀
  rw [Defs.onTc_tc]

/-- The output's buffer is stored into at every point: one of the two branches runs. -/
theorem never_idle (hN : Named m) (t : Fin (pipe m hN).N) : (pipe m hN).idle 7 ((pipe m hN).grid.coords t) = false := by
  show (!(k0_cond1 (classWord (tables m) (grid0.coords t)) == 1#1) && !(k0_cond2 (classWord (tables m) (grid0.coords t)) == 1#1)) = false
  by_cases h : k0_cond1 (classWord (tables m) (grid0.coords t)) = 1#1
  · rw [h]; rfl
  · rw [(cond2_iff _).2 h]; exact Bool.and_false _

/-- What the body is handed at a point, and what it hands back. -/
def handed (hN : Named m) (c : Dev nD) (t : Fin (pipe m hN).N) : sProp 𝕄 :=
  iprop((dat m hN 0 c).Φ t.castSucc ∗ (dat m hN 0 c).owesAt () t.castSucc
    ∗ (∃ d, owns (c : Thread nD τ) (spec0_0.stage ((pipe m hN).slots t 0)) fullShare ((dat m hN 0 c).before 0 t d))
    ∗ (∃ d, owns (c : Thread nD τ) (spec0_1.stage ((pipe m hN).slots t 1)) fullShare ((dat m hN 0 c).before 1 t d))
    ∗ (∃ d, owns (c : Thread nD τ) (spec0_2.stage ((pipe m hN).slots t 2)) fullShare ((dat m hN 0 c).before 2 t d))
    ∗ (∃ d, owns (c : Thread nD τ) (spec0_3.stage ((pipe m hN).slots t 3)) fullShare ((dat m hN 0 c).before 3 t d))
    ∗ (∃ d, owns (c : Thread nD τ) (spec0_4.stage ((pipe m hN).slots t 4)) fullShare ((dat m hN 0 c).before 4 t d))
    ∗ (∃ d, owns (c : Thread nD τ) (spec0_5.stage ((pipe m hN).slots t 5)) fullShare ((dat m hN 0 c).before 5 t d))
    ∗ (∃ d, owns (c : Thread nD τ) (spec0_6.stage ((pipe m hN).slots t 6)) fullShare ((dat m hN 0 c).before 6 t d))
    ∗ (∃ d, owns (c : Thread nD τ) (spec0_7.stage ((pipe m hN).slots t 7)) fullShare ((dat m hN 0 c).before 7 t d)))

/-- What a point's body gives back. -/
def returned (hN : Named m) (c : Dev nD) (t : Fin (pipe m hN).N) : sProp 𝕄 :=
  iprop((dat m hN 0 c).Φ t.succ ∗ (dat m hN 0 c).owesAt () t.succ
    ∗ owns (c : Thread nD τ) (spec0_0.stage ((pipe m hN).slots t 0)) fullShare (block m hN c 0 t)
    ∗ owns (c : Thread nD τ) (spec0_1.stage ((pipe m hN).slots t 1)) fullShare (block m hN c 1 t)
    ∗ owns (c : Thread nD τ) (spec0_2.stage ((pipe m hN).slots t 2)) fullShare (block m hN c 2 t)
    ∗ owns (c : Thread nD τ) (spec0_3.stage ((pipe m hN).slots t 3)) fullShare (block m hN c 3 t)
    ∗ owns (c : Thread nD τ) (spec0_4.stage ((pipe m hN).slots t 4)) fullShare (block m hN c 4 t)
    ∗ owns (c : Thread nD τ) (spec0_5.stage ((pipe m hN).slots t 5)) fullShare (block m hN c 5 t)
    ∗ owns (c : Thread nD τ) (spec0_6.stage ((pipe m hN).slots t 6)) fullShare (block m hN c 6 t)
    ∗ owns (c : Thread nD τ) (spec0_7.stage ((pipe m hN).slots t 7)) fullShare (tileAt m hN c t))

set_option maxHeartbeats 800000 in
/-- The body at a point, from what it is handed to what it hands back. -/
theorem body_sound (hN : Named m) (c : Dev nD) (t : Fin (pipe m hN).N) :
    handed m hN c t ⊢ wp frame (wpE (defs₀ (F := F)) Variants.none c none) Set.univ
      (defs₀ (F := F) .tc (pipe m hN).body ((pipe m hN).bodyArgs t ((pipe m hN).slots t))) (fun _ => returned m hN c t) := by
  rw [row]
  unfold handed returned
  simp only [before_0, before_1, before_2, before_3, before_4, before_5, before_6]
  rw [show (dat m hN 0 c).Φ t.succ = (dat m hN 0 c).Φ t.castSucc from rfl,
    show (dat m hN 0 c).owesAt () t.succ = (dat m hN 0 c).owesAt () t.castSucc from rfl,
    show (dat m hN 0 c).Φ t.castSucc = iprop(Pipeline.ΦA spec0 c ∗ Pipeline.ΦT pre0 (tables m) c) from rfl, tables_held]
  unfold tileAt
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c (grid0.coords t) _ _ _ _ _ _ _ _ _ _ _ _ _ _ _ _ (block m hN c 0 t) (block m hN c 1 t) (block m hN c 2 t)
    (block m hN c 3 t) (block m hN c 4 t) (block m hN c 5 t) (block m hN c 6 t) (tables m) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  isplitl [HT1]; · iexact HT1
  iintro ⟨H0, H1, H2, H3, H4, H5, H6, H7, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's obligation on the body, at every point. -/
theorem body_obligation (hN : Named m) (c : Dev nD) : BodyObligation (dat (F := F) m hN 0 c) (defs₀ (F := F)) Variants.none () Set.univ := fun t => by
  rw [bigSep_W0, bigSep_W0]
  refine triple_restated (body_sound m hN c t) rfl .rfl fun _ => ?_
  rw [show (pipe m hN).idle (7 : Fin 8) ((pipe m hN).grid.coords t) = false from never_idle m hN t]
  exact .rfl

/-! ## The run -/

set_option backward.isDefEq.respectTransparency.types false in
/-- Every run of `main` from zero counters terminates, with the pipeline's arrays at what the proof data say, every other
    array as launched, and the counters at zero. -/
theorem main_runs (hN : Named m) : θ_run defs (onTc (τ := τ) (main (F := F))) (s₀ m ρ)
    (fun r => (Pipeline.FramePost (Pipeline.pin pcfgs fun _ => accepted m hN) (dat m hN) 0 (entry m)) r ∧ r.2.sem = fun _ => 0) :=
  Pipeline.θ_run_frameP_shared (Q' := _) pcfgs (fun _ => accepted m hN) (dat m hN) (0 : Fin 1) launch₀0 defs₀ Variants.none m ρ main
    (hbody := fun c => (body_obligation m hN c).loose) (hq := fun _ _ _ => rfl) (howed := fun _ _ => rfl) (V := entry m)
    (hmain := main_enters m Variants.none) (hA := dat_arr m hN) (hpf := entry_tables m) (hΦ := fun _ _ => rfl)

/-- The same run: the arguments as launched, the result the output window's array after the last point, counters zero. -/
theorem main_value (hN : Named m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v0) = (dat m hN 0 c).arrAt 7 (pipe m hN).N)
      ∧ r.2.sem = fun _ => 0) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      ((h.1 c).1 0).trans (((dat m hN 0 c).arrAt_in 0 rfl _).trans (dat_arr m hN c 0)),
      ((h.1 c).1 4).trans (((dat m hN 0 c).arrAt_in 4 rfl _).trans (dat_arr m hN c 4)),
      ((h.1 c).1 5).trans (((dat m hN 0 c).arrAt_in 5 rfl _).trans (dat_arr m hN c 5)),
      ((h.1 c).1 6).trans (((dat m hN 0 c).arrAt_in 6 rfl _).trans (dat_arr m hN c 6)),
      (h.1 c).1 7⟩, h.2⟩) (main_runs m ρ hN)

end Cert.Kernel2Ideal.Experts

end
-- ==== Proof.ExpertsNamed.lean ====
/- The experts' table read by the index maps: a table whose words are all below 16 gives blocks inside the weights. -/
module

public import proofs.«01_k».proof.Proof.ExpertsKit
public import Idealize.ShloMosaic.Lib.Affine
public import Idealize.ShloMosaic.Lib.ValueIdx

@[expose] public section

set_option maxRecDepth 16384

noncomputable section

namespace Cert.Kernel2Ideal.Experts

open Idealize.ShloMosaic Idealize.ShloMosaic.TcCoe Idealize.SL.Sem Idealize.ShloMosaic.ValueIdx
open Gen

variable {F : FTy → Type} [FloatOps F]

/-- The experts' table, as an array of words. -/
abbrev expertTable (T : pre0.Contents (Elt F)) : S336.Idx → BitVec 32 := T 1

/-- The expert a point's blocks of weights are of: `r = 0` the first, `r = 1` the second. -/
def expertWord (T : pre0.Contents (Elt F)) (r : Fin 2) (i : grid0.Coords) : BitVec 32 :=
  expertTable T (ix1 ⟨168 * r.val + (i 0).val, by have : (i 0).val < 168 := (i 0).isLt; omega⟩)

/-- The one-word load an index map makes reads that word. -/
theorem load_eq (T : pre0.Contents (Elt F)) (i : grid0.Coords) (r : Fin 2) :
    T.at 1 (Rect.unit (s := S336) (k0_off1 i (BitVec.ofNat 32 (168 * r.val))) S1.size (k0_off1_inb i r)) numel1_S1 = expertWord T r i := by
  unfold expertWord
  show T 1 _ = T 1 _
  refine congrArg (T 1) (funext fun a => Fin.ext ?_)
  fin_cases a
  exact (show k0_off1 i (BitVec.ofNat 32 (168 * r.val)) 0 + 1 * _ = k0_off1 i (BitVec.ofNat 32 (168 * r.val)) 0 from rfl).trans
    (congrFun (k0_off1_eq i r) 0)

/-- Window 1's block index at a point. -/
theorem transform1 (T : pre0.Contents (Elt F)) (i : grid0.Coords) : cc0_transform_1 k0_off1_inb numel1_S1 T i = ![(expertWord T 0 i).toNat, 0, 0] :=
  congrArg (fun w : BitVec 32 => ![w.toNat, 0, 0]) (load_eq T i 0)
/-- Window 2's block index at a point. -/
theorem transform2 (T : pre0.Contents (Elt F)) (i : grid0.Coords) : cc0_transform_2 k0_off1_inb numel1_S1 T i = ![(expertWord T 0 i).toNat, 0, 0] :=
  congrArg (fun w : BitVec 32 => ![w.toNat, 0, 0]) (load_eq T i 0)
/-- Window 3's block index at a point. -/
theorem transform3 (T : pre0.Contents (Elt F)) (i : grid0.Coords) : cc0_transform_3 k0_off1_inb numel1_S1 T i = ![(expertWord T 0 i).toNat, 0, 0] :=
  congrArg (fun w : BitVec 32 => ![w.toNat, 0, 0]) (load_eq T i 0)
/-- Window 4's block index at a point. -/
theorem transform4 (T : pre0.Contents (Elt F)) (i : grid0.Coords) : cc0_transform_4 k0_off1_inb numel1_S1 T i = ![(expertWord T 1 i).toNat, 0, 0] :=
  congrArg (fun w : BitVec 32 => ![w.toNat, 0, 0]) (load_eq T i 1)
/-- Window 5's block index at a point. -/
theorem transform5 (T : pre0.Contents (Elt F)) (i : grid0.Coords) : cc0_transform_5 k0_off1_inb numel1_S1 T i = ![(expertWord T 1 i).toNat, 0, 0] :=
  congrArg (fun w : BitVec 32 => ![w.toNat, 0, 0]) (load_eq T i 1)
/-- Window 6's block index at a point. -/
theorem transform6 (T : pre0.Contents (Elt F)) (i : grid0.Coords) : cc0_transform_6 k0_off1_inb numel1_S1 T i = ![(expertWord T 1 i).toNat, 0, 0] :=
  congrArg (fun w : BitVec 32 => ![w.toNat, 0, 0]) (load_eq T i 1)

/-- An expert's block of an up projection, or of a down projection, is inside its array. -/
theorem inside_up (e : Nat) (he : e < 16) : ∀ a, ((![e, 0, 0] : Fin 3 → Nat) a + 1) * S1x1024x512.size a ≤ S16x1024x512.size a
  | ⟨0, _⟩ => by show (e + 1) * 1 ≤ 16; omega
  | ⟨1, _⟩ => by show (0 + 1) * 1024 ≤ 1024; omega
  | ⟨2, _⟩ => by show (0 + 1) * 512 ≤ 512; omega
/-- An expert's block of a down projection is inside its array. -/
theorem inside_down (e : Nat) (he : e < 16) : ∀ a, ((![e, 0, 0] : Fin 3 → Nat) a + 1) * S1x512x1024.size a ≤ S16x512x1024.size a
  | ⟨0, _⟩ => by show (e + 1) * 1 ≤ 16; omega
  | ⟨1, _⟩ => by show (0 + 1) * 512 ≤ 512; omega
  | ⟨2, _⟩ => by show (0 + 1) * 1024 ≤ 1024; omega

/-- A table of words below 16 is one the pipeline accepts. -/
theorem named_of (m : (ℓ : Loc nD τ sig) → Buf (Elt F) ℓ) (h : ∀ j, (expertTable (tables m) j).toNat < 16) : Named m := by
  have up : ∀ (ix : grid0.Coords → Fin 3 → Nat) (r : Fin 2), (∀ i, ix i = ![(expertWord (tables m) r i).toNat, 0, 0]) → ∀ i : grid0.Coords,
      ∃ h : (∀ a, (ix i a + 1) * S1x1024x512.size a ≤ S16x1024x512.size a), EltTy.bits .bf16 = 32
        ∨ (Rect.block (s := S16x1024x512) S1x1024x512.size (ix i) h).WholeWords (EltTy.packing .bf16) := fun ix r e i =>
    ⟨fun a => by rw [e]; exact inside_up _ (h _) a, .inr (Affine.block_words_dvd (of_decide_eq_true rfl) (by decide))⟩
  have down : ∀ (ix : grid0.Coords → Fin 3 → Nat) (r : Fin 2), (∀ i, ix i = ![(expertWord (tables m) r i).toNat, 0, 0]) → ∀ i : grid0.Coords,
      ∃ h : (∀ a, (ix i a + 1) * S1x512x1024.size a ≤ S16x512x1024.size a), EltTy.bits .bf16 = 32
        ∨ (Rect.block (s := S16x512x1024) S1x512x1024.size (ix i) h).WholeWords (EltTy.packing .bf16) := fun ix r e i =>
    ⟨fun a => by rw [e]; exact inside_down _ (h _) a, .inr (Affine.block_words_dvd (of_decide_eq_true rfl) (by decide))⟩
  exact ⟨up _ 0 (transform1 _), up _ 0 (transform2 _), down _ 0 (transform3 _), up _ 1 (transform4 _), up _ 1 (transform5 _), down _ 1 (transform6 _)⟩

end Cert.Kernel2Ideal.Experts

end
-- ==== Proof.ExpertsTile.lean ====
/-
  What the experts' body leaves at a row and lane over the extended reals: two experts' outputs for the row's token, each
  weighted, added; zero on a tile of no class.
-/
module

public import proofs.«01_k».proof.Proof.ExpertsNamed
public import Idealize.ShloMosaic.Lib.KernelVsHost

@[expose] public section

noncomputable section

namespace Cert.Kernel2Ideal.Experts

open Cert.Kernel2Ideal Cert.Kernel2Ideal.Gen Idealize.ShloMosaic Idealize.ShloMosaic.TcCoe Idealize.SL.Sem
open Idealize.ShloMosaic.ValueIdx

/-- A token's projection onto one hidden unit. -/
def project (x : Fin 1024 → EReal) (w : Fin 1024 → Fin 512 → EReal) (f : Fin 512) : EReal := ∑ k, x k * w k f

/-- A token's hidden unit: the gate's projection times its logistic, times the other projection. -/
def hidden (x : Fin 1024 → EReal) (wg wu : Fin 1024 → Fin 512 → EReal) (f : Fin 512) : EReal :=
  project x wg f * Ideal.logistic (project x wg f) * project x wu f

/-- One lane of an expert's output, the hidden units weighted before the down projection. -/
def expertOut (x : Fin 1024 → EReal) (wg wu : Fin 1024 → Fin 512 → EReal) (wd : Fin 512 → EReal) (w : EReal) : EReal :=
  ∑ f, hidden x wg wu f * w * wd f

/-- A projection to the hidden units at a row and unit. -/
theorem up_apply (x : FVec Ideal S512x1024 .bf16) (w : FVec Ideal S1024x512 .bf16) (r f : Fin 512) :
    matmul dot_S512x1024_S1024x512_S512x512_1_0_0_1_n_n none x w (constant S512x512 .f32 0x00000000#32) (ix2 r f)
      = ∑ k : Fin 1024, x (ix2 r k) * w (ix2 k f) := by
  simp only [matmul]
  rw [Ideal.matmul_apply, constant_apply, Ideal.ofBits_zero_f32, zero_add,
    ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  congr 1
  · refine congrArg x (Shape.idx_ext₂ ?_ ?_)
    · rfl
    · exact (DotDims.lhsIdx_val_of_single _ rfl _ _).trans hk
  · refine congrArg w (Shape.idx_ext₂ ?_ ?_)
    · exact (DotDims.rhsIdx_val_of_single _ rfl _ _).trans hk
    · rfl

/-- The down projection at a row and lane. -/
theorem down_apply (h : FVec Ideal S512x512 .bf16) (w : FVec Ideal S512x1024 .bf16) (r : Fin 512) (l : Fin 1024) :
    matmul dot_S512x512_S512x1024_S512x1024_1_0_0_1_n_n none h w (constant S512x1024 .f32 0x00000000#32) (ix2 r l)
      = ∑ f : Fin 512, h (ix2 r f) * w (ix2 f l) := by
  simp only [matmul]
  rw [Ideal.matmul_apply, constant_apply, Ideal.ofBits_zero_f32, zero_add,
    ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  congr 1
  · refine congrArg h (Shape.idx_ext₂ ?_ ?_)
    · rfl
    · exact (DotDims.lhsIdx_val_of_single _ rfl _ _).trans hk
  · refine congrArg w (Shape.idx_ext₂ ?_ ?_)
    · exact (DotDims.rhsIdx_val_of_single _ rfl _ _).trans hk
    · rfl

/-- A block of one expert's weights as a matrix. -/
theorem up_block (w : Vec Ideal S1x1024x512 .bf16) (k : Fin 1024) (f : Fin 512) :
    shapeCast S1024x512 w shapeCasts_S1x1024x512_S1024x512 (ix2 k f) = w (ix3 0 k f) :=
  shapeCast_apply _ _ _ _ (by
    rw [Shape.rowMajor_val_three, Shape.rowMajor_val_two]
    show ((0 : Nat) * 1024 + k.val) * 512 + f.val = k.val * 512 + f.val; omega)
/-- An expert's block of a down projection, read at an element. -/
theorem down_block (w : Vec Ideal S1x512x1024 .bf16) (f : Fin 512) (l : Fin 1024) :
    shapeCast S512x1024 w shapeCasts_S1x512x1024_S512x1024 (ix2 f l) = w (ix3 0 f l) :=
  shapeCast_apply _ _ _ _ (by
    rw [Shape.rowMajor_val_three, Shape.rowMajor_val_two]
    show ((0 : Nat) * 512 + f.val) * 1024 + l.val = f.val * 1024 + l.val; omega)

/-- A column of weights laid along the hidden units. -/
theorem weight_apply (w : Vec Ideal S512x1 .f32) (r f : Fin 512) :
    broadcastTo S512x512 w broadcasts_S512x1_S512x512 (ix2 r f) = w (ix2 r 0) := by
  refine broadcastTo_apply _ _ _ _ fun a => ?_
  match a with
  | ⟨0, _⟩ => rfl
  | ⟨1, _⟩ => rfl

/-- The hidden units the body computes at a row, weighted. -/
theorem hidden_apply (x : Vec Ideal S512x1024 .f32) (wg wu : Vec Ideal S1x1024x512 .bf16) (w : Vec Ideal S512x1 .f32) (r f : Fin 512) :
    k0_pay5 (F := Ideal) x wg wu w (ix2 r f)
      = hidden (fun k => x (ix2 r k)) (fun k f => wg (ix3 0 k f)) (fun k f => wu (ix3 0 k f)) f * w (ix2 r 0) := by
  unfold k0_pay5
  rw [truncf_apply, mulf_apply, mulf_apply, mulf_apply, weight_apply]
  show _ * Ideal.logistic _ * _ * _ = _
  rw [up_apply, up_apply]
  have e : ∀ v : Vec Ideal S1x1024x512 .bf16, ∑ k : Fin 1024, k0_pay3 (F := Ideal) x (ix2 r k) * shapeCast S1024x512 v shapeCasts_S1x1024x512_S1024x512 (ix2 k f)
      = project (fun k => x (ix2 r k)) (fun k f => v (ix3 0 k f)) f := fun v =>
    Finset.sum_congr rfl fun k _ => congrArg (x (ix2 r k) * ·) (up_block v k f)
  rw [e, e]
  rfl

/-- One expert's weighted output at a row and lane. -/
theorem first_apply (x : Vec Ideal S512x1024 .f32) (wg wu : Vec Ideal S1x1024x512 .bf16) (w : Vec Ideal S512x1 .f32)
    (wd : Vec Ideal S1x512x1024 .bf16) (r : Fin 512) (l : Fin 1024) :
    k0_pay4 (F := Ideal) x wg wu w wd (ix2 r l)
      = expertOut (fun k => x (ix2 r k)) (fun k f => wg (ix3 0 k f)) (fun k f => wu (ix3 0 k f)) (fun f => wd (ix3 0 f l)) (w (ix2 r 0)) := by
  show matmul _ none (k0_pay5 (F := Ideal) x wg wu w) _ _ _ = _
  rw [down_apply]
  refine Finset.sum_congr rfl fun f _ => ?_
  rw [hidden_apply, down_block]

/-- Both experts' weighted outputs added, at a row and lane. -/
theorem both_apply (a : FVec Ideal S512x1024 .f32) (x : Vec Ideal S512x1024 .f32) (wg wu : Vec Ideal S1x1024x512 .bf16) (w : Vec Ideal S512x1 .f32)
    (wd : Vec Ideal S1x512x1024 .bf16) (r : Fin 512) (l : Fin 1024) :
    k0_pay1 (F := Ideal) a (k0_pay5 x wg wu w) wd (ix2 r l) = a (ix2 r l)
      + expertOut (fun k => x (ix2 r k)) (fun k f => wg (ix3 0 k f)) (fun k f => wu (ix3 0 k f)) (fun f => wd (ix3 0 f l)) (w (ix2 r 0)) := by
  unfold k0_pay1
  rw [addf_apply, down_apply]
  refine congrArg _ (Finset.sum_congr rfl fun f _ => ?_)
  rw [hidden_apply, down_block]

/-- The lanes and the two weights of a block of tokens at a row. -/
theorem lanes_apply (x : Vec Ideal S512x1152 .f32) (r : Fin 512) (k : Fin 1024) : lanes (F := Ideal) x (ix2 r k) = x (ix2 r ⟨k.val, by omega⟩) :=
  congrArg x (Shape.idx_ext₂ (by show 0 + 1 * r.val = r.val; omega) (by show 0 + 1 * k.val = k.val; omega))
/-- The first weights, read at a row. -/
theorem wt1_apply (x : Vec Ideal S512x1152 .f32) (r : Fin 512) : wt1 (F := Ideal) x (ix2 r 0) = x (ix2 r 1024) :=
  congrArg x (Shape.idx_ext₂ (by show 0 + 1 * r.val = r.val; omega) rfl)
/-- The second weights, read at a row. -/
theorem wt2_apply (x : Vec Ideal S512x1152 .f32) (r : Fin 512) : wt2 (F := Ideal) x (ix2 r 0) = x (ix2 r 1025) :=
  congrArg x (Shape.idx_ext₂ (by show 0 + 1 * r.val = r.val; omega) rfl)

/-- What the body leaves at a row and lane. -/
theorem tileOut_apply (w : BitVec 32) (x0 : Vec Ideal S512x1152 .f32) (x1 x2 : Vec Ideal S1x1024x512 .bf16) (x3 : Vec Ideal S1x512x1024 .bf16)
    (x4 x5 : Vec Ideal S1x1024x512 .bf16) (x6 : Vec Ideal S1x512x1024 .bf16) (r : Fin 512) (l : Fin 1024) :
    tileOut (F := Ideal) w x0 x1 x2 x3 x4 x5 x6 (ix2 r l) = if k0_cond1 w = 1#1 then
      expertOut (fun k => x0 (ix2 r ⟨k.val, by omega⟩)) (fun k f => x1 (ix3 0 k f)) (fun k f => x2 (ix3 0 k f)) (fun f => x3 (ix3 0 f l)) (x0 (ix2 r 1024))
      + expertOut (fun k => x0 (ix2 r ⟨k.val, by omega⟩)) (fun k f => x4 (ix3 0 k f)) (fun k f => x5 (ix3 0 k f)) (fun f => x6 (ix3 0 f l)) (x0 (ix2 r 1025))
      else 0 := by
  unfold tileOut
  by_cases h : k0_cond1 w = 1#1
  · rw [if_pos h, if_pos h, both_apply, first_apply, wt1_apply, wt2_apply]
    rw [show (fun k : Fin 1024 => lanes (F := Ideal) x0 (ix2 r k)) = fun k => x0 (ix2 r ⟨k.val, by omega⟩) from
      funext fun k => lanes_apply x0 r k]
  · rw [if_neg h, if_neg h]
    exact Ideal.ofBits_zero_f32

end Cert.Kernel2Ideal.Experts

end
-- ==== Proof.ExpertsValue.lean ====
/-
  The experts' result array, as one function of the six arguments: rows `512 j` to `512 j + 511` are tile `j`'s, whose
  class is word `j` of the first table and whose two experts are words `j` and `168 + j` of the second.
-/
module

public import proofs.«01_k».proof.Proof.ExpertsTile
public import Idealize.ShloMosaic.Lib.Pipeline.Kit

@[expose] public section

set_option maxRecDepth 16384

noncomputable section

namespace Cert.Kernel2Ideal.Experts

open Cert.Kernel2Ideal Cert.Kernel2Ideal.Gen Idealize.ShloMosaic Idealize.ShloMosaic.TcCoe Idealize.SL.Sem
open Idealize.ShloMosaic.ValueIdx
open Idealize.ShloMosaic.Pipeline (Dat)

/-- The expert a word names. -/
def expertOf (w : BitVec 32) : Fin 16 := ⟨w.toNat % 16, Nat.mod_lt _ (by decide)⟩

/-- One expert's weighted output for token `R` at lane `C`. -/
def expertAt (x2 : S86528x1152.Idx → EReal) (x3 x4 : S16x1024x512.Idx → EReal) (x5 : S16x512x1024.Idx → EReal) (e : Fin 16)
    (w : EReal) (R : Fin 86016) (C : Fin 1024) : EReal :=
  expertOut (fun k => x2 (ix2 ⟨R.val, by omega⟩ ⟨k.val, by omega⟩)) (fun k f => x3 (ix3 e k f)) (fun k f => x4 (ix3 e k f))
    (fun f => x5 (ix3 e f C)) w

/-- An expert's output reads its arguments at every lane and unit, and nowhere else. -/
theorem expertOut_congr {x x' : Fin 1024 → EReal} {wg wg' wu wu' : Fin 1024 → Fin 512 → EReal} {wd wd' : Fin 512 → EReal} {w w' : EReal}
    (h0 : ∀ k, x k = x' k) (h1 : ∀ k f, wg k f = wg' k f) (h2 : ∀ k f, wu k f = wu' k f) (h3 : ∀ f, wd f = wd' f) (h4 : w = w') :
    expertOut x wg wu wd w = expertOut x' wg' wu' wd' w' := by
  rw [funext h0, funext fun k => funext (h1 k), funext fun k => funext (h2 k), funext h3, h4]

/-- The result at a row and lane. -/
def resultAt (x0 : S168.Idx → BitVec 32) (x1 : S336.Idx → BitVec 32) (x2 : S86528x1152.Idx → EReal) (x3 x4 : S16x1024x512.Idx → EReal)
    (x5 : S16x512x1024.Idx → EReal) (R : Fin 86016) (C : Fin 1024) : EReal :=
  if k0_cond1 (x0 (ix1 ⟨R.val / 512, by omega⟩)) = 1#1 then
    expertAt x2 x3 x4 x5 (expertOf (x1 (ix1 ⟨R.val / 512, by omega⟩))) (x2 (ix2 ⟨R.val, by omega⟩ 1024)) R C
    + expertAt x2 x3 x4 x5 (expertOf (x1 (ix1 ⟨168 + R.val / 512, by omega⟩))) (x2 (ix2 ⟨R.val, by omega⟩ 1025)) R C
  else 0

/-- There are 168 points. -/
theorem lt_points (t : Fin grid0.N) : t.val < 168 := lt_of_lt_of_eq t.isLt N_0

/-- The one coordinate of a point is its number. -/
theorem coord_eq : ∀ t : Fin grid0.N, (grid0.coords t 0).val = t.val := by decide +kernel

/-- The tokens' block at a point. -/
theorem token_index : ∀ t : Fin grid0.N, cc0_transform_0 (grid0.coords t) 0 = t.val ∧ cc0_transform_0 (grid0.coords t) 1 = 0 := by decide +kernel
/-- The result's block at a point. -/
theorem result_index : ∀ t : Fin grid0.N, cc0_transform_7 (grid0.coords t) 0 = t.val ∧ cc0_transform_7 (grid0.coords t) 1 = 0 := by decide +kernel

variable (m : (ℓ : Loc nD τ sig) → Buf (Elt Ideal) ℓ) (ρ : Dev nD → PrngReg) (c : Dev nD) (hN : Named m)

/-- The six arguments on a core. -/
abbrev arg0 : S168.Idx → BitVec 32 := m ((c : Thread nD τ).loc main_arg0)
/-- The table of experts. -/
abbrev arg1 : S336.Idx → BitVec 32 := m ((c : Thread nD τ).loc main_arg1)
/-- The tokens and their weights. -/
abbrev arg2 : S86528x1152.Idx → EReal := m ((c : Thread nD τ).loc main_arg2)
/-- The gate projections. -/
abbrev arg3 : S16x1024x512.Idx → EReal := m ((c : Thread nD τ).loc main_arg3)
/-- The up projections. -/
abbrev arg4 : S16x1024x512.Idx → EReal := m ((c : Thread nD τ).loc main_arg4)
/-- The down projections. -/
abbrev arg5 : S16x512x1024.Idx → EReal := m ((c : Thread nD τ).loc main_arg5)

/-- The class word of a point's tile. -/
theorem class_eq (t : Fin grid0.N) : classWord (tables m) (grid0.coords t) = arg0 m c (ix1 ⟨t.val, lt_points t⟩) := by
  have hc : entry m c (pre0.ref 0) = tables m 0 := entry_tables m c 0
  have h : ∀ a, k0_off2 (grid0.coords t) a + 1 ≤ (pre0.ref 0).ty.shape.size a := fun a => by
    fin_cases a
    exact k0_off2_inb _ 0
  unfold classWord
  refine (dif_pos h).trans ?_
  rw [← hc]
  refine congrArg (arg0 m c) (funext fun a => Fin.ext ?_)
  fin_cases a
  exact (congrFun (k0_off2_eq (grid0.coords t)) 0).trans (coord_eq t)

/-- The expert words of a point's tile. -/
theorem expert_eq (t : Fin grid0.N) (r : Fin 2) : expertWord (tables m) r (grid0.coords t)
    = arg1 m c (ix1 ⟨168 * r.val + t.val, by have := lt_points t; omega⟩) := by
  have hc : entry m c (pre0.ref 1) = tables m 1 := entry_tables m c 1
  unfold expertWord expertTable
  rw [← hc]
  refine congrArg (arg1 m c) (funext fun a => Fin.ext ?_)
  fin_cases a
  show 168 * r.val + (grid0.coords t 0).val = 168 * r.val + t.val
  rw [coord_eq]

/-- The block of tokens at a point. -/
theorem block0 (t : Fin grid0.N) (r : Fin 512) (l : Fin 1152) :
    (block m hN c 0 t : Vec Ideal S512x1152 .f32) (ix2 r l) = arg2 m c (ix2 ⟨t.val * 512 + r.val, by have := lt_points t; omega⟩ l) := by
  refine (View.read_apply _ _).trans ?_
  refine congrArg (arg2 m c) (Shape.idx_ext₂ ?_ ?_)
  · show cc0_transform_0 (grid0.coords t) 0 * 512 + 1 * r.val = t.val * 512 + r.val; rw [(token_index t).1]; omega
  · show cc0_transform_0 (grid0.coords t) 1 * 1152 + 1 * l.val = l.val; rw [(token_index t).2]; omega

variable (hx : ∀ j, (arg1 m c j).toNat < 16)

include hx in
/-- A word of the table names the expert it is the number of. -/
theorem expertOf_eq (t : Fin grid0.N) (r : Fin 2) : (expertWord (tables m) r (grid0.coords t)).toNat
    = (expertOf (arg1 m c (ix1 ⟨168 * r.val + t.val, by have := lt_points t; omega⟩))).val := by
  rw [expert_eq m c]
  exact (Nat.mod_eq_of_lt (hx _)).symm

include hx in
/-- The block of the first expert's gate at a point. -/
theorem block1 (t : Fin grid0.N) (k : Fin 1024) (f : Fin 512) : (block m hN c 1 t : Vec Ideal S1x1024x512 .bf16) (ix3 0 k f)
    = arg3 m c (ix3 (expertOf (arg1 m c (ix1 ⟨168 * 0 + t.val, by have := lt_points t; omega⟩))) k f) := by
  refine (View.read_apply _ _).trans ?_
  refine congrArg (arg3 m c) (funext fun a => Fin.ext ?_)
  have e := transform1 (tables m) (grid0.coords t)
  match a with
  | ⟨0, _⟩ => show cc0_transform_1 k0_off1_inb numel1_S1 (tables m) (grid0.coords t) 0 * 1 + 1 * 0 = _
              rw [e, mul_one]; exact expertOf_eq m c hx t 0
  | ⟨1, _⟩ => show cc0_transform_1 k0_off1_inb numel1_S1 (tables m) (grid0.coords t) 1 * 1024 + 1 * k.val = k.val
              rw [e]; show 0 * 1024 + 1 * k.val = k.val; omega
  | ⟨2, _⟩ => show cc0_transform_1 k0_off1_inb numel1_S1 (tables m) (grid0.coords t) 2 * 512 + 1 * f.val = f.val
              rw [e]; show 0 * 512 + 1 * f.val = f.val; omega

include hx in
/-- The block of the first expert's other projection. -/
theorem block2 (t : Fin grid0.N) (k : Fin 1024) (f : Fin 512) : (block m hN c 2 t : Vec Ideal S1x1024x512 .bf16) (ix3 0 k f)
    = arg4 m c (ix3 (expertOf (arg1 m c (ix1 ⟨168 * 0 + t.val, by have := lt_points t; omega⟩))) k f) := by
  refine (View.read_apply _ _).trans ?_
  refine congrArg (arg4 m c) (funext fun a => Fin.ext ?_)
  have e := transform2 (tables m) (grid0.coords t)
  match a with
  | ⟨0, _⟩ => show cc0_transform_2 k0_off1_inb numel1_S1 (tables m) (grid0.coords t) 0 * 1 + 1 * 0 = _
              rw [e, mul_one]; exact expertOf_eq m c hx t 0
  | ⟨1, _⟩ => show cc0_transform_2 k0_off1_inb numel1_S1 (tables m) (grid0.coords t) 1 * 1024 + 1 * k.val = k.val
              rw [e]; show 0 * 1024 + 1 * k.val = k.val; omega
  | ⟨2, _⟩ => show cc0_transform_2 k0_off1_inb numel1_S1 (tables m) (grid0.coords t) 2 * 512 + 1 * f.val = f.val
              rw [e]; show 0 * 512 + 1 * f.val = f.val; omega

include hx in
/-- The second expert's. -/
theorem block4 (t : Fin grid0.N) (k : Fin 1024) (f : Fin 512) : (block m hN c 4 t : Vec Ideal S1x1024x512 .bf16) (ix3 0 k f)
    = arg3 m c (ix3 (expertOf (arg1 m c (ix1 ⟨168 * 1 + t.val, by have := lt_points t; omega⟩))) k f) := by
  refine (View.read_apply _ _).trans ?_
  refine congrArg (arg3 m c) (funext fun a => Fin.ext ?_)
  have e := transform4 (tables m) (grid0.coords t)
  match a with
  | ⟨0, _⟩ => show cc0_transform_4 k0_off1_inb numel1_S1 (tables m) (grid0.coords t) 0 * 1 + 1 * 0 = _
              rw [e, mul_one]; exact expertOf_eq m c hx t 1
  | ⟨1, _⟩ => show cc0_transform_4 k0_off1_inb numel1_S1 (tables m) (grid0.coords t) 1 * 1024 + 1 * k.val = k.val
              rw [e]; show 0 * 1024 + 1 * k.val = k.val; omega
  | ⟨2, _⟩ => show cc0_transform_4 k0_off1_inb numel1_S1 (tables m) (grid0.coords t) 2 * 512 + 1 * f.val = f.val
              rw [e]; show 0 * 512 + 1 * f.val = f.val; omega

include hx in
/-- The second expert's other projection. -/
theorem block5 (t : Fin grid0.N) (k : Fin 1024) (f : Fin 512) : (block m hN c 5 t : Vec Ideal S1x1024x512 .bf16) (ix3 0 k f)
    = arg4 m c (ix3 (expertOf (arg1 m c (ix1 ⟨168 * 1 + t.val, by have := lt_points t; omega⟩))) k f) := by
  refine (View.read_apply _ _).trans ?_
  refine congrArg (arg4 m c) (funext fun a => Fin.ext ?_)
  have e := transform5 (tables m) (grid0.coords t)
  match a with
  | ⟨0, _⟩ => show cc0_transform_5 k0_off1_inb numel1_S1 (tables m) (grid0.coords t) 0 * 1 + 1 * 0 = _
              rw [e, mul_one]; exact expertOf_eq m c hx t 1
  | ⟨1, _⟩ => show cc0_transform_5 k0_off1_inb numel1_S1 (tables m) (grid0.coords t) 1 * 1024 + 1 * k.val = k.val
              rw [e]; show 0 * 1024 + 1 * k.val = k.val; omega
  | ⟨2, _⟩ => show cc0_transform_5 k0_off1_inb numel1_S1 (tables m) (grid0.coords t) 2 * 512 + 1 * f.val = f.val
              rw [e]; show 0 * 512 + 1 * f.val = f.val; omega

include hx in
/-- The first expert's down projection. -/
theorem block3 (t : Fin grid0.N) (f : Fin 512) (l : Fin 1024) : (block m hN c 3 t : Vec Ideal S1x512x1024 .bf16) (ix3 0 f l)
    = arg5 m c (ix3 (expertOf (arg1 m c (ix1 ⟨168 * 0 + t.val, by have := lt_points t; omega⟩))) f l) := by
  refine (View.read_apply _ _).trans ?_
  refine congrArg (arg5 m c) (funext fun a => Fin.ext ?_)
  have e := transform3 (tables m) (grid0.coords t)
  match a with
  | ⟨0, _⟩ => show cc0_transform_3 k0_off1_inb numel1_S1 (tables m) (grid0.coords t) 0 * 1 + 1 * 0 = _
              rw [e, mul_one]; exact expertOf_eq m c hx t 0
  | ⟨1, _⟩ => show cc0_transform_3 k0_off1_inb numel1_S1 (tables m) (grid0.coords t) 1 * 512 + 1 * f.val = f.val
              rw [e]; show 0 * 512 + 1 * f.val = f.val; omega
  | ⟨2, _⟩ => show cc0_transform_3 k0_off1_inb numel1_S1 (tables m) (grid0.coords t) 2 * 1024 + 1 * l.val = l.val
              rw [e]; show 0 * 1024 + 1 * l.val = l.val; omega

include hx in
/-- The second expert's down projection. -/
theorem block6 (t : Fin grid0.N) (f : Fin 512) (l : Fin 1024) : (block m hN c 6 t : Vec Ideal S1x512x1024 .bf16) (ix3 0 f l)
    = arg5 m c (ix3 (expertOf (arg1 m c (ix1 ⟨168 * 1 + t.val, by have := lt_points t; omega⟩))) f l) := by
  refine (View.read_apply _ _).trans ?_
  refine congrArg (arg5 m c) (funext fun a => Fin.ext ?_)
  have e := transform6 (tables m) (grid0.coords t)
  match a with
  | ⟨0, _⟩ => show cc0_transform_6 k0_off1_inb numel1_S1 (tables m) (grid0.coords t) 0 * 1 + 1 * 0 = _
              rw [e, mul_one]; exact expertOf_eq m c hx t 1
  | ⟨1, _⟩ => show cc0_transform_6 k0_off1_inb numel1_S1 (tables m) (grid0.coords t) 1 * 512 + 1 * f.val = f.val
              rw [e]; show 0 * 512 + 1 * f.val = f.val; omega
  | ⟨2, _⟩ => show cc0_transform_6 k0_off1_inb numel1_S1 (tables m) (grid0.coords t) 2 * 1024 + 1 * l.val = l.val
              rw [e]; show 0 * 1024 + 1 * l.val = l.val; omega

include hx in
/-- What a point's body leaves at a row and lane is the result at the row and lane it is written to. -/
theorem tileAt_apply (t : Fin grid0.N) (r : Fin 512) (l : Fin 1024) :
    tileAt m hN c t (ix2 r l) = resultAt (arg0 m c) (arg1 m c) (arg2 m c) (arg3 m c) (arg4 m c) (arg5 m c)
      ⟨t.val * 512 + r.val, by have := lt_points t; omega⟩ l := by
  have ht := lt_points t
  have hr := r.isLt
  unfold tileAt
  refine (tileOut_apply _ _ _ _ _ _ _ _ r l).trans ?_
  unfold resultAt expertAt
  have et : (⟨(t.val * 512 + r.val) / 512, by omega⟩ : Fin 168) = ⟨t.val, ht⟩ := Fin.ext (by
    show (t.val * 512 + r.val) / 512 = t.val; omega)
  have e0 : (⟨168 * 0 + t.val, by omega⟩ : Fin 336) = ⟨(t.val * 512 + r.val) / 512, by omega⟩ := Fin.ext (by
    show 168 * 0 + t.val = (t.val * 512 + r.val) / 512; omega)
  have e1 : (⟨168 * 1 + t.val, by omega⟩ : Fin 336) = ⟨168 + (t.val * 512 + r.val) / 512, by omega⟩ := Fin.ext (by
    show 168 * 1 + t.val = 168 + (t.val * 512 + r.val) / 512; omega)
  rw [class_eq m c, et, ← e0, ← e1]
  refine if_congr Iff.rfl (congrArg₂ (fun a b : EReal => a + b) ?_ ?_) rfl
  · refine expertOut_congr (fun k => block0 m c hN t r _) (fun k f => block1 m c hN hx t k f) (fun k f => block2 m c hN hx t k f)
      (fun f => block3 m c hN hx t f l) (block0 m c hN t r _)
  · exact expertOut_congr (fun k => block0 m c hN t r _) (fun k f => block4 m c hN hx t k f) (fun k f => block5 m c hN hx t k f)
      (fun f => block6 m c hN hx t f l) (block0 m c hN t r _)

/-- The result, as contents of the result array. -/
def result : Buf (Elt Ideal) ((c : Thread nD τ).loc main_v0) := fun j : S86016x1024.Idx =>
  resultAt (arg0 m c) (arg1 m c) (arg2 m c) (arg3 m c) (arg4 m c) (arg5 m c) (j 0) (j 1)

include hx in
/-- What each point writes back is the result read through its block. -/
theorem flushed_eq (t : Fin grid0.N) : (dat m hN 0 c).flushed 7 t = (((pipe m hN).win 7).blk t).view.read (Elt Ideal) (result m c) := by
  have e : tileAt m hN c t = fun j : S512x1024.Idx => resultAt (arg0 m c) (arg1 m c) (arg2 m c) (arg3 m c) (arg4 m c) (arg5 m c)
      ⟨t.val * 512 + (j 0).val, by have := lt_points t; have : (j 0).val < 512 := (j 0).isLt; omega⟩ (j 1) := funext fun j => by
    rw [eq_ix2 j]; exact tileAt_apply m c hN hx t (j 0) (j 1)
  show ((pipe m hN).win 7).cut (grid0.coords t) (tileAt m hN c t) = _
  rw [e]
  refine funext fun (j : S512x1024.Idx) => ?_
  refine Eq.trans ?_ (View.read_apply _ _).symm
  refine congr (congrArg (resultAt (arg0 m c) (arg1 m c) (arg2 m c) (arg3 m c) (arg4 m c) (arg5 m c)) (Fin.ext ?_)) (Fin.ext ?_)
  · show t.val * 512 + (j 0).val = cc0_transform_7 (grid0.coords t) 0 * 512 + 1 * (j 0).val; rw [(result_index t).1]; omega
  · show (j 1).val = cc0_transform_7 (grid0.coords t) 1 * 1024 + 1 * (j 1).val; rw [(result_index t).2]; omega

/-- Every point writes its block back. -/
theorem flush_all (t : Fin grid0.N) : ((pipe m hN).win 7).flush t = true :=
  ((fun t => (Pipeline.Window.flushOf_reads cc0_transform_7 reads0_7 hreads0_7 0 (by decide) (by decide)
    (Pipeline.Window.sep_of_coord cc0_transform_7 0 0 (fun _ => rfl) (by decide)) (P := 1) (m := 0) (by decide) rfl t).mpr (Nat.mod_one _) :
    ∀ t : Fin grid0.N, Pipeline.Window.flushOf grid0 true cc0_transform_7 t = true) t)

/-- The points' blocks cover the result array. -/
theorem cover (i : S86016x1024.Idx) : ∃ t : Fin grid0.N, ((pipe m hN).win 7).flush t = true ∧ i ∈ (((pipe m hN).win 7).blk t).view.set := by
  have h0 : (i 0).val < 86016 := (i 0).isLt
  have h1 : (i 1).val < 1024 := (i 1).isLt
  have hp : (i 0).val / 512 < grid0.N := by rw [N_0]; omega
  refine ⟨⟨(i 0).val / 512, hp⟩, flush_all m hN _, ?_⟩
  have hs : (((pipe m hN).win 7).blk (⟨(i 0).val / 512, hp⟩ : Fin grid0.N)).view.set = (((pipe m hN).win 7).rect (⟨(i 0).val / 512, hp⟩ : Fin grid0.N)).set :=
    View.set_slice_whole _ _
  have e0 := result_index ⟨(i 0).val / 512, hp⟩
  refine (Finset.ext_iff.1 hs i).2 (Rect.mem_set_unit.2 fun a => ?_)
  match a with
  | ⟨0, _⟩ => show cc0_transform_7 (grid0.coords ⟨(i 0).val / 512, hp⟩) 0 * 512 ≤ (i 0).val
                ∧ (i 0).val < cc0_transform_7 (grid0.coords ⟨(i 0).val / 512, hp⟩) 0 * 512 + 512
              rw [e0.1]; dsimp only; omega
  | ⟨1, _⟩ => show cc0_transform_7 (grid0.coords ⟨(i 0).val / 512, hp⟩) 1 * 1024 ≤ (i 1).val
                ∧ (i 1).val < cc0_transform_7 (grid0.coords ⟨(i 0).val / 512, hp⟩) 1 * 1024 + 1024
              rw [e0.2]; omega

include hx in
/-- So the result array ends holding the result. -/
theorem final : (dat m hN 0 c).arrAt 7 (pipe m hN).N = result m c :=
  (dat m hN 0 c).arrAt_eq_of_cover 7 (result m c) (fun t _ => flushed_eq m c hN hx t) (cover m hN)

end Cert.Kernel2Ideal.Experts

end
-- ==== Proof.ExpertsRef.lean ====
/-
  The experts' reference at a row and lane: over all sixteen experts, the row's weight for the expert times the expert's
  output; and its equation with the kernel's result.
-/
module

public import proofs.«01_k».proof.Proof.ExpertsValue
public import proofs.«01_k».proof.Proof.Gen.Reference2Ideal.Read
public import Idealize.ShloMosaic.Lib.StableHlo.Predicate

@[expose] public section

noncomputable section

namespace Cert.Reference2Ideal.Experts

open Cert.Reference2Ideal Cert.Reference2Ideal.Gen Cert.Reference2Ideal.Read Idealize.ShloMosaic
open Idealize.ShloMosaic.ValueIdx
open Cert.Kernel2Ideal (k0_cond1)
open Cert.Kernel2Ideal.Experts (project hidden expertOut expertOf expertAt resultAt)

variable (x0 : S168.Idx → BitVec 32) (x1 : S336.Idx → BitVec 32) (x2 : S86528x1152.Idx → EReal) (x3 x4 : S16x1024x512.Idx → EReal)
  (x5 : S16x512x1024.Idx → EReal)

/-- One where a word is the number of an expert, zero elsewhere. -/
def chosen (w : BitVec 32) (e : Fin 16) : EReal := if w = BitVec.ofNat 32 e.val then 1 else 0

/-- The comparison's bit, as a float. -/
theorem chosen_eq (w : BitVec 32) (e : Fin 16) :
    FloatOps.uitofp (F := Ideal) .f32 (IntOp.cmpi .eq w (BitVec.ofNat 32 e.val)) = chosen w e := by
  unfold chosen
  show (((IntOp.cmpi .eq w (BitVec.ofNat 32 e.val)).toNat : ℝ) : EReal) = _
  by_cases h : w = BitVec.ofNat 32 e.val
  · rw [if_pos h, show IntOp.cmpi .eq w (BitVec.ofNat 32 e.val) = 1#1 from StableHlo.Predicate.cmpi_eq_iff.2 h]
    simp
  · rw [if_neg h, show IntOp.cmpi .eq w (BitVec.ofNat 32 e.val) = 0#1 from
      (BitVec.eq_zero_or_eq_one _).resolve_right fun h' => h (StableHlo.Predicate.cmpi_eq_iff.1 h')]
    simp

/-- The one-hot row of a tile's first expert. -/
theorem first_at (j : Fin 168) (r : Fin 512) (e : Fin 16) :
    val_main_v9 (F := Ideal) x1 (ix3 j r e) = chosen (x1 (ix1 ⟨j.val, by omega⟩)) e := by
  rw [val_main_v9_apply, val_main_v7_apply, val_main_v6_apply, val_main_v5_apply, val_main_v4_apply, val_main_call0_v4_apply,
    val_main_call0_v2_apply, val_main_call0_v0_apply, val_main_v3_apply, val_main_call0_v3_apply, val_main_call0_v1_apply]
  refine Eq.trans (congrArg₂ (fun a b => FloatOps.uitofp (F := Ideal) .f32 (IntOp.cmpi .eq a b)) ?_ ?_) (chosen_eq _ _)
  · refine congrArg x1 (funext fun a => Fin.ext ?_)
    match a with
    | ⟨0, _⟩ => show 0 * 168 + (j.val * 16 + e.val) / 16 % 168 = j.val; omega
  · refine congrArg (BitVec.ofNat 32) ?_
    show (j.val * 16 + e.val) % 16 = e.val; omega

/-- The one-hot row of a tile's second expert. -/
theorem second_at (j : Fin 168) (r : Fin 512) (e : Fin 16) :
    val_main_v16 (F := Ideal) x1 (ix3 j r e) = chosen (x1 (ix1 ⟨168 + j.val, by omega⟩)) e := by
  rw [val_main_v16_apply, val_main_v14_apply, val_main_v13_apply, val_main_v12_apply, val_main_v4_apply, val_main_call0_v4_apply,
    val_main_call0_v2_apply, val_main_call0_v0_apply, val_main_v3_apply, val_main_call0_v3_apply, val_main_call0_v1_apply]
  refine Eq.trans (congrArg₂ (fun a b => FloatOps.uitofp (F := Ideal) .f32 (IntOp.cmpi .eq a b)) ?_ ?_) (chosen_eq _ _)
  · refine congrArg x1 (funext fun a => Fin.ext ?_)
    match a with
    | ⟨0, _⟩ => show (1 + 0) * 168 + (j.val * 16 + e.val) / 16 % 168 = 168 + j.val; omega
  · refine congrArg (BitVec.ofNat 32) ?_
    show (j.val * 16 + e.val) % 16 = e.val; omega

/-- A token's weight for the tile's first expert. -/
theorem weight1_at (j : Fin 168) (r : Fin 512) (e : Fin 16) :
    val_main_v10 (F := Ideal) x2 (ix3 j r e) = x2 (ix2 ⟨j.val * 512 + r.val, by omega⟩ 1024) := by
  rw [val_main_v10_apply, val_main_v8_apply, val_main_v2_apply, val_main_v1_apply]
  refine congrArg x2 (Shape.idx_ext₂ ?_ ?_)
  · show ((j.val * 512 + r.val) * 2 + 0) / 2 = j.val * 512 + r.val; omega
  · show 1024 + ((j.val * 512 + r.val) * 2 + 0) % 2 = 1024; omega

/-- A token's weight for the tile's second expert. -/
theorem weight2_at (j : Fin 168) (r : Fin 512) (e : Fin 16) :
    val_main_v17 (F := Ideal) x2 (ix3 j r e) = x2 (ix2 ⟨j.val * 512 + r.val, by omega⟩ 1025) := by
  rw [val_main_v17_apply, val_main_v15_apply, val_main_v2_apply, val_main_v1_apply]
  refine congrArg x2 (Shape.idx_ext₂ ?_ ?_)
  · show ((j.val * 512 + r.val) * 2 + 1) / 2 = j.val * 512 + r.val; omega
  · show 1024 + ((j.val * 512 + r.val) * 2 + 1) % 2 = 1025; omega

/-- An expert's hidden unit for a token. -/
theorem hidden_at (e : Fin 16) (R : Fin 86016) (f : Fin 512) :
    val_main_v33 (F := Ideal) x2 x3 x4 (ix3 e R f)
      = hidden (fun k => x2 (ix2 ⟨R.val, by omega⟩ ⟨k.val, by omega⟩)) (fun k f => x3 (ix3 e k f)) (fun k f => x4 (ix3 e k f)) f := by
  have one : Ideal.ofBits .f32 0x3F800000#32 = (1 : EReal) := by
    simp [Ideal.ofBits, Ideal.ieee, -EReal.coe_mul]; norm_num
  have g : val_main_v29 (F := Ideal) x2 x3 (ix3 e R f) = project (fun k => x2 (ix2 ⟨R.val, by omega⟩ ⟨k.val, by omega⟩)) (fun k f => x3 (ix3 e k f)) f := by
    rw [val_main_v29_apply, val_main_v28_apply]
    unfold project
    refine Finset.sum_congr rfl fun k _ => ?_
    rw [mul_comm, val_main_v0_apply]
    refine congrArg₂ (fun a b : EReal => a * b) (congrArg x2 (Shape.idx_ext₂ rfl rfl)) ?_
    exact congrArg x3 (funext fun a => Fin.ext (by match a with | ⟨0, _⟩ => rfl | ⟨1, _⟩ => rfl | ⟨2, _⟩ => rfl))
  have u : val_main_v32 (F := Ideal) x2 x4 (ix3 e R f) = project (fun k => x2 (ix2 ⟨R.val, by omega⟩ ⟨k.val, by omega⟩)) (fun k f => x4 (ix3 e k f)) f := by
    rw [val_main_v32_apply, val_main_v31_apply]
    unfold project
    refine Finset.sum_congr rfl fun k _ => ?_
    rw [mul_comm, val_main_v0_apply]
    refine congrArg₂ (fun a b : EReal => a * b) (congrArg x2 (Shape.idx_ext₂ rfl rfl)) ?_
    exact congrArg x4 (funext fun a => Fin.ext (by match a with | ⟨0, _⟩ => rfl | ⟨1, _⟩ => rfl | ⟨2, _⟩ => rfl))
  rw [val_main_v33_apply, val_main_v30_apply, val_main_call2_v5_apply, val_main_call2_v4_apply, val_main_call2_v3_apply,
    val_main_call2_v2_apply, val_main_call2_v1_apply, val_main_call2_v0_apply, g, u]
  show _ * Ideal.div (Ideal.ofBits .f32 0x3F800000#32) (Ideal.ofBits .f32 0x3F800000#32 + Ideal.exp (-_)) * _ = _
  rw [one]
  rfl

/-- An expert's output for a token. -/
theorem output_at (e : Fin 16) (R : Fin 86016) (C : Fin 1024) :
    val_main_v34 (F := Ideal) x2 x3 x4 x5 (ix3 e R C) = ∑ f : Fin 512, hidden (fun k => x2 (ix2 ⟨R.val, by omega⟩ ⟨k.val, by omega⟩))
      (fun k f => x3 (ix3 e k f)) (fun k f => x4 (ix3 e k f)) f * x5 (ix3 e f C) := by
  rw [val_main_v34_apply]
  refine Finset.sum_congr rfl fun f _ => ?_
  refine congrArg₂ (fun a b : EReal => a * b) ?_ ?_
  · rw [← hidden_at]
    exact congrArg (val_main_v33 (F := Ideal) x2 x3 x4) (funext fun a => Fin.ext (by match a with | ⟨0, _⟩ => rfl | ⟨1, _⟩ => rfl | ⟨2, _⟩ => rfl))
  · exact congrArg x5 (funext fun a => Fin.ext (by match a with | ⟨0, _⟩ => rfl | ⟨1, _⟩ => rfl | ⟨2, _⟩ => rfl))

/-- A token's weight over the experts: its two weights at its tile's two experts, and zero at the others and past the classes. -/
def weightAt (R : Fin 86016) (e : Fin 16) : EReal :=
  if k0_cond1 (x0 (ix1 ⟨R.val / 512, by omega⟩)) = 1#1 then
    chosen (x1 (ix1 ⟨R.val / 512, by omega⟩)) e * x2 (ix2 ⟨R.val, by omega⟩ 1024)
      + chosen (x1 (ix1 ⟨168 + R.val / 512, by omega⟩)) e * x2 (ix2 ⟨R.val, by omega⟩ 1025)
  else 0

/-- A tile is of a class where its class word is below the number of classes. -/
theorem cond1_iff (w : BitVec 32) : k0_cond1 w = 1#1 ↔ IntOp.cmpi .slt w 24#32 = 1#1 := by
  unfold k0_cond1
  dsimp only
  show _ ↔ Scalar.cmpi .slt w 24#32 = 1#1
  rcases BitVec.eq_zero_or_eq_one (Scalar.cmpi .slt w 24#32) with h | h <;> rw [h] <;> decide

/-- The reference's weights over the experts, at a row. -/
theorem combine_at (R : Fin 86016) (e : Fin 16) : val_main_v24 (F := Ideal) x0 x1 x2 (ix2 R e) = weightAt x0 x1 x2 R e := by
  have hi : idx_main_v24 (ix2 R e) = ix3 (⟨R.val / 512, by omega⟩ : Fin 168) (⟨R.val % 512, by omega⟩ : Fin 512) e := funext fun a => Fin.ext (by
    match a with
    | ⟨0, _⟩ => show (R.val * 16 + e.val) / 8192 = R.val / 512; omega
    | ⟨1, _⟩ => show (R.val * 16 + e.val) / 16 % 512 = R.val % 512; omega
    | ⟨2, _⟩ => show (R.val * 16 + e.val) % 16 = e.val; omega)
  have hR : R.val / 512 * 512 + R.val % 512 = R.val := by omega
  rw [val_main_v24_apply, hi, val_main_v23_apply, val_main_v19_apply, val_main_v11_apply, val_main_v18_apply, first_at, second_at,
    weight1_at, weight2_at, val_main_call1_v1_apply, val_main_v22_apply, val_main_v21_apply, val_main_v20_apply, val_main_call1_v2_apply]
  simp only [hR]
  unfold weightAt
  have hc : ∀ (b : BitVec 1) (u v : EReal), Scalar.select b u v = if b = 1#1 then u else v := fun b u v => by
    rcases BitVec.eq_zero_or_eq_one b with h | h
    · rw [h, ValueIdx.select_zero, if_neg (by decide)]
    · rw [h, ValueIdx.select_one, if_pos rfl]
  refine (hc _ _ _).trans ?_
  have hx : x0 (idx_main_v22 (idx_main_call1_v1 (ix3 (⟨R.val / 512, by omega⟩ : Fin 168) (⟨R.val % 512, by omega⟩ : Fin 512) e)))
      = x0 (ix1 ⟨R.val / 512, by omega⟩) := congrArg x0 (funext fun a => by match a with | ⟨0, _⟩ => rfl)
  rw [hx]
  by_cases h : k0_cond1 (x0 (ix1 ⟨R.val / 512, by omega⟩)) = 1#1
  · rw [if_pos h]
    exact if_pos ((cond1_iff _).1 h)
  · rw [if_neg h]
    exact (if_neg fun h' => h ((cond1_iff _).2 h')).trans Ideal.ofBits_zero_f32

/-- The reference's result at a row and lane. -/
theorem result_at (R : Fin 86016) (C : Fin 1024) :
    val_main_v39 (F := Ideal) x0 x1 x2 x3 x4 x5 (ix2 R C) = ∑ e : Fin 16, (∑ f : Fin 512, hidden
      (fun k => x2 (ix2 ⟨R.val, by omega⟩ ⟨k.val, by omega⟩)) (fun k f => x3 (ix3 e k f)) (fun k f => x4 (ix3 e k f)) f * x5 (ix3 e f C))
        * weightAt x0 x1 x2 R e := by
  rw [val_main_v39_apply]
  refine (congrArg₂ (fun a b : EReal => a + b) Ideal.ofBits_zero_f32 (Finset.sum_congr rfl fun e _ => ?_)).trans (zero_add _)
  rw [show idx_main_v39 (ix2 R C) e = ix3 e R C from funext fun a => Fin.ext (by match a with | ⟨0, _⟩ => rfl | ⟨1, _⟩ => rfl | ⟨2, _⟩ => rfl),
    val_main_v38_apply, val_main_v37_apply, val_main_v36_apply, val_main_v35_apply, ← output_at, ← combine_at]
  refine (mul_comm _ _).trans (congrArg (fun a : EReal => val_main_v34 (F := Ideal) x2 x3 x4 x5 (ix3 e R C) * a) ?_)
  exact congrArg (val_main_v24 (F := Ideal) x0 x1 x2) (funext fun a => Fin.ext (by match a with | ⟨0, _⟩ => rfl | ⟨1, _⟩ => rfl))

/-- A nonnegative real weight goes into a sum, whatever the sum's terms. -/
theorem mul_sum (w : EReal) (h0 : 0 ≤ w) (ht : w ≠ ⊤) (s : Finset (Fin 512)) (g : Fin 512 → EReal) : w * ∑ f ∈ s, g f = ∑ f ∈ s, w * g f := by
  classical
  induction s using Finset.induction_on with
  | empty => simp
  | insert a s ha ih => rw [Finset.sum_insert ha, Finset.sum_insert ha, EReal.left_distrib_of_nonneg_of_ne_top h0 ht, ih]

/-- Over the experts, the outputs times the one-hot row of a named expert times a weight sum to that expert's weighted output. -/
theorem pick (y : Fin 16 → EReal) (a : BitVec 32) (ha : a.toNat < 16) (w : EReal) : ∑ e : Fin 16, chosen a e * w * y e = w * y (expertOf a) := by
  have hv : (expertOf a).val = a.toNat := Nat.mod_eq_of_lt ha
  rw [Finset.sum_eq_single (expertOf a)]
  · unfold chosen
    rw [if_pos (BitVec.eq_of_toNat_eq (by rw [hv, BitVec.toNat_ofNat]; omega)), one_mul]
  · intro e _ he
    unfold chosen
    rw [if_neg (fun h => he (Fin.ext (by rw [hv, h, BitVec.toNat_ofNat]; omega))), zero_mul, zero_mul]
  · exact fun h => absurd (Finset.mem_univ _) h

/-- A row's nonnegative real weight times an expert's output is the output the kernel computes, the weight inside its sum. -/
theorem weighted (R : Fin 86016) (C : Fin 1024) (e : Fin 16) (w : EReal) (h0 : 0 ≤ w) (ht : w ≠ ⊤) :
    w * (∑ f : Fin 512, hidden (fun k => x2 (ix2 ⟨R.val, by omega⟩ ⟨k.val, by omega⟩)) (fun k f => x3 (ix3 e k f)) (fun k f => x4 (ix3 e k f)) f
      * x5 (ix3 e f C)) = expertAt x2 x3 x4 x5 e w R C := by
  unfold expertAt expertOut
  rw [mul_sum w h0 ht]
  refine Finset.sum_congr rfl fun f _ => ?_
  rw [← mul_assoc, mul_comm w]

/-- Where the words name experts and the weights are nonnegative reals, the kernel's result is the reference's. -/
theorem result_eq (hx : ∀ j, (x1 j).toNat < 16) (hw : ∀ (R : Fin 86016) (l : Fin 1152), l.val = 1024 ∨ l.val = 1025 →
      0 ≤ x2 (ix2 ⟨R.val, by omega⟩ l) ∧ x2 (ix2 ⟨R.val, by omega⟩ l) ≠ ⊤) (R : Fin 86016) (C : Fin 1024) :
    resultAt x0 x1 x2 x3 x4 x5 R C = val_main_v39 (F := Ideal) x0 x1 x2 x3 x4 x5 (ix2 R C) := by
  obtain ⟨p1, t1⟩ := hw R 1024 (Or.inl rfl)
  obtain ⟨p2, t2⟩ := hw R 1025 (Or.inr rfl)
  rw [result_at]
  unfold resultAt weightAt
  by_cases h : k0_cond1 (x0 (ix1 ⟨R.val / 512, by omega⟩)) = 1#1
  · have hn : ∀ (a : BitVec 32) (e : Fin 16), 0 ≤ chosen a e := fun a e => by
      unfold chosen; split
      · exact zero_le_one
      · exact le_rfl
    let y : Fin 16 → EReal := fun e => ∑ f : Fin 512, hidden (fun k => x2 (ix2 ⟨R.val, by omega⟩ ⟨k.val, by omega⟩)) (fun k f => x3 (ix3 e k f))
      (fun k f => x4 (ix3 e k f)) f * x5 (ix3 e f C)
    have d : ∀ (a b : BitVec 32) (u v : EReal) (hu : 0 ≤ u) (hv : 0 ≤ v), ∑ e : Fin 16, y e * (chosen a e * u + chosen b e * v)
        = (∑ e : Fin 16, chosen a e * u * y e) + ∑ e : Fin 16, chosen b e * v * y e := fun a b u v hu hv => by
      rw [← Finset.sum_add_distrib]
      refine Finset.sum_congr rfl fun e _ => ?_
      rw [mul_comm, EReal.right_distrib_of_nonneg (mul_nonneg (hn _ _) hu) (mul_nonneg (hn _ _) hv)]
    rw [if_pos h, Finset.sum_congr rfl fun e _ => congrArg (fun a : EReal => y e * a) (if_pos h)]
    refine Eq.symm ((d _ _ _ _ p1 p2).trans ?_)
    rw [pick y _ (hx _), pick y _ (hx _)]
    exact congrArg₂ (fun a b : EReal => a + b) (weighted x2 x3 x4 x5 R C _ _ p1 t1) (weighted x2 x3 x4 x5 R C _ _ p2 t2)
  · rw [if_neg h]
    refine Eq.symm (Finset.sum_eq_zero fun e _ => ?_)
    rw [if_neg h, mul_zero]

end Cert.Reference2Ideal.Experts

end
-- ==== Proof.Experts.lean ====
/-
  The claims about the experts' call: frames, and its result the reference's over the extended reals.
-/
module

public import proofs.«01_k».proof.Defs
public import proofs.«01_k».proof.Proof.ExpertsPre
public import proofs.«01_k».proof.Proof.ExpertsRef
public import proofs.«01_k».proof.Proof.ExpertsNamedBits
public import proofs.«01_k».proof.Proof.Gen.Reference2Ideal.Run
public import Idealize.ShloMosaic.Lib.Quiescent

@[expose] public section

noncomputable section

namespace Cert.Experts

open Idealize.ShloMosaic Idealize.ShloMosaic.TcCoe Idealize.SL.Sem Idealize.ShloMosaic.ValueIdx

/-- The printed kernel runs where the table names experts, leaves its arguments, and every semaphore ends at zero. -/
theorem kernel_frame : Cert.quiescent_Kernel2 := fun m ρ hp =>
  (θ_run Cert.Kernel2.defs _ _).mono (fun _ h => ⟨fun c => by
      obtain ⟨h0, h1, h2, h3, h4, h5, _⟩ := h.1 c
      exact ⟨h0, h1, h2, h3, h4, h5⟩, h.2⟩)
    (Cert.Kernel2.Experts.main_value (F := Bits) m ρ (Cert.Kernel2.Experts.named_of m (named_of_pre _ _ _ _ _ _ (hp 0))))

/-- The idealized kernel runs where the table names experts, leaves its arguments, and every semaphore ends at zero. -/
theorem ideal_frame : Cert.quiescent_Kernel2Ideal := fun m ρ hp =>
  (θ_run Cert.Kernel2Ideal.defs _ _).mono (fun _ h => ⟨fun c => by
      obtain ⟨h0, h1, h2, h3, h4, h5, _⟩ := h.1 c
      exact ⟨h0, h1, h2, h3, h4, h5⟩, h.2⟩)
    (Cert.Kernel2Ideal.Experts.main_value (F := Ideal) m ρ (Cert.Kernel2Ideal.Experts.named_of m (named_of_pre _ _ _ _ _ _ (hp 0))))

/-- The idealized kernel's frame under the value claim's precondition. -/
theorem ideal_frame_real : Cert.quiescent_Kernel2Ideal_pre_experts_named_weights_real := fun m ρ hp =>
  (θ_run Cert.Kernel2Ideal.defs _ _).mono (fun _ h => ⟨fun c => by
      obtain ⟨h0, h1, h2, h3, h4, h5, _⟩ := h.1 c
      exact ⟨h0, h1, h2, h3, h4, h5⟩, h.2⟩)
    (Cert.Kernel2Ideal.Experts.main_value (F := Ideal) m ρ (Cert.Kernel2Ideal.Experts.named_of m (reals_of_pre _ _ _ _ _ _ (hp 0)).1))

/-- The experts' reference runs, leaves its arguments and declares no semaphore. -/
theorem reference_frame : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- Where the table names experts and the weights are nonnegative real numbers, the kernel's result array is the reference's. -/
theorem algebraic : Cert.algebraic_Kernel2Ideal_Reference2Ideal_pre_experts_named_weights_real := by
  intro m ρ m' ρ' hpre hagree
  have hn := Cert.Kernel2Ideal.Experts.named_of m (reals_of_pre _ _ _ _ _ _ (hpre 0)).1
  refine ⟨fun c => Cert.Kernel2Ideal.Experts.result m c, ?_, ?_⟩
  · refine (θ_run Cert.Kernel2Ideal.defs _ _).mono (fun _ h c => ?_) (Cert.Kernel2Ideal.Experts.main_value (F := Ideal) m ρ hn)
    obtain ⟨h0, h1, h2, h3, h4, h5, h6⟩ := h.1 c
    exact ⟨h6.trans (Cert.Kernel2Ideal.Experts.final m c hn (reals_of_pre _ _ _ _ _ _ (hpre c)).1), h0, h1, h2, h3, h4, h5⟩
  · refine (θ_run Cert.Reference2Ideal.defs _ _).mono (fun _ h c => ⟨(h c).1.trans ?_, (h c).2⟩)
      (Cert.Reference2Ideal.Value.run (F := Ideal) m' ρ')
    rw [Cert.Reference2Ideal.Read.val_main_v39_eq, (hagree c).1, (hagree c).2.1, (hagree c).2.2.1, (hagree c).2.2.2.1, (hagree c).2.2.2.2.1,
      (hagree c).2.2.2.2.2]
    obtain ⟨hx, hw⟩ := reals_of_pre _ _ _ _ _ _ (hpre c)
    refine funext fun (j : Cert.Kernel2Ideal.S86016x1024.Idx) => ?_
    rw [eq_ix2 j]
    refine (Cert.Reference2Ideal.Experts.result_eq _ _ _ _ _ _ hx (fun R l hl => ?_) (j 0) (j 1)).symm
    rcases hl with hl | hl
    · rw [show l = (⟨1024, by omega⟩ : Fin 1152) from Fin.ext hl]
      exact hw R 0
    · rw [show l = (⟨1025, by omega⟩ : Fin 1152) from Fin.ext hl]
      exact hw R 1

end Cert.Experts

end
-- ==== Proof.LastExpertsPre.lean ====
/-
  The experts' preconditions read: every word of the table is the number of an expert, and every weight is a nonnegative
  real number.
-/
module

public import proofs.«01_k».proof.Defs
public import proofs.«01_k».proof.Proof.Gen.Pre_experts_named_last
public import proofs.«01_k».proof.Proof.Gen.Pre_experts_named_weights_real_last
public import Idealize.ShloMosaic.Lib.ReduceAll
public import Idealize.ShloMosaic.Lib.Affine
public import Idealize.ShloMosaic.Lib.ValueIdx
public import Idealize.ShloMosaic.Lib.KernelVsHost

@[expose] public section

noncomputable section

namespace Cert.LastExperts

open Idealize.ShloMosaic Idealize.ShloMosaic.ValueIdx
open Cert.Kernel3Ideal (S152 S304 S78336x1152 S16x1024x512 S16x512x1024)

/-- A word from zero up to sixteen, read signed, is below sixteen read unsigned. -/
theorem word_small (w : BitVec 32) (h : IntOp.andi (IntOp.cmpi .sge w 0#32) (IntOp.cmpi .slt w 16#32) = 1#1) : w.toNat < 16 := by
  obtain ⟨h1, h2⟩ := IntOp.andi_eq_one.1 h
  have e1 : (0#32 : BitVec 32).toInt ≤ w.toInt := by
    by_contra hn
    rw [show IntOp.cmpi .sge w 0#32 = BitVec.ofBool (decide ((0#32 : BitVec 32).toInt ≤ w.toInt)) from rfl, decide_eq_false hn] at h1
    exact absurd h1 (by decide)
  have e2 : w.toInt < (16#32 : BitVec 32).toInt := by
    by_contra hn
    rw [show IntOp.cmpi .slt w 16#32 = BitVec.ofBool (decide (w.toInt < (16#32 : BitVec 32).toInt)) from rfl, decide_eq_false hn] at h2
    exact absurd h2 (by decide)
  have z : (0#32 : BitVec 32).toInt = 0 := by decide
  have s : (16#32 : BitVec 32).toInt = 16 := by decide
  rw [z] at e1
  rw [s] at e2
  rw [BitVec.toInt_eq_toNat_cond] at e1 e2
  have := w.isLt
  split at e1 <;> omega

/-- A value at least zero and below infinity is nonnegative and not infinite. -/
theorem weight_real (x : EReal) (h : IntOp.andi (Ideal.cmp .oge x (Ideal.ofBits .f32 0x00000000#32))
    (Ideal.cmp .olt x (Ideal.ofBits .f32 0x7F800000#32)) = 1#1) : 0 ≤ x ∧ x ≠ ⊤ := by
  have e : Ideal.ofBits .f32 0x7F800000#32 = (⊤ : EReal) := by simp [Ideal.ofBits, Ideal.ieee]
  rw [e, Ideal.ofBits_zero_f32] at h
  obtain ⟨h1, h2⟩ := IntOp.andi_eq_one.1 h
  constructor
  · by_contra hn
    rw [Ideal.cmp, decide_eq_false hn] at h1
    exact absurd h1 (by decide)
  · intro hn
    rw [Ideal.cmp, decide_eq_false (by rw [hn]; exact lt_irrefl _)] at h2
    exact absurd h2 (by decide)

/-- Under the first precondition every word of the table is the number of an expert. -/
theorem named_of_pre {F : FTy → Type} [FloatOps F] (x0 : IVec S152 32) (x1 : IVec S304 32) (x2 : FVec F S78336x1152 .f32)
    (x3 x4 : FVec F S16x1024x512 .bf16) (x5 : FVec F S16x512x1024 .bf16)
    (h : Cert.Pre_experts_named_last.fn (F := F) x0 x1 x2 x3 x4 x5 = fun _ => 1#1) (j : S304.Idx) : (x1 j).toNat < 16 := by
  have h0 := congrFun h (fun a : Fin 0 => a.elim0)
  have : Subsingleton Cert.Pre_experts_named_last.S_.Idx := ⟨fun a b => funext fun d : Fin 0 => d.elim0⟩
  unfold Cert.Pre_experts_named_last.fn at h0
  exact word_small _ (Host.reduce_andi_all _ _ _ _ _ h0 j)

/-- Under the second precondition every word of the table is the number of an expert, and the two columns of weights hold
    nonnegative real numbers. -/
theorem reals_of_pre (x0 : S152.Idx → BitVec 32) (x1 : S304.Idx → BitVec 32) (x2 : S78336x1152.Idx → EReal)
    (x3 x4 : S16x1024x512.Idx → EReal) (x5 : S16x512x1024.Idx → EReal)
    (h : Cert.Pre_experts_named_weights_real_last.fn (F := Ideal) x0 x1 x2 x3 x4 x5 = fun _ => 1#1) :
    (∀ j, (x1 j).toNat < 16) ∧ ∀ (R : Fin 77824) (l : Fin 2), 0 ≤ x2 (ix2 ⟨R.val, by omega⟩ ⟨1024 + l.val, by omega⟩) ∧ x2 (ix2 ⟨R.val, by omega⟩ ⟨1024 + l.val, by omega⟩) ≠ ⊤ := by
  have h0 := congrFun h (fun a : Fin 0 => a.elim0)
  have : Subsingleton Cert.Pre_experts_named_weights_real_last.S_.Idx := ⟨fun a b => funext fun d : Fin 0 => d.elim0⟩
  unfold Cert.Pre_experts_named_weights_real_last.fn at h0
  obtain ⟨ha, hb⟩ := IntOp.andi_eq_one.1 h0
  refine ⟨fun j => word_small _ (Host.reduce_andi_all _ _ _ _ _ ha j), fun R l => ?_⟩
  have hl := weight_real _ (Host.reduce_andi_all _ _ _ _ _ hb (ix2 R l))
  dsimp only at hl
  rwa [show extractStridedSlice Cert.Pre_experts_named_weights_real_last.S77824x2 ![0, 1024] x2 _ (ix2 R l) = x2 (ix2 ⟨R.val, by omega⟩ ⟨1024 + l.val, by omega⟩)
    from extractStridedSlice_apply ![0, 1024] x2 _ (ix2 R l) (ix2 ⟨R.val, by omega⟩ ⟨1024 + l.val, by omega⟩) (fun a => match a with
      | ⟨0, _⟩ => by show R.val = 0 + R.val; omega
      | ⟨1, _⟩ => by show 1024 + l.val = 1024 + l.val; omega)] at hl

end Cert.LastExperts

end
-- ==== Proof.LastExpertsKit.lean ====
/- The experts' feed-forward as a program: what its run is stated over — the tables the index maps read, each window's
   block at a point, and what the body leaves in the output window's staging buffer. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.Value
public import Idealize.ShloMosaic.Lib.VecWindow
public import Idealize.ShloMosaic.Lib.Tactic
public import Idealize.ShloMosaic.Lib.WordCmp

@[expose] public section

set_option maxRecDepth 16384

noncomputable section

namespace Cert.Kernel3Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ)

/-- The arrays as the region finds them: as launched, the region being all of `main`. -/
abbrev entry (c : Dev nD) (b : Ref sig .tc) : Buf (Elt F) ((c : Thread nD τ).loc b) := m ((c : Thread nD τ).loc b)

set_option maxHeartbeats 800000 in
/-- `main` runs to the region with the arrays as launched. -/
theorem main_enters (𝒱₀ : Variants) : Pipeline.HMainP (Ix := Unit) (Name := ℕ) (U := UR sig nD τ) (Lvl := ℕ) pcfgs 0 defs₀ 𝒱₀ m (main (F := F)) (entry m) :=
  Pipeline.hmainP_region pcfgs 0 defs₀ 𝒱₀ m main fun c => (main_chain c).trans rfl

/-- The two tables' contents. -/
def tables : pre0.Contents (Elt F) := fun j => entry m (0 : Dev nD) (pre0.ref j)

/-- Every device's copy of a table is the table. -/
theorem entry_tables (c : Dev nD) (j : Fin 2) : entry m c (pre0.ref j) = tables m j := by
  obtain rfl : c = 0 := Subsingleton.elim _ _
  rfl

/-- Every word of the experts' table names an expert, in the form the pipeline asks for. -/
abbrev Named : Prop := ok0 (F := F) (tables m)

/-- The tables as contents the pipeline accepts. -/
abbrev accepted (hN : Named m) : (pcfg0 (F := F)).Adm := ⟨tables m, hN⟩
/-- The call's pipeline at the tables. -/
abbrev pipe (hN : Named m) : Pipeline.Cfg sig Λ₀ := cfg0 (accepted m hN)

/-- The table of class words. -/
abbrev classes : Memref sig .tc .smem S152 .i32 := Memref.whole main_arg0
/-- The table of experts, a tile's first and then its second. -/
abbrev experts : Memref sig .tc .smem S304 .i32 := Memref.whole main_arg1

/-- A table's contents on a core. -/
abbrev TabBuf (c : Dev nD) {S : Shape} {e : EltTy} (M : Memref sig .tc .smem S e) : Type := Buf (Elt F) (M.view.loc (c : Thread nD τ))
/-- A table held on a core, at half the full share. -/
abbrev tabHeld (c : Dev nD) {S : Shape} {e : EltTy} (M : Memref sig .tc .smem S e) (f : TabBuf (F := F) c M) : sProp 𝕄 :=
  M.view.loc (c : Thread nD τ) ↦{fullShare.right} f

/-- The launch holds both tables. -/
theorem tables_held (c : Dev nD) : (Pipeline.ΦT pre0 (tables m) c : sProp 𝕄) = iprop(tabHeld c classes (tables m 0) ∗ tabHeld c experts (tables m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at a point, read off its array as launched. -/
def block (hN : Named m) (c : Dev nD) (w : Fin (pipe m hN).W) (t : Fin (pipe m hN).N) : (((pipe m hN).win w).xblock ((pipe m hN).grid.coords t)).Idx → Elt F ((pipe m hN).win w).elt :=
  (((pipe m hN).win w).blk t).view.read (Elt F) (entry m c (Pipeline.arrRef spec0 w))

/-- The 1024 lanes of a block of tokens that the experts read. -/
abbrev lanes (x : Vec F S512x1152 .f32) : Vec F S512x1024 .f32 :=
  View.ld x (Rect.unit (s := S512x1152) ![0, 0] S512x1024.size inb_S512x1152_S512x1024_0_0)
/-- The lane of a block that holds the first weights. -/
abbrev wt1 (x : Vec F S512x1152 .f32) : Vec F S512x1 .f32 :=
  View.ld x (Rect.unit (s := S512x1152) ![0, 1024] S512x1.size inb_S512x1152_S512x1_0_1024)
/-- The lane of a block that holds the second weights. -/
abbrev wt2 (x : Vec F S512x1152 .f32) : Vec F S512x1 .f32 :=
  View.ld x (Rect.unit (s := S512x1152) ![0, 1025] S512x1.size inb_S512x1152_S512x1_0_1025)

/-- What the body leaves in the output's buffer: at a tile of a class, both experts' terms added; elsewhere zeros. -/
def tileOut (w : BitVec 32) (x0 : Vec F S512x1152 .f32) (x1 x2 : Vec F S1x1024x512 .bf16) (x3 : Vec F S1x512x1024 .bf16)
    (x4 x5 : Vec F S1x1024x512 .bf16) (x6 : Vec F S1x512x1024 .bf16) : Vec F S512x1024 .f32 :=
  if k0_cond1 w = 1#1 then k0_pay1 (k0_pay4 (lanes x0) x1 x2 (wt1 x0) x3) (k0_pay5 (lanes x0) x4 x5 (wt2 x0)) x6 else k0_pay2

/-- The two branches of the body exclude each other, and one of them runs. -/
theorem cond2_iff (w : BitVec 32) : k0_cond2 w = 1#1 ↔ ¬ k0_cond1 w = 1#1 := by
  unfold k0_cond1 k0_cond2
  dsimp only
  rcases BitVec.eq_zero_or_eq_one (Scalar.cmpi .slt w 24#32) with h | h <;> rw [h] <;> decide

/-- The class word a point's body loads. -/
def classWord (T : pre0.Contents (Elt F)) (i : grid0.Coords) : BitVec 32 := T.atD 0 (k0_off2 i)

/-- The zero offset, in two dimensions. -/
theorem hz2 : (![0, 0] : Fin 2 → Nat) = fun _ => 0 := funext fun a => by fin_cases a <;> rfl
/-- The zero offset, in three dimensions. -/
theorem hz3 : (![0, 0, 0] : Fin 3 → Nat) = fun _ => 0 := funext fun a => by fin_cases a <;> rfl

/-- The one-word load at the point's offset reads that word. -/
theorem word_eq (T : pre0.Contents (Elt F)) (i : grid0.Coords) :
    View.readAt (Elt F) classes.view (Rect.unit (s := S152) (k0_off2 i) S1.size (k0_off2_inb i)).toLoadRect (T 0) (Shape.Idx.first numel1_S1.symm.le) = T.atD 0 (k0_off2 i) := by
  have h : ∀ a, k0_off2 i a + 1 ≤ (pre0.ref 0).ty.shape.size a := fun a => by
    fin_cases a
    exact k0_off2_inb i 0
  refine Eq.trans ?_ (dif_pos h).symm
  show T 0 _ = T 0 _
  refine congrArg (T 0) (funext fun a => Fin.ext ?_)
  fin_cases a
  show k0_off2 i 0 + 1 * _ = k0_off2 i 0
  rfl

set_option maxHeartbeats 1000000 in
/-- The body at a point, on any whole staging buffers: the inputs' buffers and the tables come back as they were, the
    output's holds `tileOut`. -/
theorem body_runs (c : Dev nD) (i : grid0.Coords) (arg3 : Memref sig .tc .vmem S512x1152 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S512x1024 .f32) (harg10 : arg10.IsWhole)
    (x0 : Vec F S512x1152 .f32) (x1 x2 : Vec F S1x1024x512 .bf16) (x3 : Vec F S1x512x1024 .bf16) (x4 x5 : Vec F S1x1024x512 .bf16) (x6 : Vec F S1x512x1024 .bf16) (T : pre0.Contents (Elt F)) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ (∃ d, owns (c : Thread nD τ) arg10 fullShare d)
        ∗ tabHeld c classes (T 0) ∗ tabHeld c experts (T 1)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare (tileOut (classWord T i) x0 x1 x2 x3 x4 x5 x6)
            ∗ tabHeld c classes (T 0) ∗ tabHeld c experts (T 1)) -∗ K ⟨⟩))
      ⊢ wp frame (wpE (defs₀ (F := F)) Variants.none c none) E (cc0_moe_ffn i classes (Memref.isWhole_whole _) experts (Memref.isWhole_whole _) arg3 harg3 arg4 harg4 arg5 harg5 arg6 harg6 arg7 harg7 arg8 harg8 arg9 harg9 arg10 harg10) K := by
  simp only [cc0_moe_ffn_eq_skeleton]; unfold cc0_moe_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr [H7]
    swap
    · iexact H7
    ipureintro
    have hw : body_runs.sl.r i T = classWord T i := by
      unfold body_runs.sl.r classWord
      exact word_eq T i
    unfold tileOut
    by_cases h : k0_cond1 (classWord T i) = 1#1
    · have h2 : ¬ k0_cond2 (classWord T i) = 1#1 := fun e => (cond2_iff _).1 e h
      rw [hw, dif_neg h2, dif_pos h, if_pos h]
      unfold body_runs.sl.r_1 body_runs.sl.r_2
      simp only [View.readAt_eq_ld, hf0, hf1, hf2, hf3, hf4, hf5, hf6,
        View.ld_unit_zero (S := S1x1024x512) hz3, View.ld_unit_zero (S := S1x512x1024) hz3]
      exact View.read_writes_full (s := S512x1024) _ _ inb_S512x1024_S512x1024_0_0 _ []
    · have h2 : k0_cond2 (classWord T i) = 1#1 := (cond2_iff _).2 h
      rw [hw, dif_pos h2, if_neg h]
      exact View.read_writes_full (s := S512x1024) _ _ inb_S512x1024_S512x1024_0_0 _ []
  isplitl [HT0]; · iexact HT0
  iexact HT1

/-! ## The pipeline's proof data -/

variable (ρ : Dev nD → PrngReg)

/-- What the output's buffer holds after the body at a point: `tileOut` of the point's blocks. -/
def tileAt (hN : Named m) (c : Dev nD) (t : Fin (pipe m hN).N) : Vec F S512x1024 .f32 :=
  tileOut (classWord (tables m) (grid0.coords t)) (block m hN c 0 t) (block m hN c 1 t) (block m hN c 2 t) (block m hN c 3 t)
    (block m hN c 4 t) (block m hN c 5 t) (block m hN c 6 t)

/-- The proof data: the arrays as launched; each input's buffer at its block, the output's at `tileAt`; nothing owed. -/
def dat (hN : Named m) (_ : Fin 1) (c : Dev nD) : Dat τ (Elt F) Unit ℕ (UR sig nD τ) ℕ (pipe m hN) c where
  A w := entry m c (Pipeline.arrRef spec0 w)
  after w t := match w with
    | ⟨0, _⟩ => block m hN c 0 t
    | ⟨1, _⟩ => block m hN c 1 t
    | ⟨2, _⟩ => block m hN c 2 t
    | ⟨3, _⟩ => block m hN c 3 t
    | ⟨4, _⟩ => block m hN c 4 t
    | ⟨5, _⟩ => block m hN c 5 t
    | ⟨6, _⟩ => block m hN c 6 t
    | ⟨7, _⟩ => tileAt m hN c t
  Φ _ := iprop(Pipeline.ΦA spec0 c ∗ Pipeline.ΦT pre0 (tables m) c)
  q w := Pipeline.shareOf spec0 w
  owed _ := 0

/-- The array a window starts from is the argument as launched. -/
theorem dat_arr (hN : Named m) (c : Dev nD) (w : Fin (pipe m hN).W) : (dat m hN 0 c).A w = entry m c (Pipeline.arrRef spec0 w) := by
  dsimp only [dat]

/-! An input's buffer holds its block when the body starts, fetched at that point or at an earlier one. -/

/-- Before a point runs, window 0's buffer holds the point's block. -/
theorem before_0 (hN : Named m) (c : Dev nD) (t : Fin (pipe m hN).N) (d) : (dat m hN 0 c).before 0 t d = block m hN c 0 t :=
  ((dat m hN 0 c).before_in_eq_fetched 0 rfl (fun _ => rfl) (fun _ _ _ => rfl) (fun _ => rfl) t d).trans rfl
/-- Before a point runs, window 1's buffer holds the point's block. -/
theorem before_1 (hN : Named m) (c : Dev nD) (t : Fin (pipe m hN).N) (d) : (dat m hN 0 c).before 1 t d = block m hN c 1 t :=
  ((dat m hN 0 c).before_in_eq_fetched 1 rfl (fun _ => rfl) (fun _ _ _ => rfl) (fun _ => rfl) t d).trans rfl
/-- Before a point runs, window 2's buffer holds the point's block. -/
theorem before_2 (hN : Named m) (c : Dev nD) (t : Fin (pipe m hN).N) (d) : (dat m hN 0 c).before 2 t d = block m hN c 2 t :=
  ((dat m hN 0 c).before_in_eq_fetched 2 rfl (fun _ => rfl) (fun _ _ _ => rfl) (fun _ => rfl) t d).trans rfl
/-- Before a point runs, window 3's buffer holds the point's block. -/
theorem before_3 (hN : Named m) (c : Dev nD) (t : Fin (pipe m hN).N) (d) : (dat m hN 0 c).before 3 t d = block m hN c 3 t :=
  ((dat m hN 0 c).before_in_eq_fetched 3 rfl (fun _ => rfl) (fun _ _ _ => rfl) (fun _ => rfl) t d).trans rfl
/-- Before a point runs, window 4's buffer holds the point's block. -/
theorem before_4 (hN : Named m) (c : Dev nD) (t : Fin (pipe m hN).N) (d) : (dat m hN 0 c).before 4 t d = block m hN c 4 t :=
  ((dat m hN 0 c).before_in_eq_fetched 4 rfl (fun _ => rfl) (fun _ _ _ => rfl) (fun _ => rfl) t d).trans rfl
/-- Before a point runs, window 5's buffer holds the point's block. -/
theorem before_5 (hN : Named m) (c : Dev nD) (t : Fin (pipe m hN).N) (d) : (dat m hN 0 c).before 5 t d = block m hN c 5 t :=
  ((dat m hN 0 c).before_in_eq_fetched 5 rfl (fun _ => rfl) (fun _ _ _ => rfl) (fun _ => rfl) t d).trans rfl
/-- Before a point runs, window 6's buffer holds the point's block. -/
theorem before_6 (hN : Named m) (c : Dev nD) (t : Fin (pipe m hN).N) (d) : (dat m hN 0 c).before 6 t d = block m hN c 6 t :=
  ((dat m hN 0 c).before_in_eq_fetched 6 rfl (fun _ => rfl) (fun _ _ _ => rfl) (fun _ => rfl) t d).trans rfl

/-- The body's table entry at a point's buffers is the body there. -/
theorem row (hN : Named m) (t : Fin (pipe m hN).N) :
    defs₀ (F := F) .tc (pipe m hN).body ((pipe m hN).bodyArgs t ((pipe m hN).slots t))
      = cc0_moe_ffn (grid0.coords t) classes (Memref.isWhole_whole _) experts (Memref.isWhole_whole _)
          (spec0_0.stage ((pipe m hN).slots t 0)) (hstage0_0 (((pipe m hN).slots t 0).cast nbuf0_0))
          (spec0_1.stage ((pipe m hN).slots t 1)) (hstage0_1 (((pipe m hN).slots t 1).cast nbuf0_1))
          (spec0_2.stage ((pipe m hN).slots t 2)) (hstage0_2 (((pipe m hN).slots t 2).cast nbuf0_2))
          (spec0_3.stage ((pipe m hN).slots t 3)) (hstage0_3 (((pipe m hN).slots t 3).cast nbuf0_3))
          (spec0_4.stage ((pipe m hN).slots t 4)) (hstage0_4 (((pipe m hN).slots t 4).cast nbuf0_4))
          (spec0_5.stage ((pipe m hN).slots t 5)) (hstage0_5 (((pipe m hN).slots t 5).cast nbuf0_5))
          (spec0_6.stage ((pipe m hN).slots t 6)) (hstage0_6 (((pipe m hN).slots t 6).cast nbuf0_6))
          (spec0_7.stage ((pipe m hN).slots t 7)) (hstage0_7 (((pipe m hN).slots t 7).cast nbuf0_7)) := by
  unfold defs₀
  rw [Defs.onTc_tc]

/-- The output's buffer is stored into at every point: one of the two branches runs. -/
theorem never_idle (hN : Named m) (t : Fin (pipe m hN).N) : (pipe m hN).idle 7 ((pipe m hN).grid.coords t) = false := by
  show (!(k0_cond1 (classWord (tables m) (grid0.coords t)) == 1#1) && !(k0_cond2 (classWord (tables m) (grid0.coords t)) == 1#1)) = false
  by_cases h : k0_cond1 (classWord (tables m) (grid0.coords t)) = 1#1
  · rw [h]; rfl
  · rw [(cond2_iff _).2 h]; exact Bool.and_false _

/-- What the body is handed at a point, and what it hands back. -/
def handed (hN : Named m) (c : Dev nD) (t : Fin (pipe m hN).N) : sProp 𝕄 :=
  iprop((dat m hN 0 c).Φ t.castSucc ∗ (dat m hN 0 c).owesAt () t.castSucc
    ∗ (∃ d, owns (c : Thread nD τ) (spec0_0.stage ((pipe m hN).slots t 0)) fullShare ((dat m hN 0 c).before 0 t d))
    ∗ (∃ d, owns (c : Thread nD τ) (spec0_1.stage ((pipe m hN).slots t 1)) fullShare ((dat m hN 0 c).before 1 t d))
    ∗ (∃ d, owns (c : Thread nD τ) (spec0_2.stage ((pipe m hN).slots t 2)) fullShare ((dat m hN 0 c).before 2 t d))
    ∗ (∃ d, owns (c : Thread nD τ) (spec0_3.stage ((pipe m hN).slots t 3)) fullShare ((dat m hN 0 c).before 3 t d))
    ∗ (∃ d, owns (c : Thread nD τ) (spec0_4.stage ((pipe m hN).slots t 4)) fullShare ((dat m hN 0 c).before 4 t d))
    ∗ (∃ d, owns (c : Thread nD τ) (spec0_5.stage ((pipe m hN).slots t 5)) fullShare ((dat m hN 0 c).before 5 t d))
    ∗ (∃ d, owns (c : Thread nD τ) (spec0_6.stage ((pipe m hN).slots t 6)) fullShare ((dat m hN 0 c).before 6 t d))
    ∗ (∃ d, owns (c : Thread nD τ) (spec0_7.stage ((pipe m hN).slots t 7)) fullShare ((dat m hN 0 c).before 7 t d)))

/-- What a point's body gives back. -/
def returned (hN : Named m) (c : Dev nD) (t : Fin (pipe m hN).N) : sProp 𝕄 :=
  iprop((dat m hN 0 c).Φ t.succ ∗ (dat m hN 0 c).owesAt () t.succ
    ∗ owns (c : Thread nD τ) (spec0_0.stage ((pipe m hN).slots t 0)) fullShare (block m hN c 0 t)
    ∗ owns (c : Thread nD τ) (spec0_1.stage ((pipe m hN).slots t 1)) fullShare (block m hN c 1 t)
    ∗ owns (c : Thread nD τ) (spec0_2.stage ((pipe m hN).slots t 2)) fullShare (block m hN c 2 t)
    ∗ owns (c : Thread nD τ) (spec0_3.stage ((pipe m hN).slots t 3)) fullShare (block m hN c 3 t)
    ∗ owns (c : Thread nD τ) (spec0_4.stage ((pipe m hN).slots t 4)) fullShare (block m hN c 4 t)
    ∗ owns (c : Thread nD τ) (spec0_5.stage ((pipe m hN).slots t 5)) fullShare (block m hN c 5 t)
    ∗ owns (c : Thread nD τ) (spec0_6.stage ((pipe m hN).slots t 6)) fullShare (block m hN c 6 t)
    ∗ owns (c : Thread nD τ) (spec0_7.stage ((pipe m hN).slots t 7)) fullShare (tileAt m hN c t))

set_option maxHeartbeats 800000 in
/-- The body at a point, from what it is handed to what it hands back. -/
theorem body_sound (hN : Named m) (c : Dev nD) (t : Fin (pipe m hN).N) :
    handed m hN c t ⊢ wp frame (wpE (defs₀ (F := F)) Variants.none c none) Set.univ
      (defs₀ (F := F) .tc (pipe m hN).body ((pipe m hN).bodyArgs t ((pipe m hN).slots t))) (fun _ => returned m hN c t) := by
  rw [row]
  unfold handed returned
  simp only [before_0, before_1, before_2, before_3, before_4, before_5, before_6]
  rw [show (dat m hN 0 c).Φ t.succ = (dat m hN 0 c).Φ t.castSucc from rfl,
    show (dat m hN 0 c).owesAt () t.succ = (dat m hN 0 c).owesAt () t.castSucc from rfl,
    show (dat m hN 0 c).Φ t.castSucc = iprop(Pipeline.ΦA spec0 c ∗ Pipeline.ΦT pre0 (tables m) c) from rfl, tables_held]
  unfold tileAt
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c (grid0.coords t) _ _ _ _ _ _ _ _ _ _ _ _ _ _ _ _ (block m hN c 0 t) (block m hN c 1 t) (block m hN c 2 t)
    (block m hN c 3 t) (block m hN c 4 t) (block m hN c 5 t) (block m hN c 6 t) (tables m) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  isplitl [HT1]; · iexact HT1
  iintro ⟨H0, H1, H2, H3, H4, H5, H6, H7, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's obligation on the body, at every point. -/
theorem body_obligation (hN : Named m) (c : Dev nD) : BodyObligation (dat (F := F) m hN 0 c) (defs₀ (F := F)) Variants.none () Set.univ := fun t => by
  rw [bigSep_W0, bigSep_W0]
  refine triple_restated (body_sound m hN c t) rfl .rfl fun _ => ?_
  rw [show (pipe m hN).idle (7 : Fin 8) ((pipe m hN).grid.coords t) = false from never_idle m hN t]
  exact .rfl

/-! ## The run -/

set_option backward.isDefEq.respectTransparency.types false in
/-- Every run of `main` from zero counters terminates, with the pipeline's arrays at what the proof data say, every other
    array as launched, and the counters at zero. -/
theorem main_runs (hN : Named m) : θ_run defs (onTc (τ := τ) (main (F := F))) (s₀ m ρ)
    (fun r => (Pipeline.FramePost (Pipeline.pin pcfgs fun _ => accepted m hN) (dat m hN) 0 (entry m)) r ∧ r.2.sem = fun _ => 0) :=
  Pipeline.θ_run_frameP_shared (Q' := _) pcfgs (fun _ => accepted m hN) (dat m hN) (0 : Fin 1) launch₀0 defs₀ Variants.none m ρ main
    (hbody := fun c => (body_obligation m hN c).loose) (hq := fun _ _ _ => rfl) (howed := fun _ _ => rfl) (V := entry m)
    (hmain := main_enters m Variants.none) (hA := dat_arr m hN) (hpf := entry_tables m) (hΦ := fun _ _ => rfl)

/-- The same run: the arguments as launched, the result the output window's array after the last point, counters zero. -/
theorem main_value (hN : Named m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v0) = (dat m hN 0 c).arrAt 7 (pipe m hN).N)
      ∧ r.2.sem = fun _ => 0) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      ((h.1 c).1 0).trans (((dat m hN 0 c).arrAt_in 0 rfl _).trans (dat_arr m hN c 0)),
      ((h.1 c).1 4).trans (((dat m hN 0 c).arrAt_in 4 rfl _).trans (dat_arr m hN c 4)),
      ((h.1 c).1 5).trans (((dat m hN 0 c).arrAt_in 5 rfl _).trans (dat_arr m hN c 5)),
      ((h.1 c).1 6).trans (((dat m hN 0 c).arrAt_in 6 rfl _).trans (dat_arr m hN c 6)),
      (h.1 c).1 7⟩, h.2⟩) (main_runs m ρ hN)

end Cert.Kernel3Ideal.Experts

end
-- ==== Proof.LastExpertsNamed.lean ====
/- The experts' table read by the index maps: a table whose words are all below 16 gives blocks inside the weights. -/
module

public import proofs.«01_k».proof.Proof.LastExpertsKit
public import Idealize.ShloMosaic.Lib.Affine
public import Idealize.ShloMosaic.Lib.ValueIdx

@[expose] public section

set_option maxRecDepth 16384

noncomputable section

namespace Cert.Kernel3Ideal.Experts

open Idealize.ShloMosaic Idealize.ShloMosaic.TcCoe Idealize.SL.Sem Idealize.ShloMosaic.ValueIdx
open Gen

variable {F : FTy → Type} [FloatOps F]

/-- The experts' table, as an array of words. -/
abbrev expertTable (T : pre0.Contents (Elt F)) : S304.Idx → BitVec 32 := T 1

/-- The expert a point's blocks of weights are of: `r = 0` the first, `r = 1` the second. -/
def expertWord (T : pre0.Contents (Elt F)) (r : Fin 2) (i : grid0.Coords) : BitVec 32 :=
  expertTable T (ix1 ⟨152 * r.val + (i 0).val, by have : (i 0).val < 152 := (i 0).isLt; omega⟩)

/-- The one-word load an index map makes reads that word. -/
theorem load_eq (T : pre0.Contents (Elt F)) (i : grid0.Coords) (r : Fin 2) :
    T.at 1 (Rect.unit (s := S304) (k0_off1 i (BitVec.ofNat 32 (152 * r.val))) S1.size (k0_off1_inb i r)) numel1_S1 = expertWord T r i := by
  unfold expertWord
  show T 1 _ = T 1 _
  refine congrArg (T 1) (funext fun a => Fin.ext ?_)
  fin_cases a
  exact (show k0_off1 i (BitVec.ofNat 32 (152 * r.val)) 0 + 1 * _ = k0_off1 i (BitVec.ofNat 32 (152 * r.val)) 0 from rfl).trans
    (congrFun (k0_off1_eq i r) 0)

/-- Window 1's block index at a point. -/
theorem transform1 (T : pre0.Contents (Elt F)) (i : grid0.Coords) : cc0_transform_1 k0_off1_inb numel1_S1 T i = ![(expertWord T 0 i).toNat, 0, 0] :=
  congrArg (fun w : BitVec 32 => ![w.toNat, 0, 0]) (load_eq T i 0)
/-- Window 2's block index at a point. -/
theorem transform2 (T : pre0.Contents (Elt F)) (i : grid0.Coords) : cc0_transform_2 k0_off1_inb numel1_S1 T i = ![(expertWord T 0 i).toNat, 0, 0] :=
  congrArg (fun w : BitVec 32 => ![w.toNat, 0, 0]) (load_eq T i 0)
/-- Window 3's block index at a point. -/
theorem transform3 (T : pre0.Contents (Elt F)) (i : grid0.Coords) : cc0_transform_3 k0_off1_inb numel1_S1 T i = ![(expertWord T 0 i).toNat, 0, 0] :=
  congrArg (fun w : BitVec 32 => ![w.toNat, 0, 0]) (load_eq T i 0)
/-- Window 4's block index at a point. -/
theorem transform4 (T : pre0.Contents (Elt F)) (i : grid0.Coords) : cc0_transform_4 k0_off1_inb numel1_S1 T i = ![(expertWord T 1 i).toNat, 0, 0] :=
  congrArg (fun w : BitVec 32 => ![w.toNat, 0, 0]) (load_eq T i 1)
/-- Window 5's block index at a point. -/
theorem transform5 (T : pre0.Contents (Elt F)) (i : grid0.Coords) : cc0_transform_5 k0_off1_inb numel1_S1 T i = ![(expertWord T 1 i).toNat, 0, 0] :=
  congrArg (fun w : BitVec 32 => ![w.toNat, 0, 0]) (load_eq T i 1)
/-- Window 6's block index at a point. -/
theorem transform6 (T : pre0.Contents (Elt F)) (i : grid0.Coords) : cc0_transform_6 k0_off1_inb numel1_S1 T i = ![(expertWord T 1 i).toNat, 0, 0] :=
  congrArg (fun w : BitVec 32 => ![w.toNat, 0, 0]) (load_eq T i 1)

/-- An expert's block of an up projection, or of a down projection, is inside its array. -/
theorem inside_up (e : Nat) (he : e < 16) : ∀ a, ((![e, 0, 0] : Fin 3 → Nat) a + 1) * S1x1024x512.size a ≤ S16x1024x512.size a
  | ⟨0, _⟩ => by show (e + 1) * 1 ≤ 16; omega
  | ⟨1, _⟩ => by show (0 + 1) * 1024 ≤ 1024; omega
  | ⟨2, _⟩ => by show (0 + 1) * 512 ≤ 512; omega
/-- An expert's block of a down projection is inside its array. -/
theorem inside_down (e : Nat) (he : e < 16) : ∀ a, ((![e, 0, 0] : Fin 3 → Nat) a + 1) * S1x512x1024.size a ≤ S16x512x1024.size a
  | ⟨0, _⟩ => by show (e + 1) * 1 ≤ 16; omega
  | ⟨1, _⟩ => by show (0 + 1) * 512 ≤ 512; omega
  | ⟨2, _⟩ => by show (0 + 1) * 1024 ≤ 1024; omega

/-- A table of words below 16 is one the pipeline accepts. -/
theorem named_of (m : (ℓ : Loc nD τ sig) → Buf (Elt F) ℓ) (h : ∀ j, (expertTable (tables m) j).toNat < 16) : Named m := by
  have up : ∀ (ix : grid0.Coords → Fin 3 → Nat) (r : Fin 2), (∀ i, ix i = ![(expertWord (tables m) r i).toNat, 0, 0]) → ∀ i : grid0.Coords,
      ∃ h : (∀ a, (ix i a + 1) * S1x1024x512.size a ≤ S16x1024x512.size a), EltTy.bits .bf16 = 32
        ∨ (Rect.block (s := S16x1024x512) S1x1024x512.size (ix i) h).WholeWords (EltTy.packing .bf16) := fun ix r e i =>
    ⟨fun a => by rw [e]; exact inside_up _ (h _) a, .inr (Affine.block_words_dvd (of_decide_eq_true rfl) (by decide))⟩
  have down : ∀ (ix : grid0.Coords → Fin 3 → Nat) (r : Fin 2), (∀ i, ix i = ![(expertWord (tables m) r i).toNat, 0, 0]) → ∀ i : grid0.Coords,
      ∃ h : (∀ a, (ix i a + 1) * S1x512x1024.size a ≤ S16x512x1024.size a), EltTy.bits .bf16 = 32
        ∨ (Rect.block (s := S16x512x1024) S1x512x1024.size (ix i) h).WholeWords (EltTy.packing .bf16) := fun ix r e i =>
    ⟨fun a => by rw [e]; exact inside_down _ (h _) a, .inr (Affine.block_words_dvd (of_decide_eq_true rfl) (by decide))⟩
  exact ⟨up _ 0 (transform1 _), up _ 0 (transform2 _), down _ 0 (transform3 _), up _ 1 (transform4 _), up _ 1 (transform5 _), down _ 1 (transform6 _)⟩

end Cert.Kernel3Ideal.Experts

end
-- ==== Proof.LastExpertsTile.lean ====
/-
  What the experts' body leaves at a row and lane over the extended reals: two experts' outputs for the row's token, each
  weighted, added; zero on a tile of no class.
-/
module

public import proofs.«01_k».proof.Proof.LastExpertsNamed
public import proofs.«01_k».proof.Proof.ExpertsTile
public import Idealize.ShloMosaic.Lib.KernelVsHost

@[expose] public section

noncomputable section

namespace Cert.Kernel3Ideal.Experts

open Cert.Kernel3Ideal Cert.Kernel3Ideal.Gen Idealize.ShloMosaic Idealize.ShloMosaic.TcCoe Idealize.SL.Sem
open Idealize.ShloMosaic.ValueIdx

/-- A token's projection onto one hidden unit. -/
def project (x : Fin 1024 → EReal) (w : Fin 1024 → Fin 512 → EReal) (f : Fin 512) : EReal := ∑ k, x k * w k f

/-- A token's hidden unit: the gate's projection times its logistic, times the other projection. -/
def hidden (x : Fin 1024 → EReal) (wg wu : Fin 1024 → Fin 512 → EReal) (f : Fin 512) : EReal :=
  project x wg f * Ideal.logistic (project x wg f) * project x wu f

/-- One lane of an expert's output, the hidden units weighted before the down projection. -/
def expertOut (x : Fin 1024 → EReal) (wg wu : Fin 1024 → Fin 512 → EReal) (wd : Fin 512 → EReal) (w : EReal) : EReal :=
  ∑ f, hidden x wg wu f * w * wd f

/-- What the body leaves at a row and lane. -/
theorem tileOut_apply (w : BitVec 32) (x0 : Vec Ideal S512x1152 .f32) (x1 x2 : Vec Ideal S1x1024x512 .bf16) (x3 : Vec Ideal S1x512x1024 .bf16)
    (x4 x5 : Vec Ideal S1x1024x512 .bf16) (x6 : Vec Ideal S1x512x1024 .bf16) (r : Fin 512) (l : Fin 1024) :
    tileOut (F := Ideal) w x0 x1 x2 x3 x4 x5 x6 (ix2 r l) = if k0_cond1 w = 1#1 then
      expertOut (fun k => x0 (ix2 r ⟨k.val, by omega⟩)) (fun k f => x1 (ix3 0 k f)) (fun k f => x2 (ix3 0 k f)) (fun f => x3 (ix3 0 f l)) (x0 (ix2 r 1024))
      + expertOut (fun k => x0 (ix2 r ⟨k.val, by omega⟩)) (fun k f => x4 (ix3 0 k f)) (fun k f => x5 (ix3 0 k f)) (fun f => x6 (ix3 0 f l)) (x0 (ix2 r 1025))
      else 0 :=
  Cert.Kernel2Ideal.Experts.tileOut_apply w x0 x1 x2 x3 x4 x5 x6 r l

end Cert.Kernel3Ideal.Experts

end
-- ==== Proof.LastExpertsValue.lean ====
/-
  The experts' result array, as one function of the six arguments: rows `512 j` to `512 j + 511` are tile `j`'s, whose
  class is word `j` of the first table and whose two experts are words `j` and `152 + j` of the second.
-/
module

public import proofs.«01_k».proof.Proof.LastExpertsTile
public import Idealize.ShloMosaic.Lib.Pipeline.Kit

@[expose] public section

set_option maxRecDepth 16384

noncomputable section

namespace Cert.Kernel3Ideal.Experts

open Cert.Kernel3Ideal Cert.Kernel3Ideal.Gen Idealize.ShloMosaic Idealize.ShloMosaic.TcCoe Idealize.SL.Sem
open Idealize.ShloMosaic.ValueIdx
open Idealize.ShloMosaic.Pipeline (Dat)

/-- The expert a word names. -/
def expertOf (w : BitVec 32) : Fin 16 := ⟨w.toNat % 16, Nat.mod_lt _ (by decide)⟩

/-- One expert's weighted output for token `R` at lane `C`. -/
def expertAt (x2 : S78336x1152.Idx → EReal) (x3 x4 : S16x1024x512.Idx → EReal) (x5 : S16x512x1024.Idx → EReal) (e : Fin 16)
    (w : EReal) (R : Fin 77824) (C : Fin 1024) : EReal :=
  expertOut (fun k => x2 (ix2 ⟨R.val, by omega⟩ ⟨k.val, by omega⟩)) (fun k f => x3 (ix3 e k f)) (fun k f => x4 (ix3 e k f))
    (fun f => x5 (ix3 e f C)) w

/-- An expert's output reads its arguments at every lane and unit, and nowhere else. -/
theorem expertOut_congr {x x' : Fin 1024 → EReal} {wg wg' wu wu' : Fin 1024 → Fin 512 → EReal} {wd wd' : Fin 512 → EReal} {w w' : EReal}
    (h0 : ∀ k, x k = x' k) (h1 : ∀ k f, wg k f = wg' k f) (h2 : ∀ k f, wu k f = wu' k f) (h3 : ∀ f, wd f = wd' f) (h4 : w = w') :
    expertOut x wg wu wd w = expertOut x' wg' wu' wd' w' := by
  rw [funext h0, funext fun k => funext (h1 k), funext fun k => funext (h2 k), funext h3, h4]

/-- The result at a row and lane. -/
def resultAt (x0 : S152.Idx → BitVec 32) (x1 : S304.Idx → BitVec 32) (x2 : S78336x1152.Idx → EReal) (x3 x4 : S16x1024x512.Idx → EReal)
    (x5 : S16x512x1024.Idx → EReal) (R : Fin 77824) (C : Fin 1024) : EReal :=
  if k0_cond1 (x0 (ix1 ⟨R.val / 512, by omega⟩)) = 1#1 then
    expertAt x2 x3 x4 x5 (expertOf (x1 (ix1 ⟨R.val / 512, by omega⟩))) (x2 (ix2 ⟨R.val, by omega⟩ 1024)) R C
    + expertAt x2 x3 x4 x5 (expertOf (x1 (ix1 ⟨152 + R.val / 512, by omega⟩))) (x2 (ix2 ⟨R.val, by omega⟩ 1025)) R C
  else 0

/-- There are 152 points. -/
theorem lt_points (t : Fin grid0.N) : t.val < 152 := lt_of_lt_of_eq t.isLt N_0

/-- The one coordinate of a point is its number. -/
theorem coord_eq : ∀ t : Fin grid0.N, (grid0.coords t 0).val = t.val := by decide +kernel

/-- The tokens' block at a point. -/
theorem token_index : ∀ t : Fin grid0.N, cc0_transform_0 (grid0.coords t) 0 = t.val ∧ cc0_transform_0 (grid0.coords t) 1 = 0 := by decide +kernel
/-- The result's block at a point. -/
theorem result_index : ∀ t : Fin grid0.N, cc0_transform_7 (grid0.coords t) 0 = t.val ∧ cc0_transform_7 (grid0.coords t) 1 = 0 := by decide +kernel

variable (m : (ℓ : Loc nD τ sig) → Buf (Elt Ideal) ℓ) (ρ : Dev nD → PrngReg) (c : Dev nD) (hN : Named m)

/-- The six arguments on a core. -/
abbrev arg0 : S152.Idx → BitVec 32 := m ((c : Thread nD τ).loc main_arg0)
/-- The table of experts. -/
abbrev arg1 : S304.Idx → BitVec 32 := m ((c : Thread nD τ).loc main_arg1)
/-- The tokens and their weights. -/
abbrev arg2 : S78336x1152.Idx → EReal := m ((c : Thread nD τ).loc main_arg2)
/-- The gate projections. -/
abbrev arg3 : S16x1024x512.Idx → EReal := m ((c : Thread nD τ).loc main_arg3)
/-- The up projections. -/
abbrev arg4 : S16x1024x512.Idx → EReal := m ((c : Thread nD τ).loc main_arg4)
/-- The down projections. -/
abbrev arg5 : S16x512x1024.Idx → EReal := m ((c : Thread nD τ).loc main_arg5)

/-- The class word of a point's tile. -/
theorem class_eq (t : Fin grid0.N) : classWord (tables m) (grid0.coords t) = arg0 m c (ix1 ⟨t.val, lt_points t⟩) := by
  have hc : entry m c (pre0.ref 0) = tables m 0 := entry_tables m c 0
  have h : ∀ a, k0_off2 (grid0.coords t) a + 1 ≤ (pre0.ref 0).ty.shape.size a := fun a => by
    fin_cases a
    exact k0_off2_inb _ 0
  unfold classWord
  refine (dif_pos h).trans ?_
  rw [← hc]
  refine congrArg (arg0 m c) (funext fun a => Fin.ext ?_)
  fin_cases a
  exact (congrFun (k0_off2_eq (grid0.coords t)) 0).trans (coord_eq t)

/-- The expert words of a point's tile. -/
theorem expert_eq (t : Fin grid0.N) (r : Fin 2) : expertWord (tables m) r (grid0.coords t)
    = arg1 m c (ix1 ⟨152 * r.val + t.val, by have := lt_points t; omega⟩) := by
  have hc : entry m c (pre0.ref 1) = tables m 1 := entry_tables m c 1
  unfold expertWord expertTable
  rw [← hc]
  refine congrArg (arg1 m c) (funext fun a => Fin.ext ?_)
  fin_cases a
  show 152 * r.val + (grid0.coords t 0).val = 152 * r.val + t.val
  rw [coord_eq]

/-- The block of tokens at a point. -/
theorem block0 (t : Fin grid0.N) (r : Fin 512) (l : Fin 1152) :
    (block m hN c 0 t : Vec Ideal S512x1152 .f32) (ix2 r l) = arg2 m c (ix2 ⟨t.val * 512 + r.val, by have := lt_points t; omega⟩ l) := by
  refine (View.read_apply _ _).trans ?_
  refine congrArg (arg2 m c) (Shape.idx_ext₂ ?_ ?_)
  · show cc0_transform_0 (grid0.coords t) 0 * 512 + 1 * r.val = t.val * 512 + r.val; rw [(token_index t).1]; omega
  · show cc0_transform_0 (grid0.coords t) 1 * 1152 + 1 * l.val = l.val; rw [(token_index t).2]; omega

variable (hx : ∀ j, (arg1 m c j).toNat < 16)

include hx in
/-- A word of the table names the expert it is the number of. -/
theorem expertOf_eq (t : Fin grid0.N) (r : Fin 2) : (expertWord (tables m) r (grid0.coords t)).toNat
    = (expertOf (arg1 m c (ix1 ⟨152 * r.val + t.val, by have := lt_points t; omega⟩))).val := by
  rw [expert_eq m c]
  exact (Nat.mod_eq_of_lt (hx _)).symm

include hx in
/-- The block of the first expert's gate at a point. -/
theorem block1 (t : Fin grid0.N) (k : Fin 1024) (f : Fin 512) : (block m hN c 1 t : Vec Ideal S1x1024x512 .bf16) (ix3 0 k f)
    = arg3 m c (ix3 (expertOf (arg1 m c (ix1 ⟨152 * 0 + t.val, by have := lt_points t; omega⟩))) k f) := by
  refine (View.read_apply _ _).trans ?_
  refine congrArg (arg3 m c) (funext fun a => Fin.ext ?_)
  have e := transform1 (tables m) (grid0.coords t)
  match a with
  | ⟨0, _⟩ => show cc0_transform_1 k0_off1_inb numel1_S1 (tables m) (grid0.coords t) 0 * 1 + 1 * 0 = _
              rw [e, mul_one]; exact expertOf_eq m c hx t 0
  | ⟨1, _⟩ => show cc0_transform_1 k0_off1_inb numel1_S1 (tables m) (grid0.coords t) 1 * 1024 + 1 * k.val = k.val
              rw [e]; show 0 * 1024 + 1 * k.val = k.val; omega
  | ⟨2, _⟩ => show cc0_transform_1 k0_off1_inb numel1_S1 (tables m) (grid0.coords t) 2 * 512 + 1 * f.val = f.val
              rw [e]; show 0 * 512 + 1 * f.val = f.val; omega

include hx in
/-- The block of the first expert's other projection. -/
theorem block2 (t : Fin grid0.N) (k : Fin 1024) (f : Fin 512) : (block m hN c 2 t : Vec Ideal S1x1024x512 .bf16) (ix3 0 k f)
    = arg4 m c (ix3 (expertOf (arg1 m c (ix1 ⟨152 * 0 + t.val, by have := lt_points t; omega⟩))) k f) := by
  refine (View.read_apply _ _).trans ?_
  refine congrArg (arg4 m c) (funext fun a => Fin.ext ?_)
  have e := transform2 (tables m) (grid0.coords t)
  match a with
  | ⟨0, _⟩ => show cc0_transform_2 k0_off1_inb numel1_S1 (tables m) (grid0.coords t) 0 * 1 + 1 * 0 = _
              rw [e, mul_one]; exact expertOf_eq m c hx t 0
  | ⟨1, _⟩ => show cc0_transform_2 k0_off1_inb numel1_S1 (tables m) (grid0.coords t) 1 * 1024 + 1 * k.val = k.val
              rw [e]; show 0 * 1024 + 1 * k.val = k.val; omega
  | ⟨2, _⟩ => show cc0_transform_2 k0_off1_inb numel1_S1 (tables m) (grid0.coords t) 2 * 512 + 1 * f.val = f.val
              rw [e]; show 0 * 512 + 1 * f.val = f.val; omega

include hx in
/-- The second expert's. -/
theorem block4 (t : Fin grid0.N) (k : Fin 1024) (f : Fin 512) : (block m hN c 4 t : Vec Ideal S1x1024x512 .bf16) (ix3 0 k f)
    = arg3 m c (ix3 (expertOf (arg1 m c (ix1 ⟨152 * 1 + t.val, by have := lt_points t; omega⟩))) k f) := by
  refine (View.read_apply _ _).trans ?_
  refine congrArg (arg3 m c) (funext fun a => Fin.ext ?_)
  have e := transform4 (tables m) (grid0.coords t)
  match a with
  | ⟨0, _⟩ => show cc0_transform_4 k0_off1_inb numel1_S1 (tables m) (grid0.coords t) 0 * 1 + 1 * 0 = _
              rw [e, mul_one]; exact expertOf_eq m c hx t 1
  | ⟨1, _⟩ => show cc0_transform_4 k0_off1_inb numel1_S1 (tables m) (grid0.coords t) 1 * 1024 + 1 * k.val = k.val
              rw [e]; show 0 * 1024 + 1 * k.val = k.val; omega
  | ⟨2, _⟩ => show cc0_transform_4 k0_off1_inb numel1_S1 (tables m) (grid0.coords t) 2 * 512 + 1 * f.val = f.val
              rw [e]; show 0 * 512 + 1 * f.val = f.val; omega

include hx in
/-- The second expert's other projection. -/
theorem block5 (t : Fin grid0.N) (k : Fin 1024) (f : Fin 512) : (block m hN c 5 t : Vec Ideal S1x1024x512 .bf16) (ix3 0 k f)
    = arg4 m c (ix3 (expertOf (arg1 m c (ix1 ⟨152 * 1 + t.val, by have := lt_points t; omega⟩))) k f) := by
  refine (View.read_apply _ _).trans ?_
  refine congrArg (arg4 m c) (funext fun a => Fin.ext ?_)
  have e := transform5 (tables m) (grid0.coords t)
  match a with
  | ⟨0, _⟩ => show cc0_transform_5 k0_off1_inb numel1_S1 (tables m) (grid0.coords t) 0 * 1 + 1 * 0 = _
              rw [e, mul_one]; exact expertOf_eq m c hx t 1
  | ⟨1, _⟩ => show cc0_transform_5 k0_off1_inb numel1_S1 (tables m) (grid0.coords t) 1 * 1024 + 1 * k.val = k.val
              rw [e]; show 0 * 1024 + 1 * k.val = k.val; omega
  | ⟨2, _⟩ => show cc0_transform_5 k0_off1_inb numel1_S1 (tables m) (grid0.coords t) 2 * 512 + 1 * f.val = f.val
              rw [e]; show 0 * 512 + 1 * f.val = f.val; omega

include hx in
/-- The first expert's down projection. -/
theorem block3 (t : Fin grid0.N) (f : Fin 512) (l : Fin 1024) : (block m hN c 3 t : Vec Ideal S1x512x1024 .bf16) (ix3 0 f l)
    = arg5 m c (ix3 (expertOf (arg1 m c (ix1 ⟨152 * 0 + t.val, by have := lt_points t; omega⟩))) f l) := by
  refine (View.read_apply _ _).trans ?_
  refine congrArg (arg5 m c) (funext fun a => Fin.ext ?_)
  have e := transform3 (tables m) (grid0.coords t)
  match a with
  | ⟨0, _⟩ => show cc0_transform_3 k0_off1_inb numel1_S1 (tables m) (grid0.coords t) 0 * 1 + 1 * 0 = _
              rw [e, mul_one]; exact expertOf_eq m c hx t 0
  | ⟨1, _⟩ => show cc0_transform_3 k0_off1_inb numel1_S1 (tables m) (grid0.coords t) 1 * 512 + 1 * f.val = f.val
              rw [e]; show 0 * 512 + 1 * f.val = f.val; omega
  | ⟨2, _⟩ => show cc0_transform_3 k0_off1_inb numel1_S1 (tables m) (grid0.coords t) 2 * 1024 + 1 * l.val = l.val
              rw [e]; show 0 * 1024 + 1 * l.val = l.val; omega

include hx in
/-- The second expert's down projection. -/
theorem block6 (t : Fin grid0.N) (f : Fin 512) (l : Fin 1024) : (block m hN c 6 t : Vec Ideal S1x512x1024 .bf16) (ix3 0 f l)
    = arg5 m c (ix3 (expertOf (arg1 m c (ix1 ⟨152 * 1 + t.val, by have := lt_points t; omega⟩))) f l) := by
  refine (View.read_apply _ _).trans ?_
  refine congrArg (arg5 m c) (funext fun a => Fin.ext ?_)
  have e := transform6 (tables m) (grid0.coords t)
  match a with
  | ⟨0, _⟩ => show cc0_transform_6 k0_off1_inb numel1_S1 (tables m) (grid0.coords t) 0 * 1 + 1 * 0 = _
              rw [e, mul_one]; exact expertOf_eq m c hx t 1
  | ⟨1, _⟩ => show cc0_transform_6 k0_off1_inb numel1_S1 (tables m) (grid0.coords t) 1 * 512 + 1 * f.val = f.val
              rw [e]; show 0 * 512 + 1 * f.val = f.val; omega
  | ⟨2, _⟩ => show cc0_transform_6 k0_off1_inb numel1_S1 (tables m) (grid0.coords t) 2 * 1024 + 1 * l.val = l.val
              rw [e]; show 0 * 1024 + 1 * l.val = l.val; omega

include hx in
/-- What a point's body leaves at a row and lane is the result at the row and lane it is written to. -/
theorem tileAt_apply (t : Fin grid0.N) (r : Fin 512) (l : Fin 1024) :
    tileAt m hN c t (ix2 r l) = resultAt (arg0 m c) (arg1 m c) (arg2 m c) (arg3 m c) (arg4 m c) (arg5 m c)
      ⟨t.val * 512 + r.val, by have := lt_points t; omega⟩ l := by
  have ht := lt_points t
  have hr := r.isLt
  unfold tileAt
  refine (tileOut_apply _ _ _ _ _ _ _ _ r l).trans ?_
  unfold resultAt expertAt
  have et : (⟨(t.val * 512 + r.val) / 512, by omega⟩ : Fin 152) = ⟨t.val, ht⟩ := Fin.ext (by
    show (t.val * 512 + r.val) / 512 = t.val; omega)
  have e0 : (⟨152 * 0 + t.val, by omega⟩ : Fin 304) = ⟨(t.val * 512 + r.val) / 512, by omega⟩ := Fin.ext (by
    show 152 * 0 + t.val = (t.val * 512 + r.val) / 512; omega)
  have e1 : (⟨152 * 1 + t.val, by omega⟩ : Fin 304) = ⟨152 + (t.val * 512 + r.val) / 512, by omega⟩ := Fin.ext (by
    show 152 * 1 + t.val = 152 + (t.val * 512 + r.val) / 512; omega)
  rw [class_eq m c, et, ← e0, ← e1]
  refine if_congr Iff.rfl (congrArg₂ (fun a b : EReal => a + b) ?_ ?_) rfl
  · refine expertOut_congr (fun k => block0 m c hN t r _) (fun k f => block1 m c hN hx t k f) (fun k f => block2 m c hN hx t k f)
      (fun f => block3 m c hN hx t f l) (block0 m c hN t r _)
  · exact expertOut_congr (fun k => block0 m c hN t r _) (fun k f => block4 m c hN hx t k f) (fun k f => block5 m c hN hx t k f)
      (fun f => block6 m c hN hx t f l) (block0 m c hN t r _)

/-- The result, as contents of the result array. -/
def result : Buf (Elt Ideal) ((c : Thread nD τ).loc main_v0) := fun j : S77824x1024.Idx =>
  resultAt (arg0 m c) (arg1 m c) (arg2 m c) (arg3 m c) (arg4 m c) (arg5 m c) (j 0) (j 1)

include hx in
/-- What each point writes back is the result read through its block. -/
theorem flushed_eq (t : Fin grid0.N) : (dat m hN 0 c).flushed 7 t = (((pipe m hN).win 7).blk t).view.read (Elt Ideal) (result m c) := by
  have e : tileAt m hN c t = fun j : S512x1024.Idx => resultAt (arg0 m c) (arg1 m c) (arg2 m c) (arg3 m c) (arg4 m c) (arg5 m c)
      ⟨t.val * 512 + (j 0).val, by have := lt_points t; have : (j 0).val < 512 := (j 0).isLt; omega⟩ (j 1) := funext fun j => by
    rw [eq_ix2 j]; exact tileAt_apply m c hN hx t (j 0) (j 1)
  show ((pipe m hN).win 7).cut (grid0.coords t) (tileAt m hN c t) = _
  rw [e]
  refine funext fun (j : S512x1024.Idx) => ?_
  refine Eq.trans ?_ (View.read_apply _ _).symm
  refine congr (congrArg (resultAt (arg0 m c) (arg1 m c) (arg2 m c) (arg3 m c) (arg4 m c) (arg5 m c)) (Fin.ext ?_)) (Fin.ext ?_)
  · show t.val * 512 + (j 0).val = cc0_transform_7 (grid0.coords t) 0 * 512 + 1 * (j 0).val; rw [(result_index t).1]; omega
  · show (j 1).val = cc0_transform_7 (grid0.coords t) 1 * 1024 + 1 * (j 1).val; rw [(result_index t).2]; omega

/-- Every point writes its block back. -/
theorem flush_all (t : Fin grid0.N) : ((pipe m hN).win 7).flush t = true :=
  ((fun t => (Pipeline.Window.flushOf_reads cc0_transform_7 reads0_7 hreads0_7 0 (by decide) (by decide)
    (Pipeline.Window.sep_of_coord cc0_transform_7 0 0 (fun _ => rfl) (by decide)) (P := 1) (m := 0) (by decide) rfl t).mpr (Nat.mod_one _) :
    ∀ t : Fin grid0.N, Pipeline.Window.flushOf grid0 true cc0_transform_7 t = true) t)

/-- The points' blocks cover the result array. -/
theorem cover (i : S77824x1024.Idx) : ∃ t : Fin grid0.N, ((pipe m hN).win 7).flush t = true ∧ i ∈ (((pipe m hN).win 7).blk t).view.set := by
  have h0 : (i 0).val < 77824 := (i 0).isLt
  have h1 : (i 1).val < 1024 := (i 1).isLt
  have hp : (i 0).val / 512 < grid0.N := by rw [N_0]; omega
  refine ⟨⟨(i 0).val / 512, hp⟩, flush_all m hN _, ?_⟩
  have hs : (((pipe m hN).win 7).blk (⟨(i 0).val / 512, hp⟩ : Fin grid0.N)).view.set = (((pipe m hN).win 7).rect (⟨(i 0).val / 512, hp⟩ : Fin grid0.N)).set :=
    View.set_slice_whole _ _
  have e0 := result_index ⟨(i 0).val / 512, hp⟩
  refine (Finset.ext_iff.1 hs i).2 (Rect.mem_set_unit.2 fun a => ?_)
  match a with
  | ⟨0, _⟩ => show cc0_transform_7 (grid0.coords ⟨(i 0).val / 512, hp⟩) 0 * 512 ≤ (i 0).val
                ∧ (i 0).val < cc0_transform_7 (grid0.coords ⟨(i 0).val / 512, hp⟩) 0 * 512 + 512
              rw [e0.1]; dsimp only; omega
  | ⟨1, _⟩ => show cc0_transform_7 (grid0.coords ⟨(i 0).val / 512, hp⟩) 1 * 1024 ≤ (i 1).val
                ∧ (i 1).val < cc0_transform_7 (grid0.coords ⟨(i 0).val / 512, hp⟩) 1 * 1024 + 1024
              rw [e0.2]; omega

include hx in
/-- So the result array ends holding the result. -/
theorem final : (dat m hN 0 c).arrAt 7 (pipe m hN).N = result m c :=
  (dat m hN 0 c).arrAt_eq_of_cover 7 (result m c) (fun t _ => flushed_eq m c hN hx t) (cover m hN)

end Cert.Kernel3Ideal.Experts

end
-- ==== Proof.LastExpertsRef.lean ====
/-
  The experts' reference at a row and lane: over all sixteen experts, the row's weight for the expert times the expert's
  output; and its equation with the kernel's result.
-/
module

public import proofs.«01_k».proof.Proof.LastExpertsValue
public import proofs.«01_k».proof.Proof.Gen.Reference3Ideal.Read
public import Idealize.ShloMosaic.Lib.StableHlo.Predicate

@[expose] public section

noncomputable section

namespace Cert.Reference3Ideal.Experts

open Cert.Reference3Ideal Cert.Reference3Ideal.Gen Cert.Reference3Ideal.Read Idealize.ShloMosaic
open Idealize.ShloMosaic.ValueIdx
open Cert.Kernel3Ideal (k0_cond1)
open Cert.Kernel3Ideal.Experts (project hidden expertOut expertOf expertAt resultAt)

variable (x0 : S152.Idx → BitVec 32) (x1 : S304.Idx → BitVec 32) (x2 : S78336x1152.Idx → EReal) (x3 x4 : S16x1024x512.Idx → EReal)
  (x5 : S16x512x1024.Idx → EReal)

/-- One where a word is the number of an expert, zero elsewhere. -/
def chosen (w : BitVec 32) (e : Fin 16) : EReal := if w = BitVec.ofNat 32 e.val then 1 else 0

/-- The comparison's bit, as a float. -/
theorem chosen_eq (w : BitVec 32) (e : Fin 16) :
    FloatOps.uitofp (F := Ideal) .f32 (IntOp.cmpi .eq w (BitVec.ofNat 32 e.val)) = chosen w e := by
  unfold chosen
  show (((IntOp.cmpi .eq w (BitVec.ofNat 32 e.val)).toNat : ℝ) : EReal) = _
  by_cases h : w = BitVec.ofNat 32 e.val
  · rw [if_pos h, show IntOp.cmpi .eq w (BitVec.ofNat 32 e.val) = 1#1 from StableHlo.Predicate.cmpi_eq_iff.2 h]
    simp
  · rw [if_neg h, show IntOp.cmpi .eq w (BitVec.ofNat 32 e.val) = 0#1 from
      (BitVec.eq_zero_or_eq_one _).resolve_right fun h' => h (StableHlo.Predicate.cmpi_eq_iff.1 h')]
    simp

/-- The one-hot row of a tile's first expert. -/
theorem first_at (j : Fin 152) (r : Fin 512) (e : Fin 16) :
    val_main_v9 (F := Ideal) x1 (ix3 j r e) = chosen (x1 (ix1 ⟨j.val, by omega⟩)) e := by
  rw [val_main_v9_apply, val_main_v7_apply, val_main_v6_apply, val_main_v5_apply, val_main_v4_apply, val_main_call0_v4_apply,
    val_main_call0_v2_apply, val_main_call0_v0_apply, val_main_v3_apply, val_main_call0_v3_apply, val_main_call0_v1_apply]
  refine Eq.trans (congrArg₂ (fun a b => FloatOps.uitofp (F := Ideal) .f32 (IntOp.cmpi .eq a b)) ?_ ?_) (chosen_eq _ _)
  · refine congrArg x1 (funext fun a => Fin.ext ?_)
    match a with
    | ⟨0, _⟩ => show 0 * 152 + (j.val * 16 + e.val) / 16 % 152 = j.val; omega
  · refine congrArg (BitVec.ofNat 32) ?_
    show (j.val * 16 + e.val) % 16 = e.val; omega

/-- The one-hot row of a tile's second expert. -/
theorem second_at (j : Fin 152) (r : Fin 512) (e : Fin 16) :
    val_main_v16 (F := Ideal) x1 (ix3 j r e) = chosen (x1 (ix1 ⟨152 + j.val, by omega⟩)) e := by
  rw [val_main_v16_apply, val_main_v14_apply, val_main_v13_apply, val_main_v12_apply, val_main_v4_apply, val_main_call0_v4_apply,
    val_main_call0_v2_apply, val_main_call0_v0_apply, val_main_v3_apply, val_main_call0_v3_apply, val_main_call0_v1_apply]
  refine Eq.trans (congrArg₂ (fun a b => FloatOps.uitofp (F := Ideal) .f32 (IntOp.cmpi .eq a b)) ?_ ?_) (chosen_eq _ _)
  · refine congrArg x1 (funext fun a => Fin.ext ?_)
    match a with
    | ⟨0, _⟩ => show (1 + 0) * 152 + (j.val * 16 + e.val) / 16 % 152 = 152 + j.val; omega
  · refine congrArg (BitVec.ofNat 32) ?_
    show (j.val * 16 + e.val) % 16 = e.val; omega

/-- A token's weight for the tile's first expert. -/
theorem weight1_at (j : Fin 152) (r : Fin 512) (e : Fin 16) :
    val_main_v10 (F := Ideal) x2 (ix3 j r e) = x2 (ix2 ⟨j.val * 512 + r.val, by omega⟩ 1024) := by
  rw [val_main_v10_apply, val_main_v8_apply, val_main_v2_apply, val_main_v1_apply]
  refine congrArg x2 (Shape.idx_ext₂ ?_ ?_)
  · show ((j.val * 512 + r.val) * 2 + 0) / 2 = j.val * 512 + r.val; omega
  · show 1024 + ((j.val * 512 + r.val) * 2 + 0) % 2 = 1024; omega

/-- A token's weight for the tile's second expert. -/
theorem weight2_at (j : Fin 152) (r : Fin 512) (e : Fin 16) :
    val_main_v17 (F := Ideal) x2 (ix3 j r e) = x2 (ix2 ⟨j.val * 512 + r.val, by omega⟩ 1025) := by
  rw [val_main_v17_apply, val_main_v15_apply, val_main_v2_apply, val_main_v1_apply]
  refine congrArg x2 (Shape.idx_ext₂ ?_ ?_)
  · show ((j.val * 512 + r.val) * 2 + 1) / 2 = j.val * 512 + r.val; omega
  · show 1024 + ((j.val * 512 + r.val) * 2 + 1) % 2 = 1025; omega

/-- An expert's hidden unit for a token. -/
theorem hidden_at (e : Fin 16) (R : Fin 77824) (f : Fin 512) :
    val_main_v33 (F := Ideal) x2 x3 x4 (ix3 e R f)
      = hidden (fun k => x2 (ix2 ⟨R.val, by omega⟩ ⟨k.val, by omega⟩)) (fun k f => x3 (ix3 e k f)) (fun k f => x4 (ix3 e k f)) f := by
  have one : Ideal.ofBits .f32 0x3F800000#32 = (1 : EReal) := by
    simp [Ideal.ofBits, Ideal.ieee, -EReal.coe_mul]; norm_num
  have g : val_main_v29 (F := Ideal) x2 x3 (ix3 e R f) = project (fun k => x2 (ix2 ⟨R.val, by omega⟩ ⟨k.val, by omega⟩)) (fun k f => x3 (ix3 e k f)) f := by
    rw [val_main_v29_apply, val_main_v28_apply]
    unfold project
    refine Finset.sum_congr rfl fun k _ => ?_
    rw [mul_comm, val_main_v0_apply]
    refine congrArg₂ (fun a b : EReal => a * b) (congrArg x2 (Shape.idx_ext₂ rfl rfl)) ?_
    exact congrArg x3 (funext fun a => Fin.ext (by match a with | ⟨0, _⟩ => rfl | ⟨1, _⟩ => rfl | ⟨2, _⟩ => rfl))
  have u : val_main_v32 (F := Ideal) x2 x4 (ix3 e R f) = project (fun k => x2 (ix2 ⟨R.val, by omega⟩ ⟨k.val, by omega⟩)) (fun k f => x4 (ix3 e k f)) f := by
    rw [val_main_v32_apply, val_main_v31_apply]
    unfold project
    refine Finset.sum_congr rfl fun k _ => ?_
    rw [mul_comm, val_main_v0_apply]
    refine congrArg₂ (fun a b : EReal => a * b) (congrArg x2 (Shape.idx_ext₂ rfl rfl)) ?_
    exact congrArg x4 (funext fun a => Fin.ext (by match a with | ⟨0, _⟩ => rfl | ⟨1, _⟩ => rfl | ⟨2, _⟩ => rfl))
  rw [val_main_v33_apply, val_main_v30_apply, val_main_call2_v5_apply, val_main_call2_v4_apply, val_main_call2_v3_apply,
    val_main_call2_v2_apply, val_main_call2_v1_apply, val_main_call2_v0_apply, g, u]
  show _ * Ideal.div (Ideal.ofBits .f32 0x3F800000#32) (Ideal.ofBits .f32 0x3F800000#32 + Ideal.exp (-_)) * _ = _
  rw [one]
  rfl

/-- An expert's output for a token. -/
theorem output_at (e : Fin 16) (R : Fin 77824) (C : Fin 1024) :
    val_main_v34 (F := Ideal) x2 x3 x4 x5 (ix3 e R C) = ∑ f : Fin 512, hidden (fun k => x2 (ix2 ⟨R.val, by omega⟩ ⟨k.val, by omega⟩))
      (fun k f => x3 (ix3 e k f)) (fun k f => x4 (ix3 e k f)) f * x5 (ix3 e f C) := by
  rw [val_main_v34_apply]
  refine Finset.sum_congr rfl fun f _ => ?_
  refine congrArg₂ (fun a b : EReal => a * b) ?_ ?_
  · rw [← hidden_at]
    exact congrArg (val_main_v33 (F := Ideal) x2 x3 x4) (funext fun a => Fin.ext (by match a with | ⟨0, _⟩ => rfl | ⟨1, _⟩ => rfl | ⟨2, _⟩ => rfl))
  · exact congrArg x5 (funext fun a => Fin.ext (by match a with | ⟨0, _⟩ => rfl | ⟨1, _⟩ => rfl | ⟨2, _⟩ => rfl))

/-- A token's weight over the experts: its two weights at its tile's two experts, and zero at the others and past the classes. -/
def weightAt (R : Fin 77824) (e : Fin 16) : EReal :=
  if k0_cond1 (x0 (ix1 ⟨R.val / 512, by omega⟩)) = 1#1 then
    chosen (x1 (ix1 ⟨R.val / 512, by omega⟩)) e * x2 (ix2 ⟨R.val, by omega⟩ 1024)
      + chosen (x1 (ix1 ⟨152 + R.val / 512, by omega⟩)) e * x2 (ix2 ⟨R.val, by omega⟩ 1025)
  else 0

/-- A tile is of a class where its class word is below the number of classes. -/
theorem cond1_iff (w : BitVec 32) : k0_cond1 w = 1#1 ↔ IntOp.cmpi .slt w 24#32 = 1#1 := by
  unfold k0_cond1
  dsimp only
  show _ ↔ Scalar.cmpi .slt w 24#32 = 1#1
  rcases BitVec.eq_zero_or_eq_one (Scalar.cmpi .slt w 24#32) with h | h <;> rw [h] <;> decide

/-- The reference's weights over the experts, at a row. -/
theorem combine_at (R : Fin 77824) (e : Fin 16) : val_main_v24 (F := Ideal) x0 x1 x2 (ix2 R e) = weightAt x0 x1 x2 R e := by
  have hi : idx_main_v24 (ix2 R e) = ix3 (⟨R.val / 512, by omega⟩ : Fin 152) (⟨R.val % 512, by omega⟩ : Fin 512) e := funext fun a => Fin.ext (by
    match a with
    | ⟨0, _⟩ => show (R.val * 16 + e.val) / 8192 = R.val / 512; omega
    | ⟨1, _⟩ => show (R.val * 16 + e.val) / 16 % 512 = R.val % 512; omega
    | ⟨2, _⟩ => show (R.val * 16 + e.val) % 16 = e.val; omega)
  have hR : R.val / 512 * 512 + R.val % 512 = R.val := by omega
  rw [val_main_v24_apply, hi, val_main_v23_apply, val_main_v19_apply, val_main_v11_apply, val_main_v18_apply, first_at, second_at,
    weight1_at, weight2_at, val_main_call1_v1_apply, val_main_v22_apply, val_main_v21_apply, val_main_v20_apply, val_main_call1_v2_apply]
  simp only [hR]
  unfold weightAt
  have hc : ∀ (b : BitVec 1) (u v : EReal), Scalar.select b u v = if b = 1#1 then u else v := fun b u v => by
    rcases BitVec.eq_zero_or_eq_one b with h | h
    · rw [h, ValueIdx.select_zero, if_neg (by decide)]
    · rw [h, ValueIdx.select_one, if_pos rfl]
  refine (hc _ _ _).trans ?_
  have hx : x0 (idx_main_v22 (idx_main_call1_v1 (ix3 (⟨R.val / 512, by omega⟩ : Fin 152) (⟨R.val % 512, by omega⟩ : Fin 512) e)))
      = x0 (ix1 ⟨R.val / 512, by omega⟩) := congrArg x0 (funext fun a => by match a with | ⟨0, _⟩ => rfl)
  rw [hx]
  by_cases h : k0_cond1 (x0 (ix1 ⟨R.val / 512, by omega⟩)) = 1#1
  · rw [if_pos h]
    exact if_pos ((cond1_iff _).1 h)
  · rw [if_neg h]
    exact (if_neg fun h' => h ((cond1_iff _).2 h')).trans Ideal.ofBits_zero_f32

/-- The reference's result at a row and lane. -/
theorem result_at (R : Fin 77824) (C : Fin 1024) :
    val_main_v39 (F := Ideal) x0 x1 x2 x3 x4 x5 (ix2 R C) = ∑ e : Fin 16, (∑ f : Fin 512, hidden
      (fun k => x2 (ix2 ⟨R.val, by omega⟩ ⟨k.val, by omega⟩)) (fun k f => x3 (ix3 e k f)) (fun k f => x4 (ix3 e k f)) f * x5 (ix3 e f C))
        * weightAt x0 x1 x2 R e := by
  rw [val_main_v39_apply]
  refine (congrArg₂ (fun a b : EReal => a + b) Ideal.ofBits_zero_f32 (Finset.sum_congr rfl fun e _ => ?_)).trans (zero_add _)
  rw [show idx_main_v39 (ix2 R C) e = ix3 e R C from funext fun a => Fin.ext (by match a with | ⟨0, _⟩ => rfl | ⟨1, _⟩ => rfl | ⟨2, _⟩ => rfl),
    val_main_v38_apply, val_main_v37_apply, val_main_v36_apply, val_main_v35_apply, ← output_at, ← combine_at]
  refine (mul_comm _ _).trans (congrArg (fun a : EReal => val_main_v34 (F := Ideal) x2 x3 x4 x5 (ix3 e R C) * a) ?_)
  exact congrArg (val_main_v24 (F := Ideal) x0 x1 x2) (funext fun a => Fin.ext (by match a with | ⟨0, _⟩ => rfl | ⟨1, _⟩ => rfl))

/-- A nonnegative real weight goes into a sum, whatever the sum's terms. -/
theorem mul_sum (w : EReal) (h0 : 0 ≤ w) (ht : w ≠ ⊤) (s : Finset (Fin 512)) (g : Fin 512 → EReal) : w * ∑ f ∈ s, g f = ∑ f ∈ s, w * g f := by
  classical
  induction s using Finset.induction_on with
  | empty => simp
  | insert a s ha ih => rw [Finset.sum_insert ha, Finset.sum_insert ha, EReal.left_distrib_of_nonneg_of_ne_top h0 ht, ih]

/-- Over the experts, the outputs times the one-hot row of a named expert times a weight sum to that expert's weighted output. -/
theorem pick (y : Fin 16 → EReal) (a : BitVec 32) (ha : a.toNat < 16) (w : EReal) : ∑ e : Fin 16, chosen a e * w * y e = w * y (expertOf a) := by
  have hv : (expertOf a).val = a.toNat := Nat.mod_eq_of_lt ha
  rw [Finset.sum_eq_single (expertOf a)]
  · unfold chosen
    rw [if_pos (BitVec.eq_of_toNat_eq (by rw [hv, BitVec.toNat_ofNat]; omega)), one_mul]
  · intro e _ he
    unfold chosen
    rw [if_neg (fun h => he (Fin.ext (by rw [hv, h, BitVec.toNat_ofNat]; omega))), zero_mul, zero_mul]
  · exact fun h => absurd (Finset.mem_univ _) h

/-- A row's nonnegative real weight times an expert's output is the output the kernel computes, the weight inside its sum. -/
theorem weighted (R : Fin 77824) (C : Fin 1024) (e : Fin 16) (w : EReal) (h0 : 0 ≤ w) (ht : w ≠ ⊤) :
    w * (∑ f : Fin 512, hidden (fun k => x2 (ix2 ⟨R.val, by omega⟩ ⟨k.val, by omega⟩)) (fun k f => x3 (ix3 e k f)) (fun k f => x4 (ix3 e k f)) f
      * x5 (ix3 e f C)) = expertAt x2 x3 x4 x5 e w R C := by
  unfold expertAt expertOut
  rw [mul_sum w h0 ht]
  refine Finset.sum_congr rfl fun f _ => ?_
  rw [← mul_assoc, mul_comm w]

/-- Where the words name experts and the weights are nonnegative reals, the kernel's result is the reference's. -/
theorem result_eq (hx : ∀ j, (x1 j).toNat < 16) (hw : ∀ (R : Fin 77824) (l : Fin 1152), l.val = 1024 ∨ l.val = 1025 →
      0 ≤ x2 (ix2 ⟨R.val, by omega⟩ l) ∧ x2 (ix2 ⟨R.val, by omega⟩ l) ≠ ⊤) (R : Fin 77824) (C : Fin 1024) :
    resultAt x0 x1 x2 x3 x4 x5 R C = val_main_v39 (F := Ideal) x0 x1 x2 x3 x4 x5 (ix2 R C) := by
  obtain ⟨p1, t1⟩ := hw R 1024 (Or.inl rfl)
  obtain ⟨p2, t2⟩ := hw R 1025 (Or.inr rfl)
  rw [result_at]
  unfold resultAt weightAt
  by_cases h : k0_cond1 (x0 (ix1 ⟨R.val / 512, by omega⟩)) = 1#1
  · have hn : ∀ (a : BitVec 32) (e : Fin 16), 0 ≤ chosen a e := fun a e => by
      unfold chosen; split
      · exact zero_le_one
      · exact le_rfl
    let y : Fin 16 → EReal := fun e => ∑ f : Fin 512, hidden (fun k => x2 (ix2 ⟨R.val, by omega⟩ ⟨k.val, by omega⟩)) (fun k f => x3 (ix3 e k f))
      (fun k f => x4 (ix3 e k f)) f * x5 (ix3 e f C)
    have d : ∀ (a b : BitVec 32) (u v : EReal) (hu : 0 ≤ u) (hv : 0 ≤ v), ∑ e : Fin 16, y e * (chosen a e * u + chosen b e * v)
        = (∑ e : Fin 16, chosen a e * u * y e) + ∑ e : Fin 16, chosen b e * v * y e := fun a b u v hu hv => by
      rw [← Finset.sum_add_distrib]
      refine Finset.sum_congr rfl fun e _ => ?_
      rw [mul_comm, EReal.right_distrib_of_nonneg (mul_nonneg (hn _ _) hu) (mul_nonneg (hn _ _) hv)]
    rw [if_pos h, Finset.sum_congr rfl fun e _ => congrArg (fun a : EReal => y e * a) (if_pos h)]
    refine Eq.symm ((d _ _ _ _ p1 p2).trans ?_)
    rw [pick y _ (hx _), pick y _ (hx _)]
    exact congrArg₂ (fun a b : EReal => a + b) (weighted x2 x3 x4 x5 R C _ _ p1 t1) (weighted x2 x3 x4 x5 R C _ _ p2 t2)
  · rw [if_neg h]
    refine Eq.symm (Finset.sum_eq_zero fun e _ => ?_)
    rw [if_neg h, mul_zero]

end Cert.Reference3Ideal.Experts

end
-- ==== Proof.LastExperts.lean ====
/-
  The claims about the experts' call: frames, and its result the reference's over the extended reals.
-/
module

public import proofs.«01_k».proof.Defs
public import proofs.«01_k».proof.Proof.LastExpertsPre
public import proofs.«01_k».proof.Proof.LastExpertsRef
public import proofs.«01_k».proof.Proof.LastExpertsNamedBits
public import proofs.«01_k».proof.Proof.Gen.Reference3Ideal.Run
public import Idealize.ShloMosaic.Lib.Quiescent

@[expose] public section

noncomputable section

namespace Cert.LastExperts

open Idealize.ShloMosaic Idealize.ShloMosaic.TcCoe Idealize.SL.Sem Idealize.ShloMosaic.ValueIdx

/-- The printed kernel runs where the table names experts, leaves its arguments, and every semaphore ends at zero. -/
theorem kernel_frame : Cert.quiescent_Kernel3 := fun m ρ hp =>
  (θ_run Cert.Kernel3.defs _ _).mono (fun _ h => ⟨fun c => by
      obtain ⟨h0, h1, h2, h3, h4, h5, _⟩ := h.1 c
      exact ⟨h0, h1, h2, h3, h4, h5⟩, h.2⟩)
    (Cert.Kernel3.Experts.main_value (F := Bits) m ρ (Cert.Kernel3.Experts.named_of m (named_of_pre _ _ _ _ _ _ (hp 0))))

/-- The idealized kernel runs where the table names experts, leaves its arguments, and every semaphore ends at zero. -/
theorem ideal_frame : Cert.quiescent_Kernel3Ideal := fun m ρ hp =>
  (θ_run Cert.Kernel3Ideal.defs _ _).mono (fun _ h => ⟨fun c => by
      obtain ⟨h0, h1, h2, h3, h4, h5, _⟩ := h.1 c
      exact ⟨h0, h1, h2, h3, h4, h5⟩, h.2⟩)
    (Cert.Kernel3Ideal.Experts.main_value (F := Ideal) m ρ (Cert.Kernel3Ideal.Experts.named_of m (named_of_pre _ _ _ _ _ _ (hp 0))))

/-- The idealized kernel's frame under the value claim's precondition. -/
theorem ideal_frame_real : Cert.quiescent_Kernel3Ideal_pre_experts_named_weights_real_last := fun m ρ hp =>
  (θ_run Cert.Kernel3Ideal.defs _ _).mono (fun _ h => ⟨fun c => by
      obtain ⟨h0, h1, h2, h3, h4, h5, _⟩ := h.1 c
      exact ⟨h0, h1, h2, h3, h4, h5⟩, h.2⟩)
    (Cert.Kernel3Ideal.Experts.main_value (F := Ideal) m ρ (Cert.Kernel3Ideal.Experts.named_of m (reals_of_pre _ _ _ _ _ _ (hp 0)).1))

/-- The experts' reference runs, leaves its arguments and declares no semaphore. -/
theorem reference_frame : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Where the table names experts and the weights are nonnegative real numbers, the kernel's result array is the reference's. -/
theorem algebraic : Cert.algebraic_Kernel3Ideal_Reference3Ideal_pre_experts_named_weights_real_last := by
  intro m ρ m' ρ' hpre hagree
  have hn := Cert.Kernel3Ideal.Experts.named_of m (reals_of_pre _ _ _ _ _ _ (hpre 0)).1
  refine ⟨fun c => Cert.Kernel3Ideal.Experts.result m c, ?_, ?_⟩
  · refine (θ_run Cert.Kernel3Ideal.defs _ _).mono (fun _ h c => ?_) (Cert.Kernel3Ideal.Experts.main_value (F := Ideal) m ρ hn)
    obtain ⟨h0, h1, h2, h3, h4, h5, h6⟩ := h.1 c
    exact ⟨h6.trans (Cert.Kernel3Ideal.Experts.final m c hn (reals_of_pre _ _ _ _ _ _ (hpre c)).1), h0, h1, h2, h3, h4, h5⟩
  · refine (θ_run Cert.Reference3Ideal.defs _ _).mono (fun _ h c => ⟨(h c).1.trans ?_, (h c).2⟩)
      (Cert.Reference3Ideal.Value.run (F := Ideal) m' ρ')
    rw [Cert.Reference3Ideal.Read.val_main_v39_eq, (hagree c).1, (hagree c).2.1, (hagree c).2.2.1, (hagree c).2.2.2.1, (hagree c).2.2.2.2.1,
      (hagree c).2.2.2.2.2]
    obtain ⟨hx, hw⟩ := reals_of_pre _ _ _ _ _ _ (hpre c)
    refine funext fun (j : Cert.Kernel3Ideal.S77824x1024.Idx) => ?_
    rw [eq_ix2 j]
    refine (Cert.Reference3Ideal.Experts.result_eq _ _ _ _ _ _ hx (fun R l hl => ?_) (j 0) (j 1)).symm
    rcases hl with hl | hl
    · rw [show l = (⟨1024, by omega⟩ : Fin 1152) from Fin.ext hl]
      exact hw R 0
    · rw [show l = (⟨1025, by omega⟩ : Fin 1152) from Fin.ext hl]
      exact hw R 1

end Cert.LastExperts

end
-- ==== Proof.CombinePre.lean ====
/-
  The combine call's precondition read: every position is the number of a row of the experts' outputs.
-/
module

public import proofs.«01_k».proof.Defs
public import proofs.«01_k».proof.Proof.Gen.Pre_positions_named
public import Idealize.ShloMosaic.Lib.ReduceAll
public import Idealize.ShloMosaic.Lib.Affine
public import Idealize.ShloMosaic.Lib.ValueIdx
public import Idealize.ShloMosaic.Lib.KernelVsHost

@[expose] public section

noncomputable section

namespace Cert.Combine

open Idealize.ShloMosaic Idealize.ShloMosaic.ValueIdx
open Cert.Kernel4Ideal (S65536 S65536x1024 S32x1x6144 S77824x1024)

/-- A word from zero up to the number of rows, read signed, is below it read unsigned. -/
theorem word_small (w : BitVec 32) (h : IntOp.andi (IntOp.cmpi .sge w 0#32) (IntOp.cmpi .slt w 77824#32) = 1#1) : w.toNat < 77824 := by
  obtain ⟨h1, h2⟩ := IntOp.andi_eq_one.1 h
  have e1 : (0#32 : BitVec 32).toInt ≤ w.toInt := by
    by_contra hn
    rw [show IntOp.cmpi .sge w 0#32 = BitVec.ofBool (decide ((0#32 : BitVec 32).toInt ≤ w.toInt)) from rfl, decide_eq_false hn] at h1
    exact absurd h1 (by decide)
  have e2 : w.toInt < (77824#32 : BitVec 32).toInt := by
    by_contra hn
    rw [show IntOp.cmpi .slt w 77824#32 = BitVec.ofBool (decide (w.toInt < (77824#32 : BitVec 32).toInt)) from rfl, decide_eq_false hn] at h2
    exact absurd h2 (by decide)
  have z : (0#32 : BitVec 32).toInt = 0 := by decide
  have s : (77824#32 : BitVec 32).toInt = 77824 := by decide
  rw [z] at e1
  rw [s] at e2
  rw [BitVec.toInt_eq_toNat_cond] at e1 e2
  have := w.isLt
  split at e1 <;> omega

/-- Under the precondition every position is the number of a row. -/
theorem named_of_pre {F : FTy → Type} [FloatOps F] (x0 : IVec S65536 32) (x1 : FVec F S65536x1024 .f32) (x2 : FVec F S32x1x6144 .f32)
    (x3 : FVec F S77824x1024 .f32) (h : Cert.Pre_positions_named.fn (F := F) x0 x1 x2 x3 = fun _ => 1#1) (j : S65536.Idx) :
    (x0 j).toNat < 77824 := by
  have h0 := congrFun h (fun a : Fin 0 => a.elim0)
  have : Subsingleton Cert.Pre_positions_named.S_.Idx := ⟨fun a b => funext fun d : Fin 0 => d.elim0⟩
  unfold Cert.Pre_positions_named.fn at h0
  exact word_small _ (Host.reduce_andi_all _ _ _ _ _ h0 j)

end Cert.Combine

end
-- ==== Proof.CombineKit.lean ====
/- The combine call as a program: the rows it copies, the transfers in flight between two points of its grid, and what the
   body leaves in the output window's staging buffer. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.Value
public import Idealize.ShloMosaic.Lib.VecWindow
public import Idealize.ShloMosaic.Lib.Tactic
public import Idealize.ShloMosaic.Lib.WordCmp
public import Idealize.ShloMosaic.Lib.Batch
public import Idealize.ShloMosaic.Lib.Ring
public import Idealize.ShloMosaic.Lib.ValueLayout

@[expose] public section

set_option maxRecDepth 16384

noncomputable section

namespace Cert.Kernel4Ideal.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Gen
open Idealize.ShloMosaic.ValueIdx

variable {F : FTy → Type} [FloatOps F]

local notation "𝕄" => MT nD τ sig Unit (Elt F) ℕ (UD sig nD τ) ℕ

/-! ## Rows: where a copy reads and where it writes -/

/-- The experts' outputs, eight rows to a group. -/
abbrev ysM : Memref sig .tc .hbm S9728x8x1024 .f32 := Memref.whole main_v0
/-- The scratch: two slots of 512 rows. -/
abbrev scrM : Memref sig .tc .vmem S2x64x8x1024 .f32 := Memref.whole cc0_scratch0

/-- One row of the experts' outputs, at printed offsets. -/
abbrev srcOf (off : Fin 3 → Nat) (inb : ∀ a, off a + S1x1x1024.size a ≤ S9728x8x1024.size a) : Memref sig .tc .hbm S1x1024 .f32 :=
  (ysM.slice (Rect.unit (s := S9728x8x1024) off S1x1x1024.size inb) (fun _ => rfl)).squeeze S1x1024 squeezes_S1x1x1024_S1x1024
/-- One row of the scratch, at printed offsets. -/
abbrev dstOf (off : Fin 4 → Nat) (inb : ∀ a, off a + S1x1x1x1024.size a ≤ S2x64x8x1024.size a) : Memref sig .tc .vmem S1x1024 .f32 :=
  (scrM.slice (Rect.unit (s := S2x64x8x1024) off S1x1x1x1024.size inb) (fun _ => rfl)).squeeze S1x1024 squeezes_S1x1x1x1024_S1x1024
/-- One semaphore of the two, at a printed offset. -/
abbrev semOf (off : Fin 1 → Nat) (inb : ∀ a, off a + S1.size a ≤ S2.size a) : DmaSem sig :=
  ((cc0_scratch1.slice (Rect.unit (s := S2) off S1.size inb)).squeeze S_ squeezes_S1_S_).sem

/-- A slot's semaphore. -/
def slotSem (s : Fin 2) : DmaSem sig := ⟨6 + s.val, by have := s.isLt; show 6 + s.val < 8; omega⟩

/-- The semaphore at offset `s` is slot `s`'s. -/
theorem semOf_eq (s : Fin 2) (off : Fin 1 → Nat) (inb : ∀ a, off a + S1.size a ≤ S2.size a) (h : off = ![s.val]) : semOf off inb = slotSem s := by
  subst h
  refine Fin.ext ?_
  show 6 + (S2.rowMajor _).val = 6 + s.val
  rw [Shape.rowMajor_val_one]
  have : ∀ z : Fin 1, 6 + (s.val + 1 * z.val) = 6 + s.val := fun z => by omega
  exact this _

/-- The entries of the experts' outputs in the row a word names. -/
def rowSet (w : BitVec 32) : Finset S9728x8x1024.Idx := Finset.univ.filter fun x => (x 0).val = w.toNat / 8 ∧ (x 1).val = w.toNat % 8
/-- The entries of the scratch in row `r` of slot `s`. -/
def slotRow (s : Fin 2) (r : Fin 512) : Finset S2x64x8x1024.Idx := Finset.univ.filter fun x => (x 0).val = s.val ∧ (x 1).val * 8 + (x 2).val = r.val

theorem srcOf_emb (off : Fin 3 → Nat) (inb) (y : Fin 1024) (a : Fin 3) :
    (((srcOf off inb).view.emb (ix2 (0 : Fin 1) y)) a).val = off a + (if a = 2 then y.val else 0) := by
  show off a + 1 * ((Shape.reshapeEquiv (s := ⟨3, ![1, 1, 1024]⟩) (s' := ⟨2, ![1, 1024]⟩) _ (ix2 (0 : Fin 1) y)) a).val = _
  rw [reshapeEquiv_ix2_1ab]
  fin_cases a <;> simp [ix3]

theorem dstOf_emb (off : Fin 4 → Nat) (inb) (y : Fin 1024) (a : Fin 4) :
    (((dstOf off inb).view.emb (ix2 (0 : Fin 1) y)) a).val = off a + (if a = 3 then y.val else 0) := by
  show off a + 1 * ((Shape.reshapeEquiv (s := ⟨4, ![1, 1, 1, 1024]⟩) (s' := ⟨2, ![1, 1024]⟩) _ (ix2 (0 : Fin 1) y)) a).val = _
  rw [reshapeEquiv_ix2_11ab]
  fin_cases a <;> simp [ix4]

/-- A row copied from is the row its word names. -/
theorem srcOf_set (w : BitVec 32) (off : Fin 3 → Nat) (inb) (h : off = ![w.toNat / 8, w.toNat % 8, 0]) :
    (srcOf off inb).view.set = rowSet w := by
  subst h
  refine ((View.set_reshape _ _).trans (View.set_slice_whole _ _)).trans ?_
  ext x
  rw [Rect.mem_set_unit]
  unfold rowSet
  rw [Finset.mem_filter]
  constructor
  · intro hx
    refine ⟨Finset.mem_univ _, ?_, ?_⟩
    · have := hx 0; simp [S1x1x1024] at this; omega
    · have := hx 1; simp [S1x1x1024] at this; omega
  · rintro ⟨-, h0, h1⟩ a
    have h2 := (x 2).isLt
    fin_cases a
    · simp [S1x1x1024]; omega
    · simp [S1x1x1024]; omega
    · simp [S1x1x1024]; exact h2

/-- A row copied into is its slot's row. -/
theorem dstOf_set (s : Fin 2) (r : Fin 512) (off : Fin 4 → Nat) (inb) (h : off = ![s.val, r.val / 8, r.val % 8, 0]) :
    (dstOf off inb).view.set = slotRow s r := by
  subst h
  refine ((View.set_reshape _ _).trans (View.set_slice_whole _ _)).trans ?_
  ext x
  rw [Rect.mem_set_unit]
  unfold slotRow
  rw [Finset.mem_filter]
  have hx2 : (x 2).val < 8 := (x 2).isLt
  constructor
  · intro hx
    refine ⟨Finset.mem_univ _, ?_, ?_⟩
    · have h0 : s.val ≤ (x 0).val ∧ (x 0).val < s.val + 1 := hx 0; omega
    · have h1 : r.val / 8 ≤ (x 1).val ∧ (x 1).val < r.val / 8 + 1 := hx 1
      have h2 : r.val % 8 ≤ (x 2).val ∧ (x 2).val < r.val % 8 + 1 := hx 2
      omega
  · rintro ⟨-, h0, h1⟩ a
    have h2 := (x 3).isLt
    fin_cases a
    · show s.val ≤ (x 0).val ∧ (x 0).val < s.val + 1; omega
    · show r.val / 8 ≤ (x 1).val ∧ (x 1).val < r.val / 8 + 1; omega
    · show r.val % 8 ≤ (x 2).val ∧ (x 2).val < r.val % 8 + 1; omega
    · simp [S1x1x1x1024]; exact h2

/-- The index of the entry a copied row's lane comes from. -/
def fromIdx (w : BitVec 32) (y : Fin 1024) : S9728x8x1024.Idx := ix3 (⟨w.toNat / 8 % 9728, Nat.mod_lt _ (by decide)⟩ : Fin 9728) (⟨w.toNat % 8, Nat.mod_lt _ (by decide)⟩ : Fin 8) y

/-- The scratch with every row the copy of the row its word names. -/
def gath (Y : S9728x8x1024.Idx → Elt F .f32) (w : Fin 512 → BitVec 32) : S2x64x8x1024.Idx → Elt F .f32 := fun x =>
  Y (fromIdx (w ⟨(x 1).val * 8 + (x 2).val, by have h1 : (x 1).val < 64 := (x 1).isLt; have h2 : (x 2).val < 8 := (x 2).isLt; omega⟩) (x 3))

/-- What one copy writes is the gathered row. -/
theorem copied (Y : S9728x8x1024.Idx → Elt F .f32) (w : Fin 512 → BitVec 32) (s : Fin 2) (r : Fin 512) (fd : S2x64x8x1024.Idx → Elt F .f32)
    (offS : Fin 3 → Nat) (inbS) (hS : offS = ![(w r).toNat / 8, (w r).toNat % 8, 0])
    (offD : Fin 4 → Nat) (inbD) (hD : offD = ![s.val, r.val / 8, r.val % 8, 0]) :
    ∀ x ∈ (dstOf offD inbD).view.set, (dstOf offD inbD).view.write (Elt F) fd (ReadAs.same.apply ((srcOf offS inbS).view.read (Elt F) Y)) Finset.univ x = gath Y w x := by
  intro x hx
  obtain ⟨y, -, rfl⟩ := Finset.mem_map.mp hx
  rw [View.write_emb_of_mem _ _ (Finset.mem_univ _)]
  obtain ⟨y1, rfl⟩ : ∃ y1 : Fin 1024, y = ix2 (0 : Fin 1) y1 := ⟨y 1, by
    funext a
    fin_cases a
    · exact Subsingleton.elim (α := Fin 1) _ _
    · rfl⟩
  show Y ((srcOf offS inbS).view.emb (ix2 (0 : Fin 1) y1)) = _
  unfold gath
  have hr : (⟨(((dstOf offD inbD).view.emb (ix2 (0 : Fin 1) y1)) 1).val * 8 + (((dstOf offD inbD).view.emb (ix2 (0 : Fin 1) y1)) 2).val, by
      have h1 : (((dstOf offD inbD).view.emb (ix2 (0 : Fin 1) y1)) 1).val < 64 := Fin.isLt _
      have h2 : (((dstOf offD inbD).view.emb (ix2 (0 : Fin 1) y1)) 2).val < 8 := Fin.isLt _
      omega⟩ : Fin 512) = r := by
    refine Fin.ext ?_
    show (((dstOf offD inbD).view.emb (ix2 (0 : Fin 1) y1)) 1).val * 8 + (((dstOf offD inbD).view.emb (ix2 (0 : Fin 1) y1)) 2).val = r.val
    rw [dstOf_emb, dstOf_emb]
    subst hD
    simp
    omega
  refine congrArg Y (funext fun a => Fin.ext ?_)
  rw [srcOf_emb, hr]
  have h0 := inbS 0
  subst hS
  have h0' : (w r).toNat / 8 < 9728 := by simp [S1x1x1024, S9728x8x1024] at h0; omega
  fin_cases a
  · show (w r).toNat / 8 + 0 = (w r).toNat / 8 % 9728
    rw [Nat.mod_eq_of_lt h0']; rfl
  · show (w r).toNat % 8 + 0 = (w r).toNat % 8
    rfl
  · show 0 + y1.val = (((dstOf offD inbD).view.emb (ix2 (0 : Fin 1) y1)) 3).val
    rw [dstOf_emb]
    subst hD
    simp

/-! ## Transfers in flight -/

/-- What one row's copy credits its semaphore. -/
abbrev NN : ℕ := (dstOf ![0, 0, 0, 0] (by decide)).view.dmaCredit

/-- The half of the experts' outputs that a slot's copies read from. -/
def base : Fin 2 → PosShare TreeShare := ![fullShare.left, fullShare.right]
/-- A copy's share of the experts' outputs. -/
abbrev tok (s : Fin 2) (r : Fin 512) : PosShare TreeShare := Transfers.shareTok (base s) 512 r

/-- Where the experts' outputs lie. -/
abbrev yLoc (c : Dev nD) : Loc nD τ sig := ysM.view.loc (c : Thread nD τ)
/-- Where the scratch lies. -/
abbrev sLoc (c : Dev nD) : Loc nD τ sig := scrM.view.loc (c : Thread nD τ)

variable (c : Dev nD) (Y : S9728x8x1024.Idx → Elt F .f32) (w : Fin 512 → BitVec 32) (s : Fin 2)

/-- Row `r` of a slot with no copy in flight: its share of the outputs, and the row at some contents. -/
def idleRow (r : Fin 512) : sProp 𝕄 :=
  iprop((yLoc c ↦{tok s r} Y) ∗ ∃ f : S2x64x8x1024.Idx → Elt F .f32, sLoc c ↦[slotRow s r]{fullShare} f)
/-- What row `r`'s copy delivers: the row gathered, and the row it read back. -/
def delivery (r : Fin 512) : sProp 𝕄 :=
  iprop((sLoc c ↦[slotRow s r]{fullShare} gath Y w) ∗ (yLoc c ↦[rowSet (w r)]{tok s r} Y))
/-- Row `r` of a slot of which the first `k` rows' copies are issued. -/
def cell (k : ℕ) (r : Fin 512) : sProp 𝕄 :=
  if r.val < k then (yLoc c ↦[Finset.univ \ rowSet (w r)]{tok s r} Y) else idleRow c Y s r

instance delivery_storable : ∀ r, Storable (upEmb : UEmb _ 𝕄) (delivery c Y w s r) := fun r => by
  unfold delivery; infer_instance

/-- The batch of a slot's copies, `k` of them issued and `u` units consumed. -/
abbrev flight (k u : ℕ) : sProp 𝕄 :=
  Transfers.Batch (countersEmb (U := UD sig nD τ)) (c : Thread nD τ) (.dma (slotSem s)) () NN (delivery c Y w s) k u
/-- A slot of which `k` rows' copies are issued. -/
def Issuing (k : ℕ) : sProp 𝕄 := iprop(flight c Y w s k 0 ∗ bigSep Finset.univ (cell c Y w s k))

theorem cell_of_lt {k : ℕ} {r : Fin 512} (h : r.val < k) : cell c Y w s k r = (yLoc c ↦[Finset.univ \ rowSet (w r)]{tok s r} Y) := if_pos h
theorem cell_of_ge {k : ℕ} {r : Fin 512} (h : ¬ r.val < k) : cell c Y w s k r = idleRow c Y s r := if_neg h

/-- Row `k` of the ledger taken out to be issued, and what puts it back. -/
theorem cells_step (k : ℕ) (hk : k < 512) :
    bigSep Finset.univ (cell c Y w s k)
      ⊢ iprop(idleRow c Y s ⟨k, hk⟩ ∗ ((yLoc c ↦[Finset.univ \ rowSet (w ⟨k, hk⟩)]{tok s ⟨k, hk⟩} Y) -∗ bigSep Finset.univ (cell c Y w s (k + 1)))) := by
  have h := bigSep_univ_update (Φ := cell c Y w s k) (Ψ := cell c Y w s (k + 1)) (⟨k, hk⟩ : Fin 512) (fun j hj => by
    unfold cell
    have : j.val ≠ k := fun e => hj (Fin.ext e)
    by_cases h : j.val < k
    · rw [if_pos h, if_pos (by omega)]
    · rw [if_neg h, if_neg (by omega)])
  rw [cell_of_ge c Y w s (show ¬ (⟨k, hk⟩ : Fin 512).val < k from Nat.lt_irrefl _), cell_of_lt c Y w s (show (⟨k, hk⟩ : Fin 512).val < k + 1 from Nat.lt_succ_self _)] at h
  exact h

/-- Issuing one more row's copy. -/
theorem issue_one (k : ℕ) (hk : k < 512)
    (offS : Fin 3 → Nat) (inbS) (hS : offS = ![(w ⟨k, hk⟩).toNat / 8, (w ⟨k, hk⟩).toNat % 8, 0])
    (offD : Fin 4 → Nat) (inbD) (hD : offD = ![s.val, k / 8, k % 8, 0])
    (offM : Fin 1 → Nat) (inbM) (hM : offM = ![s.val])
    {hs : (srcOf offS inbS).view.WordExact} {hd : (dstOf offD inbD).view.WordExact} {ht}
    {α : Type} {kont : PUnit → Prog (TpuEff nD τ sig (Elt F) Λ₀ .tc) α} {Q : α → sProp 𝕄} :
    Issuing c Y w s k
      ⊢ iprop((Issuing c Y w s (k + 1) -∗ wp frame (wpE (defs₀ (F := F)) Variants.none c none) Set.univ (kont ⟨⟩) Q)
          -∗ wp frame (wpE (defs₀ (F := F)) Variants.none c none) Set.univ
              (Prog.lift (.enqueueDma (srcOf offS inbS) (.here (dstOf offD inbD)) (.dma (semOf offM inbM)) hs hd ht) >>= kont) Q) := by
  have hsem := semOf_eq s offM inbM hM
  have hdset := dstOf_set s ⟨k, hk⟩ offD inbD hD
  have hsset := srcOf_set (w ⟨k, hk⟩) offS inbS hS
  revert ht
  rw [hsem]
  intro ht
  iintro HI Hk
  unfold Issuing
  icases HI with ⟨HB, HL⟩
  ihave HU := cells_step c Y w s k hk $$ HL
  icases HU with ⟨Hc, HL⟩
  unfold idleRow
  icases Hc with ⟨Hy, %f, Hs⟩
  ihave Hy2 := (pointsTo_split_subset (q := tok s ⟨k, hk⟩) (f := Y) (ℓ := yLoc c) (S := Finset.univ) (I := rowSet (w ⟨k, hk⟩)) (Finset.subset_univ _)).1 $$ Hy
  icases Hy2 with ⟨Hy1, Hy0⟩
  iapply (Transfers.wp_dmaBatch (countersEmb (U := UD sig nD τ)) Variants.none (c : Thread nD τ) none (src := srcOf offS inbS) (dst := dstOf offD inbD) () NN rfl
    (Sd := slotRow s ⟨k, hk⟩) (by rw [hdset]) (D := delivery c Y w s) (j := k) (u := 0) hk (Nat.zero_le _) (q := tok s ⟨k, hk⟩) (fs := Y) (fd := f) (by
      unfold delivery
      rw [pointsTo_congr (fun x hx => copied Y w s ⟨k, hk⟩ f offS inbS hS offD inbD hD x (by rw [hdset]; exact hx)), hsset])) $$ [Hy1 Hs HB]
  · isplitl [Hy1]; · rw [hsset]; iexact Hy1
    isplitl [Hs]; · iexact Hs
    iexact HB
  iintro HB
  iapply Hk
  isplitl [HB]; · iexact HB
  iapply HL
  iexact Hy0

/-! ## The printed offsets -/

/-- The slot of a tile, as the kernel computes it. -/
def slotW (a : BitVec 32) : BitVec 32 :=
  let v40 : BitVec 32 := Scalar.select (Scalar.cmpi .eq 2#32 0#32) 1#32 2#32
  let v41 : BitVec 32 := Scalar.remsi a v40
  let v45 : BitVec 1 := Scalar.xori (Scalar.cmpi .slt v41 0#32) (Scalar.cmpi .slt v40 0#32)
  let v46 : BitVec 1 := Scalar.andi v45 (Scalar.cmpi .ne v41 0#32)
  Scalar.select v46 (Scalar.addi v41 v40) v41

theorem slotW_cur : ∀ n : Fin 128, (slotW (BitVec.ofNat 32 n.val)).toNat = n.val % 2 := by decide +kernel
theorem slotW_next : ∀ n : Fin 128, (slotW (Scalar.addi (BitVec.ofNat 32 n.val) 1#32)).toNat = (n.val + 1) % 2 := by decide +kernel
theorem iv_val : ∀ t : Fin 64, (Scf.iv 0#32 1#32 t.val).toNat = t.val := by decide +kernel

/-- A tile's number at a grid point. -/
abbrev tileNo (i : grid0.Coords) : ℕ := (i 0).val
theorem tileNo_lt (i : grid0.Coords) : tileNo i < 128 := (i 0).isLt

theorem cur_row (i : grid0.Coords) (s : Fin 2) (hs : s.val = tileNo i % 2) (t : ℕ) (ht : t < 64) (j : ℕ) (hj : j < 8) :
    (![(slotW (BitVec.ofNat 32 (i 0).val)).toNat, (Scf.iv 0#32 1#32 t).toNat, j, 0] : Fin 4 → Nat) = ![s.val, (8 * t + j) / 8, (8 * t + j) % 8, 0] := by
  rw [slotW_cur ⟨(i 0).val, tileNo_lt i⟩, iv_val ⟨t, ht⟩, hs, show (8 * t + j) / 8 = t by omega, show (8 * t + j) % 8 = j by omega]
theorem cur_sem (i : grid0.Coords) (s : Fin 2) (hs : s.val = tileNo i % 2) :
    (![(slotW (BitVec.ofNat 32 (i 0).val)).toNat] : Fin 1 → Nat) = ![s.val] := by
  rw [slotW_cur ⟨(i 0).val, tileNo_lt i⟩, hs]
theorem next_row (i : grid0.Coords) (s : Fin 2) (hs : s.val = (tileNo i + 1) % 2) (t : ℕ) (ht : t < 64) (j : ℕ) (hj : j < 8) :
    (![(slotW (Scalar.addi (BitVec.ofNat 32 (i 0).val) 1#32)).toNat, (Scf.iv 0#32 1#32 t).toNat, j, 0] : Fin 4 → Nat) = ![s.val, (8 * t + j) / 8, (8 * t + j) % 8, 0] := by
  rw [slotW_next ⟨(i 0).val, tileNo_lt i⟩, iv_val ⟨t, ht⟩, hs, show (8 * t + j) / 8 = t by omega, show (8 * t + j) % 8 = j by omega]
theorem next_sem (i : grid0.Coords) (s : Fin 2) (hs : s.val = (tileNo i + 1) % 2) :
    (![(slotW (Scalar.addi (BitVec.ofNat 32 (i 0).val) 1#32)).toNat] : Fin 1 → Nat) = ![s.val] := by
  rw [slotW_next ⟨(i 0).val, tileNo_lt i⟩, hs]

/-! ## The words -/

/-- The table of positions. -/
abbrev posM : Memref sig .tc .smem S65536 .i32 := Memref.whole main_arg0
/-- The table held on a core, at half the full share. -/
abbrev tabHeld (c : Dev nD) (T : S65536.Idx → BitVec 32) : sProp 𝕄 :=
  posM.view.loc (c : Thread nD τ) ↦{fullShare.right} (show Buf (Elt F) (posM.view.loc (c : Thread nD τ)) from T)

/-- The words of tile `n`. -/
def tileWords (T : S65536.Idx → BitVec 32) (n : ℕ) (r : Fin 512) : BitVec 32 := T (ix1 (⟨(512 * n + r.val) % 65536, Nat.mod_lt _ (by decide)⟩ : Fin 65536))

/-- Every position names a row of the experts' outputs. -/
abbrev Named (T : S65536.Idx → BitVec 32) : Prop := ∀ p, (T p).toNat < 77824

/-- A loaded word is its tile's. -/
theorem word_eq (T : S65536.Idx → BitVec 32) (n : ℕ) (hn : n < 128) (t j : ℕ) (ht : t < 64) (hj : j < 8) (off : Fin 1 → Nat) (inb : ∀ a, off a + S1.size a ≤ S65536.size a)
    (h : off = ![512 * n + 8 * t + j]) (x : S1.Idx) :
    (posM.access (Rect.unit (s := S65536) off S1.size inb)).read (Elt F) T x = tileWords T n ⟨8 * t + j, by omega⟩ := by
  subst h
  show T _ = T _
  refine congrArg T (funext fun a => Fin.ext ?_)
  fin_cases a
  show 512 * n + 8 * t + j + 1 * (x 0).val = (512 * n + (8 * t + j)) % 65536
  have : (x 0).val < 1 := (x 0).isLt
  omega

/-- A word's row and place as the kernel computes them: an eighth and the remainder. -/
theorem word_off (v : BitVec 32) : k0_off4 v = ![v.toNat / 8, v.toNat % 8, 0] := by
  have h1 : (Scalar.shrui v 3#32).toNat = v.toNat / 8 := by
    have : Scalar.shrui v 3#32 = v >>> 3 := rfl
    rw [this, BitVec.toNat_ushiftRight, Nat.shiftRight_eq_div_pow]
  have h2 : (Scalar.andi v 7#32).toNat = v.toNat % 8 := by
    have : Scalar.andi v 7#32 = v &&& 7#32 := rfl
    rw [this, BitVec.toNat_and]
    exact Nat.and_two_pow_sub_one_eq_mod v.toNat 3
  show ![(Scalar.shrui v 3#32).toNat, (Scalar.andi v 7#32).toNat, 0] = _
  rw [h1, h2]

/-- A word that names a row puts the copy inside the outputs. -/
theorem word_inb (v : BitVec 32) (hv : v.toNat < 77824) : ∀ a, (k0_off4 v) a + S1x1x1024.size a ≤ S9728x8x1024.size a := by
  rw [word_off]
  intro a
  fin_cases a
  · show v.toNat / 8 + 1 ≤ 9728; omega
  · show v.toNat % 8 + 1 ≤ 8; omega
  · show 0 + 1024 ≤ 1024; omega

/-- A hand rule leaves its continuation applied, `(Prog.ret a).bind k`: the next statement is `k a`. -/
theorem ret_bind' {E : Type → Type} {α β : Type} (a : α) (k : α → Prog E β) : (Prog.ret a).bind k = k a := rfl

/-- Loading a tile's word. -/
theorem load_word (T : S65536.Idx → BitVec 32) (n : ℕ) (hn : n < 128) (t j : ℕ) (ht : t < 64) (hj : j < 8) (off : Fin 1 → Nat) (inb : ∀ a, off a + S1.size a ≤ S65536.size a)
    (h : off = ![512 * n + 8 * t + j]) {h1 : (Rect.unit (s := S65536) off S1.size inb).shape.numel = 1} {hp : (.i32 : EltTy).packing = 1}
    {α : Type} {kont : Elt F .i32 → Prog (TpuEff nD τ sig (Elt F) Λ₀ .tc) α} {Q : α → sProp 𝕄} :
    tabHeld (F := F) c T ⊢ iprop((tabHeld c T -∗ wp frame (wpE (defs₀ (F := F)) Variants.none c none) Set.univ (kont (tileWords T n ⟨8 * t + j, by omega⟩)) Q)
      -∗ wp frame (wpE (defs₀ (F := F)) Variants.none c none) Set.univ (smemLoad posM (Rect.unit (s := S65536) off S1.size inb) h1 hp >>= kont) Q) := by
  have e := word_eq (F := F) T n hn t j ht hj off inb h (Shape.Idx.first (h1.symm ▸ Nat.one_pos))
  iintro HT Hk
  iapply (wp_smemLoadElt_named Variants.none (c : Thread nD τ) none Set.univ (m := posM) (r := Rect.unit (s := S65536) off S1.size inb)
    (hw := View.loads_smem_one hp h1) (x := Shape.Idx.first (h1.symm ▸ Nat.one_pos)) (q := fullShare.right) (f := T) (k := kont)) $$ HT
  iintro HT %v %hv
  obtain rfl := hv.trans e
  iapply Hk $$ HT

/-- An assumed fact that holds. -/
theorem assume_step {P : Prop} {d : Decidable P} (h : P) {α : Type} {kont : PLift P → Prog (TpuEff nD τ sig (Elt F) Λ₀ .tc) α} {Q : α → sProp 𝕄} :
    wp (M := 𝕄) frame (wpE (defs₀ (F := F)) Variants.none (c : Thread nD τ) none) Set.univ (kont ⟨h⟩) Q
      ⊢ wp frame (wpE (defs₀ (F := F)) Variants.none (c : Thread nD τ) none) Set.univ (Prog.lift (TpuEff.assume P d) >>= kont) Q :=
  wp_assume Variants.none (c : Thread nD τ) none Set.univ (k := kont) h

/-- A finished program. -/
theorem wp_ret_of {α : Type} {a : α} {Q : α → sProp 𝕄} :
    Q a ⊢ wp frame (wpE (defs₀ (F := F)) Variants.none (c : Thread nD τ) none) Set.univ (pure a : Prog (TpuEff nD τ sig (Elt F) Λ₀ .tc) α) Q := by
  iintro H
  sl_step
  iexact H

variable (arg2 : Memref sig .tc .vmem S512x1024 .f32) (harg2 : arg2.IsWhole) (arg3 : Memref sig .tc .vmem S1x1x6144 .f32) (harg3 : arg3.IsWhole)
    (arg5 : Memref sig .tc .vmem S512x1024 .f32) (harg5 : arg5.IsWhole)

/-- A trip's row is one of the slot's. -/
theorem row_lt {t : ℕ} (ht : t < 64) {j : ℕ} (hj : j < 8) : 8 * t + j < 512 := by omega

/-- The second loop's offsets are the next tile's. -/
theorem off_next (i : grid0.Coords) (t : Fin k0_t2_loop.trips) (j : ℕ) (off : Fin 1 → Nat) (h : off = ![512 * (i 0).val + 8 * t.val + (512 + j)]) :
    off = ![512 * (tileNo i + 1) + 8 * t.val + j] := by
  rw [h]
  exact congrArg (fun z : ℕ => (![z] : Fin 1 → Nat)) (by show 512 * (i 0).val + 8 * t.val + (512 + j) = 512 * ((i 0).val + 1) + 8 * t.val + j; omega)

set_option maxHeartbeats 4000000 in
/-- Part 1 of a trip of the first loop: 2 more rows' copies issued. -/
theorem part1 (T : S65536.Idx → BitVec 32) (hT : Named T) (i : grid0.Coords) (hs : s.val = tileNo i % 2)
    (h1 : k0_cond1 i = 1#1) (arg0 : BitVec 32) (t : Fin k0_t1_loop.trips) (K : _ → sProp 𝕄) :
    iprop(tabHeld c T ∗ Issuing c Y (tileWords T (tileNo i)) s (8 * t.val + 0)
        ∗ (iprop(tabHeld c T ∗ Issuing c Y (tileWords T (tileNo i)) s (8 * t.val + 2)) -∗ K ⟨Scf.iv 0#32 1#32 t, tileWords T (tileNo i) ⟨8 * t.val + 2, row_lt t.isLt (by decide)⟩, fun _ => word_inb _ (hT _), 3#32⟩))
      ⊢ wp frame (wpE (defs₀ (F := F)) Variants.none c none) Set.univ
          (k0_part1 i posM (Memref.isWhole_whole _) arg2 harg2 arg3 harg3 ysM (Memref.isWhole_whole _) arg5 harg5 scrM (Memref.isWhole_whole _) cc0_scratch1 arg0 h1 0#32 1#32 t) K := by
  rw [k0_part1_eq_skeleton]
  unfold k0_part1_skel
  dsimp only
  have ht : t.val < 64 := t.isLt
  have hn := tileNo_lt i
  have hchk : ∀ r : Fin 512, ∀ a, (k0_off4 (tileWords T (tileNo i) r)) a + S1x1x1024.size a ≤ S9728x8x1024.size a := fun r => word_inb _ (hT _)
  iintro ⟨HT, HI, HK⟩
  iapply (load_word c T (tileNo i) hn t.val 0 ht (by decide) _ _ (k0_off1_eq i t)) $$ HT
  iintro HT
  iapply (assume_step c (show k0_chk1 i (tileWords T (tileNo i) ⟨8 * t.val + 0, row_lt t.isLt (by decide)⟩) from fun _ => hchk _))
  iapply (issue_one c Y (tileWords T (tileNo i)) s (8 * t.val + 0) (row_lt ht (by decide)) _ _ (word_off _) _ _ (cur_row i s hs t.val ht 0 (by decide)) _ _ (cur_sem i s hs)) $$ HI
  iintro HI
  iapply (load_word c T (tileNo i) hn t.val 1 ht (by decide) _ _ (k0_off5_eq i t)) $$ HT
  iintro HT
  iapply (assume_step c (show k0_chk2 i (tileWords T (tileNo i) ⟨8 * t.val + 1, row_lt t.isLt (by decide)⟩) from fun _ => hchk _))
  iapply (issue_one c Y (tileWords T (tileNo i)) s (8 * t.val + 1) (row_lt ht (by decide)) _ _ (word_off _) _ _ (cur_row i s hs t.val ht 1 (by decide)) _ _ (cur_sem i s hs)) $$ HI
  iintro HI
  iapply (load_word c T (tileNo i) hn t.val 2 ht (by decide) _ _ (k0_off9_eq i t)) $$ HT
  iintro HT
  iapply (assume_step c (show k0_chk3 i (tileWords T (tileNo i) ⟨8 * t.val + 2, row_lt t.isLt (by decide)⟩) from fun _ => hchk _))
  iapply (wp_ret_of (c := c))
  iapply HK
  isplitl [HT]; · iexact HT
  iexact HI

set_option maxHeartbeats 4000000 in
/-- Part 2 of a trip of the first loop: 2 more rows' copies issued. -/
theorem part2 (T : S65536.Idx → BitVec 32) (hT : Named T) (i : grid0.Coords) (hs : s.val = tileNo i % 2)
    (h1 : k0_cond1 i = 1#1) (arg0 : BitVec 32) (t : Fin k0_t1_loop.trips) (a8 : BitVec 32) (hw : k0_chk3 i (tileWords T (tileNo i) ⟨8 * t.val + 2, row_lt t.isLt (by decide)⟩)) (c3 : BitVec 32) (K : _ → sProp 𝕄) :
    iprop(tabHeld c T ∗ Issuing c Y (tileWords T (tileNo i)) s (8 * t.val + 2)
        ∗ (iprop(tabHeld c T ∗ Issuing c Y (tileWords T (tileNo i)) s (8 * t.val + 4)) -∗ K ⟨tileWords T (tileNo i) ⟨8 * t.val + 4, row_lt t.isLt (by decide)⟩, fun _ => word_inb _ (hT _)⟩))
      ⊢ wp frame (wpE (defs₀ (F := F)) Variants.none c none) Set.univ
          (k0_part2 i posM (Memref.isWhole_whole _) arg2 harg2 arg3 harg3 ysM (Memref.isWhole_whole _) arg5 harg5 scrM (Memref.isWhole_whole _) cc0_scratch1 arg0 h1 t a8 (tileWords T (tileNo i) ⟨8 * t.val + 2, row_lt t.isLt (by decide)⟩) hw c3) K := by
  rw [k0_part2_eq_skeleton]
  unfold k0_part2_skel
  dsimp only
  have ht : t.val < 64 := t.isLt
  have hn := tileNo_lt i
  have hchk : ∀ r : Fin 512, ∀ a, (k0_off4 (tileWords T (tileNo i) r)) a + S1x1x1024.size a ≤ S9728x8x1024.size a := fun r => word_inb _ (hT _)
  iintro ⟨HT, HI, HK⟩
  iapply (issue_one c Y (tileWords T (tileNo i)) s (8 * t.val + 2) (row_lt ht (by decide)) _ _ (word_off _) _ _ (cur_row i s hs t.val ht 2 (by decide)) _ _ (cur_sem i s hs)) $$ HI
  iintro HI
  iapply (load_word c T (tileNo i) hn t.val 3 ht (by decide) _ _ (k0_off13_eq i t)) $$ HT
  iintro HT
  iapply (assume_step c (show k0_chk4 i (tileWords T (tileNo i) ⟨8 * t.val + 3, row_lt t.isLt (by decide)⟩) from fun _ => hchk _))
  iapply (issue_one c Y (tileWords T (tileNo i)) s (8 * t.val + 3) (row_lt ht (by decide)) _ _ (word_off _) _ _ (cur_row i s hs t.val ht 3 (by decide)) _ _ (cur_sem i s hs)) $$ HI
  iintro HI
  iapply (load_word c T (tileNo i) hn t.val 4 ht (by decide) _ _ (k0_off17_eq i t)) $$ HT
  iintro HT
  iapply (assume_step c (show k0_chk5 i (tileWords T (tileNo i) ⟨8 * t.val + 4, row_lt t.isLt (by decide)⟩) from fun _ => hchk _))
  iapply (wp_ret_of (c := c))
  iapply HK
  isplitl [HT]; · iexact HT
  iexact HI

set_option maxHeartbeats 4000000 in
/-- Part 3 of a trip of the first loop: 3 more rows' copies issued. -/
theorem part3 (T : S65536.Idx → BitVec 32) (hT : Named T) (i : grid0.Coords) (hs : s.val = tileNo i % 2)
    (h1 : k0_cond1 i = 1#1) (arg0 : BitVec 32) (t : Fin k0_t1_loop.trips) (a8 : BitVec 32) (hw : k0_chk5 i (tileWords T (tileNo i) ⟨8 * t.val + 4, row_lt t.isLt (by decide)⟩)) (K : _ → sProp 𝕄) :
    iprop(tabHeld c T ∗ Issuing c Y (tileWords T (tileNo i)) s (8 * t.val + 4)
        ∗ (iprop(tabHeld c T ∗ Issuing c Y (tileWords T (tileNo i)) s (8 * t.val + 7)) -∗ K ⟨tileWords T (tileNo i) ⟨8 * t.val + 7, row_lt t.isLt (by decide)⟩, fun _ => word_inb _ (hT _), 3#32⟩))
      ⊢ wp frame (wpE (defs₀ (F := F)) Variants.none c none) Set.univ
          (k0_part3 i posM (Memref.isWhole_whole _) arg2 harg2 arg3 harg3 ysM (Memref.isWhole_whole _) arg5 harg5 scrM (Memref.isWhole_whole _) cc0_scratch1 arg0 h1 t a8 (tileWords T (tileNo i) ⟨8 * t.val + 4, row_lt t.isLt (by decide)⟩) hw) K := by
  rw [k0_part3_eq_skeleton]
  unfold k0_part3_skel
  dsimp only
  have ht : t.val < 64 := t.isLt
  have hn := tileNo_lt i
  have hchk : ∀ r : Fin 512, ∀ a, (k0_off4 (tileWords T (tileNo i) r)) a + S1x1x1024.size a ≤ S9728x8x1024.size a := fun r => word_inb _ (hT _)
  iintro ⟨HT, HI, HK⟩
  iapply (issue_one c Y (tileWords T (tileNo i)) s (8 * t.val + 4) (row_lt ht (by decide)) _ _ (word_off _) _ _ (cur_row i s hs t.val ht 4 (by decide)) _ _ (cur_sem i s hs)) $$ HI
  iintro HI
  iapply (load_word c T (tileNo i) hn t.val 5 ht (by decide) _ _ (k0_off21_eq i t)) $$ HT
  iintro HT
  iapply (assume_step c (show k0_chk6 i (tileWords T (tileNo i) ⟨8 * t.val + 5, row_lt t.isLt (by decide)⟩) from fun _ => hchk _))
  iapply (issue_one c Y (tileWords T (tileNo i)) s (8 * t.val + 5) (row_lt ht (by decide)) _ _ (word_off _) _ _ (cur_row i s hs t.val ht 5 (by decide)) _ _ (cur_sem i s hs)) $$ HI
  iintro HI
  iapply (load_word c T (tileNo i) hn t.val 6 ht (by decide) _ _ (k0_off25_eq i t)) $$ HT
  iintro HT
  iapply (assume_step c (show k0_chk7 i (tileWords T (tileNo i) ⟨8 * t.val + 6, row_lt t.isLt (by decide)⟩) from fun _ => hchk _))
  iapply (issue_one c Y (tileWords T (tileNo i)) s (8 * t.val + 6) (row_lt ht (by decide)) _ _ (word_off _) _ _ (cur_row i s hs t.val ht 6 (by decide)) _ _ (cur_sem i s hs)) $$ HI
  iintro HI
  iapply (load_word c T (tileNo i) hn t.val 7 ht (by decide) _ _ (k0_off29_eq i t)) $$ HT
  iintro HT
  iapply (assume_step c (show k0_chk8 i (tileWords T (tileNo i) ⟨8 * t.val + 7, row_lt t.isLt (by decide)⟩) from fun _ => hchk _))
  iapply (wp_ret_of (c := c))
  iapply HK
  isplitl [HT]; · iexact HT
  iexact HI

set_option maxHeartbeats 4000000 in
/-- One trip of the first loop: eight more rows' copies issued. -/
theorem trip1 (T : S65536.Idx → BitVec 32) (hT : Named T) (i : grid0.Coords) (hs : s.val = tileNo i % 2)
    (h1 : k0_cond1 i = 1#1) (arg0 : BitVec 32) (t : Fin k0_t1_loop.trips) (K : Unit → sProp 𝕄) :
    iprop(tabHeld c T ∗ Issuing c Y (tileWords T (tileNo i)) s (8 * t.val + 0)
        ∗ (iprop(tabHeld c T ∗ Issuing c Y (tileWords T (tileNo i)) s (8 * t.val + 8)) -∗ K ⟨⟩))
      ⊢ wp frame (wpE (defs₀ (F := F)) Variants.none c none) Set.univ
          (k0_t1_body i posM (Memref.isWhole_whole _) arg2 harg2 arg3 harg3 ysM (Memref.isWhole_whole _) arg5 harg5 scrM (Memref.isWhole_whole _) cc0_scratch1 arg0 h1 t ⟨⟩) K := by
  unfold k0_t1_body
  have ht : t.val < 64 := t.isLt
  have hn := tileNo_lt i
  iintro ⟨HT, HI, HK⟩
  rw [wp_bind]
  iapply (part1 c Y s arg2 harg2 arg3 harg3 arg5 harg5 T hT i hs h1 arg0 t) $$ [HT HI HK]
  isplitl [HT]; · iexact HT
  isplitl [HI]; · iexact HI
  iintro ⟨HT, HI⟩
  dsimp only
  rw [wp_bind]
  iapply (part2 c Y s arg2 harg2 arg3 harg3 arg5 harg5 T hT i hs h1 arg0 t) $$ [HT HI HK]
  isplitl [HT]; · iexact HT
  isplitl [HI]; · iexact HI
  iintro ⟨HT, HI⟩
  dsimp only
  rw [wp_bind]
  iapply (part3 c Y s arg2 harg2 arg3 harg3 arg5 harg5 T hT i hs h1 arg0 t) $$ [HT HI HK]
  isplitl [HT]; · iexact HT
  isplitl [HI]; · iexact HI
  iintro ⟨HT, HI⟩
  dsimp only
  iapply (issue_one c Y (tileWords T (tileNo i)) s (8 * t.val + 7) (row_lt ht (by decide)) _ _ (word_off _) _ _ (cur_row i s hs t.val ht 7 (by decide)) _ _ (cur_sem i s hs)) $$ HI
  iintro HI
  iapply (wp_ret_of (c := c))
  iapply HK
  isplitl [HT]; · iexact HT
  iexact HI

set_option maxHeartbeats 4000000 in
/-- Part 1 of a trip of the second loop: 2 more rows' copies issued. -/
theorem part4 (T : S65536.Idx → BitVec 32) (hT : Named T) (i : grid0.Coords) (hs : s.val = (tileNo i + 1) % 2) (hn : tileNo i + 1 < 128)
    (h1 : k0_cond2 i = 1#1) (v39 : BitVec 32) (t : Fin k0_t2_loop.trips) (K : _ → sProp 𝕄) :
    iprop(tabHeld c T ∗ Issuing c Y (tileWords T (tileNo i + 1)) s (8 * t.val + 0)
        ∗ (iprop(tabHeld c T ∗ Issuing c Y (tileWords T (tileNo i + 1)) s (8 * t.val + 2)) -∗ K ⟨Scf.iv 0#32 1#32 t, tileWords T (tileNo i + 1) ⟨8 * t.val + 2, row_lt t.isLt (by decide)⟩, fun _ => word_inb _ (hT _), 3#32⟩))
      ⊢ wp frame (wpE (defs₀ (F := F)) Variants.none c none) Set.univ
          (k0_part4 i posM (Memref.isWhole_whole _) arg2 harg2 arg3 harg3 ysM (Memref.isWhole_whole _) arg5 harg5 scrM (Memref.isWhole_whole _) cc0_scratch1 h1 v39 0#32 1#32 t) K := by
  rw [k0_part4_eq_skeleton]
  unfold k0_part4_skel
  dsimp only
  have ht : t.val < 64 := t.isLt
  have hchk : ∀ r : Fin 512, ∀ a, (k0_off4 (tileWords T (tileNo i + 1) r)) a + S1x1x1024.size a ≤ S9728x8x1024.size a := fun r => word_inb _ (hT _)
  iintro ⟨HT, HI, HK⟩
  iapply (load_word c T (tileNo i + 1) hn t.val 0 ht (by decide) _ _ (off_next i t 0 _ (k0_off33_eq i t))) $$ HT
  iintro HT
  iapply (assume_step c (show k0_chk9 i (tileWords T (tileNo i + 1) ⟨8 * t.val + 0, row_lt t.isLt (by decide)⟩) from fun _ => hchk _))
  iapply (issue_one c Y (tileWords T (tileNo i + 1)) s (8 * t.val + 0) (row_lt ht (by decide)) _ _ (word_off _) _ _ (next_row i s hs t.val ht 0 (by decide)) _ _ (next_sem i s hs)) $$ HI
  iintro HI
  iapply (load_word c T (tileNo i + 1) hn t.val 1 ht (by decide) _ _ (off_next i t 1 _ (k0_off37_eq i t))) $$ HT
  iintro HT
  iapply (assume_step c (show k0_chk10 i (tileWords T (tileNo i + 1) ⟨8 * t.val + 1, row_lt t.isLt (by decide)⟩) from fun _ => hchk _))
  iapply (issue_one c Y (tileWords T (tileNo i + 1)) s (8 * t.val + 1) (row_lt ht (by decide)) _ _ (word_off _) _ _ (next_row i s hs t.val ht 1 (by decide)) _ _ (next_sem i s hs)) $$ HI
  iintro HI
  iapply (load_word c T (tileNo i + 1) hn t.val 2 ht (by decide) _ _ (off_next i t 2 _ (k0_off41_eq i t))) $$ HT
  iintro HT
  iapply (assume_step c (show k0_chk11 i (tileWords T (tileNo i + 1) ⟨8 * t.val + 2, row_lt t.isLt (by decide)⟩) from fun _ => hchk _))
  iapply (wp_ret_of (c := c))
  iapply HK
  isplitl [HT]; · iexact HT
  iexact HI

set_option maxHeartbeats 4000000 in
/-- Part 2 of a trip of the second loop: 2 more rows' copies issued. -/
theorem part5 (T : S65536.Idx → BitVec 32) (hT : Named T) (i : grid0.Coords) (hs : s.val = (tileNo i + 1) % 2) (hn : tileNo i + 1 < 128)
    (h1 : k0_cond2 i = 1#1) (v39 : BitVec 32) (t : Fin k0_t2_loop.trips) (a8 : BitVec 32) (hw : k0_chk11 i (tileWords T (tileNo i + 1) ⟨8 * t.val + 2, row_lt t.isLt (by decide)⟩)) (c3 : BitVec 32) (K : _ → sProp 𝕄) :
    iprop(tabHeld c T ∗ Issuing c Y (tileWords T (tileNo i + 1)) s (8 * t.val + 2)
        ∗ (iprop(tabHeld c T ∗ Issuing c Y (tileWords T (tileNo i + 1)) s (8 * t.val + 4)) -∗ K ⟨tileWords T (tileNo i + 1) ⟨8 * t.val + 4, row_lt t.isLt (by decide)⟩, fun _ => word_inb _ (hT _)⟩))
      ⊢ wp frame (wpE (defs₀ (F := F)) Variants.none c none) Set.univ
          (k0_part5 i posM (Memref.isWhole_whole _) arg2 harg2 arg3 harg3 ysM (Memref.isWhole_whole _) arg5 harg5 scrM (Memref.isWhole_whole _) cc0_scratch1 h1 v39 t a8 (tileWords T (tileNo i + 1) ⟨8 * t.val + 2, row_lt t.isLt (by decide)⟩) hw c3) K := by
  rw [k0_part5_eq_skeleton]
  unfold k0_part5_skel
  dsimp only
  have ht : t.val < 64 := t.isLt
  have hchk : ∀ r : Fin 512, ∀ a, (k0_off4 (tileWords T (tileNo i + 1) r)) a + S1x1x1024.size a ≤ S9728x8x1024.size a := fun r => word_inb _ (hT _)
  iintro ⟨HT, HI, HK⟩
  iapply (issue_one c Y (tileWords T (tileNo i + 1)) s (8 * t.val + 2) (row_lt ht (by decide)) _ _ (word_off _) _ _ (next_row i s hs t.val ht 2 (by decide)) _ _ (next_sem i s hs)) $$ HI
  iintro HI
  iapply (load_word c T (tileNo i + 1) hn t.val 3 ht (by decide) _ _ (off_next i t 3 _ (k0_off45_eq i t))) $$ HT
  iintro HT
  iapply (assume_step c (show k0_chk12 i (tileWords T (tileNo i + 1) ⟨8 * t.val + 3, row_lt t.isLt (by decide)⟩) from fun _ => hchk _))
  iapply (issue_one c Y (tileWords T (tileNo i + 1)) s (8 * t.val + 3) (row_lt ht (by decide)) _ _ (word_off _) _ _ (next_row i s hs t.val ht 3 (by decide)) _ _ (next_sem i s hs)) $$ HI
  iintro HI
  iapply (load_word c T (tileNo i + 1) hn t.val 4 ht (by decide) _ _ (off_next i t 4 _ (k0_off49_eq i t))) $$ HT
  iintro HT
  iapply (assume_step c (show k0_chk13 i (tileWords T (tileNo i + 1) ⟨8 * t.val + 4, row_lt t.isLt (by decide)⟩) from fun _ => hchk _))
  iapply (wp_ret_of (c := c))
  iapply HK
  isplitl [HT]; · iexact HT
  iexact HI

set_option maxHeartbeats 4000000 in
/-- Part 3 of a trip of the second loop: 3 more rows' copies issued. -/
theorem part6 (T : S65536.Idx → BitVec 32) (hT : Named T) (i : grid0.Coords) (hs : s.val = (tileNo i + 1) % 2) (hn : tileNo i + 1 < 128)
    (h1 : k0_cond2 i = 1#1) (v39 : BitVec 32) (t : Fin k0_t2_loop.trips) (a8 : BitVec 32) (hw : k0_chk13 i (tileWords T (tileNo i + 1) ⟨8 * t.val + 4, row_lt t.isLt (by decide)⟩)) (K : _ → sProp 𝕄) :
    iprop(tabHeld c T ∗ Issuing c Y (tileWords T (tileNo i + 1)) s (8 * t.val + 4)
        ∗ (iprop(tabHeld c T ∗ Issuing c Y (tileWords T (tileNo i + 1)) s (8 * t.val + 7)) -∗ K ⟨tileWords T (tileNo i + 1) ⟨8 * t.val + 7, row_lt t.isLt (by decide)⟩, fun _ => word_inb _ (hT _), 3#32⟩))
      ⊢ wp frame (wpE (defs₀ (F := F)) Variants.none c none) Set.univ
          (k0_part6 i posM (Memref.isWhole_whole _) arg2 harg2 arg3 harg3 ysM (Memref.isWhole_whole _) arg5 harg5 scrM (Memref.isWhole_whole _) cc0_scratch1 h1 v39 t a8 (tileWords T (tileNo i + 1) ⟨8 * t.val + 4, row_lt t.isLt (by decide)⟩) hw) K := by
  rw [k0_part6_eq_skeleton]
  unfold k0_part6_skel
  dsimp only
  have ht : t.val < 64 := t.isLt
  have hchk : ∀ r : Fin 512, ∀ a, (k0_off4 (tileWords T (tileNo i + 1) r)) a + S1x1x1024.size a ≤ S9728x8x1024.size a := fun r => word_inb _ (hT _)
  iintro ⟨HT, HI, HK⟩
  iapply (issue_one c Y (tileWords T (tileNo i + 1)) s (8 * t.val + 4) (row_lt ht (by decide)) _ _ (word_off _) _ _ (next_row i s hs t.val ht 4 (by decide)) _ _ (next_sem i s hs)) $$ HI
  iintro HI
  iapply (load_word c T (tileNo i + 1) hn t.val 5 ht (by decide) _ _ (off_next i t 5 _ (k0_off53_eq i t))) $$ HT
  iintro HT
  iapply (assume_step c (show k0_chk14 i (tileWords T (tileNo i + 1) ⟨8 * t.val + 5, row_lt t.isLt (by decide)⟩) from fun _ => hchk _))
  iapply (issue_one c Y (tileWords T (tileNo i + 1)) s (8 * t.val + 5) (row_lt ht (by decide)) _ _ (word_off _) _ _ (next_row i s hs t.val ht 5 (by decide)) _ _ (next_sem i s hs)) $$ HI
  iintro HI
  iapply (load_word c T (tileNo i + 1) hn t.val 6 ht (by decide) _ _ (off_next i t 6 _ (k0_off57_eq i t))) $$ HT
  iintro HT
  iapply (assume_step c (show k0_chk15 i (tileWords T (tileNo i + 1) ⟨8 * t.val + 6, row_lt t.isLt (by decide)⟩) from fun _ => hchk _))
  iapply (issue_one c Y (tileWords T (tileNo i + 1)) s (8 * t.val + 6) (row_lt ht (by decide)) _ _ (word_off _) _ _ (next_row i s hs t.val ht 6 (by decide)) _ _ (next_sem i s hs)) $$ HI
  iintro HI
  iapply (load_word c T (tileNo i + 1) hn t.val 7 ht (by decide) _ _ (off_next i t 7 _ (k0_off61_eq i t))) $$ HT
  iintro HT
  iapply (assume_step c (show k0_chk16 i (tileWords T (tileNo i + 1) ⟨8 * t.val + 7, row_lt t.isLt (by decide)⟩) from fun _ => hchk _))
  iapply (wp_ret_of (c := c))
  iapply HK
  isplitl [HT]; · iexact HT
  iexact HI

set_option maxHeartbeats 4000000 in
/-- One trip of the second loop: eight more rows' copies issued. -/
theorem trip2 (T : S65536.Idx → BitVec 32) (hT : Named T) (i : grid0.Coords) (hs : s.val = (tileNo i + 1) % 2) (hn : tileNo i + 1 < 128)
    (h1 : k0_cond2 i = 1#1) (v39 : BitVec 32) (t : Fin k0_t2_loop.trips) (K : Unit → sProp 𝕄) :
    iprop(tabHeld c T ∗ Issuing c Y (tileWords T (tileNo i + 1)) s (8 * t.val + 0)
        ∗ (iprop(tabHeld c T ∗ Issuing c Y (tileWords T (tileNo i + 1)) s (8 * t.val + 8)) -∗ K ⟨⟩))
      ⊢ wp frame (wpE (defs₀ (F := F)) Variants.none c none) Set.univ
          (k0_t2_body i posM (Memref.isWhole_whole _) arg2 harg2 arg3 harg3 ysM (Memref.isWhole_whole _) arg5 harg5 scrM (Memref.isWhole_whole _) cc0_scratch1 h1 v39 t ⟨⟩) K := by
  unfold k0_t2_body
  have ht : t.val < 64 := t.isLt
  iintro ⟨HT, HI, HK⟩
  rw [wp_bind]
  iapply (part4 c Y s arg2 harg2 arg3 harg3 arg5 harg5 T hT i hs hn h1 v39 t) $$ [HT HI HK]
  isplitl [HT]; · iexact HT
  isplitl [HI]; · iexact HI
  iintro ⟨HT, HI⟩
  dsimp only
  rw [wp_bind]
  iapply (part5 c Y s arg2 harg2 arg3 harg3 arg5 harg5 T hT i hs hn h1 v39 t) $$ [HT HI HK]
  isplitl [HT]; · iexact HT
  isplitl [HI]; · iexact HI
  iintro ⟨HT, HI⟩
  dsimp only
  rw [wp_bind]
  iapply (part6 c Y s arg2 harg2 arg3 harg3 arg5 harg5 T hT i hs hn h1 v39 t) $$ [HT HI HK]
  isplitl [HT]; · iexact HT
  isplitl [HI]; · iexact HI
  iintro ⟨HT, HI⟩
  dsimp only
  iapply (issue_one c Y (tileWords T (tileNo i + 1)) s (8 * t.val + 7) (row_lt ht (by decide)) _ _ (word_off _) _ _ (next_row i s hs t.val ht 7 (by decide)) _ _ (next_sem i s hs)) $$ HI
  iintro HI
  iapply (wp_ret_of (c := c))
  iapply HK
  isplitl [HT]; · iexact HT
  iexact HI

end Cert.Kernel4Ideal.Combine

end
-- ==== Proof.CombineDrain.lean ====
/- The combine call as a program: waiting for a slot's copies, and the three loops. -/
module

public import proofs.«01_k».proof.Proof.CombineKit

@[expose] public section

set_option maxRecDepth 16384

noncomputable section

namespace Cert.Kernel4Ideal.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Gen
open Idealize.ShloMosaic.ValueIdx

variable {F : FTy → Type} [FloatOps F]

local notation "𝕄" => MT nD τ sig Unit (Elt F) ℕ (UD sig nD τ) ℕ

variable (c : Dev nD) (Y : S9728x8x1024.Idx → Elt F .f32) (w : Fin 512 → BitVec 32) (s : Fin 2)

/-! ## Waiting -/

/-- A slot of which `k` of its 512 copies are waited for, and that the core owes nothing: after the last, every copy's
    delivery and the semaphore back at zero. -/
def Drain (k : ℕ) : sProp 𝕄 :=
  iprop((if k < 512 then flight c Y w s 512 (k * NN) else iprop(bigSep Finset.univ (delivery c Y w s) ∗ semVal ((c : Thread nD τ), SemLoc.dma (slotSem s)) 0))
    ∗ ∃ W, owes (c : Thread nD τ) 0 W)

/-- A copy credits its semaphore something. -/
theorem NN_pos : 0 < NN := View.dmaCredit_pos _ (by decide)

/-- Waiting for one more copy. -/
theorem wait_one (k : ℕ) (hk : k < 512)
    (offS : Fin 3 → Nat) (inbS) (offD : Fin 4 → Nat) (inbD)
    (offM : Fin 1 → Nat) (inbM) (hM : offM = ![s.val])
    {hs : (srcOf offS inbS).view.WordExact} {hd : (dstOf offD inbD).view.WordExact}
    {α : Type} {kont : PUnit → Prog (TpuEff nD τ sig (Elt F) Λ₀ .tc) α} {Q : α → sProp 𝕄} :
    Drain c Y w s k
      ⊢ iprop((Drain c Y w s (k + 1) -∗ wp frame (wpE (defs₀ (F := F)) Variants.none c none) Set.univ (kont ⟨⟩) Q)
          -∗ wp frame (wpE (defs₀ (F := F)) Variants.none c none) Set.univ
              (Prog.lift (.waitDma2 (semOf offM inbM) (srcOf offS inbS) (dstOf offD inbD) hs hd) >>= kont) Q) := by
  have hsem := semOf_eq s offM inbM hM
  rw [hsem]
  unfold Drain
  rw [if_pos hk]
  by_cases h : k + 1 < 512
  · rw [if_pos h]
    have hu : k * NN + NN < NN * 512 := by
      rw [← Nat.succ_mul, Nat.mul_comm NN]; exact Nat.mul_lt_mul_of_pos_right h NN_pos
    iintro ⟨HB, %W, HO⟩ Hk
    iapply (Transfers.wp_waitBatch (countersEmb (U := UD sig nD τ)) Variants.none (c : Thread nD τ) none () (N := NN) (srcw := srcOf offS inbS) (dstw := dstOf offD inbD) (hsrc := hs) (hdst := hd) rfl hu (D := delivery c Y w s) (W := W)) $$ [HB HO]
    · isplitl [HB]; · iexact HB
      iexact HO
    iintro ⟨HB, HO⟩
    iapply Hk
    isplitl [HB]; · rw [Nat.succ_mul]; iexact HB
    iexists _; iexact HO
  · rw [if_neg h]
    obtain rfl : k = 511 := by omega
    have hu : 511 * NN + NN = NN * 512 := by rw [← Nat.succ_mul, Nat.mul_comm NN]
    iintro ⟨HB, %W, HO⟩ Hk
    iapply (Transfers.wp_waitBatchLast (countersEmb (U := UD sig nD τ)) Variants.none (c : Thread nD τ) none () (N := NN) (srcw := srcOf offS inbS) (dstw := dstOf offD inbD) (hsrc := hs) (hdst := hd) rfl NN_pos hu (D := delivery c Y w s) (W := W)) $$ [HB HO]
    · isplitl [HB]; · iexact HB
      iexact HO
    iintro ⟨HD, HS, HO⟩
    iapply Hk
    isplitl [HD HS]
    · isplitl [HD]; · iexact HD
      iexact HS
    iexists _; iexact HO

variable (arg2 : Memref sig .tc .vmem S512x1024 .f32) (harg2 : arg2.IsWhole) (arg3 : Memref sig .tc .vmem S1x1x6144 .f32) (harg3 : arg3.IsWhole)
    (arg5 : Memref sig .tc .vmem S512x1024 .f32) (harg5 : arg5.IsWhole)

set_option maxHeartbeats 4000000 in
/-- Part 1 of a trip of the third loop: 2 more copies waited for. -/
theorem part7 (T : S65536.Idx → BitVec 32) (hT : Named T) (i : grid0.Coords) (hs : s.val = tileNo i % 2) (arg0 : BitVec 32) (t : Fin k0_t3_loop.trips) (K : _ → sProp 𝕄) :
    iprop(tabHeld c T ∗ Drain c Y w s (8 * t.val + 0)
        ∗ (iprop(tabHeld c T ∗ Drain c Y w s (8 * t.val + 2)) -∗ K ⟨Scf.iv 0#32 1#32 t, tileWords T (tileNo i) ⟨8 * t.val + 2, row_lt t.isLt (by decide)⟩, word_inb _ (hT _), 3#32⟩))
      ⊢ wp frame (wpE (defs₀ (F := F)) Variants.none c none) Set.univ
          (k0_part7 i posM (Memref.isWhole_whole _) arg2 harg2 arg3 harg3 ysM (Memref.isWhole_whole _) arg5 harg5 scrM (Memref.isWhole_whole _) cc0_scratch1 arg0 0#32 1#32 t) K := by
  rw [k0_part7_eq_skeleton]
  unfold k0_part7_skel
  dsimp only
  have ht : t.val < 64 := t.isLt
  have hn := tileNo_lt i
  have hchk : ∀ r : Fin 512, ∀ a, (k0_off4 (tileWords T (tileNo i) r)) a + S1x1x1024.size a ≤ S9728x8x1024.size a := fun r => word_inb _ (hT _)
  iintro ⟨HT, HI, HK⟩
  iapply (load_word c T (tileNo i) hn t.val 0 ht (by decide) _ _ (k0_off65_eq i t)) $$ HT
  iintro HT
  iapply (assume_step c (show k0_chk17 (tileWords T (tileNo i) ⟨8 * t.val + 0, row_lt t.isLt (by decide)⟩) from hchk _))
  iapply (wait_one c Y w s (8 * t.val + 0) (row_lt ht (by decide)) _ _ _ _ _ _ (cur_sem i s hs)) $$ HI
  iintro HI
  iapply (load_word c T (tileNo i) hn t.val 1 ht (by decide) _ _ (k0_off69_eq i t)) $$ HT
  iintro HT
  iapply (assume_step c (show k0_chk18 (tileWords T (tileNo i) ⟨8 * t.val + 1, row_lt t.isLt (by decide)⟩) from hchk _))
  iapply (wait_one c Y w s (8 * t.val + 1) (row_lt ht (by decide)) _ _ _ _ _ _ (cur_sem i s hs)) $$ HI
  iintro HI
  iapply (load_word c T (tileNo i) hn t.val 2 ht (by decide) _ _ (k0_off73_eq i t)) $$ HT
  iintro HT
  iapply (assume_step c (show k0_chk19 (tileWords T (tileNo i) ⟨8 * t.val + 2, row_lt t.isLt (by decide)⟩) from hchk _))
  iapply (wp_ret_of (c := c))
  iapply HK
  isplitl [HT]; · iexact HT
  iexact HI

set_option maxHeartbeats 4000000 in
/-- Part 2 of a trip of the third loop: 2 more copies waited for. -/
theorem part8 (T : S65536.Idx → BitVec 32) (hT : Named T) (i : grid0.Coords) (hs : s.val = tileNo i % 2) (arg0 : BitVec 32) (t : Fin k0_t3_loop.trips) (a8 : BitVec 32) (hw : k0_chk19 (tileWords T (tileNo i) ⟨8 * t.val + 2, row_lt t.isLt (by decide)⟩)) (c3 : BitVec 32) (K : _ → sProp 𝕄) :
    iprop(tabHeld c T ∗ Drain c Y w s (8 * t.val + 2)
        ∗ (iprop(tabHeld c T ∗ Drain c Y w s (8 * t.val + 4)) -∗ K ⟨tileWords T (tileNo i) ⟨8 * t.val + 4, row_lt t.isLt (by decide)⟩, word_inb _ (hT _)⟩))
      ⊢ wp frame (wpE (defs₀ (F := F)) Variants.none c none) Set.univ
          (k0_part8 i posM (Memref.isWhole_whole _) arg2 harg2 arg3 harg3 ysM (Memref.isWhole_whole _) arg5 harg5 scrM (Memref.isWhole_whole _) cc0_scratch1 arg0 t a8 (tileWords T (tileNo i) ⟨8 * t.val + 2, row_lt t.isLt (by decide)⟩) hw c3) K := by
  rw [k0_part8_eq_skeleton]
  unfold k0_part8_skel
  dsimp only
  have ht : t.val < 64 := t.isLt
  have hn := tileNo_lt i
  have hchk : ∀ r : Fin 512, ∀ a, (k0_off4 (tileWords T (tileNo i) r)) a + S1x1x1024.size a ≤ S9728x8x1024.size a := fun r => word_inb _ (hT _)
  iintro ⟨HT, HI, HK⟩
  iapply (wait_one c Y w s (8 * t.val + 2) (row_lt ht (by decide)) _ _ _ _ _ _ (cur_sem i s hs)) $$ HI
  iintro HI
  iapply (load_word c T (tileNo i) hn t.val 3 ht (by decide) _ _ (k0_off77_eq i t)) $$ HT
  iintro HT
  iapply (assume_step c (show k0_chk20 (tileWords T (tileNo i) ⟨8 * t.val + 3, row_lt t.isLt (by decide)⟩) from hchk _))
  iapply (wait_one c Y w s (8 * t.val + 3) (row_lt ht (by decide)) _ _ _ _ _ _ (cur_sem i s hs)) $$ HI
  iintro HI
  iapply (load_word c T (tileNo i) hn t.val 4 ht (by decide) _ _ (k0_off81_eq i t)) $$ HT
  iintro HT
  iapply (assume_step c (show k0_chk21 (tileWords T (tileNo i) ⟨8 * t.val + 4, row_lt t.isLt (by decide)⟩) from hchk _))
  iapply (wp_ret_of (c := c))
  iapply HK
  isplitl [HT]; · iexact HT
  iexact HI

set_option maxHeartbeats 4000000 in
/-- Part 3 of a trip of the third loop: 3 more copies waited for. -/
theorem part9 (T : S65536.Idx → BitVec 32) (hT : Named T) (i : grid0.Coords) (hs : s.val = tileNo i % 2) (arg0 : BitVec 32) (t : Fin k0_t3_loop.trips) (a8 : BitVec 32) (hw : k0_chk21 (tileWords T (tileNo i) ⟨8 * t.val + 4, row_lt t.isLt (by decide)⟩)) (K : _ → sProp 𝕄) :
    iprop(tabHeld c T ∗ Drain c Y w s (8 * t.val + 4)
        ∗ (iprop(tabHeld c T ∗ Drain c Y w s (8 * t.val + 7)) -∗ K ⟨tileWords T (tileNo i) ⟨8 * t.val + 7, row_lt t.isLt (by decide)⟩, word_inb _ (hT _), 3#32⟩))
      ⊢ wp frame (wpE (defs₀ (F := F)) Variants.none c none) Set.univ
          (k0_part9 i posM (Memref.isWhole_whole _) arg2 harg2 arg3 harg3 ysM (Memref.isWhole_whole _) arg5 harg5 scrM (Memref.isWhole_whole _) cc0_scratch1 arg0 t a8 (tileWords T (tileNo i) ⟨8 * t.val + 4, row_lt t.isLt (by decide)⟩) hw) K := by
  rw [k0_part9_eq_skeleton]
  unfold k0_part9_skel
  dsimp only
  have ht : t.val < 64 := t.isLt
  have hn := tileNo_lt i
  have hchk : ∀ r : Fin 512, ∀ a, (k0_off4 (tileWords T (tileNo i) r)) a + S1x1x1024.size a ≤ S9728x8x1024.size a := fun r => word_inb _ (hT _)
  iintro ⟨HT, HI, HK⟩
  iapply (wait_one c Y w s (8 * t.val + 4) (row_lt ht (by decide)) _ _ _ _ _ _ (cur_sem i s hs)) $$ HI
  iintro HI
  iapply (load_word c T (tileNo i) hn t.val 5 ht (by decide) _ _ (k0_off85_eq i t)) $$ HT
  iintro HT
  iapply (assume_step c (show k0_chk22 (tileWords T (tileNo i) ⟨8 * t.val + 5, row_lt t.isLt (by decide)⟩) from hchk _))
  iapply (wait_one c Y w s (8 * t.val + 5) (row_lt ht (by decide)) _ _ _ _ _ _ (cur_sem i s hs)) $$ HI
  iintro HI
  iapply (load_word c T (tileNo i) hn t.val 6 ht (by decide) _ _ (k0_off89_eq i t)) $$ HT
  iintro HT
  iapply (assume_step c (show k0_chk23 (tileWords T (tileNo i) ⟨8 * t.val + 6, row_lt t.isLt (by decide)⟩) from hchk _))
  iapply (wait_one c Y w s (8 * t.val + 6) (row_lt ht (by decide)) _ _ _ _ _ _ (cur_sem i s hs)) $$ HI
  iintro HI
  iapply (load_word c T (tileNo i) hn t.val 7 ht (by decide) _ _ (k0_off93_eq i t)) $$ HT
  iintro HT
  iapply (assume_step c (show k0_chk24 (tileWords T (tileNo i) ⟨8 * t.val + 7, row_lt t.isLt (by decide)⟩) from hchk _))
  iapply (wp_ret_of (c := c))
  iapply HK
  isplitl [HT]; · iexact HT
  iexact HI

set_option maxHeartbeats 4000000 in
/-- One trip of the third loop: eight more copies waited for. -/
theorem trip3 (T : S65536.Idx → BitVec 32) (hT : Named T) (i : grid0.Coords) (hs : s.val = tileNo i % 2) (arg0 : BitVec 32) (t : Fin k0_t3_loop.trips) (K : Unit → sProp 𝕄) :
    iprop(tabHeld c T ∗ Drain c Y w s (8 * t.val + 0)
        ∗ (iprop(tabHeld c T ∗ Drain c Y w s (8 * t.val + 8)) -∗ K ⟨⟩))
      ⊢ wp frame (wpE (defs₀ (F := F)) Variants.none c none) Set.univ
          (k0_t3_body i posM (Memref.isWhole_whole _) arg2 harg2 arg3 harg3 ysM (Memref.isWhole_whole _) arg5 harg5 scrM (Memref.isWhole_whole _) cc0_scratch1 arg0 t ⟨⟩) K := by
  unfold k0_t3_body
  have ht : t.val < 64 := t.isLt
  iintro ⟨HT, HI, HK⟩
  rw [wp_bind]
  iapply (part7 c Y w s arg2 harg2 arg3 harg3 arg5 harg5 T hT i hs arg0 t) $$ [HT HI HK]
  isplitl [HT]; · iexact HT
  isplitl [HI]; · iexact HI
  iintro ⟨HT, HI⟩
  dsimp only
  rw [wp_bind]
  iapply (part8 c Y w s arg2 harg2 arg3 harg3 arg5 harg5 T hT i hs arg0 t) $$ [HT HI HK]
  isplitl [HT]; · iexact HT
  isplitl [HI]; · iexact HI
  iintro ⟨HT, HI⟩
  dsimp only
  rw [wp_bind]
  iapply (part9 c Y w s arg2 harg2 arg3 harg3 arg5 harg5 T hT i hs arg0 t) $$ [HT HI HK]
  isplitl [HT]; · iexact HT
  isplitl [HI]; · iexact HI
  iintro ⟨HT, HI⟩
  dsimp only
  iapply (wait_one c Y w s (8 * t.val + 7) (row_lt ht (by decide)) _ _ _ _ _ _ (cur_sem i s hs)) $$ HI
  iintro HI
  iapply (wp_ret_of (c := c))
  iapply HK
  isplitl [HT]; · iexact HT
  iexact HI

/-! ## The loops -/

/-- The first loop issues every copy of its tile. -/
theorem loop1 (T : S65536.Idx → BitVec 32) (hT : Named T) (i : grid0.Coords) (hs : s.val = tileNo i % 2)
    (h1 : k0_cond1 i = 1#1) (arg0 : BitVec 32) (K : Unit → sProp 𝕄) :
    iprop(tabHeld c T ∗ Issuing c Y (tileWords T (tileNo i)) s 0 ∗ (iprop(tabHeld c T ∗ Issuing c Y (tileWords T (tileNo i)) s 512) -∗ K ⟨⟩))
      ⊢ wp frame (wpE (defs₀ (F := F)) Variants.none c none) Set.univ
          (Scf.Loop.for k0_t1_loop (k0_t1_ok i h1) ⟨⟩ (k0_t1_body i posM (Memref.isWhole_whole _) arg2 harg2 arg3 harg3 ysM (Memref.isWhole_whole _) arg5 harg5 scrM (Memref.isWhole_whole _) cc0_scratch1 arg0 h1)) K := by
  iintro ⟨HT, HI, HK⟩
  iapply (Scf.wp_for frame (wpE (defs₀ (F := F)) Variants.none (c : Thread nD τ) none) Set.univ k0_t1_loop.lb k0_t1_loop.ub k0_t1_loop.st (k0_t1_ok i h1) (⟨⟩ : Unit)
    (k0_t1_body i posM (Memref.isWhole_whole _) arg2 harg2 arg3 harg3 ysM (Memref.isWhole_whole _) arg5 harg5 scrM (Memref.isWhole_whole _) cc0_scratch1 arg0 h1)
    (fun k _ => iprop(tabHeld (F := F) c T ∗ Issuing c Y (tileWords T (tileNo i)) s (8 * k))) (fun t _ => by
      iintro ⟨HT, HI⟩
      iapply (trip1 c Y s arg2 harg2 arg3 harg3 arg5 harg5 T hT i hs h1 arg0 t) $$ [HT HI]
      isplitl [HT]; · iexact HT
      isplitl [HI]; · iexact HI
      iintro H
      iexact H))
  isplitl [HT HI]
  · isplitl [HT]; · iexact HT
    iexact HI
  iintro %_ HL
  iapply HK
  iexact HL

/-- The second loop issues every copy of the next tile. -/
theorem loop2 (T : S65536.Idx → BitVec 32) (hT : Named T) (i : grid0.Coords) (hs : s.val = (tileNo i + 1) % 2) (hn : tileNo i + 1 < 128)
    (h1 : k0_cond2 i = 1#1) (v39 : BitVec 32) (K : Unit → sProp 𝕄) :
    iprop(tabHeld c T ∗ Issuing c Y (tileWords T (tileNo i + 1)) s 0 ∗ (iprop(tabHeld c T ∗ Issuing c Y (tileWords T (tileNo i + 1)) s 512) -∗ K ⟨⟩))
      ⊢ wp frame (wpE (defs₀ (F := F)) Variants.none c none) Set.univ
          (Scf.Loop.for k0_t2_loop (k0_t2_ok i h1) ⟨⟩ (k0_t2_body i posM (Memref.isWhole_whole _) arg2 harg2 arg3 harg3 ysM (Memref.isWhole_whole _) arg5 harg5 scrM (Memref.isWhole_whole _) cc0_scratch1 h1 v39)) K := by
  iintro ⟨HT, HI, HK⟩
  iapply (Scf.wp_for frame (wpE (defs₀ (F := F)) Variants.none (c : Thread nD τ) none) Set.univ k0_t2_loop.lb k0_t2_loop.ub k0_t2_loop.st (k0_t2_ok i h1) (⟨⟩ : Unit)
    (k0_t2_body i posM (Memref.isWhole_whole _) arg2 harg2 arg3 harg3 ysM (Memref.isWhole_whole _) arg5 harg5 scrM (Memref.isWhole_whole _) cc0_scratch1 h1 v39)
    (fun k _ => iprop(tabHeld (F := F) c T ∗ Issuing c Y (tileWords T (tileNo i + 1)) s (8 * k))) (fun t _ => by
      iintro ⟨HT, HI⟩
      iapply (trip2 c Y s arg2 harg2 arg3 harg3 arg5 harg5 T hT i hs hn h1 v39 t) $$ [HT HI]
      isplitl [HT]; · iexact HT
      isplitl [HI]; · iexact HI
      iintro H
      iexact H))
  isplitl [HT HI]
  · isplitl [HT]; · iexact HT
    iexact HI
  iintro %_ HL
  iapply HK
  iexact HL

/-- The third loop waits for every copy of its tile. -/
theorem loop3 (T : S65536.Idx → BitVec 32) (hT : Named T) (i : grid0.Coords) (hs : s.val = tileNo i % 2) (arg0 : BitVec 32) (K : Unit → sProp 𝕄) :
    iprop(tabHeld c T ∗ Drain c Y w s 0 ∗ (iprop(tabHeld c T ∗ Drain c Y w s 512) -∗ K ⟨⟩))
      ⊢ wp frame (wpE (defs₀ (F := F)) Variants.none c none) Set.univ
          (Scf.Loop.for k0_t3_loop k0_t3_ok ⟨⟩ (k0_t3_body i posM (Memref.isWhole_whole _) arg2 harg2 arg3 harg3 ysM (Memref.isWhole_whole _) arg5 harg5 scrM (Memref.isWhole_whole _) cc0_scratch1 arg0)) K := by
  iintro ⟨HT, HI, HK⟩
  iapply (Scf.wp_for frame (wpE (defs₀ (F := F)) Variants.none (c : Thread nD τ) none) Set.univ k0_t3_loop.lb k0_t3_loop.ub k0_t3_loop.st k0_t3_ok (⟨⟩ : Unit)
    (k0_t3_body i posM (Memref.isWhole_whole _) arg2 harg2 arg3 harg3 ysM (Memref.isWhole_whole _) arg5 harg5 scrM (Memref.isWhole_whole _) cc0_scratch1 arg0)
    (fun k _ => iprop(tabHeld (F := F) c T ∗ Drain c Y w s (8 * k))) (fun t _ => by
      iintro ⟨HT, HI⟩
      iapply (trip3 c Y w s arg2 harg2 arg3 harg3 arg5 harg5 T hT i hs arg0 t) $$ [HT HI]
      isplitl [HT]; · iexact HT
      isplitl [HI]; · iexact HI
      iintro H
      iexact H))
  isplitl [HT HI]
  · isplitl [HT]; · iexact HT
    iexact HI
  iintro %_ HL
  iapply HK
  iexact HL

end Cert.Kernel4Ideal.Combine

end
-- ==== Proof.CombineBody.lean ====
/- The combine call's body at one point of its grid: the copies of the next tile issued, those of this tile waited for, the
   tile's rows combined. -/
module

public import proofs.«01_k».proof.Proof.CombineDrain

@[expose] public section

set_option maxRecDepth 16384

noncomputable section

namespace Cert.Kernel4Ideal.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Gen
open Idealize.ShloMosaic.ValueIdx

variable {F : FTy → Type} [FloatOps F]

local notation "𝕄" => MT nD τ sig Unit (Elt F) ℕ (UD sig nD τ) ℕ

variable (c : Dev nD) (Y : S9728x8x1024.Idx → Elt F .f32) (w : Fin 512 → BitVec 32) (s : Fin 2)

/-! ## A slot's two states -/

/-- A slot with no copy in flight: its semaphore at zero, its rows at some contents, its shares of the outputs. -/
def Free : sProp 𝕄 := iprop(semVal ((c : Thread nD τ), SemLoc.dma (slotSem s)) 0 ∗ bigSep Finset.univ (idleRow c Y s))

/-- A free slot is one of which no row's copy is issued. -/
theorem free_issuing : (Free c Y s : sProp 𝕄) ⊢ |={Set.univ}=> Issuing c Y w s 0 := by
  unfold Free Issuing
  have h : cell c Y w s 0 = idleRow c Y s := funext fun r => cell_of_ge c Y w s (Nat.not_lt_zero _)
  rw [h]
  iintro ⟨HS, HR⟩
  imod (Transfers.batch_alloc' (Lvl := ℕ) (countersEmb (U := UD sig nD τ)) (c : Thread nD τ) () NN (delivery c Y w s) (sm := .dma (slotSem s)) (E := Set.univ)) $$ HS with HB
  imodintro
  isplitl [HB]; · iexact HB
  iexact HR

/-- The entries of the scratch in a slot. -/
def slotSet : Finset S2x64x8x1024.Idx := Finset.univ.filter fun x => (x 0).val = s.val

/-- A slot is its rows. -/
theorem mem_slotSet (x : S2x64x8x1024.Idx) : x ∈ slotSet s ↔ ∃ r, x ∈ slotRow s r := by
  unfold slotSet slotRow
  simp only [Finset.mem_filter, Finset.mem_univ, true_and]
  have h1 : (x 1).val < 64 := (x 1).isLt
  have h2 : (x 2).val < 8 := (x 2).isLt
  exact ⟨fun h => ⟨⟨(x 1).val * 8 + (x 2).val, by omega⟩, h, rfl⟩, fun ⟨_, h, _⟩ => h⟩

theorem slotRow_disjoint (r r' : Fin 512) (h : r ≠ r') : Disjoint (slotRow s r) (slotRow s r') := by
  rw [Finset.disjoint_left]
  intro x hx hx'
  unfold slotRow at hx hx'
  rw [Finset.mem_filter] at hx hx'
  exact h (Fin.ext (hx.2.2.symm.trans hx'.2.2))

/-- A slot held is its rows held. -/
theorem slot_rows (f : S2x64x8x1024.Idx → Elt F .f32) :
    (sLoc c ↦[slotSet s]{fullShare} f : sProp 𝕄) = bigSep Finset.univ fun r => sLoc c ↦[slotRow s r]{fullShare} f := by
  have h := pointsTo_biUnion (Ix := Unit) (Val := Elt F) (Name := ℕ) (U := UD sig nD τ) (Lvl := ℕ) (ℓ := sLoc c) (q := fullShare) (f := f) Finset.univ (slotRow s) (fun r _ r' _ h => slotRow_disjoint s r r' h)
  refine Eq.trans ?_ h
  refine congrArg (fun S : Finset (Idx (sLoc c)) => (sLoc c ↦[S]{fullShare} f : sProp 𝕄)) (Finset.ext fun x => ?_)
  rw [Finset.mem_biUnion]
  exact (mem_slotSet s x).trans ⟨fun ⟨r, h⟩ => ⟨r, Finset.mem_univ _, h⟩, fun ⟨r, _, h⟩ => ⟨r, h⟩⟩

/-- A slot whose copies are all delivered: its semaphore at zero, its rows gathered, its shares of the outputs whole. -/
def Got : sProp 𝕄 :=
  iprop(semVal ((c : Thread nD τ), SemLoc.dma (slotSem s)) 0 ∗ (sLoc c ↦[slotSet s]{fullShare} gath Y w) ∗ bigSep Finset.univ fun r => yLoc c ↦{tok s r} Y)

/-- A slot of which every copy is issued is one whose copies are to be waited for. -/
theorem issued_drain : iprop(Issuing c Y w s 512 ∗ ∃ W, owes (c : Thread nD τ) 0 W)
    ⊢ iprop(Drain c Y w s 0 ∗ bigSep Finset.univ fun r => yLoc c ↦[Finset.univ \ rowSet (w r)]{tok s r} Y) := by
  unfold Issuing Drain
  rw [if_pos (by decide), Nat.zero_mul]
  have h : cell c Y w s 512 = fun r => (yLoc c ↦[Finset.univ \ rowSet (w r)]{tok s r} Y) := funext fun r => cell_of_lt c Y w s r.isLt
  rw [h]
  iintro ⟨⟨HB, HR⟩, HO⟩
  isplitl [HB HO]
  · isplitl [HB]; · iexact HB
    iexact HO
  iexact HR

/-- A slot whose copies are all waited for holds the rows gathered. -/
theorem drained_got : iprop(Drain c Y w s 512 ∗ bigSep Finset.univ fun r => yLoc c ↦[Finset.univ \ rowSet (w r)]{tok s r} Y)
    ⊢ iprop(Got c Y w s ∗ ∃ W, owes (c : Thread nD τ) 0 W) := by
  have h1 : bigSep Finset.univ (delivery c Y w s) ⊢ iprop((bigSep Finset.univ fun r => sLoc c ↦[slotRow s r]{fullShare} gath Y w) ∗ bigSep Finset.univ fun r => yLoc c ↦[rowSet (w r)]{tok s r} Y) := by
    unfold delivery
    rw [bigSep_sep']
  have h2 : iprop((bigSep Finset.univ fun r => yLoc c ↦[rowSet (w r)]{tok s r} Y) ∗ bigSep Finset.univ fun r => yLoc c ↦[Finset.univ \ rowSet (w r)]{tok s r} Y)
      ⊢ (bigSep Finset.univ fun r => yLoc c ↦{tok s r} Y : sProp 𝕄) := by
    rw [← bigSep_sep']
    exact BI.bigSep_mono fun r _ => (pointsTo_split_subset (q := tok s r) (f := Y) (ℓ := yLoc c) (S := Finset.univ) (I := rowSet (w r)) (Finset.subset_univ _)).2
  unfold Drain Got
  rw [if_neg (by decide), slot_rows]
  iintro ⟨⟨⟨HD, HS⟩, HO⟩, HR⟩
  ihave HD := h1 $$ HD
  icases HD with ⟨HG, HY⟩
  isplitr [HO]
  · isplitl [HS]; · iexact HS
    isplitl [HG]; · iexact HG
    iapply h2
    isplitl [HY]; · iexact HY
    iexact HR
  iexact HO

/-- A gathered row and its share are an idle row. -/
theorem row_idle (r : Fin 512) : iprop((yLoc c ↦{tok s r} Y) ∗ sLoc c ↦[slotRow s r]{fullShare} gath Y w) ⊢ (idleRow c Y s r : sProp 𝕄) := by
  unfold idleRow
  iintro ⟨HY, HS⟩
  isplitl [HY]; · iexact HY
  iexists (gath Y w); iexact HS

/-- A slot whose copies are all delivered is free again. -/
theorem got_free : (Got c Y w s : sProp 𝕄) ⊢ Free c Y s := by
  have h4 : iprop((bigSep Finset.univ fun r => yLoc c ↦{tok s r} Y) ∗ bigSep Finset.univ fun r => sLoc c ↦[slotRow s r]{fullShare} gath Y w)
      ⊢ (bigSep Finset.univ (idleRow c Y s) : sProp 𝕄) := by
    rw [← bigSep_sep']
    exact BI.bigSep_mono fun r _ => row_idle c Y w s r
  unfold Got Free
  rw [slot_rows]
  iintro ⟨HS, HG, HY⟩
  isplitl [HS]; · iexact HS
  iapply h4
  isplitl [HY]; · iexact HY
  iexact HG

/-! ## What the body reads and leaves -/

/-- A tile's rows as the body loads them. -/
def tileRows (Y : S9728x8x1024.Idx → Elt F .f32) (w : Fin 512 → BitVec 32) : Vec F S1x64x8x1024 .f32 := fun x =>
  Y (fromIdx (w ⟨(x 1).val * 8 + (x 2).val, by have h1 : (x 1).val < 64 := (x 1).isLt; have h2 : (x 2).val < 8 := (x 2).isLt; omega⟩) (x 3))

/-- The load of a slot reads its tile's rows. -/
theorem slot_read (off : Fin 4 → Nat) (inb : ∀ a, off a + S1x64x8x1024.size a ≤ S2x64x8x1024.size a) (h : off = ![s.val, 0, 0, 0]) :
    (scrM.access (Rect.unit (s := S2x64x8x1024) off S1x64x8x1024.size inb)).read (Elt F) (gath Y w) = tileRows Y w := by
  subst h
  funext x
  show Y (fromIdx (w _) _) = Y (fromIdx (w _) _)
  have h3 : ∀ a : Fin 4, a ≠ 0 → ((Rect.unit (s := S2x64x8x1024) ![s.val, 0, 0, 0] S1x64x8x1024.size inb).emb x a).val = (x a).val := by
    intro a ha
    show (![s.val, 0, 0, 0] : Fin 4 → Nat) a + 1 * (x a).val = (x a).val
    fin_cases a
    · exact absurd rfl ha
    all_goals (simp)
  exact congrArg Y (congrArg₂ fromIdx (congrArg w (Fin.ext (congrArg₂ (fun a b : ℕ => a * 8 + b) (h3 1 (by decide)) (h3 2 (by decide))))) (Fin.ext (h3 3 (by decide))))

/-- The load of a slot touches the slot only. -/
theorem slot_sub (off : Fin 4 → Nat) (inb : ∀ a, off a + S1x64x8x1024.size a ≤ S2x64x8x1024.size a) (h : off = ![s.val, 0, 0, 0]) :
    (scrM.access (Rect.unit (s := S2x64x8x1024) off S1x64x8x1024.size inb)).set ⊆ slotSet s := by
  subst h
  intro x hx
  have hx' := (View.set_slice_whole _ _) ▸ hx
  rw [Rect.mem_set_unit] at hx'
  have h0 : s.val ≤ (x 0).val ∧ (x 0).val < s.val + 1 := hx' 0
  unfold slotSet
  rw [Finset.mem_filter]
  exact ⟨Finset.mem_univ _, by omega⟩

/-- What the body leaves in the output's buffer: the tokens, and the rows scaled by the last sixth of the modulation. -/
def combOut (x0 : Vec F S512x1024 .f32) (x1 : Vec F S1x1x6144 .f32) (v : Vec F S1x64x8x1024 .f32) : Vec F S512x1024 .f32 :=
  k0_pay1 x0 (k0_pay2 (View.ld x1 (Rect.unit (s := S1x1x6144) ![0, 0, 5120] S1x1x1024.size inb_S1x1x6144_S1x1x1024_0_0_5120))) v

/-! ## The body -/

theorem cond1_iff (i : grid0.Coords) : k0_cond1 i = 1#1 ↔ tileNo i = 0 := by
  have h : ∀ n : Fin 128, (Scalar.cmpi .ne (Scalar.extui (Scalar.cmpi .eq (BitVec.ofNat 32 n.val) 0#32) : BitVec 32) 0#32 = 1#1) ↔ n.val = 0 := by decide +kernel
  exact h ⟨(i 0).val, tileNo_lt i⟩
theorem cond2_iff (i : grid0.Coords) : k0_cond2 i = 1#1 ↔ tileNo i + 1 < 128 := by
  have h : ∀ n : Fin 128, (Scalar.cmpi .ne (Scalar.extui (Scalar.cmpi .slt (Scalar.addi (BitVec.ofNat 32 n.val) 1#32) 128#32) : BitVec 32) 0#32 = 1#1) ↔ n.val + 1 < 128 := by decide +kernel
  exact h ⟨(i 0).val, tileNo_lt i⟩

/-- The zero offset, in two dimensions. -/
theorem hz2 : (![0, 0] : Fin 2 → Nat) = fun _ => 0 := funext fun a => by fin_cases a <;> rfl

/-- The slot of tile `n`. -/
def slot (n : ℕ) : Fin 2 := ⟨n % 2, Nat.mod_lt _ (by decide)⟩

/-- The scratch before point `n` of the grid: the point's own slot holds its tile's copies in flight, the other slot is free. Before
    the first point and after the last both slots are free. -/
def Slots (T : S65536.Idx → BitVec 32) (n : ℕ) : sProp 𝕄 :=
  iprop((if n = 0 ∨ n = 128 then Free c Y (slot n) else Issuing c Y (tileWords T n) (slot n) 512) ∗ Free c Y (slot (n + 1)))

theorem slots_ends (T : S65536.Idx → BitVec 32) {n : ℕ} (h : n = 0 ∨ n = 128) : Slots c Y T n = iprop(Free c Y (slot n) ∗ Free c Y (slot (n + 1))) := by
  unfold Slots; rw [if_pos h]
theorem slots_mid (T : S65536.Idx → BitVec 32) {n : ℕ} (h : ¬ (n = 0 ∨ n = 128)) :
    Slots c Y T n = iprop(Issuing c Y (tileWords T n) (slot n) 512 ∗ Free c Y (slot (n + 1))) := by
  unfold Slots; rw [if_neg h]

/-- The slot the body loads is its tile's. -/
theorem cur_slot (i : grid0.Coords) : k0_off97 i = ![(slot (tileNo i)).val, 0, 0, 0] := by
  show ![(slotW (BitVec.ofNat 32 (i 0).val)).toNat, 0, 0, 0] = ![tileNo i % 2, 0, 0, 0]
  rw [slotW_cur ⟨(i 0).val, tileNo_lt i⟩]

variable (arg2 : Memref sig .tc .vmem S512x1024 .f32) (harg2 : arg2.IsWhole) (arg3 : Memref sig .tc .vmem S1x1x6144 .f32) (harg3 : arg3.IsWhole)
    (arg5 : Memref sig .tc .vmem S512x1024 .f32) (harg5 : arg5.IsWhole)

/-- At the first point the body issues its own tile's copies; elsewhere they are in flight already. -/
theorem issue_this (T : S65536.Idx → BitVec 32) (hT : Named T) (i : grid0.Coords) (arg0 : BitVec 32) {α : Type}
    {rest : Prog (TpuEff nD τ sig (Elt F) Λ₀ .tc) α} {K : α → sProp 𝕄} :
    iprop(tabHeld c T ∗ Slots c Y T (tileNo i))
      ⊢ iprop((iprop(tabHeld c T ∗ Issuing c Y (tileWords T (tileNo i)) (slot (tileNo i)) 512 ∗ Free c Y (slot (tileNo i + 1))) -∗
          wp frame (wpE (defs₀ (F := F)) Variants.none c none) Set.univ rest K) -∗
        wp frame (wpE (defs₀ (F := F)) Variants.none c none) Set.univ
          (if h1 : k0_cond1 i = 1#1 then
            Scf.Loop.for k0_t1_loop (k0_t1_ok i h1) PUnit.unit (k0_t1_body i posM (Memref.isWhole_whole _) arg2 harg2 arg3 harg3 ysM (Memref.isWhole_whole _) arg5 harg5 scrM (Memref.isWhole_whole _) cc0_scratch1 arg0 h1) >>= fun _ => rest
          else rest) K) := by
  have hlt := tileNo_lt i
  by_cases h1 : k0_cond1 i = 1#1
  · rw [dif_pos h1, wp_bind, slots_ends c Y T (.inl ((cond1_iff i).1 h1))]
    iintro ⟨HT, HF, HG⟩ HK
    imod (free_issuing c Y (tileWords T (tileNo i)) (slot (tileNo i))) $$ HF with HI
    iapply (loop1 c Y (slot (tileNo i)) arg2 harg2 arg3 harg3 arg5 harg5 T hT i rfl h1 arg0)
    isplitl [HT]; · iexact HT
    isplitl [HI]; · iexact HI
    iintro ⟨HT, HI⟩
    iapply HK
    isplitl [HT]; · iexact HT
    isplitl [HI]; · iexact HI
    iexact HG
  · rw [dif_neg h1, slots_mid c Y T (fun h => h1 ((cond1_iff i).2 (by omega)))]
    iintro ⟨HT, HF, HG⟩ HK
    iapply HK
    isplitl [HT]; · iexact HT
    isplitl [HF]; · iexact HF
    iexact HG

/-- The other slot, once the body has issued the next tile's copies if there is a next tile. -/
def Ahead (T : S65536.Idx → BitVec 32) (n : ℕ) : sProp 𝕄 :=
  if n + 1 < 128 then Issuing c Y (tileWords T (n + 1)) (slot (n + 1)) 512 else Free c Y (slot (n + 1))

/-- Before the last point the body issues the next tile's copies. -/
theorem issue_next (T : S65536.Idx → BitVec 32) (hT : Named T) (i : grid0.Coords) (v39 : BitVec 32) {α : Type}
    {rest : Prog (TpuEff nD τ sig (Elt F) Λ₀ .tc) α} {K : α → sProp 𝕄} :
    iprop(tabHeld c T ∗ Free c Y (slot (tileNo i + 1)))
      ⊢ iprop((iprop(tabHeld c T ∗ Ahead c Y T (tileNo i)) -∗
          wp frame (wpE (defs₀ (F := F)) Variants.none c none) Set.univ rest K) -∗
        wp frame (wpE (defs₀ (F := F)) Variants.none c none) Set.univ
          (if h1 : k0_cond2 i = 1#1 then
            Scf.Loop.for k0_t2_loop (k0_t2_ok i h1) PUnit.unit (k0_t2_body i posM (Memref.isWhole_whole _) arg2 harg2 arg3 harg3 ysM (Memref.isWhole_whole _) arg5 harg5 scrM (Memref.isWhole_whole _) cc0_scratch1 h1 v39) >>= fun _ => rest
          else rest) K) := by
  unfold Ahead
  by_cases h1 : k0_cond2 i = 1#1
  · have hn := (cond2_iff i).1 h1
    rw [dif_pos h1, wp_bind, if_pos hn]
    iintro ⟨HT, HF⟩ HK
    imod (free_issuing c Y (tileWords T (tileNo i + 1)) (slot (tileNo i + 1))) $$ HF with HI
    iapply (loop2 c Y (slot (tileNo i + 1)) arg2 harg2 arg3 harg3 arg5 harg5 T hT i rfl hn h1 v39)
    isplitl [HT]; · iexact HT
    isplitl [HI]; · iexact HI
    iintro ⟨HT, HI⟩
    iapply HK
    isplitl [HT]; · iexact HT
    iexact HI
  · rw [dif_neg h1, if_neg (fun h => h1 ((cond2_iff i).2 h))]
    iintro ⟨HT, HF⟩ HK
    iapply HK
    isplitl [HT]; · iexact HT
    iexact HF

/-- After a point the slots are as before the next. -/
theorem ahead_slots (T : S65536.Idx → BitVec 32) (n : ℕ) (hn : n < 128) : iprop(Ahead c Y T n ∗ Free c Y (slot n)) ⊢ (Slots c Y T (n + 1) : sProp 𝕄) := by
  have hs : slot n = slot (n + 1 + 1) := Fin.ext (by show n % 2 = (n + 1 + 1) % 2; omega)
  unfold Ahead
  by_cases h : n + 1 < 128
  · rw [if_pos h, slots_mid c Y T (by omega), hs]
  · rw [if_neg h, slots_ends c Y T (by omega), hs]

/-- The load of the slot whose rows are gathered. -/
theorem load_slot (off : Fin 4 → Nat) (inb : ∀ a, off a + S1x64x8x1024.size a ≤ S2x64x8x1024.size a) (h : off = ![s.val, 0, 0, 0])
    {hl : scrM.view.LoadsAt (Rect.unit (s := S2x64x8x1024) off S1x64x8x1024.size inb).toLoadRect}
    {α : Type} {kont : Vec F S1x64x8x1024 .f32 → Prog (TpuEff nD τ sig (Elt F) Λ₀ .tc) α} {Q : α → sProp 𝕄} :
    Got c Y w s ⊢ iprop((Got c Y w s -∗ wp frame (wpE (defs₀ (F := F)) Variants.none c none) Set.univ (kont (tileRows Y w)) Q)
      -∗ wp frame (wpE (defs₀ (F := F)) Variants.none c none) Set.univ
        (Prog.lift (.load scrM (Rect.unit (s := S2x64x8x1024) off S1x64x8x1024.size inb).toLoadRect hl) >>= kont) Q) := by
  have hr := slot_read Y w s off inb h
  have hsub := slot_sub s off inb h
  unfold Got
  iintro ⟨HS, HG, HY⟩ HK
  iapply (wp_load_rect Variants.none (c : Thread nD τ) none Set.univ (m := scrM) (r := Rect.unit (s := S2x64x8x1024) off S1x64x8x1024.size inb) (k := kont) hsub) $$ HG
  iintro HG
  rw [hr]
  iapply HK
  isplitl [HS]; · iexact HS
  isplitl [HG]; · iexact HG
  iexact HY

/-- A load from a buffer held whole. -/
theorem load_owned {S : Shape} {e : EltTy} (m : Memref sig .tc .vmem S e) (x : S.Idx → Elt F e) (r : Rect S) {hl : m.view.LoadsAt r.toLoadRect}
    {α : Type} {kont : (r.shape.Idx → Elt F e) → Prog (TpuEff nD τ sig (Elt F) Λ₀ .tc) α} {Q : α → sProp 𝕄} :
    owns (c : Thread nD τ) m fullShare x ⊢ iprop((owns (c : Thread nD τ) m fullShare x -∗ wp frame (wpE (defs₀ (F := F)) Variants.none c none) Set.univ (kont (View.ld x r)) Q)
      -∗ wp frame (wpE (defs₀ (F := F)) Variants.none c none) Set.univ (Prog.lift (.load m r.toLoadRect hl) >>= kont) Q) := by
  unfold owns
  iintro ⟨%f, %hf, H⟩ HK
  subst hf
  iapply (wp_load_rect Variants.none (c : Thread nD τ) none Set.univ (m := m) (r := r) (k := kont) (View.set_slice_subset _ _)) $$ H
  iintro H
  iapply HK
  iexists f
  isplitr; · ipureintro; rfl
  iexact H

/-- A store of a whole buffer. -/
theorem store_owned {S : Shape} {e : EltTy} (m : Memref sig .tc .vmem S e) (x : S.Idx → Elt F e) {off : Fin S.rank → ℕ} (inb : ∀ a, off a + S.size a ≤ S.size a)
    (v : S.Idx → Elt F e) {hx : (m.access (Rect.unit off S.size inb)).Stores Finset.univ} {hm}
    {α : Type} {kont : PUnit → Prog (TpuEff nD τ sig (Elt F) Λ₀ .tc) α} {Q : α → sProp 𝕄} :
    owns (c : Thread nD τ) m fullShare x ⊢ iprop((owns (c : Thread nD τ) m fullShare v -∗ wp frame (wpE (defs₀ (F := F)) Variants.none c none) Set.univ (kont ⟨⟩) Q)
      -∗ wp frame (wpE (defs₀ (F := F)) Variants.none c none) Set.univ (Prog.lift (.store m (Rect.unit off S.size inb) v Finset.univ hx hm) >>= kont) Q) := by
  unfold owns
  iintro ⟨%f, -, H⟩ HK
  iapply (wp_store Variants.none (c : Thread nD τ) none Set.univ (m := m) (r := Rect.unit off S.size inb) (w := v) (k := kont) (View.set_slice_subset _ _)) $$ H
  iintro H
  iapply HK
  iexists _
  isplitr [H]
  swap
  · iexact H
  ipureintro
  exact View.read_writes_full (s := S) _ _ inb _ []

set_option maxHeartbeats 1000000 in
/-- The body at a point of the grid, on any whole staging buffers: the inputs' buffers and the table come back as they were, the
    output's buffer holds `combOut` of the tile's rows, the slots are as before the next point. -/
theorem body_runs (T : S65536.Idx → BitVec 32) (hT : Named T) (i : grid0.Coords) (x0 : Vec F S512x1024 .f32) (x1 : Vec F S1x1x6144 .f32) (K : PUnit → sProp 𝕄) :
    iprop(owns (c : Thread nD τ) arg2 fullShare x0 ∗ owns (c : Thread nD τ) arg3 fullShare x1 ∗ (∃ d, owns (c : Thread nD τ) arg5 fullShare d)
        ∗ tabHeld c T ∗ Slots c Y T (tileNo i) ∗ (∃ W, owes (c : Thread nD τ) 0 W)
        ∗ (iprop(owns (c : Thread nD τ) arg2 fullShare x0 ∗ owns (c : Thread nD τ) arg3 fullShare x1
            ∗ owns (c : Thread nD τ) arg5 fullShare (combOut x0 x1 (tileRows Y (tileWords T (tileNo i))))
            ∗ tabHeld c T ∗ Slots c Y T (tileNo i + 1) ∗ (∃ W, owes (c : Thread nD τ) 0 W)) -∗ K ⟨⟩))
      ⊢ wp frame (wpE (defs₀ (F := F)) Variants.none c none) Set.univ
          (cc0_moe_combine i posM (Memref.isWhole_whole _) arg2 harg2 arg3 harg3 ysM (Memref.isWhole_whole _) arg5 harg5 scrM (Memref.isWhole_whole _) cc0_scratch1) K := by
  have hld : View.ld x0 (Rect.unit (s := S512x1024) ![0, 0] S512x1024.size inb_S512x1024_S512x1024_0_0) = x0 := View.ld_unit_zero (S := S512x1024) hz2 _ _
  rw [cc0_moe_combine_eq_skeleton]
  unfold cc0_moe_combine_skel
  rw [wp_bind, k0_part10_eq_skeleton]
  unfold k0_part10_skel
  dsimp only
  iintro ⟨H0, H1, H2, HT, HS, HO, HK⟩
  iapply (issue_this c Y arg2 harg2 arg3 harg3 arg5 harg5 T hT i) $$ [HT HS]
  · isplitl [HT]; · iexact HT
    iexact HS
  iintro ⟨HT, HI, HF⟩
  iapply (issue_next c Y arg2 harg2 arg3 harg3 arg5 harg5 T hT i) $$ [HT HF]
  · isplitl [HT]; · iexact HT
    iexact HF
  iintro ⟨HT, HA⟩
  ihave HD := issued_drain c Y (tileWords T (tileNo i)) (slot (tileNo i)) $$ [HI HO]
  · isplitl [HI]; · iexact HI
    iexact HO
  icases HD with ⟨HD, HR⟩
  rw [wp_bind]
  iapply (loop3 c Y (tileWords T (tileNo i)) (slot (tileNo i)) arg2 harg2 arg3 harg3 arg5 harg5 T hT i rfl)
  isplitl [HT]; · iexact HT
  isplitl [HD]; · iexact HD
  iintro ⟨HT, HD⟩
  ihave HG := drained_got c Y (tileWords T (tileNo i)) (slot (tileNo i)) $$ [HD HR]
  · isplitl [HD]; · iexact HD
    iexact HR
  icases HG with ⟨HG, HO⟩
  iapply (load_owned c arg2 x0 (Rect.unit (s := S512x1024) ![0, 0] S512x1024.size inb_S512x1024_S512x1024_0_0)) $$ H0
  iintro H0
  iapply (load_owned c arg3 x1 (Rect.unit (s := S1x1x6144) ![0, 0, 5120] S1x1x1024.size inb_S1x1x6144_S1x1x1024_0_0_5120)) $$ H1
  iintro H1
  iapply (wp_ret_of (c := c))
  dsimp only
  iapply (load_slot c Y (tileWords T (tileNo i)) (slot (tileNo i)) _ _ (cur_slot i)) $$ HG
  iintro HG
  icases H2 with ⟨%d, H2⟩
  iapply (load_owned c arg5 d (Rect.unit (s := S512x1024) ![0, 0] S512x1024.size inb_S512x1024_S512x1024_0_0)) $$ H2
  iintro H2
  iapply (store_owned c arg5 d inb_S512x1024_S512x1024_0_0) $$ H2
  iintro H2
  iapply (wp_ret_of (c := c))
  iapply HK
  isplitl [H0]; · iexact H0
  isplitl [H1]; · iexact H1
  isplitl [H2]; · unfold combOut; rw [hld]; iexact H2
  isplitl [HT]; · iexact HT
  isplitr [HO]
  · ihave HF := got_free c Y (tileWords T (tileNo i)) (slot (tileNo i)) $$ HG
    iapply (ahead_slots c Y T (tileNo i) (tileNo_lt i))
    isplitl [HA]; · iexact HA
    iexact HF
  iexact HO

end Cert.Kernel4Ideal.Combine

end
-- ==== Proof.CombineRun.lean ====
/- The combine call as a program: the pipeline's proof data, what the launch hands it and what it hands back, its run. -/
module

public import proofs.«01_k».proof.Proof.CombineBody
public import Idealize.ShloMosaic.Lib.Pipeline.FrameBody

@[expose] public section

set_option maxRecDepth 16384

noncomputable section

namespace Cert.Kernel4Ideal.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Gen
open Idealize.ShloMosaic.ValueIdx

variable {F : FTy → Type} [FloatOps F]

local notation "𝕄" => MT nD τ sig Unit (Elt F) ℕ (UD sig nD τ) ℕ

/-! ## The slots at the launch and at the end -/

section Slots

variable (c : Dev nD) (Y : S9728x8x1024.Idx → Elt F .f32)

theorem slotSet_disjoint (b b' : Fin 2) (h : b ≠ b') : Disjoint (slotSet b) (slotSet b') := by
  rw [Finset.disjoint_left]
  intro x hx hx'
  unfold slotSet at hx hx'
  rw [Finset.mem_filter] at hx hx'
  exact h (Fin.ext (hx.2.symm.trans hx'.2))

/-- The scratch held whole is its two slots held. -/
theorem scratch_slots (f : S2x64x8x1024.Idx → Elt F .f32) :
    (sLoc c ↦{fullShare} f : sProp 𝕄) ⊢ iprop((sLoc c ↦[slotSet 0]{fullShare} f) ∗ sLoc c ↦[slotSet 1]{fullShare} f) := by
  refine (pointsTo_split_subset (q := fullShare) (f := f) (ℓ := sLoc c) (S := Finset.univ) (I := slotSet 0) (Finset.subset_univ _)).1.trans ?_
  have e : Finset.univ \ slotSet 0 = slotSet 1 := by
    ext x
    have h0 : (x 0).val < 2 := (x 0).isLt
    unfold slotSet
    simp only [Finset.mem_sdiff, Finset.mem_filter, Finset.mem_univ, true_and]
    show ¬ (x 0).val = 0 ↔ (x 0).val = 1
    omega
  have e' : (sLoc c ↦[Finset.univ \ slotSet 0]{fullShare} f : sProp 𝕄) = sLoc c ↦[slotSet 1]{fullShare} f := by
    refine congrArg (fun S : Finset (Idx (sLoc c)) => (sLoc c ↦[S]{fullShare} f : sProp 𝕄)) (Finset.ext fun x => ?_)
    rw [← e]
  rw [e']

/-- A slot held at one contents and the shares of its half are its idle rows, but for the half's remainder. -/
theorem rows_idle (s : Fin 2) (f : S2x64x8x1024.Idx → Elt F .f32) :
    iprop((sLoc c ↦[slotSet s]{fullShare} f) ∗ yLoc c ↦{base s} Y)
      ⊢ iprop((yLoc c ↦{Transfers.shareDrop (base s) 512} Y) ∗ bigSep Finset.univ (idleRow c Y s)) := by
  have h : iprop((bigSep Finset.univ fun r => yLoc c ↦{tok s r} Y) ∗ bigSep Finset.univ fun r => sLoc c ↦[slotRow s r]{fullShare} f)
      ⊢ (bigSep Finset.univ (idleRow c Y s) : sProp 𝕄) := by
    rw [← bigSep_sep']
    refine BI.bigSep_mono fun r _ => ?_
    unfold idleRow
    exact BI.Laws.sep_mono .rfl (BI.Laws.exists_intro (Φ := fun f => (sLoc c ↦[slotRow s r]{fullShare} f : sProp 𝕄)) f)
  rw [slot_rows]
  iintro ⟨HS, HY⟩
  ihave HY := Transfers.pointsTo_toks_split (base s) 512 $$ HY
  icases HY with ⟨HD, HT⟩
  isplitl [HD]; · iexact HD
  iapply h
  isplitl [HT]; · iexact HT
  iexact HS

/-- And back: the idle rows and the half's remainder are the half and the slot, at some contents. -/
theorem idle_rows (s : Fin 2) :
    iprop((yLoc c ↦{Transfers.shareDrop (base s) 512} Y) ∗ bigSep Finset.univ (idleRow c Y s))
      ⊢ iprop((∃ f : S2x64x8x1024.Idx → Elt F .f32, sLoc c ↦[slotSet s]{fullShare} f) ∗ (yLoc c ↦{base s} Y) : sProp 𝕄) := by
  have h : (bigSep Finset.univ (idleRow c Y s) : sProp 𝕄) ⊢
      iprop((bigSep Finset.univ fun r => yLoc c ↦{tok s r} Y) ∗ bigSep Finset.univ fun r => iprop(∃ f : S2x64x8x1024.Idx → Elt F .f32, sLoc c ↦[slotRow s r]{fullShare} f)) := by
    unfold idleRow
    rw [bigSep_sep']
  have hS : Finset.univ.biUnion (slotRow s) = slotSet s := by
    ext x
    rw [Finset.mem_biUnion]
    exact ⟨fun ⟨r, _, h⟩ => (mem_slotSet s x).2 ⟨r, h⟩, fun h => let ⟨r, h⟩ := (mem_slotSet s x).1 h; ⟨r, Finset.mem_univ _, h⟩⟩
  have hj := Ring.pointsTo_sub_blocks_join_exists (Ix := Unit) (Val := Elt F) (Name := ℕ) (U := UD sig nD τ) (Lvl := ℕ) (ℓ := sLoc c) (slotRow s)
    (slotRow_disjoint s) (slotSet s) (by convert hS) (q := fullShare) (gath Y fun _ => 0#32)
  iintro ⟨HD, HR⟩
  ihave HR := h $$ HR
  icases HR with ⟨HT, HS⟩
  isplitl [HS]
  · iapply hj; iexact HS
  iapply (Transfers.pointsTo_toks_join (base s) 512)
  isplitl [HD]; · iexact HD
  iexact HT

include Y in
/-- The two slots, each at some contents, are the scratch at some contents. -/
theorem slots_scratch :
    iprop((∃ f : S2x64x8x1024.Idx → Elt F .f32, sLoc c ↦[slotSet 0]{fullShare} f) ∗ ∃ f : S2x64x8x1024.Idx → Elt F .f32, sLoc c ↦[slotSet 1]{fullShare} f)
      ⊢ (iprop(∃ f : S2x64x8x1024.Idx → Elt F .f32, sLoc c ↦{fullShare} f) : sProp 𝕄) := by
  have hc : Finset.univ.biUnion slotSet = Finset.univ := by
    ext x
    have h0 : (x 0).val < 2 := (x 0).isLt
    simp only [Finset.mem_biUnion, Finset.mem_univ, true_and, iff_true]
    exact ⟨⟨(x 0).val, h0⟩, by unfold slotSet; rw [Finset.mem_filter]; exact ⟨Finset.mem_univ _, rfl⟩⟩
  have hj := Ring.pointsTo_blocks_join_exists (Ix := Unit) (Val := Elt F) (Name := ℕ) (U := UD sig nD τ) (Lvl := ℕ) (ℓ := sLoc c) slotSet
    slotSet_disjoint (by convert hc) (q := fullShare) (gath Y fun _ => 0#32)
  rw [bigSep_fin_two] at hj
  exact hj

/-- The two halves' remainders: no copy reads from them. -/
def Remainder : sProp 𝕄 := iprop((yLoc c ↦{Transfers.shareDrop (base 0) 512} Y) ∗ yLoc c ↦{Transfers.shareDrop (base 1) 512} Y)

/-- At the launch: the scratch at some contents, the outputs whole and the two semaphores at zero are two free slots. -/
theorem slots_enter (f : S2x64x8x1024.Idx → Elt F .f32) :
    iprop((sLoc c ↦{fullShare} f) ∗ (yLoc c ↦{fullShare} Y) ∗ semVal ((c : Thread nD τ), SemLoc.dma (slotSem 0)) 0 ∗ semVal ((c : Thread nD τ), SemLoc.dma (slotSem 1)) 0)
      ⊢ (iprop(Remainder c Y ∗ Free c Y 0 ∗ Free c Y 1) : sProp 𝕄) := by
  have hY : (yLoc c ↦{fullShare} Y : sProp 𝕄) ⊢ iprop((yLoc c ↦{base 0} Y) ∗ yLoc c ↦{base 1} Y) := (pointsTo_share (PosShare.mem_left_op_right _)).1
  unfold Remainder Free
  iintro ⟨HS, HY, H0, H1⟩
  ihave HS := scratch_slots c f $$ HS
  icases HS with ⟨HS0, HS1⟩
  ihave HY := hY $$ HY
  icases HY with ⟨HY0, HY1⟩
  ihave HA := rows_idle c Y 0 f $$ [HS0 HY0]
  · isplitl [HS0]; · iexact HS0
    iexact HY0
  icases HA with ⟨HD0, HR0⟩
  ihave HA := rows_idle c Y 1 f $$ [HS1 HY1]
  · isplitl [HS1]; · iexact HS1
    iexact HY1
  icases HA with ⟨HD1, HR1⟩
  isplitl [HD0 HD1]
  · isplitl [HD0]; · iexact HD0
    iexact HD1
  isplitl [H0 HR0]
  · isplitl [H0]; · iexact H0
    iexact HR0
  isplitl [H1]; · iexact H1
  iexact HR1

/-- At the end the other way round. -/
theorem slots_leave :
    (iprop(Remainder c Y ∗ Free c Y 0 ∗ Free c Y 1) : sProp 𝕄)
      ⊢ iprop((∃ f : S2x64x8x1024.Idx → Elt F .f32, sLoc c ↦{fullShare} f) ∗ (yLoc c ↦{fullShare} Y) ∗ semVal ((c : Thread nD τ), SemLoc.dma (slotSem 0)) 0 ∗ semVal ((c : Thread nD τ), SemLoc.dma (slotSem 1)) 0) := by
  have hY : iprop((yLoc c ↦{base 0} Y) ∗ yLoc c ↦{base 1} Y) ⊢ (yLoc c ↦{fullShare} Y : sProp 𝕄) := (pointsTo_share (PosShare.mem_left_op_right _)).2
  unfold Remainder Free
  iintro ⟨⟨HD0, HD1⟩, ⟨H0, HR0⟩, ⟨H1, HR1⟩⟩
  ihave HA := idle_rows c Y 0 $$ [HD0 HR0]
  · isplitl [HD0]; · iexact HD0
    iexact HR0
  icases HA with ⟨HS0, HY0⟩
  ihave HA := idle_rows c Y 1 $$ [HD1 HR1]
  · isplitl [HD1]; · iexact HD1
    iexact HR1
  icases HA with ⟨HS1, HY1⟩
  isplitl [HS0 HS1]
  · iapply (slots_scratch c Y)
    isplitl [HS0]; · iexact HS0
    iexact HS1
  isplitl [HY0 HY1]
  · iapply hY
    isplitl [HY0]; · iexact HY0
    iexact HY1
  isplitl [H0]; · iexact H0
  iexact H1

end Slots

/-! ## The arrays, the table and the pipeline -/

variable (m : (ℓ : Loc nD τ sig) → Buf (Elt F) ℓ)

/-- The arrays as the region finds them: as launched, but for the outputs' array, which holds the outputs reshaped. -/
def entry (c : Dev nD) (b : Ref sig .tc) : Buf (Elt F) ((c : Thread nD τ).loc b) := StableHlo.after hostOps0 (fun b => m (c, b)) b

/-- `main` runs to the region with the arrays at `entry`. -/
theorem main_enters (𝒱₀ : Variants) : Pipeline.HMainP (Ix := Unit) (Name := ℕ) (U := UD sig nD τ) (Lvl := ℕ) pcfgs 0 defs₀ 𝒱₀ m (main (F := F)) (entry m) :=
  Pipeline.hmainP_prefix pcfgs 0 defs₀ 𝒱₀ m main hostOps0 hostOps0_sub rfl fun c => main_chain c

/-- The table's contents. -/
def tables : pre0.Contents (Elt F) := fun j => entry m (0 : Dev nD) (pre0.ref j)

/-- Every device's copy of the table is the table. -/
theorem entry_tables (c : Dev nD) (j : Fin 1) : entry m c (pre0.ref j) = tables m j := by
  obtain rfl : c = 0 := Subsingleton.elim _ _
  rfl

/-- The positions. -/
def positions : S65536.Idx → BitVec 32 := tables m 0

/-- The table as contents the pipeline accepts. -/
abbrev accepted : (pcfg0 (F := F)).Adm := ⟨tables m, trivial⟩
/-- The call's pipeline at the table. -/
abbrev pipe : Pipeline.Cfg sig Λ₀ := cfg0 (accepted m)

/-- The launch holds the table. -/
theorem tables_held (c : Dev nD) : (Pipeline.ΦT pre0 (tables m) c : sProp 𝕄) = tabHeld c (positions m) := by
  unfold Pipeline.ΦT Pipeline.prefHeld
  rw [show (Finset.univ : Finset (Fin 1)) = {(0 : Fin 1)} from by decide, bigSep_singleton]
  rfl

/-- Window `w`'s block at a point, read off its array as launched. -/
def block (c : Dev nD) (w : Fin (pipe m).W) (t : Fin (pipe m).N) : (((pipe m).win w).xblock ((pipe m).grid.coords t)).Idx → Elt F ((pipe m).win w).elt :=
  (((pipe m).win w).blk t).view.read (Elt F) (entry m c (Pipeline.arrRef spec0 w))

/-- The experts' outputs as the region finds them. -/
def outputs (c : Dev nD) : S9728x8x1024.Idx → Elt F .f32 := entry m c main_v0

/-- What holds before a point: the table, the generator's register, the remainders and the slots. -/
def Inv (c : Dev nD) (n : ℕ) : sProp 𝕄 :=
  iprop((tabHeld c (positions m) ∗ (∃ r, prngReg c r) ∗ Remainder c (outputs m c)) ∗ Slots c (outputs m c) (positions m) n)

/-- What the output's buffer holds after the body at a point. -/
def tileAt (c : Dev nD) (t : Fin (pipe m).N) : Vec F S512x1024 .f32 :=
  combOut (block m c 0 t) (block m c 1 t) (tileRows (outputs m c) (tileWords (positions m) t.val))

/-- The proof data. -/
def dat (_ : Fin 1) (c : Dev nD) : Dat τ (Elt F) Unit ℕ (UD sig nD τ) ℕ (pipe m) c where
  A w := entry m c (Pipeline.arrRef spec0 w)
  after w t := match w with
    | ⟨0, _⟩ => block m c 0 t
    | ⟨1, _⟩ => block m c 1 t
    | ⟨2, _⟩ => tileAt m c t
  Φ t := Inv m c t.val
  q _ := fullShare
  owed _ := 0

/-- The array a window starts from is the argument as launched. -/
theorem dat_arr (c : Dev nD) (w : Fin (pipe m).W) : (dat m 0 c).A w = entry m c (Pipeline.arrRef spec0 w) := by
  dsimp only [dat]

/-- Before a point runs, window 0's buffer holds the point's block. -/
theorem before_0 (c : Dev nD) (t : Fin (pipe m).N) (d) : (dat m 0 c).before 0 t d = block m c 0 t :=
  ((dat m 0 c).before_in_eq_fetched 0 rfl (fun _ => rfl) (fun _ _ _ => rfl) (fun _ => rfl) t d).trans rfl
/-- Before a point runs, window 1's buffer holds the point's block. -/
theorem before_1 (c : Dev nD) (t : Fin (pipe m).N) (d) : (dat m 0 c).before 1 t d = block m c 1 t :=
  ((dat m 0 c).before_in_eq_fetched 1 rfl (fun _ => rfl) (fun _ _ _ => rfl) (fun _ => rfl) t d).trans rfl

/-- The body's table entry at a point's buffers is the body there. -/
theorem row (t : Fin (pipe m).N) :
    defs₀ (F := F) .tc (pipe m).body ((pipe m).bodyArgs t ((pipe m).slots t))
      = cc0_moe_combine (grid0.coords t) posM (Memref.isWhole_whole _)
          (spec0_0.stage ((pipe m).slots t 0)) (hstage0_0 (((pipe m).slots t 0).cast nbuf0_0))
          (spec0_1.stage ((pipe m).slots t 1)) (hstage0_1 (((pipe m).slots t 1).cast nbuf0_1))
          ysM (Memref.isWhole_whole _)
          (spec0_2.stage ((pipe m).slots t 2)) (hstage0_2 (((pipe m).slots t 2).cast nbuf0_2))
          scrM (Memref.isWhole_whole _) cc0_scratch1 := by
  unfold defs₀
  rw [Defs.onTc_tc]

/-- The tile of a point is its number. -/
theorem tile_at : ∀ t : Fin grid0.N, tileNo (grid0.coords t) = t.val := by decide +kernel

/-- What the body is handed at a point. -/
def handed (c : Dev nD) (t : Fin (pipe m).N) : sProp 𝕄 :=
  iprop((dat m 0 c).Φ t.castSucc ∗ (dat m 0 c).owesAt () t.castSucc
    ∗ (∃ d, owns (c : Thread nD τ) (spec0_0.stage ((pipe m).slots t 0)) fullShare ((dat m 0 c).before 0 t d))
    ∗ (∃ d, owns (c : Thread nD τ) (spec0_1.stage ((pipe m).slots t 1)) fullShare ((dat m 0 c).before 1 t d))
    ∗ (∃ d, owns (c : Thread nD τ) (spec0_2.stage ((pipe m).slots t 2)) fullShare ((dat m 0 c).before 2 t d)))

/-- What a point's body gives back. -/
def returned (c : Dev nD) (t : Fin (pipe m).N) : sProp 𝕄 :=
  iprop((dat m 0 c).Φ t.succ ∗ (dat m 0 c).owesAt () t.succ
    ∗ owns (c : Thread nD τ) (spec0_0.stage ((pipe m).slots t 0)) fullShare (block m c 0 t)
    ∗ owns (c : Thread nD τ) (spec0_1.stage ((pipe m).slots t 1)) fullShare (block m c 1 t)
    ∗ owns (c : Thread nD τ) (spec0_2.stage ((pipe m).slots t 2)) fullShare (tileAt m c t))

/-- Nothing is owed at any point. -/
theorem owes_at (c : Dev nD) (t : Fin ((pipe m).N + 1)) : (dat m 0 c).owesAt () t ⊢ (iprop(∃ W, owes (c : Thread nD τ) 0 W) : sProp 𝕄) := by
  show Pipeline.owesWithin c 0 _ ⊢ _
  unfold Pipeline.owesWithin
  iintro ⟨%W, -, H⟩
  iexists W; iexact H
theorem at_owes (c : Dev nD) (t : Fin ((pipe m).N + 1)) : (iprop(∃ W, owes (c : Thread nD τ) 0 W) : sProp 𝕄) ⊢ (dat m 0 c).owesAt () t := by
  show _ ⊢ Pipeline.owesWithin c 0 _
  unfold Pipeline.owesWithin
  iintro ⟨%W, H⟩
  iexists W
  isplitr
  · ipureintro
    exact fun _ _ => Or.inl trivial
  iexact H

set_option maxHeartbeats 800000 in
/-- The body at a point, from what it is handed to what it hands back. -/
theorem body_sound (hT : Named (positions m)) (c : Dev nD) (t : Fin (pipe m).N) :
    handed m c t ⊢ wp frame (wpE (defs₀ (F := F)) Variants.none c none) Set.univ
      (defs₀ (F := F) .tc (pipe m).body ((pipe m).bodyArgs t ((pipe m).slots t))) (fun _ => returned m c t) := by
  have hr := body_runs (F := F) c (outputs m c) (spec0_0.stage ((pipe m).slots t 0)) (hstage0_0 (((pipe m).slots t 0).cast nbuf0_0))
    (spec0_1.stage ((pipe m).slots t 1)) (hstage0_1 (((pipe m).slots t 1).cast nbuf0_1))
    (spec0_2.stage ((pipe m).slots t 2)) (hstage0_2 (((pipe m).slots t 2).cast nbuf0_2)) (positions m) hT (grid0.coords t) (block m c 0 t) (block m c 1 t) (fun _ => returned m c t)
  rw [tile_at t] at hr
  rw [row]
  unfold handed
  simp only [before_0, before_1]
  rw [show (dat m 0 c).Φ t.castSucc = Inv m c t.val from rfl]
  refine BI.BIBase.Entails.trans ?_ hr
  unfold returned
  rw [show (dat m 0 c).Φ t.succ = Inv m c (t.val + 1) from rfl]
  unfold Inv tileAt
  iintro ⟨⟨⟨HT, HP, HR⟩, HS⟩, Ho, ⟨%d0, H0⟩, ⟨%d1, H1⟩, ⟨%d2, H2⟩⟩
  isplitl [H0]; · iexact H0
  isplitl [H1]; · iexact H1
  isplitl [H2]; · iexists _; iexact H2
  isplitl [HT]; · iexact HT
  isplitl [HS]; · iexact HS
  isplitl [Ho]; · iapply (owes_at m c t.castSucc); iexact Ho
  iintro ⟨H0, H1, H2, HT, HS, Ho⟩
  isplitl [HT HP HR HS]
  · isplitl [HT HP HR]
    · isplitl [HT]; · iexact HT
      isplitl [HP]; · iexact HP
      iexact HR
    iexact HS
  isplitl [Ho]; · iapply (at_owes m c t.succ); iexact Ho
  isplitl [H0]; · iexact H0
  isplitl [H1]; · iexact H1
  iexact H2

/-- The pipeline's obligation on the body, at every point. -/
theorem body_obligation (hT : Named (positions m)) (c : Dev nD) : BodyObligation (dat (F := F) m 0 c) (defs₀ (F := F)) Variants.none () Set.univ := fun t => by
  rw [bigSep_W0, bigSep_W0]
  exact triple_restated (body_sound m hT c t) rfl .rfl fun _ => .rfl

/-! ## The launch -/

/-- The kernel's own semaphores. -/
def osem (s : Fin 2) : SemLoc sig := .dma (slotSem s)
/-- The array the kernel reads by its own copies. -/
def read : Finset (Ref sig .tc) := {main_v0}

/-- The kernel's own semaphores at zero, one by one. -/
theorem own_sems (c : Dev nD) : (Pipeline.ownSems0 (Ix := Unit) (Name := ℕ) (U := UD sig nD τ) (Lvl := ℕ) (Val := Elt F) (τ := τ) osem c : sProp 𝕄)
    = iprop(semVal ((c : Thread nD τ), SemLoc.dma (slotSem 0)) 0 ∗ semVal ((c : Thread nD τ), SemLoc.dma (slotSem 1)) 0) :=
  Pipeline.ownSems0_eq_of_list c osem [0, 1] (by decide) (by decide)

/-- What the launch hands the invariant. -/
theorem enters (c : Dev nD) : iprop(Pipeline.ΦD osem spec0 read (entry m) c ∗ Pipeline.ΦT pre0 (tables m) c) ⊢ (dat m 0 c).Φ 0 := by
  show _ ⊢ Inv m c 0
  unfold Inv Pipeline.ΦD read
  rw [scopedRest0_eq, tables_held, own_sems, bigSep_singleton, slots_ends c _ _ (.inl rfl)]
  iintro ⟨⟨⟨%f, HS⟩, HP, ⟨H0, H1⟩, HY⟩, HT⟩
  ihave HA := slots_enter c (outputs m c) f $$ [HS HY H0 H1]
  · isplitl [HS]; · iexact HS
    isplitl [HY]; · iexact HY
    isplitl [H0]; · iexact H0
    iexact H1
  icases HA with ⟨HR, HF⟩
  isplitr [HF]
  · isplitl [HT]; · iexact HT
    isplitl [HP]; · iexact HP
    iexact HR
  iexact HF

/-- What the invariant hands back after the last point. -/
theorem leaves (c : Dev nD) : (dat m 0 c).Φ (Fin.last (pipe m).N) ⊢ Pipeline.ΦD osem spec0 read (entry m) c := by
  rw [show (dat m 0 c).Φ (Fin.last (pipe m).N) = Inv m c 128 from congrArg (Inv m c) N_0]
  unfold Inv Pipeline.ΦD read
  rw [scopedRest0_eq, own_sems, bigSep_singleton, slots_ends c _ _ (.inr rfl)]
  iintro ⟨⟨HT, HP, HR⟩, HF⟩
  ihave HA := slots_leave c (outputs m c) $$ [HR HF]
  · isplitl [HR]; · iexact HR
    iexact HF
  icases HA with ⟨HS, HY, H0, H1⟩
  isplitl [HS]; · iexact HS
  isplitl [HP]; · iexact HP
  isplitl [H0 H1]
  · isplitl [H0]; · iexact H0
    iexact H1
  iexact HY

variable (ρ : Dev nD → PrngReg)

set_option backward.isDefEq.respectTransparency.types false in
/-- Every run of `main` from zero counters terminates, with the pipeline's arrays at what the proof data say, every other
    array as the region found it, and the counters at zero. -/
theorem main_runs (hT : Named (positions m)) : θ_run defs (onTc (τ := τ) (main (F := F))) (s₀ m ρ)
    (fun r => (Pipeline.FramePost (Pipeline.pin pcfgs fun _ => accepted m) (dat m) 0 (entry m)) r ∧ r.2.sem = fun _ => 0) :=
  Pipeline.θ_run_frameP_dma (Q' := _) pcfgs (fun _ => accepted m) (dat m) (0 : Fin 1) launch0 osem defs₀ Variants.none (by decide : Pipeline.OwnSemFacts spec0 osem) read (by decide : read ⊆ Pipeline.restRefsP sig pre0 spec0) m ρ main
    (hbody := fun c => (body_obligation m hT c).loose) (hshare := fun _ w => by fin_cases w <;> rfl) (howed := fun _ _ => rfl) (V := entry m)
    (hmain := main_enters m Variants.none) (hA := dat_arr m) (hpf := entry_tables m) (hin := enters m) (hout := leaves m)

/-- The reshape changes the outputs' array alone. -/
theorem entry_of_ne (c : Dev nD) (b : Ref sig .tc) (h : b ≠ main_v0) : entry m c b = m ((c : Thread nD τ).loc b) := by
  unfold entry hostOps0
  rw [StableHlo.after_cons, StableHlo.after_nil]
  exact StableHlo.reshape_result_ne _ _ _ _ _ _ _ h

/-- What the region finds there: the fourth argument's rows, eight to a group. -/
theorem outputs_eq (c : Dev nD) :
    outputs m c = shapeCast S9728x8x1024 (m ((c : Thread nD τ).loc main_arg3) : S77824x1024.Idx → Elt F .f32) shapeCasts_S77824x1024_S9728x8x1024 := by
  unfold outputs entry hostOps0
  rw [StableHlo.after_cons, StableHlo.after_nil]
  exact StableHlo.reshape_result _ _ _ _ _ _ _

/-- The positions are the first argument. -/
theorem positions_eq : positions m = m (((0 : Dev nD) : Thread nD τ).loc main_arg0) :=
  entry_of_ne m 0 main_arg0 (by decide)

/-- The same run: the arguments as launched, the result the output window's array after the last point, counters zero. -/
theorem main_value (hT : Named (positions m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v1) = (dat m 0 c).arrAt 2 (pipe m).N)
      ∧ r.2.sem = fun _ => 0) :=
  (θ_run defs _ _).mono (fun _ h => ⟨fun c => ⟨
      ((h.1 c).2 main_arg0 (by decide : main_arg0 ∈ Pipeline.restRefs sig spec0)).trans (entry_of_ne m c main_arg0 (by decide)),
      (((h.1 c).1 0).trans (((dat m 0 c).arrAt_in 0 rfl _).trans (dat_arr m c 0))).trans (entry_of_ne m c main_arg1 (by decide)),
      (((h.1 c).1 1).trans (((dat m 0 c).arrAt_in 1 rfl _).trans (dat_arr m c 1))).trans (entry_of_ne m c main_arg2 (by decide)),
      ((h.1 c).2 main_arg3 (by decide : main_arg3 ∈ Pipeline.restRefs sig spec0)).trans (entry_of_ne m c main_arg3 (by decide)),
      (h.1 c).1 2⟩, h.2⟩) (main_runs m ρ hT)

end Cert.Kernel4Ideal.Combine

end
-- ==== Proof.CombineValue.lean ====
/-
  The combine call's result array, as one function of the four arguments: at row `R` and lane `C` the token's value plus the
  last sixth of its sequence's modulation times the experts' output at the row the position names.
-/
module

public import proofs.«01_k».proof.Proof.CombineRun
public import Idealize.ShloMosaic.Lib.Pipeline.Kit
public import Idealize.ShloMosaic.Lib.KernelVsHost

@[expose] public section

set_option maxRecDepth 16384

noncomputable section

namespace Cert.Kernel4Ideal.Combine

open Cert.Kernel4Ideal Cert.Kernel4Ideal.Gen Idealize.ShloMosaic Idealize.ShloMosaic.TcCoe Idealize.SL.Sem
open Idealize.ShloMosaic.ValueIdx
open Idealize.ShloMosaic.Pipeline (Dat)

/-- The row of the experts' outputs a word names. -/
def rowOf (w : BitVec 32) : Fin 77824 := ⟨w.toNat % 77824, Nat.mod_lt _ (by decide)⟩

/-- The result at a row and lane. -/
def resultAt (x0 : S65536.Idx → BitVec 32) (x1 : S65536x1024.Idx → EReal) (x2 : S32x1x6144.Idx → EReal) (x3 : S77824x1024.Idx → EReal)
    (R : Fin 65536) (C : Fin 1024) : EReal :=
  x1 (ix2 R C) + x2 (ix3 ⟨R.val / 2048, by omega⟩ 0 ⟨5120 + C.val, by omega⟩) * x3 (ix2 (rowOf (x0 (ix1 R))) C)

/-- There are 128 points. -/
theorem lt_points (t : Fin grid0.N) : t.val < 128 := lt_of_lt_of_eq t.isLt N_0

/-- The tokens' block at a point. -/
theorem token_index : ∀ t : Fin grid0.N, cc0_transform_0 (grid0.coords t) 0 = t.val ∧ cc0_transform_0 (grid0.coords t) 1 = 0 := by decide +kernel
/-- The modulation's block at a point. -/
theorem mod_index : ∀ t : Fin grid0.N, cc0_transform_1 (grid0.coords t) 0 = t.val / 4 ∧ cc0_transform_1 (grid0.coords t) 1 = 0
    ∧ cc0_transform_1 (grid0.coords t) 2 = 0 := by decide +kernel
/-- The result's block at a point. -/
theorem result_index : ∀ t : Fin grid0.N, cc0_transform_3 (grid0.coords t) 0 = t.val ∧ cc0_transform_3 (grid0.coords t) 1 = 0 := by decide +kernel

/-- What the body leaves at a row and lane. -/
theorem combOut_apply (x0 : Vec Ideal S512x1024 .f32) (x1 : Vec Ideal S1x1x6144 .f32) (v : Vec Ideal S1x64x8x1024 .f32) (r : Fin 512) (l : Fin 1024) :
    combOut x0 x1 v (ix2 r l) = (x0 (ix2 r l) : EReal) + (x1 (ix3 0 0 ⟨5120 + l.val, by omega⟩) : EReal)
      * (v (ix4 0 ⟨r.val / 8, by omega⟩ ⟨r.val % 8, by omega⟩ l) : EReal) := by
  unfold combOut k0_pay1 k0_pay2
  show (x0 (ix2 r l) : EReal) + _ * _ = _
  refine congrArg₂ (fun a b : EReal => (x0 (ix2 r l) : EReal) + a * b) ?_ ?_
  · refine (broadcastTo_apply _ _ _ (ix2 (0 : Fin 1) l) fun a => ?_).trans ?_
    · match a with
      | ⟨0, _⟩ => rfl
      | ⟨1, _⟩ => rfl
    · refine (shapeCast_1ab_ab_apply _ _ (0 : Fin 1) l).trans ?_
      refine congrArg x1 (funext fun a => Fin.ext ?_)
      match a with
      | ⟨0, _⟩ => rfl
      | ⟨1, _⟩ => rfl
      | ⟨2, _⟩ => show 5120 + 1 * l.val = 5120 + l.val; omega
  · refine (shapeCast_apply _ _ (ix2 r l) (ix3 (⟨r.val / 8, by omega⟩ : Fin 64) (⟨r.val % 8, by omega⟩ : Fin 8) l) ?_).trans ?_
    · rw [Shape.rowMajor_val_three, Shape.rowMajor_val_two]
      show (r.val / 8 * 8 + r.val % 8) * 1024 + l.val = r.val * 1024 + l.val
      omega
    · exact shapeCast_1abc_abc_apply _ _ _ _ _

variable (m : (ℓ : Loc nD τ sig) → Buf (Elt Ideal) ℓ) (ρ : Dev nD → PrngReg) (c : Dev nD)

/-- The four arguments on a core. -/
abbrev arg0 : S65536.Idx → BitVec 32 := m ((c : Thread nD τ).loc main_arg0)
/-- The tokens. -/
abbrev arg1 : S65536x1024.Idx → EReal := m ((c : Thread nD τ).loc main_arg1)
/-- The modulation. -/
abbrev arg2 : S32x1x6144.Idx → EReal := m ((c : Thread nD τ).loc main_arg2)
/-- The experts' outputs. -/
abbrev arg3 : S77824x1024.Idx → EReal := m ((c : Thread nD τ).loc main_arg3)

/-- The block of tokens at a point. -/
theorem block0 (t : Fin grid0.N) (r : Fin 512) (l : Fin 1024) :
    (block m c 0 t : Vec Ideal S512x1024 .f32) (ix2 r l) = arg1 m c (ix2 ⟨t.val * 512 + r.val, by have := lt_points t; omega⟩ l) := by
  refine (View.read_apply _ _).trans ?_
  refine (congrFun (entry_of_ne m c main_arg1 (by decide)) _).trans ?_
  refine congrArg (arg1 m c) (Shape.idx_ext₂ ?_ ?_)
  · show cc0_transform_0 (grid0.coords t) 0 * 512 + 1 * r.val = t.val * 512 + r.val; rw [(token_index t).1]; omega
  · show cc0_transform_0 (grid0.coords t) 1 * 1024 + 1 * l.val = l.val; rw [(token_index t).2]; omega

/-- The block of the modulation at a point. -/
theorem block1 (t : Fin grid0.N) (l : Fin 6144) :
    (block m c 1 t : Vec Ideal S1x1x6144 .f32) (ix3 0 0 l) = arg2 m c (ix3 ⟨t.val / 4, by have := lt_points t; omega⟩ 0 l) := by
  refine (View.read_apply _ _).trans ?_
  refine (congrFun (entry_of_ne m c main_arg2 (by decide)) _).trans ?_
  refine congrArg (arg2 m c) (funext fun a => Fin.ext ?_)
  match a with
  | ⟨0, _⟩ => show cc0_transform_1 (grid0.coords t) 0 * 1 + 1 * 0 = t.val / 4; rw [(mod_index t).1]; omega
  | ⟨1, _⟩ => show cc0_transform_1 (grid0.coords t) 1 * 1 + 1 * 0 = 0; rw [(mod_index t).2.1]
  | ⟨2, _⟩ => show cc0_transform_1 (grid0.coords t) 2 * 6144 + 1 * l.val = l.val; rw [(mod_index t).2.2]; omega

/-- The row a word names, in the outputs the region finds. -/
theorem outputs_apply (w : BitVec 32) (hw : w.toNat < 77824) (l : Fin 1024) : outputs m c (fromIdx w l) = arg3 m c (ix2 (rowOf w) l) := by
  rw [outputs_eq]
  refine shapeCast_apply _ _ _ (ix2 (rowOf w) l) ?_
  rw [Shape.rowMajor_val_three, Shape.rowMajor_val_two]
  show w.toNat % 77824 * 1024 + l.val = (w.toNat / 8 % 9728 * 8 + w.toNat % 8) * 1024 + l.val
  rw [Nat.mod_eq_of_lt hw, Nat.mod_eq_of_lt (show w.toNat / 8 < 9728 by omega)]
  omega

variable (hT : Named (positions m))

include hT in
/-- What a point's body leaves at a row and lane is the result at the row and lane it is written to. -/
theorem tileAt_apply (t : Fin grid0.N) (r : Fin 512) (l : Fin 1024) :
    tileAt m c t (ix2 r l) = resultAt (arg0 m c) (arg1 m c) (arg2 m c) (arg3 m c) ⟨t.val * 512 + r.val, by have := lt_points t; omega⟩ l := by
  have ht := lt_points t
  have hr := r.isLt
  obtain rfl : c = 0 := Subsingleton.elim _ _
  unfold tileAt
  refine (combOut_apply _ _ _ r l).trans ?_
  unfold resultAt
  refine congrArg₂ (fun a b : EReal => a + b) (block0 m 0 t r l) (congrArg₂ (fun a b : EReal => a * b) ?_ ?_)
  · refine (block1 m 0 t _).trans (congrArg (arg2 m 0) (funext fun a => Fin.ext ?_))
    match a with
    | ⟨0, _⟩ => show t.val / 4 = (t.val * 512 + r.val) / 2048; omega
    | ⟨1, _⟩ => rfl
    | ⟨2, _⟩ => rfl
  · have e : tileWords (positions m) t.val ⟨r.val / 8 * 8 + r.val % 8, by omega⟩ = arg0 m 0 (ix1 ⟨t.val * 512 + r.val, by omega⟩) := by
      unfold tileWords
      rw [positions_eq]
      refine congrArg (arg0 m 0) (congrArg ix1 (Fin.ext ?_))
      show (512 * t.val + (r.val / 8 * 8 + r.val % 8)) % 65536 = t.val * 512 + r.val
      omega
    refine (outputs_apply m 0 (tileWords (positions m) t.val ⟨r.val / 8 * 8 + r.val % 8, by omega⟩) (hT _) l).trans ?_
    rw [e]

/-- The result, as contents of the result array. -/
def result : Buf (Elt Ideal) ((c : Thread nD τ).loc main_v1) := fun j : S65536x1024.Idx =>
  resultAt (arg0 m c) (arg1 m c) (arg2 m c) (arg3 m c) (j 0) (j 1)

include hT in
/-- What each point writes back is the result read through its block. -/
theorem flushed_eq (t : Fin grid0.N) : (dat m 0 c).flushed 2 t = (((pipe m).win 2).blk t).view.read (Elt Ideal) (result m c) := by
  have e : tileAt m c t = fun j : S512x1024.Idx => resultAt (arg0 m c) (arg1 m c) (arg2 m c) (arg3 m c)
      ⟨t.val * 512 + (j 0).val, by have := lt_points t; have : (j 0).val < 512 := (j 0).isLt; omega⟩ (j 1) := funext fun j => by
    rw [eq_ix2 j]; exact tileAt_apply m c hT t (j 0) (j 1)
  show ((pipe m).win 2).cut (grid0.coords t) (tileAt m c t) = _
  rw [e]
  refine funext fun (j : S512x1024.Idx) => ?_
  refine Eq.trans ?_ (View.read_apply _ _).symm
  refine congr (congrArg (resultAt (arg0 m c) (arg1 m c) (arg2 m c) (arg3 m c)) (Fin.ext ?_)) (Fin.ext ?_)
  · show t.val * 512 + (j 0).val = cc0_transform_3 (grid0.coords t) 0 * 512 + 1 * (j 0).val; rw [(result_index t).1]; omega
  · show (j 1).val = cc0_transform_3 (grid0.coords t) 1 * 1024 + 1 * (j 1).val; rw [(result_index t).2]; omega

/-- Every point writes its block back. -/
theorem flush_all (t : Fin grid0.N) : ((pipe m).win 2).flush t = true :=
  ((fun t => (Pipeline.Window.flushOf_reads cc0_transform_3 reads0_2 hreads0_2 0 (by decide) (by decide)
    (Pipeline.Window.sep_of_coord cc0_transform_3 0 0 (fun _ => rfl) (by decide)) (P := 1) (m := 0) (by decide) rfl t).mpr (Nat.mod_one _) :
    ∀ t : Fin grid0.N, Pipeline.Window.flushOf grid0 true cc0_transform_3 t = true) t)

/-- The points' blocks cover the result array. -/
theorem cover (i : S65536x1024.Idx) : ∃ t : Fin grid0.N, ((pipe m).win 2).flush t = true ∧ i ∈ (((pipe m).win 2).blk t).view.set := by
  have h0 : (i 0).val < 65536 := (i 0).isLt
  have h1 : (i 1).val < 1024 := (i 1).isLt
  have hp : (i 0).val / 512 < grid0.N := by rw [N_0]; omega
  refine ⟨⟨(i 0).val / 512, hp⟩, flush_all m _, ?_⟩
  have hs : (((pipe m).win 2).blk (⟨(i 0).val / 512, hp⟩ : Fin grid0.N)).view.set = (((pipe m).win 2).rect (⟨(i 0).val / 512, hp⟩ : Fin grid0.N)).set :=
    View.set_slice_whole _ _
  have e0 := result_index ⟨(i 0).val / 512, hp⟩
  refine (Finset.ext_iff.1 hs i).2 (Rect.mem_set_unit.2 fun a => ?_)
  match a with
  | ⟨0, _⟩ => show cc0_transform_3 (grid0.coords ⟨(i 0).val / 512, hp⟩) 0 * 512 ≤ (i 0).val
                ∧ (i 0).val < cc0_transform_3 (grid0.coords ⟨(i 0).val / 512, hp⟩) 0 * 512 + 512
              rw [e0.1]; dsimp only; omega
  | ⟨1, _⟩ => show cc0_transform_3 (grid0.coords ⟨(i 0).val / 512, hp⟩) 1 * 1024 ≤ (i 1).val
                ∧ (i 1).val < cc0_transform_3 (grid0.coords ⟨(i 0).val / 512, hp⟩) 1 * 1024 + 1024
              rw [e0.2]; omega

include hT in
/-- So the result array ends holding the result. -/
theorem final : (dat m 0 c).arrAt 2 (pipe m).N = result m c :=
  (dat m 0 c).arrAt_eq_of_cover 2 (result m c) (fun t _ => flushed_eq m c hT t) (cover m)

end Cert.Kernel4Ideal.Combine

end
-- ==== Proof.CombineRef.lean ====
/-
  The combine call's reference at a row and lane, where every position names a row, is the kernel's result there.
-/
module

public import proofs.«01_k».proof.Proof.CombineValue
public import proofs.«01_k».proof.Proof.Gen.Reference4Ideal.Read
public import Idealize.ShloMosaic.Lib.Routing.Ops

@[expose] public section

set_option maxRecDepth 16384

noncomputable section

namespace Cert.Reference4Ideal.Combine

open Cert.Reference4Ideal Cert.Reference4Ideal.Gen Cert.Reference4Ideal.Read Idealize.ShloMosaic Idealize.ShloMosaic.TcCoe
open Idealize.ShloMosaic.ValueIdx
open Cert.Kernel4Ideal.Combine (resultAt rowOf)

/-- A word below the number of rows is not negative, so the reference takes it as it is. -/
theorem taken (w v : BitVec 32) (hw : w.toNat < 77824) : Scalar.select (IntOp.cmpi .slt w 0#32) v w = w := by
  have e : IntOp.cmpi .slt w 0#32 = 0#1 := by
    rw [show IntOp.cmpi .slt w 0#32 = BitVec.ofBool (decide (w.toInt < (0#32 : BitVec 32).toInt)) from rfl, decide_eq_false ?_]
    · rfl
    · rw [show (0#32 : BitVec 32).toInt = 0 by decide, BitVec.toInt_eq_toNat_cond]
      split <;> omega
  rw [e]
  rfl

/-- The rows the reference gathers. -/
theorem gathered (x0 : S65536.Idx → BitVec 32) (x3 : S77824x1024.Idx → EReal) (hT : ∀ p, (x0 p).toNat < 77824) (R : Fin 65536) (C : Fin 1024) :
    val_main_v12 (F := Ideal) x0 x3 (ix2 R C) = x3 (ix2 (rowOf (x0 (ix1 R))) C) := by
  unfold val_main_v12
  refine Routing.gather_row gather_S77824x1024_S65536x1_S65536x1024_1_0_n_n_0_1_11024 rfl rfl rfl rfl rfl x3 (val_main_v11 (F := Ideal) x0) R C (rowOf (x0 (ix1 R))) ?_ (by decide)
  have hw := hT (ix1 R)
  have e : idx_main_v11 (ix2 R (0 : Fin 1)) = ix1 R := funext fun a => Fin.ext (by fin_cases a; rfl)
  rw [val_main_v11_apply, val_main_v10_apply, val_main_v7_apply, e]
  refine (taken _ _ hw).trans (BitVec.eq_of_toNat_eq ?_)
  rw [BitVec.toNat_ofNat]
  show (x0 (ix1 R)).toNat = (x0 (ix1 R)).toNat % 77824 % 2 ^ 32
  omega

/-- The reference's result at a row and lane. -/
theorem result_eq (x0 : S65536.Idx → BitVec 32) (x1 : S65536x1024.Idx → EReal) (x2 : S32x1x6144.Idx → EReal) (x3 : S77824x1024.Idx → EReal)
    (hT : ∀ p, (x0 p).toNat < 77824) (R : Fin 65536) (C : Fin 1024) :
    val_main_v18 (F := Ideal) x0 x1 x2 x3 (ix2 R C) = resultAt x0 x1 x2 x3 R C := by
  have hR := R.isLt
  have hC := C.isLt
  rw [val_main_v18_apply, val_main_v17_apply, val_main_v14_apply, val_main_v16_apply, val_main_v15_apply, val_main_v5_apply, val_main_v13_apply]
  have e : idx_main_v14 (idx_main_v18 (ix2 R C)) = ix2 R C := Shape.idx_ext₂
    (by show (((R.val * 1024 + C.val) / 2097152 * 2048 + (R.val * 1024 + C.val) / 1024 % 2048) * 1024 + (R.val * 1024 + C.val) % 1024) / 1024 = R.val; omega)
    (by show (((R.val * 1024 + C.val) / 2097152 * 2048 + (R.val * 1024 + C.val) / 1024 % 2048) * 1024 + (R.val * 1024 + C.val) % 1024) % 1024 = C.val; omega)
  have e' : idx_main_v13 (idx_main_v18 (ix2 R C)) = ix2 R C := e
  have e5 : idx_main_v5 (idx_main_v15 (idx_main_v18 (ix2 R C))) = ix3 (⟨R.val / 2048, by omega⟩ : Fin 32) (0 : Fin 1) (⟨5120 + C.val, by omega⟩ : Fin 6144) := by
    refine funext fun a => Fin.ext ?_
    match a with
    | ⟨0, _⟩ => show (R.val * 1024 + C.val) / 2097152 = R.val / 2048; omega
    | ⟨1, _⟩ => rfl
    | ⟨2, _⟩ => show 5120 + (R.val * 1024 + C.val) % 1024 = 5120 + C.val; omega
  rw [e, e', e5, gathered x0 x3 hT R C]
  rfl

end Cert.Reference4Ideal.Combine

end
-- ==== Proof.Combine.lean ====
/-
  The claims about the combine call: frames, and its result the reference's over the extended reals.
-/
module

public import proofs.«01_k».proof.Defs
public import proofs.«01_k».proof.Proof.CombinePre
public import proofs.«01_k».proof.Proof.CombineRef
public import proofs.«01_k».proof.Proof.CombineRunBits
public import proofs.«01_k».proof.Proof.Gen.Reference4Ideal.Run
public import Idealize.ShloMosaic.Lib.Quiescent

@[expose] public section

noncomputable section

namespace Cert.Combine

open Idealize.ShloMosaic Idealize.ShloMosaic.TcCoe Idealize.SL.Sem Idealize.ShloMosaic.ValueIdx

/-- The printed kernel's positions name rows under the precondition. -/
theorem kernel_named (m : (ℓ : Loc Cert.Kernel4.nD Cert.Kernel4.τ Cert.Kernel4.sig) → Buf (Elt Bits) ℓ) (hp : Cert.Pre_Kernel4 m) :
    Cert.Kernel4.Combine.Named (Cert.Kernel4.Combine.positions m) := fun p => by
  rw [Cert.Kernel4.Combine.positions_eq]
  exact named_of_pre _ _ _ _ (hp 0) p

/-- The idealized kernel's positions name rows under the precondition. -/
theorem ideal_named (m : (ℓ : Loc Cert.Kernel4Ideal.nD Cert.Kernel4Ideal.τ Cert.Kernel4Ideal.sig) → Buf (Elt Ideal) ℓ) (hp : Cert.Pre_Kernel4Ideal m) :
    Cert.Kernel4Ideal.Combine.Named (Cert.Kernel4Ideal.Combine.positions m) := fun p => by
  rw [Cert.Kernel4Ideal.Combine.positions_eq]
  exact named_of_pre _ _ _ _ (hp 0) p

/-- The printed kernel runs where the positions name rows, leaves its arguments, and every semaphore ends at zero. -/
theorem kernel_frame : Cert.quiescent_Kernel4 := fun m ρ hp =>
  (θ_run Cert.Kernel4.defs _ _).mono (fun _ h => ⟨fun c => by
      obtain ⟨h0, h1, h2, h3, _⟩ := h.1 c
      exact ⟨h0, h1, h2, h3⟩, h.2⟩)
    (Cert.Kernel4.Combine.main_value (F := Bits) m ρ (kernel_named m hp))

/-- The idealized kernel runs where the positions name rows, leaves its arguments, and every semaphore ends at zero. -/
theorem ideal_frame : Cert.quiescent_Kernel4Ideal := fun m ρ hp =>
  (θ_run Cert.Kernel4Ideal.defs _ _).mono (fun _ h => ⟨fun c => by
      obtain ⟨h0, h1, h2, h3, _⟩ := h.1 c
      exact ⟨h0, h1, h2, h3⟩, h.2⟩)
    (Cert.Kernel4Ideal.Combine.main_value (F := Ideal) m ρ (ideal_named m hp))

/-- The combine call's reference runs, leaves its arguments and declares no semaphore. -/
theorem reference_frame : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- Where the positions name rows, the kernel's result array is the reference's. -/
theorem algebraic : Cert.algebraic_Kernel4Ideal_Reference4Ideal := by
  intro m ρ m' ρ' hpre hagree
  have hT := ideal_named m hpre
  refine ⟨fun c => Cert.Kernel4Ideal.Combine.result m c, ?_, ?_⟩
  · refine (θ_run Cert.Kernel4Ideal.defs _ _).mono (fun _ h c => ?_) (Cert.Kernel4Ideal.Combine.main_value (F := Ideal) m ρ hT)
    obtain ⟨h0, h1, h2, h3, h4⟩ := h.1 c
    exact ⟨h4.trans (Cert.Kernel4Ideal.Combine.final m c hT), h0, h1, h2, h3⟩
  · refine (θ_run Cert.Reference4Ideal.defs _ _).mono (fun _ h c => ⟨(h c).1.trans ?_, (h c).2⟩)
      (Cert.Reference4Ideal.Value.run (F := Ideal) m' ρ')
    rw [Cert.Reference4Ideal.Read.val_main_v18_eq, (hagree c).1, (hagree c).2.1, (hagree c).2.2.1, (hagree c).2.2.2]
    refine funext fun (j : Cert.Kernel4Ideal.S65536x1024.Idx) => ?_
    rw [eq_ix2 j]
    exact Cert.Reference4Ideal.Combine.result_eq _ _ _ _ (fun p => named_of_pre _ _ _ _ (hpre c) p) (j 0) (j 1)

end Cert.Combine

end
-- ==== Proof.ModulationValue.lean ====
/-
  The modulation kernel's result array, as one function of its three arguments: every row of conditioning through its
  logistic, times a layer's weights, plus the layer's bias.

  Point `t` of the grid works on layer `t / 4` and column block `t % 4`. The body splits each factor into a half that
  keeps its upper bits and the remainder, and adds three of the four products. Over the extended reals the first half is
  the number itself, so a real number's remainder is zero and the two small products vanish.
-/
module

public import proofs.«01_k».proof.Proof.Gen.Kernel5Ideal.Value
public import Idealize.ShloMosaic.Lib.KernelVsHost
public import Idealize.ShloMosaic.Lib.ValueLayout

@[expose] public section

noncomputable section

namespace Cert.Kernel5Ideal.Modulation

open Cert.Kernel5Ideal Cert.Kernel5Ideal.Gen Idealize.ShloMosaic Idealize.ShloMosaic.TcCoe Idealize.SL.Sem
open Idealize.ShloMosaic.ValueIdx
open Idealize.ShloMosaic.Pipeline (Dat)

/-- There are 16 points. -/
theorem points : cfg0.N = 16 := N_0

/-- There are 16 points. -/
theorem lt_points (t : Fin cfg0.N) : t.val < 16 := lt_of_lt_of_eq t.isLt points

/-! ## The body over the extended reals -/

/-- A number times its logistic. -/
def silu (x : EReal) : EReal := x * Ideal.logistic x

/-- A real number times its logistic is a real number. -/
theorem silu_real (x : EReal) (h : ∃ r : ℝ, x = (r : EReal)) : ∃ r : ℝ, silu x = (r : EReal) := by
  obtain ⟨r, rfl⟩ := h
  exact ⟨r * (1 + Real.exp (-r))⁻¹, by unfold silu; rw [Ideal.logistic_coe, ← EReal.coe_mul]⟩

/-- A real number less itself is zero. -/
theorem sub_self_real (x : EReal) (h : ∃ r : ℝ, x = (r : EReal)) : x - x = 0 := by
  obtain ⟨r, rfl⟩ := h
  rw [← EReal.coe_sub, sub_self]; rfl

/-- A product of the body at a row and column. -/
theorem dot_apply (x : FVec Ideal S40x1024 .bf16) (w : FVec Ideal S1024x1536 .bf16) (r : Fin 40) (n : Fin 1536) :
    matmul dot_S40x1024_S1024x1536_S40x1536_1_0_0_1_n_n none x w (constant S40x1536 .f32 0x00000000#32) (ix2 r n)
      = ∑ k : Fin 1024, x (ix2 r k) * w (ix2 k n) := by
  simp only [matmul]
  rw [Ideal.matmul_apply, constant_apply, Ideal.ofBits_zero_f32, zero_add,
    ← Equiv.sum_comp (contrEquiv1 dot_S40x1024_S1024x1536_S40x1536_1_0_0_1_n_n 1024 rfl rfl).symm]
  refine Finset.sum_congr rfl fun k _ => ?_
  have hk := contrEquiv1_symm_val dot_S40x1024_S1024x1536_S40x1536_1_0_0_1_n_n 1024 rfl rfl k
  congr 1
  · refine congrArg x (Shape.idx_ext₂ ?_ ?_)
    · rfl
    · exact (DotDims.lhsIdx_val_of_single _ rfl _ _).trans hk
  · refine congrArg w (Shape.idx_ext₂ ?_ ?_)
    · exact (DotDims.rhsIdx_val_of_single _ rfl _ _).trans hk
    · rfl

/-- The bias row laid along the rows. -/
theorem bias_apply (b : Vec Ideal S1x1x1536 .f32) (r : Fin 40) (n : Fin 1536) :
    broadcastTo S40x1536 (shapeCast S1x1536 b shapeCasts_S1x1x1536_S1x1536) broadcasts_S1x1536_S40x1536 (ix2 r n) = b (ix3 0 0 n) := by
  refine (broadcastTo_apply _ _ _ (ix2 (0 : Fin 1) n) fun a => ?_).trans (shapeCast_1ab_ab_apply _ _ _ _)
  match a with
  | ⟨0, _⟩ => rfl
  | ⟨1, _⟩ => rfl

/-- What the body stores at a row and column, on real conditioning and weights. -/
theorem body_apply (x : Vec Ideal S40x1024 .f32) (w : Vec Ideal S1x1024x1536 .f32) (b : Vec Ideal S1x1x1536 .f32)
    (hx : ∀ i, ∃ r : ℝ, x i = (r : EReal)) (hw : ∀ i, ∃ r : ℝ, w i = (r : EReal)) (r : Fin 40) (n : Fin 1536) :
    k0_pay1 (F := Ideal) x w b (ix3 0 r n) = (∑ k : Fin 1024, silu (x (ix2 r k)) * w (ix3 0 k n)) + b (ix3 0 0 n) := by
  have ew : ∀ k : Fin 1024, shapeCast S1024x1536 w shapeCasts_S1x1024x1536_S1024x1536 (ix2 k n) = w (ix3 0 k n) := fun k =>
    shapeCast_1ab_ab_apply _ _ _ _
  unfold k0_pay1
  refine (shapeCast_ab_1ab_apply _ _ _ _ _).trans ?_
  rw [addf_apply, addf_apply, addf_apply, bias_apply, dot_apply, dot_apply, dot_apply]
  refine congrArg (fun a : EReal => a + b (ix3 0 0 n)) ?_
  have e1 : ∀ k : Fin 1024, silu (x (ix2 r k)) - silu (x (ix2 r k)) = 0 := fun k => sub_self_real _ (silu_real _ (hx _))
  have e2 : ∀ k : Fin 1024, w (ix3 0 k n) - w (ix3 0 k n) = 0 := fun k => sub_self_real _ (hw _)
  show (∑ k : Fin 1024, silu (x (ix2 r k)) * shapeCast S1024x1536 w shapeCasts_S1x1024x1536_S1024x1536 (ix2 k n))
    + ((∑ k : Fin 1024, (silu (x (ix2 r k)) - silu (x (ix2 r k))) * shapeCast S1024x1536 w shapeCasts_S1x1024x1536_S1024x1536 (ix2 k n))
      + ∑ k : Fin 1024, silu (x (ix2 r k)) * (shapeCast S1024x1536 w shapeCasts_S1x1024x1536_S1024x1536 (ix2 k n)
        - shapeCast S1024x1536 w shapeCasts_S1x1024x1536_S1024x1536 (ix2 k n))) = _
  simp only [ew, e1, e2, zero_mul, mul_zero, Finset.sum_const_zero, add_zero]

/-- The three zero offsets. -/
theorem hz3 : (![0, 0, 0] : Fin 3 → Nat) = fun _ => 0 := funext fun a => by fin_cases a <;> rfl
/-- The two zero offsets. -/
theorem hz2 : (![0, 0] : Fin 2 → Nat) = fun _ => 0 := funext fun a => by fin_cases a <;> rfl

/-- The body leaves in the output's buffer what it stores, computed from whole blocks. -/
theorem out_eq (x : Vec Ideal S40x1024 .f32) (w : Vec Ideal S1x1024x1536 .f32) (b : Vec Ideal S1x1x1536 .f32) :
    out0_3 x w b = k0_pay1 (F := Ideal) x w b := by
  unfold out0_3
  rw [View.ld_unit_zero (S := S40x1024) hz2, View.ld_unit_zero (S := S1x1024x1536) hz3, View.ld_unit_zero (S := S1x1x1536) hz3]
  exact View.canon_unit_zero (S := S1x40x1536) hz3 _ _

/-! ## The blocks -/

/-- Window 0's block at a point. -/
theorem index0 : ∀ t : Fin cfg0.N, win0_0.index t 0 = 0 ∧ win0_0.index t 1 = 0 :=
  (by decide +kernel : ∀ t : Fin grid0.N, win0_0.index t 0 = 0 ∧ win0_0.index t 1 = 0)
/-- Window 1's block at a point. -/
theorem index1 : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)
/-- Window 2's block at a point. -/
theorem index2 : ∀ t : Fin cfg0.N, win0_2.index t 0 = t.val / 4 ∧ win0_2.index t 1 = 0 ∧ win0_2.index t 2 = t.val % 4 :=
  (by decide +kernel : ∀ t : Fin grid0.N, win0_2.index t 0 = t.val / 4 ∧ win0_2.index t 1 = 0 ∧ win0_2.index t 2 = t.val % 4)
/-- Window 3's block at a point. -/
theorem index3 : ∀ t : Fin cfg0.N, win0_3.index t 0 = t.val / 4 ∧ win0_3.index t 1 = 0 ∧ win0_3.index t 2 = t.val % 4 :=
  (by decide +kernel : ∀ t : Fin grid0.N, win0_3.index t 0 = t.val / 4 ∧ win0_3.index t 1 = 0 ∧ win0_3.index t 2 = t.val % 4)
/-- The result's block is whole at every point. -/
theorem size3 : ∀ t : Fin cfg0.N, win0_3.xsize (grid0.coords t) 0 = 1 ∧ win0_3.xsize (grid0.coords t) 1 = 40 ∧ win0_3.xsize (grid0.coords t) 2 = 1536 :=
  (by decide +kernel : ∀ t : Fin grid0.N, win0_3.xsize (grid0.coords t) 0 = 1 ∧ win0_3.xsize (grid0.coords t) 1 = 40 ∧ win0_3.xsize (grid0.coords t) 2 = 1536)

variable (m : (ℓ : Loc nD τ sig) → Buf (Elt Ideal) ℓ) (ρ : Dev nD → PrngReg) (c : Dev nD)

/-- The rows of conditioning. -/
abbrev conds : S40x1024.Idx → EReal := m ((c : Thread nD τ).loc main_arg0)
/-- The layers' weights. -/
abbrev weights : S4x1024x6144.Idx → EReal := m ((c : Thread nD τ).loc main_arg1)
/-- The layers' biases. -/
abbrev biases : S4x6144.Idx → EReal := m ((c : Thread nD τ).loc main_arg2)

/-- The block of conditioning at a point: all of it. -/
theorem block0 (t : Fin cfg0.N) (r : Fin 40) (k : Fin 1024) : (iblk m c 0 t : Vec Ideal S40x1024 .f32) (ix2 r k) = conds m c (ix2 r k) := by
  unfold iblk
  rw [View.read_apply]
  show V m c main_arg0 _ = _
  rw [V_main_arg0]
  refine congrArg (m ((c : Thread nD τ).loc main_arg0)) (Shape.idx_ext₂ ?_ ?_)
  · show win0_0.index t 0 * 40 + 1 * r.val = r.val; rw [(index0 t).1]; omega
  · show win0_0.index t 1 * 1024 + 1 * k.val = k.val; rw [(index0 t).2]; omega

/-- The block of weights at a point. -/
theorem block1 (t : Fin cfg0.N) (u : Fin 1) (k : Fin 1024) (n : Fin 1536) : (iblk m c 1 t : Vec Ideal S1x1024x1536 .f32) (ix3 u k n)
    = weights m c (ix3 ⟨t.val / 4, by have := lt_points t; omega⟩ k ⟨t.val % 4 * 1536 + n.val, by omega⟩) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * u.val = t.val / 4; rw [(index1 t).1]; omega
  | ⟨1, _⟩ => show win0_1.index t 1 * 1024 + 1 * k.val = k.val; rw [(index1 t).2.1]; omega
  | ⟨2, _⟩ => show win0_1.index t 2 * 1536 + 1 * n.val = t.val % 4 * 1536 + n.val; rw [(index1 t).2.2]; omega

/-- The region finds the biases with an axis of size one put between their two. -/
theorem entry_biases : V m c main_v0 = shapeCast S4x1x6144 (biases m c) shapeCasts_S4x6144_S4x1x6144 := by
  unfold V hostOps0
  rw [StableHlo.after_cons, StableHlo.after_nil]
  exact StableHlo.reshape_result _ _ _ _ _ _ _

/-- The block of biases at a point. -/
theorem block2 (t : Fin cfg0.N) (u v : Fin 1) (n : Fin 1536) : (iblk m c 2 t : Vec Ideal S1x1x1536 .f32) (ix3 u v n)
    = biases m c (ix2 ⟨t.val / 4, by have := lt_points t; omega⟩ ⟨t.val % 4 * 1536 + n.val, by omega⟩) := by
  unfold iblk
  rw [View.read_apply]
  show V m c main_v0 _ = _
  rw [entry_biases]
  refine (congrArg _ (funext fun a => Fin.ext ?_ : _ = ix3 (⟨t.val / 4, by have := lt_points t; omega⟩ : Fin 4) (0 : Fin 1)
    (⟨t.val % 4 * 1536 + n.val, by omega⟩ : Fin 6144))).trans (shapeCast_apply _ _ _ _ ?_)
  · match a with
    | ⟨0, _⟩ => show win0_2.index t 0 * 1 + 1 * u.val = t.val / 4; rw [(index2 t).1]; omega
    | ⟨1, _⟩ => show win0_2.index t 1 * 1 + 1 * v.val = 0; rw [(index2 t).2.1]; omega
    | ⟨2, _⟩ => show win0_2.index t 2 * 1536 + 1 * n.val = t.val % 4 * 1536 + n.val; rw [(index2 t).2.2]; omega
  · rw [Shape.rowMajor_val_three, Shape.rowMajor_val_two]
    show t.val / 4 * 6144 + (t.val % 4 * 1536 + n.val) = (t.val / 4 * 1 + 0) * 6144 + (t.val % 4 * 1536 + n.val); omega

/-! ## The result array -/

/-- The result at a layer, row and column. -/
def resultAt (x : S40x1024.Idx → EReal) (w : S4x1024x6144.Idx → EReal) (b : S4x6144.Idx → EReal) (l : Fin 4) (r : Fin 40) (n : Fin 6144) : EReal :=
  (∑ k : Fin 1024, silu (x (ix2 r k)) * w (ix3 l k n)) + b (ix2 l n)

/-- The result, as contents of the result array. -/
def result : Buf (Elt Ideal) ((c : Thread nD τ).loc main_v1) := fun j : S4x40x6144.Idx =>
  resultAt (conds m c) (weights m c) (biases m c) (j 0) (j 1) (j 2)

variable (hx : ∀ i, ∃ r : ℝ, conds m c i = (r : EReal)) (hw : ∀ i, ∃ r : ℝ, weights m c i = (r : EReal))

include hx hw in
/-- A point's output block at a row and column is the result at the layer, row and column it is written to. -/
theorem out_apply (t : Fin cfg0.N) (r : Fin 40) (n : Fin 1536) :
    out0_3 (F := Ideal) (iblk m c 0 t) (iblk m c 1 t) (iblk m c 2 t) (ix3 0 r n)
      = resultAt (conds m c) (weights m c) (biases m c) ⟨t.val / 4, by have := lt_points t; omega⟩ r ⟨t.val % 4 * 1536 + n.val, by omega⟩ := by
  refine (congrFun (out_eq (iblk m c 0 t) (iblk m c 1 t) (iblk m c 2 t)) (ix3 0 r n)).trans ?_
  refine (body_apply (iblk m c 0 t) (iblk m c 1 t) (iblk m c 2 t) (fun i => ?_) (fun i => ?_) r n).trans ?_
  · obtain ⟨y, hy⟩ := hx (ix2 (i 0) (i 1))
    exact ⟨y, (congrArg (iblk m c 0 t : Vec Ideal S40x1024 .f32) (eq_ix2 i)).trans ((block0 m c t (i 0) (i 1)).trans hy)⟩
  · obtain ⟨y, hy⟩ := hw (ix3 ⟨t.val / 4, by have := lt_points t; omega⟩ (i 1)
      ⟨t.val % 4 * 1536 + (i 2).val, by have : (i 2).val < 1536 := (i 2).isLt; omega⟩)
    exact ⟨y, (congrArg (iblk m c 1 t : Vec Ideal S1x1024x1536 .f32) (eq_ix3 i)).trans ((block1 m c t (i 0) (i 1) (i 2)).trans hy)⟩
  · unfold resultAt
    refine congrArg₂ (fun a b : EReal => a + b) (Finset.sum_congr rfl fun k _ => ?_) (block2 m c t 0 0 n)
    exact congrArg₂ (fun a b : EReal => silu a * b) (block0 m c t r k) (block1 m c t 0 k n)

include hx hw in
/-- What each point writes back is the result read through its block. -/
theorem flushed_eq (t : Fin cfg0.N) : (dats m 0 c).flushed 3 t = ((cfg0.win 3).blk t).view.read (Elt Ideal) (result m c) := by
  rw [Value.flushed3]
  have e : out0_3 (F := Ideal) (iblk m c 0 t) (iblk m c 1 t) (iblk m c 2 t) = fun j : S1x40x1536.Idx =>
      resultAt (conds m c) (weights m c) (biases m c) ⟨t.val / 4, by have := lt_points t; omega⟩ (j 1)
        ⟨t.val % 4 * 1536 + (j 2).val, by have : (j 2).val < 1536 := (j 2).isLt; omega⟩ := funext fun j => by
    have h0 : j 0 = (0 : Fin 1) := Subsingleton.elim (α := Fin 1) _ _
    rw [eq_ix3 j, h0]; exact out_apply m c hx hw t (j 1) (j 2)
  rw [e]
  refine funext fun (j : S1x40x1536.Idx) => ?_
  refine Eq.trans ?_ (View.read_apply _ _).symm
  have h0 : (j 0).val = 0 := by have : (j 0).val < 1 := (j 0).isLt; omega
  refine congr (congr (congrArg (resultAt (conds m c) (weights m c) (biases m c)) (Fin.ext ?_)) (Fin.ext ?_)) (Fin.ext ?_)
  · show t.val / 4 = win0_3.index t 0 * 1 + 1 * (j 0).val; rw [(index3 t).1, h0]; omega
  · show (j 1).val = win0_3.index t 1 * 40 + 1 * (j 1).val; rw [(index3 t).2.1]; omega
  · show t.val % 4 * 1536 + (j 2).val = win0_3.index t 2 * 1536 + 1 * (j 2).val; rw [(index3 t).2.2]; omega

/-- The points' blocks cover the result array. -/
theorem cover (i : S4x40x6144.Idx) : ∃ t : Fin cfg0.N, (cfg0.win 3).flush t = true ∧ i ∈ ((cfg0.win 3).blk t).view.set := by
  have h0 : (i 0).val < 4 := (i 0).isLt
  have h1 : (i 1).val < 40 := (i 1).isLt
  have h2 : (i 2).val < 6144 := (i 2).isLt
  have hp : (i 0).val * 4 + (i 2).val / 1536 < cfg0.N := by rw [points]; omega
  refine ⟨⟨(i 0).val * 4 + (i 2).val / 1536, hp⟩, flush0_3 _, ?_⟩
  show i ∈ ((View.whole main_v1).slice (win0_3.rect ⟨(i 0).val * 4 + (i 2).val / 1536, hp⟩)).set
  rw [View.set_slice_whole, Rect.mem_set_unit]
  have e0 := index3 ⟨(i 0).val * 4 + (i 2).val / 1536, hp⟩
  have e1 := size3 ⟨(i 0).val * 4 + (i 2).val / 1536, hp⟩
  generalize ht : (⟨(i 0).val * 4 + (i 2).val / 1536, hp⟩ : Fin cfg0.N) = t at e0 e1 ⊢
  have hv : t.val = (i 0).val * 4 + (i 2).val / 1536 := by rw [← ht]
  intro a
  match a with
  | ⟨0, _⟩ => show win0_3.index t 0 * 1 ≤ (i 0).val ∧ (i 0).val < win0_3.index t 0 * 1 + win0_3.xsize (grid0.coords t) 0
              rw [e0.1, e1.1]; omega
  | ⟨1, _⟩ => show win0_3.index t 1 * 40 ≤ (i 1).val ∧ (i 1).val < win0_3.index t 1 * 40 + win0_3.xsize (grid0.coords t) 1
              rw [e0.2.1, e1.2.1]; omega
  | ⟨2, _⟩ => show win0_3.index t 2 * 1536 ≤ (i 2).val ∧ (i 2).val < win0_3.index t 2 * 1536 + win0_3.xsize (grid0.coords t) 2
              rw [e0.2.2, e1.2.2]; omega

include hx hw in
/-- So the result array ends holding the result. -/
theorem final : (dats m 0 c).arrAt 3 cfg0.N = result m c :=
  (dats m 0 c).arrAt_eq_of_cover 3 (result m c) (fun t _ => flushed_eq m c hx hw t) cover

end Cert.Kernel5Ideal.Modulation

end
-- ==== Proof.Modulation.lean ====
/-
  The claims about the modulation kernel: frames, and its result the reference's over the extended reals.
-/
module

public import proofs.«01_k».proof.Proof.Finite
public import proofs.«01_k».proof.Proof.ModulationValue
public import proofs.«01_k».proof.Proof.Gen.Kernel5.Frame
public import proofs.«01_k».proof.Proof.Gen.Reference5Ideal.Run
public import proofs.«01_k».proof.Proof.Gen.Reference5Ideal.Read
public import proofs.«01_k».proof.Proof.Gen.Pre_finite_conditioning
public import Idealize.ShloMosaic.Lib.Quiescent

@[expose] public section

noncomputable section

namespace Cert.Modulation

open Idealize.ShloMosaic Idealize.ShloMosaic.TcCoe Idealize.SL.Sem Idealize.ShloMosaic.ValueIdx
open Cert.Kernel5Ideal (S40x1024 S4x1024x6144 S4x6144 S4x40x6144)
open Cert.Kernel5Ideal.Modulation (silu resultAt)
open Cert.Reference5Ideal.Read

/-- The reference runs, leaves its arguments and declares no semaphore. -/
theorem reference_frame : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The word of one, as a float. -/
theorem one : Ideal.ofBits .f32 0x3F800000#32 = (1 : EReal) := by
  simp [Ideal.ofBits, Ideal.ieee, -EReal.coe_mul]; norm_num

/-- The reference's conditioning at an element: the number times its logistic. -/
theorem silu_at (x0 : S40x1024.Idx → EReal) (i : S40x1024.Idx) : val_main_v0 (F := Ideal) x0 i = silu (x0 i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  show _ * Ideal.div (Ideal.ofBits .f32 0x3F800000#32) (Ideal.ofBits .f32 0x3F800000#32 + Ideal.exp (-_)) = _
  rw [one]
  rfl

/-- The reference's result at a layer, row and column. -/
theorem result_at (x0 : S40x1024.Idx → EReal) (x1 : S4x1024x6144.Idx → EReal) (x2 : S4x6144.Idx → EReal) (l : Fin 4) (r : Fin 40) (n : Fin 6144) :
    val_main_v5 (F := Ideal) x0 x1 x2 (ix3 l r n) = resultAt x0 x1 x2 l r n := by
  rw [val_main_v5_apply, val_main_v2_apply, val_main_v1_apply, val_main_v4_apply, val_main_v3_apply]
  unfold resultAt
  refine congrArg₂ (fun a b : EReal => a + b) (Finset.sum_congr rfl fun k _ => ?_) (congrArg x2 (Shape.idx_ext₂ rfl rfl))
  rw [silu_at, mul_comm]
  refine congrArg₂ (fun a b : EReal => silu a * b) (congrArg x0 (Shape.idx_ext₂ rfl rfl)) (congrArg x1 (funext fun a => Fin.ext ?_))
  match a with
  | ⟨0, _⟩ => rfl
  | ⟨1, _⟩ => rfl
  | ⟨2, _⟩ => rfl

/-- The precondition: every conditioning value and every weight is a real number. -/
theorem reals_of_pre (x0 : S40x1024.Idx → EReal) (x1 : S4x1024x6144.Idx → EReal) (x2 : S4x6144.Idx → EReal)
    (h : Cert.Pre_finite_conditioning.fn (F := Ideal) x0 x1 x2 = fun _ => 1#1) :
    (∀ i, ∃ r : ℝ, x0 i = (r : EReal)) ∧ ∀ i, ∃ r : ℝ, x1 i = (r : EReal) := by
  have h0 := congrFun h (fun a : Fin 0 => a.elim0)
  have : Subsingleton Cert.Pre_finite_conditioning.S_.Idx := ⟨fun a b => funext fun d : Fin 0 => d.elim0⟩
  unfold Cert.Pre_finite_conditioning.fn at h0
  obtain ⟨ha, hb⟩ := IntOp.andi_eq_one.1 h0
  exact ⟨fun i => Cert.Attention.real_of_lt _ (Host.reduce_andi_all _ _ _ _ _ ha i),
    fun i => Cert.Attention.real_of_lt _ (Host.reduce_andi_all _ _ _ _ _ hb i)⟩

/-- Under the precondition the kernel's result array is the reference's. -/
theorem algebraic : Cert.algebraic_Kernel5Ideal_Reference5Ideal_pre_finite_conditioning := by
  intro m ρ m' ρ' hpre hagree
  refine ⟨fun c => Cert.Kernel5Ideal.Modulation.result m c, ?_, ?_⟩
  · refine (θ_run Cert.Kernel5Ideal.defs _ _).mono (fun _ h c => ⟨(h c).1.trans ?_, (h c).2⟩) (Cert.Kernel5Ideal.Value.run_blocks (F := Ideal) m ρ)
    obtain ⟨hx, hw⟩ := reals_of_pre _ _ _ (hpre c)
    exact Cert.Kernel5Ideal.Modulation.final m c hx hw
  · refine (θ_run Cert.Reference5Ideal.defs _ _).mono (fun _ h c => ⟨(h c).1.trans ?_, (h c).2⟩)
      (Cert.Reference5Ideal.Value.run (F := Ideal) m' ρ')
    rw [Cert.Reference5Ideal.Read.val_main_v5_eq, (hagree c).1, (hagree c).2.1, (hagree c).2.2]
    refine funext fun (j : S4x40x6144.Idx) => ?_
    rw [eq_ix3 j]
    exact result_at _ _ _ (j 0) (j 1) (j 2)

end Cert.Modulation

end
-- ==== Proof.ProjectionBody.lean ====
/-
  The input projection's body over the extended reals: a token normed and modulated, its products with the columns of
  weights, and the norm and rotation of a query's or key's head.

  Two heads of 64 lanes lie in a block of 128. The body takes a head's mean square as a product with a matrix that holds
  1/64 between lanes of one head, after splitting each square into a half that keeps its upper bits and the remainder.
  Over the extended reals the half is the square itself, so a real square's remainder is zero.
-/
module

public import proofs.«01_k».proof.Proof.Gen.Kernel6Ideal.Value
public import Idealize.ShloMosaic.Lib.KernelVsHost
public import Idealize.ShloMosaic.Lib.ValueLayout
public import Idealize.ShloMosaic.Lib.Pointwise.Reduce
public import Idealize.ShloMosaic.Lib.MatmulPlain

@[expose] public section

noncomputable section

namespace Cert.Kernel6Ideal.Projection

open Cert.Kernel6Ideal Cert.Kernel6Ideal.Gen Idealize.ShloMosaic.TcCoe Idealize.SL.Sem
open Idealize.ShloMosaic hiding ix1 ix2 ix3
open Idealize.ShloMosaic.ValueIdx

/-! ## The mathematics -/

/-- The word added to a mean square. -/
def eps : EReal := Ideal.ofBits .f32 0x358637BD#32
/-- The word of one. -/
def one : EReal := Ideal.ofBits .f32 0x3F800000#32
/-- The queries' factor. -/
def factor : EReal := Ideal.ofBits .f32 0x3E38AA3B#32

/-- A token normed, times its gain, scaled and shifted. -/
def modulated (x g sh sc : Fin 1024 → EReal) (k : Fin 1024) : EReal :=
  x k * Ideal.rsqrt (Ideal.div (∑ k' : Fin 1024, x k' * x k') (Ideal.ofBits .f32 0x44800000#32) + eps) * g k * (one + sc k) + sh k

/-- A head normed, times its gain. -/
def normed (z g : Fin 64 → EReal) (d : Fin 64) : EReal :=
  z d * Ideal.rsqrt (Ideal.div (∑ d' : Fin 64, z d' * z d') (Ideal.ofBits .f32 0x42800000#32) + eps) * g d

/-- A head turned by a quarter within each of its halves. -/
def turned (y : Fin 64 → EReal) (d : Fin 64) : EReal :=
  if d.val % 32 < 16 then -y ⟨(d.val + 16) % 64, Nat.mod_lt _ (by decide)⟩ else y ⟨(d.val + 48) % 64, Nat.mod_lt _ (by decide)⟩

/-- A head normed and rotated. -/
def rotated (z g cos sin : Fin 64 → EReal) (d : Fin 64) : EReal := normed z g d * cos d + turned (normed z g) d * sin d

/-- The word of one is one. -/
theorem one_eq : one = 1 := by
  have : one = ((1 : ℝ) : EReal) := by
    simp [one, Ideal.ofBits, Ideal.ieee, -EReal.coe_mul]; norm_num
  rw [this]; rfl

/-- The word added to a mean square is a positive real. -/
theorem eps_pos : ∃ e : ℝ, 0 < e ∧ eps = (e : EReal) := by
  refine ⟨8796093 / 2 ^ 43, by positivity, ?_⟩
  simp [eps, Ideal.ofBits, Ideal.ieee, -EReal.coe_mul]; norm_num

/-- The word of 64. -/
theorem word64 : Ideal.ofBits .f32 0x42800000#32 = ((64 : ℝ) : EReal) := by
  simp [Ideal.ofBits, Ideal.ieee, -EReal.coe_mul]; norm_num
/-- The word of 1024. -/
theorem word1024 : Ideal.ofBits .f32 0x44800000#32 = ((1024 : ℝ) : EReal) := by
  simp [Ideal.ofBits, Ideal.ieee, -EReal.coe_mul]; norm_num
/-- The word of 1/64. -/
theorem word64th : Ideal.ofBits .f32 0x3C800000#32 = ((1 / 64 : ℝ) : EReal) := by
  simp [Ideal.ofBits, Ideal.ieee, -EReal.coe_mul]; norm_num

/-- A sum of real numbers, taken among the real numbers. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A sum of real numbers is a real number. -/
theorem sum_real {ι : Type} (s : Finset ι) (f : ι → EReal) (h : ∀ i, ∃ r : ℝ, f i = (r : EReal)) : ∃ r : ℝ, ∑ i ∈ s, f i = (r : EReal) := by
  classical
  induction s using Finset.induction_on with
  | empty => exact ⟨0, by simp⟩
  | insert a s ha ih =>
    obtain ⟨p, hp⟩ := h a
    obtain ⟨q, hq⟩ := ih
    exact ⟨p + q, by rw [Finset.sum_insert ha, hp, hq, EReal.coe_add]⟩

/-- A sum of squares of real numbers is a real number that is not negative. -/
theorem sum_sq_real {ι : Type} (s : Finset ι) (f : ι → EReal) (h : ∀ i, ∃ r : ℝ, f i = (r : EReal)) :
    ∃ r : ℝ, 0 ≤ r ∧ ∑ i ∈ s, f i * f i = (r : EReal) := by
  classical
  induction s using Finset.induction_on with
  | empty => exact ⟨0, le_refl _, by simp⟩
  | insert a s ha ih =>
    obtain ⟨p, hp⟩ := h a
    obtain ⟨q, hq0, hq⟩ := ih
    exact ⟨p * p + q, add_nonneg (mul_self_nonneg p) hq0, by rw [Finset.sum_insert ha, hp, hq, EReal.coe_add, EReal.coe_mul]⟩

/-- A modulated token of real numbers is real. -/
theorem modulated_real (x g sh sc : Fin 1024 → EReal) (hx : ∀ k, ∃ r : ℝ, x k = (r : EReal)) (hg : ∀ k, ∃ r : ℝ, g k = (r : EReal))
    (hs : ∀ k, ∃ r : ℝ, sh k = (r : EReal)) (hc : ∀ k, ∃ r : ℝ, sc k = (r : EReal)) (k : Fin 1024) :
    ∃ r : ℝ, modulated x g sh sc k = (r : EReal) := by
  obtain ⟨S, hS0, hS⟩ := sum_sq_real Finset.univ x hx
  obtain ⟨e, he0, he⟩ := eps_pos
  obtain ⟨a, ha⟩ := hx k
  obtain ⟨b, hb⟩ := hg k
  obtain ⟨c, hc⟩ := hc k
  obtain ⟨d, hd⟩ := hs k
  have hpos : 0 < S * (1 / 1024) + e := by positivity
  refine ⟨a * (Real.sqrt (S * (1 / 1024) + e))⁻¹ * b * (1 + c) + d, ?_⟩
  unfold modulated
  rw [hS, he, ha, hb, hc, hd, word1024, Ideal.div_coe (by norm_num), ← EReal.coe_mul, ← EReal.coe_add, Ideal.rsqrt_coe,
    if_neg (not_lt.mpr hpos.le), if_neg hpos.ne', one_eq, ← EReal.coe_one]
  simp only [← EReal.coe_mul, ← EReal.coe_add]

/-- A sum over 128 lanes of which only the 64 of one head count. -/
theorem sum_head (f : Fin 128 → EReal) (w : EReal) (b : Nat) (hb : b < 2) :
    ∑ k : Fin 128, f k * (if k.val / 64 = b then w else 0) = ∑ d : Fin 64, f ⟨b * 64 + d.val, by omega⟩ * w := by
  have e := Fin.sum_univ_add (a := 64) (b := 64) (fun k : Fin (64 + 64) => f k * (if k.val / 64 = b then w else 0))
  refine e.trans ?_
  have h0 : ∀ d : Fin 64, (Fin.castAdd 64 d).val / 64 = 0 := fun d => by rw [Fin.val_castAdd]; omega
  have h1 : ∀ d : Fin 64, (Fin.natAdd 64 d).val / 64 = 1 := fun d => by rw [Fin.val_natAdd]; omega
  simp only [h0, h1]
  obtain rfl | rfl : b = 0 ∨ b = 1 := by omega
  · simp only [if_true, one_ne_zero, if_false, mul_zero, Finset.sum_const_zero, add_zero]
    exact Finset.sum_congr rfl fun d _ => congrArg (fun y => f y * w) (Fin.ext (by show d.val = 0 * 64 + d.val; omega))
  · simp only [if_true, zero_ne_one, if_false, mul_zero, Finset.sum_const_zero, zero_add]
    exact Finset.sum_congr rfl fun d _ => congrArg (fun y => f y * w) (Fin.ext (by show 64 + d.val = 1 * 64 + d.val; omega))

/-- A reciprocal square root at an index. -/
theorem rsqrt_at {s : Shape} {φ : FTy} (x : FVec Ideal s φ) (i : s.Idx) : rsqrt x i = Ideal.rsqrt (x i) := rfl

/-! ## The products -/

/-- A product of 512 rows at a row and column. -/
theorem dot_apply {K N : Nat} (x : FVec Ideal ⟨2, ![512, K]⟩ .bf16) (w : FVec Ideal ⟨2, ![K, N]⟩ .bf16) (r : Fin 512) (n : Fin N) :
    matmul (DotDims.plain 512 K N) none x w (constant ⟨2, ![512, N]⟩ .f32 0x00000000#32) (ix2 r n) = ∑ k : Fin K, x (ix2 r k) * w (ix2 k n) :=
  (Ideal.matmul_plain_apply none x w _ r n).trans (by rw [constant_apply, Ideal.ofBits_zero_f32, zero_add])

/-! ## A block of 128 lanes normed and rotated -/

section Shapes

variable {F : FTy → Type} [FloatOps F]

/-- A block's squares. -/
def squares (z : FVec F S512x128 .f32) : FVec F S512x128 .f32 := mulf z z

/-- The mean squares of a block's heads, laid over their lanes. -/
def meanSquares (z : FVec F S512x128 .f32) (hm : FVec F S128x128 .bf16) : FVec F S512x128 .f32 :=
  addf (matmul dot_S512x128_S128x128_S512x128_1_0_0_1_n_n none (truncf .bf16 (squares z) bitsLt_bf16_f32) hm
      (constant S512x128 .f32 0x00000000#32))
    (matmul dot_S512x128_S128x128_S512x128_1_0_0_1_n_n none
      (truncf .bf16 (subf (squares z) (extf .f32 (truncf .bf16 (squares z) bitsLt_bf16_f32) bitsLt_bf16_f32)) bitsLt_bf16_f32) hm
      (constant S512x128 .f32 0x00000000#32))

/-- A block normed, times its gain. -/
def normedBlock (z : FVec F S512x128 .f32) (hm : FVec F S128x128 .bf16) (g : Vec F S1x128 .f32) : FVec F S512x128 .f32 :=
  mulf (mulf z (rsqrt (addf (meanSquares z hm) (broadcast S512x128 (Scalar.ofBits .f32 0x358637BD#32)))))
    (broadcastTo S512x128 g broadcasts_S1x128_S512x128)

/-- A block with its lanes turned. -/
def turnedBlock (y : FVec F S512x128 .f32) (mask : IVec S1x128 1) : FVec F S512x128 .f32 :=
  select (broadcastTo S512x128 (shapeCast S1x128 mask shapeCasts_S1x128_S1x128) broadcasts_S1x128_S512x128)
    (subf (broadcast S512x128 (Scalar.ofBits .f32 0x00000000#32)) (dynamicRotate 1 112#32 none y rotates_S512x128_d1))
    (dynamicRotate 1 16#32 none y rotates_S512x128_d1)

/-- A block normed, rotated and scaled. -/
def rotatedBlock (z : FVec F S512x128 .f32) (hm : FVec F S128x128 .bf16) (g : Vec F S1x128 .f32) (cos sin : FVec F S512x128 .f32)
    (mask : IVec S1x128 1) (s : F .f32) : FVec F S512x128 .bf16 :=
  truncf .bf16 (mulf (addf (mulf (normedBlock z hm g) cos) (mulf (turnedBlock (normedBlock z hm g) mask) sin)) (broadcast S512x128 s))
    bitsLt_bf16_f32

end Shapes

/-- The mask of the lanes in the first quarter of a head's half. -/
def quarter : IVec S1x128 1 := k0_pay11 (Scalar.select (Scalar.cmpi .eq 32#32 0#32) 1#32 32#32) k0_pay10

/-- The mask at a lane. -/
theorem quarter_apply (l : Fin 128) : quarter (ix2 0 l) = if l.val % 32 < 16 then 1#1 else 0#1 := by
  revert l; decide +kernel

/-- A row laid over every row. -/
theorem row_apply {α : Type} (g : S1x128.Idx → α) (r : Fin 512) (l : Fin 128) :
    broadcastTo S512x128 g broadcasts_S1x128_S512x128 (ix2 r l) = g (ix2 0 l) := by
  refine broadcastTo_apply _ _ _ _ fun a => ?_
  match a with
  | ⟨0, _⟩ => rfl
  | ⟨1, _⟩ => rfl

/-- A turn of the lanes by 112 at a row and lane. -/
theorem turn112_apply {α : Type} (x : S512x128.Idx → α) (r : Fin 512) (l : Fin 128) :
    dynamicRotate 1 112#32 none x rotates_S512x128_d1 (ix2 r l) = x (ix2 r ⟨(l.val + 16) % 128, Nat.mod_lt _ (by decide)⟩) := by
  refine dynamicRotate_apply _ _ _ _ _ _ fun b => ?_
  match b with
  | ⟨0, _⟩ => rfl
  | ⟨1, _⟩ =>
    show (l.val + 16) % 128 = if _ then (l.val + 128 - 112 % 128) % 128 else _
    refine Eq.trans ?_ (if_pos rfl).symm
    omega

/-- A turn of the lanes by 16 at a row and lane. -/
theorem turn16_apply {α : Type} (x : S512x128.Idx → α) (r : Fin 512) (l : Fin 128) :
    dynamicRotate 1 16#32 none x rotates_S512x128_d1 (ix2 r l) = x (ix2 r ⟨(l.val + 112) % 128, Nat.mod_lt _ (by decide)⟩) := by
  refine dynamicRotate_apply _ _ _ _ _ _ fun b => ?_
  match b with
  | ⟨0, _⟩ => rfl
  | ⟨1, _⟩ =>
    show (l.val + 112) % 128 = if _ then (l.val + 128 - 16 % 128) % 128 else _
    refine Eq.trans ?_ (if_pos rfl).symm
    omega

variable (z : FVec Ideal S512x128 .f32) (hm : FVec Ideal S128x128 .bf16) (g : Vec Ideal S1x128 .f32) (cos sin : FVec Ideal S512x128 .f32)
  (r : Fin 512) (hz : ∀ l, ∃ x : ℝ, z (ix2 r l) = (x : EReal))
  (hhm : ∀ i j : Fin 128, hm (ix2 i j) = if i.val / 64 = j.val / 64 then ((1 / 64 : ℝ) : EReal) else 0)
  (G C S : Fin 64 → EReal) (hg : ∀ l : Fin 128, g (ix2 0 l) = G ⟨l.val % 64, Nat.mod_lt _ (by decide)⟩)
  (hc : ∀ l : Fin 128, cos (ix2 r l) = C ⟨l.val % 64, Nat.mod_lt _ (by decide)⟩)
  (hs : ∀ l : Fin 128, sin (ix2 r l) = S ⟨l.val % 64, Nat.mod_lt _ (by decide)⟩)

/-- A block's row as its heads. -/
abbrev headOf (h : Nat) (hh : h < 2) : Fin 64 → EReal := fun d => z (ix2 r ⟨h * 64 + d.val, by omega⟩)

include hz hhm in
/-- The mean square at a row and lane is that of the lane's head. -/
theorem meanSquares_apply (l : Fin 128) : meanSquares (F := Ideal) z hm (ix2 r l)
    = Ideal.div (∑ d : Fin 64, headOf z r (l.val / 64) (by omega) d * headOf z r (l.val / 64) (by omega) d) (Ideal.ofBits .f32 0x42800000#32) := by
  unfold meanSquares
  rw [addf_apply]
  refine (congrArg₂ (fun a b : EReal => a + b) (dot_apply _ _ r l) (dot_apply _ _ r l)).trans ?_
  have e0 : ∀ k : Fin 128, z (ix2 r k) * z (ix2 r k) - z (ix2 r k) * z (ix2 r k) = 0 := fun k => by
    obtain ⟨x, hx⟩ := hz k
    rw [hx, ← EReal.coe_mul, ← EReal.coe_sub, sub_self]; rfl
  show (∑ k : Fin 128, (z (ix2 r k) * z (ix2 r k)) * hm (ix2 k l))
    + (∑ k : Fin 128, (z (ix2 r k) * z (ix2 r k) - z (ix2 r k) * z (ix2 r k)) * hm (ix2 k l)) = _
  simp only [e0, zero_mul, Finset.sum_const_zero, add_zero, hhm]
  rw [sum_head (fun k => z (ix2 r k) * z (ix2 r k)) _ (l.val / 64) (by omega), word64, Ideal.div_coe (by norm_num)]
  have hr : ∀ d : Fin 64, ∃ x : ℝ, headOf z r (l.val / 64) (by omega) d = (x : EReal) := fun d => hz _
  choose y hy using hr
  show ∑ d : Fin 64, headOf z r (l.val / 64) (by omega) d * headOf z r (l.val / 64) (by omega) d * _ = _
  simp only [hy, ← EReal.coe_mul]
  rw [← coe_sum, ← coe_sum, ← EReal.coe_mul, Finset.sum_mul]

include hz hhm hg in
/-- A block normed, at a row and lane: the lane's head normed. -/
theorem normedBlock_apply (l : Fin 128) : normedBlock (F := Ideal) z hm g (ix2 r l)
    = normed (headOf z r (l.val / 64) (by omega)) G ⟨l.val % 64, Nat.mod_lt _ (by decide)⟩ := by
  unfold normedBlock normed
  rw [mulf_apply, mulf_apply, rsqrt_at, addf_apply, row_apply, hg, meanSquares_apply z hm r hz hhm]
  refine congrArg (fun a : EReal => a * Ideal.rsqrt _ * _) (congrArg z (congrArg (ix2 r) (Fin.ext ?_)))
  show l.val = l.val / 64 * 64 + l.val % 64; omega

/-- The heads of two lanes of one head are one. -/
theorem headOf_congr (a b : Nat) (ha : a < 2) (hb : b < 2) (e : a = b) : headOf z r a ha = headOf z r b hb := by subst e; rfl

include hz hhm hg in
/-- A block normed and turned, at a row and lane: the lane's head normed and turned. -/
theorem turnedBlock_apply (l : Fin 128) : turnedBlock (F := Ideal) (normedBlock z hm g) quarter (ix2 r l)
    = turned (normed (headOf z r (l.val / 64) (by omega)) G) ⟨l.val % 64, Nat.mod_lt _ (by decide)⟩ := by
  have h64 : l.val % 64 % 32 = l.val % 32 := by omega
  have hl := l.isLt
  unfold turnedBlock turned
  rw [select_apply, shapeCast_self, row_apply, quarter_apply]
  show Scalar.select _ _ _ = if l.val % 64 % 32 < 16 then _ else _
  rw [h64]
  by_cases e : l.val % 32 < 16
  · rw [if_pos e, if_pos e, select_one, subf_apply, turn112_apply, normedBlock_apply z hm g r hz hhm G hg]
    show Ideal.ofBits .f32 0x00000000#32 - _ = _
    rw [Ideal.ofBits_zero_f32, zero_sub]
    refine congrArg (fun a : EReal => -a) (congr (congrArg (fun f => normed f G) (headOf_congr z r _ _ _ _ ?_)) (Fin.ext ?_))
    · show (l.val + 16) % 128 / 64 = l.val / 64; omega
    · show (l.val + 16) % 128 % 64 = (l.val % 64 + 16) % 64; omega
  · rw [if_neg e, if_neg e, select_zero, turn16_apply, normedBlock_apply z hm g r hz hhm G hg]
    refine congr (congrArg (fun f => normed f G) (headOf_congr z r _ _ _ _ ?_)) (Fin.ext ?_)
    · show (l.val + 112) % 128 / 64 = l.val / 64; omega
    · show (l.val + 112) % 128 % 64 = (l.val % 64 + 48) % 64; omega

include hz hhm hg hc hs in
/-- A block normed, rotated and scaled, at a row and lane: the lane's head normed, rotated and scaled. -/
theorem rotatedBlock_apply (s : EReal) (l : Fin 128) : rotatedBlock (F := Ideal) z hm g cos sin quarter s (ix2 r l)
    = rotated (headOf z r (l.val / 64) (by omega)) G C S ⟨l.val % 64, Nat.mod_lt _ (by decide)⟩ * s := by
  unfold rotatedBlock rotated
  rw [truncf_apply, mulf_apply, addf_apply, mulf_apply, mulf_apply, normedBlock_apply z hm g r hz hhm G hg,
    turnedBlock_apply z hm g r hz hhm G hg, hc, hs]
  rfl

/-! ## What the body stores -/

/-- The tokens normed and modulated, at a row and column. -/
theorem tokens_apply (x : Vec Ideal S512x1024 .f32) (g : Vec Ideal S1x1024 .f32) (sh sc : Vec Ideal S1x1x1024 .f32) (r : Fin 512) (k : Fin 1024) :
    k0_pay6 (F := Ideal) x g sh sc (ix2 r k)
      = modulated (fun k => x (ix2 r k)) (fun k => g (ix2 0 k)) (fun k => sh (ix3 0 0 k)) (fun k => sc (ix3 0 0 k)) k := by
  have row : ∀ v : FVec Ideal S1x1024 .f32, broadcastTo S512x1024 v broadcasts_S1x1024_S512x1024 (ix2 r k) = v (ix2 0 k) := fun v =>
    broadcastTo_apply _ _ _ _ fun a => by
      match a with
      | ⟨0, _⟩ => rfl
      | ⟨1, _⟩ => rfl
  have col : ∀ v : FVec Ideal S512x1 .f32, broadcastTo S512x1024 v broadcasts_S512x1_S512x1024 (ix2 r k) = v (ix2 r 0) := fun v =>
    broadcastTo_apply _ _ _ _ fun a => by
      match a with
      | ⟨0, _⟩ => rfl
      | ⟨1, _⟩ => rfl
  have cast : ∀ v : FVec Ideal S512 .f32, shapeCast S512x1 v shapeCasts_S512_S512x1 (ix2 r 0) = v (ix1 r) := fun v =>
    shapeCast_apply _ _ (ix2 r 0) (ix1 r) (by
      rw [Shape.rowMajor_val_one, Shape.rowMajor_val_two]; show r.val = r.val * 1 + 0; omega)
  unfold k0_pay6 modulated
  dsimp only
  rw [truncf_apply, addf_apply, mulf_apply, mulf_apply, mulf_apply, row, row, row, col, rsqrt_at, addf_apply, divf_apply, cast,
    addf_apply, shapeCast_1ab_ab_apply, shapeCast_1ab_ab_apply]
  have e : FloatOps.reduceAdd (F := Ideal) (φ := .f32) [1] reduces_S512x1024_S512 (mulf x x) (ix1 r) = ∑ k' : Fin 1024, x (ix2 r k') * x (ix2 r k') := by
    refine (Ideal.reduceAdd_r2_a1 (n0 := 512) (n1 := 1024) reduces_S512x1024_S512 (fun i => x i * x i) (ix1 r)).trans ?_
    refine Finset.sum_congr rfl fun k' _ => ?_
    exact congrArg (fun i : S512x1024.Idx => x i * x i) (Shape.idx_ext₂ rfl rfl)
  exact congrArg (fun a : EReal => x (ix2 r k) * Ideal.rsqrt (Ideal.div a (Ideal.ofBits .f32 0x44800000#32) + eps) * g (ix2 0 k)
    * (one + sc (ix3 0 0 k)) + sh (ix3 0 0 k)) e

end Cert.Kernel6Ideal.Projection

end
-- ==== Proof.ProjectionEntry.lean ====
/-
  What the host lays out for the input projection: the tables of cosines and sines and the gains, each twice side by side,
  and the matrix that takes a head's mean.
-/
module

public import proofs.«01_k».proof.Proof.ProjectionBody

@[expose] public section

noncomputable section

namespace Cert.Kernel6Ideal.Projection

open Cert.Kernel6Ideal Cert.Kernel6Ideal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ) (c : Dev nD)

/-- A table laid twice. -/
def twice (x : S2048x64.Idx → EReal) : S2048x128.Idx → EReal :=
  concatenate S2048x128 1 [⟨S2048x64, x⟩, ⟨S2048x64, x⟩] concatenates_S2048x64_S2048x64_S2048x128_d1

/-- A gain laid twice. -/
def twiceRow (x : S1x64.Idx → EReal) : S1x128.Idx → EReal :=
  shapeCast S1x128 (broadcastInDim S1x1x2x64 ![0, 1, 2, 3] bcast_S1x1x1x64_S1x1x2x64_0_1_2_3 (shapeCast S1x1x1x64 x shapeCasts_S1x64_S1x1x1x64))
    shapeCasts_S1x1x2x64_S1x128

/-- Lanes' numbers divided by 64 and rounded down. -/
def heads (i : IVec S128x128 32) : IVec S128x128 32 :=
  select (andi (cmpi .ne (signi i) (broadcastInDim S128x128 ![] bcast_S_S128x128 (signi (constantI S_ 32 64#32))))
      (cmpi .ne (Host.remsi i (broadcastInDim S128x128 ![] bcast_S_S128x128 (constantI S_ 32 64#32))) (broadcastInDim S128x128 ![] bcast_S_S128x128 (constantI S_ 32 0#32))))
    (subi (Host.divsi i (broadcastInDim S128x128 ![] bcast_S_S128x128 (constantI S_ 32 64#32))) (broadcastInDim S128x128 ![] bcast_S_S128x128 (constantI S_ 32 1#32)))
    (Host.divsi i (broadcastInDim S128x128 ![] bcast_S_S128x128 (constantI S_ 32 64#32)))

/-- The matrix that takes a head's mean. -/
def means : FVec Ideal S128x128 .bf16 :=
  truncf .bf16 (select (cmpi .eq (heads (iotaInDim S128x128 32 0)) (heads (iotaInDim S128x128 32 1)))
    (broadcastInDim S128x128 ![] bcast_S_S128x128 (constant (F := Ideal) S_ .f32 0x3C800000#32))
    (broadcastInDim S128x128 ![] bcast_S_S128x128 (constant (F := Ideal) S_ .f32 0x00000000#32))) bitsLt_bf16_f32

/-- The region finds the cosines laid twice. -/
theorem entry_cos : V m c main_v0 = twice (m ((c : Thread nD τ).loc main_arg4)) := by
  simp only [V, hostOps0, hostOps0_1, hostOps0_2, hostOps0_3, hostOps0_4, hostOps0_5, hostOps0_6, List.flatten_cons, List.flatten_nil, List.append_nil,
    List.cons_append, List.nil_append]
  after_results_simp <;> (try dsimp only [Matrix.cons_val]) <;> (try after_results_simp) <;> rfl

/-- The region finds the sines laid twice. -/
theorem entry_sin : V m c main_v1 = twice (m ((c : Thread nD τ).loc main_arg5)) := by
  simp only [V, hostOps0, hostOps0_1, hostOps0_2, hostOps0_3, hostOps0_4, hostOps0_5, hostOps0_6, List.flatten_cons, List.flatten_nil, List.append_nil,
    List.cons_append, List.nil_append]
  after_results_simp <;> (try dsimp only [Matrix.cons_val]) <;> (try after_results_simp) <;> rfl

/-- The region finds the queries' gain laid twice. -/
theorem entry_qgain : V m c main_v4 = twiceRow (m ((c : Thread nD τ).loc main_arg6)) := by
  simp only [V, hostOps0, hostOps0_1, hostOps0_2, hostOps0_3, hostOps0_4, hostOps0_5, hostOps0_6, List.flatten_cons, List.flatten_nil, List.append_nil,
    List.cons_append, List.nil_append]
  after_results_simp <;> (try dsimp only [Matrix.cons_val]) <;> (try after_results_simp) <;> rfl

/-- The region finds the keys' gain laid twice. -/
theorem entry_kgain : V m c main_v7 = twiceRow (m ((c : Thread nD τ).loc main_arg7)) := by
  simp only [V, hostOps0, hostOps0_1, hostOps0_2, hostOps0_3, hostOps0_4, hostOps0_5, hostOps0_6, List.flatten_cons, List.flatten_nil, List.append_nil,
    List.cons_append, List.nil_append]
  after_results_simp <;> (try dsimp only [Matrix.cons_val]) <;> (try after_results_simp) <;> rfl

/-- The region finds the matrix of head means. -/
theorem entry_means : V m c main_v14 = means := by
  simp only [V, hostOps0, hostOps0_1, hostOps0_2, hostOps0_3, hostOps0_4, hostOps0_5, hostOps0_6, List.flatten_cons, List.flatten_nil, List.append_nil,
    List.cons_append, List.nil_append]
  after_results_simp <;> (try dsimp only [Matrix.cons_val]) <;> (try after_results_simp) <;> rfl

/-- A table laid twice, at a row and lane. -/
theorem twice_apply (x : S2048x64.Idx → EReal) (r : Fin 2048) (l : Fin 128) :
    twice x (ix2 r l) = x (ix2 r ⟨l.val % 64, by omega⟩) := by
  unfold twice
  have hl := l.isLt
  by_cases h : l.val < 64
  · refine concatenate_pair_apply_left (t := S2048x128) 1 x x _ _ rfl (ix2 r ⟨l.val % 64, by omega⟩) fun b => ?_
    match b with
    | ⟨0, _⟩ => rfl
    | ⟨1, _⟩ => show l.val % 64 = l.val; omega
  · refine concatenate_pair_apply_right (t := S2048x128) 1 x x _ _ rfl rfl (ix2 r ⟨l.val % 64, by omega⟩) (fun b hb => ?_) ?_
    · match b with
      | ⟨0, _⟩ => rfl
      | ⟨1, _⟩ => exact absurd rfl hb
    · show l.val % 64 + 64 = l.val; omega

/-- A gain laid twice, at a lane. -/
theorem twiceRow_apply (x : S1x64.Idx → EReal) (l : Fin 128) :
    twiceRow x (ix2 0 l) = x (ix2 0 ⟨l.val % 64, by omega⟩) := by
  unfold twiceRow
  have hl := l.isLt
  refine (shapeCast_apply _ _ (ix2 0 l) (ix4 0 0 ⟨l.val / 64, by omega⟩ ⟨l.val % 64, by omega⟩) ?_).trans ?_
  · rw [Shape.rowMajor_val_two, Shape.rowMajor_val_four]
    show ((0 * 1 + 0) * 2 + l.val / 64) * 64 + l.val % 64 = 0 * 128 + l.val; omega
  · show shapeCast S1x1x1x64 x shapeCasts_S1x64_S1x1x1x64 (ix4 0 0 0 ⟨l.val % 64, by omega⟩) = _
    refine (shapeCast_apply _ _ _ (ix2 0 ⟨l.val % 64, by omega⟩) ?_)
    rw [Shape.rowMajor_val_two, Shape.rowMajor_val_four]
    rfl

/-- A lane's head by its row. -/
theorem heads0 (i j : Fin 128) : heads (iotaInDim S128x128 32 0) (ix2 i j) = BitVec.ofNat 32 (i.val / 64) := by
  have e : heads (iotaInDim S128x128 32 0) (ix2 i j) = heads (iotaInDim S128x128 32 0) (ix2 i 0) := rfl
  rw [e]; clear e j; revert i; decide +kernel

/-- A lane's head by its column. -/
theorem heads1 (i j : Fin 128) : heads (iotaInDim S128x128 32 1) (ix2 i j) = BitVec.ofNat 32 (j.val / 64) := by
  have e : heads (iotaInDim S128x128 32 1) (ix2 i j) = heads (iotaInDim S128x128 32 1) (ix2 0 j) := rfl
  rw [e]; clear e i; revert j; decide +kernel

/-- The matrix of head means at a row and column. -/
theorem means_apply (i j : Fin 128) : means (ix2 i j) = if i.val / 64 = j.val / 64 then ((1 / 64 : ℝ) : EReal) else 0 := by
  have hi := i.isLt
  have hj := j.isLt
  unfold means
  show Scalar.select (IntOp.cmpi .eq (heads (iotaInDim S128x128 32 0) (ix2 i j)) (heads (iotaInDim S128x128 32 1) (ix2 i j)))
    (Ideal.ofBits .f32 0x3C800000#32) (Ideal.ofBits .f32 0x00000000#32) = _
  rw [heads0, heads1, word64th, Ideal.ofBits_zero_f32]
  have ei : i.val / 64 = 0 ∨ i.val / 64 = 1 := by omega
  have ej : j.val / 64 = 0 ∨ j.val / 64 = 1 := by omega
  rcases ei with ei | ei <;> rcases ej with ej | ej <;> rw [ei, ej] <;> simp <;> rfl

end Cert.Kernel6Ideal.Projection

end
-- ==== Proof.ProjectionValue.lean ====
/-
  The input projection's six result arrays, as functions of its eight arguments.

  Point `t` of the grid works on rows `512 * t` to `512 * t + 511` of the tokens. A row is normed, modulated by its
  sample's shift and scale, and multiplied with every column of weights; the queries' and keys' columns are then normed
  and rotated head by head.
-/
module

public import proofs.«01_k».proof.Proof.ProjectionEntry

@[expose] public section

noncomputable section

namespace Cert.Kernel6Ideal.Projection

open Cert.Kernel6Ideal Cert.Kernel6Ideal.Gen Idealize.ShloMosaic.TcCoe Idealize.SL.Sem
open Idealize.ShloMosaic hiding ix1 ix2 ix3 ix4
open Idealize.ShloMosaic.ValueIdx
open Idealize.ShloMosaic.Pipeline (Dat)

/-! ## The results -/

section Results

variable (x : S65536x1024.Idx → EReal) (md : S32x1x6144.Idx → EReal) (g : S1x1024.Idx → EReal) (w : S1024x5120.Idx → EReal)
  (ct st : S2048x64.Idx → EReal) (qn kn : S1x64.Idx → EReal)

/-- A token normed and modulated, at a row and column. -/
def tokenAt (r : Fin 65536) (k : Fin 1024) : EReal :=
  modulated (fun k => x (ix2 r k)) (fun k => g (ix2 0 k)) (fun k => md (ix3 ⟨r.val / 2048, by omega⟩ 0 ⟨k.val, by omega⟩))
    (fun k => md (ix3 ⟨r.val / 2048, by omega⟩ 0 ⟨1024 + k.val, by omega⟩)) k

/-- A token's product with a column of weights. -/
def productAt (r : Fin 65536) (n : Fin 5120) : EReal := ∑ k : Fin 1024, tokenAt x md g r k * w (ix2 k n)

/-- A token's products with the columns of weights from one on. -/
def columnsAt (off N : Nat) (ho : off + N ≤ 5120) (r : Fin 65536) (n : Fin N) : EReal := productAt x md g w r ⟨off + n.val, by omega⟩

/-- A query. -/
def queryAt (r : Fin 65536) (n : Fin 512) : EReal :=
  rotated (fun d => productAt x md g w r ⟨n.val / 64 * 64 + d.val, by omega⟩) (fun d => qn (ix2 0 d))
    (fun d => ct (ix2 ⟨r.val % 2048, by omega⟩ d)) (fun d => st (ix2 ⟨r.val % 2048, by omega⟩ d))
    ⟨n.val % 64, by omega⟩ * factor

/-- A key. -/
def keyAt (r : Fin 65536) (n : Fin 128) : EReal :=
  rotated (fun d => productAt x md g w r ⟨512 + (n.val / 64 * 64 + d.val), by omega⟩) (fun d => kn (ix2 0 d))
    (fun d => ct (ix2 ⟨r.val % 2048, by omega⟩ d)) (fun d => st (ix2 ⟨r.val % 2048, by omega⟩ d))
    ⟨n.val % 64, by omega⟩

/-- The arguments a head's norm needs real: the tokens, the shifts and scales, the gain, and the queries' and keys' weights. -/
structure Reals : Prop where
  tokens : ∀ i, ∃ y : ℝ, x i = (y : EReal)
  mods : ∀ (b : Fin 32) (k : Fin 2048), ∃ y : ℝ, md (ix3 b 0 ⟨k.val, by omega⟩) = (y : EReal)
  gain : ∀ i, ∃ y : ℝ, g i = (y : EReal)
  weights : ∀ (k : Fin 1024) (n : Fin 640), ∃ y : ℝ, w (ix2 k ⟨n.val, by omega⟩) = (y : EReal)

variable {x md g w}

/-- Then the products of the queries' and keys' columns are real. -/
theorem Reals.product (h : Reals x md g w) (r : Fin 65536) (n : Fin 5120) (hn : n.val < 640) : ∃ y : ℝ, productAt x md g w r n = (y : EReal) := by
  refine sum_real _ _ fun k => ?_
  obtain ⟨a, ha⟩ := modulated_real _ _ _ _ (fun k => h.tokens (ix2 r k)) (fun k => h.gain (ix2 0 k))
    (fun k => h.mods ⟨r.val / 2048, by omega⟩ ⟨k.val, by omega⟩) (fun k => h.mods ⟨r.val / 2048, by omega⟩ ⟨1024 + k.val, by omega⟩) k
  obtain ⟨b, hb⟩ := h.weights k ⟨n.val, hn⟩
  refine ⟨a * b, ?_⟩
  rw [EReal.coe_mul]
  exact congrArg₂ (fun a b : EReal => a * b) ha hb

end Results

/-! ## The blocks -/

/-- There are 128 points. -/
theorem points : cfg0.N = 128 := N_0

/-- There are 128 points. -/
theorem lt_points (t : Fin cfg0.N) : t.val < 128 := lt_of_lt_of_eq t.isLt points

/-- The row of all the tokens that a point's row is. -/
def row (t : Fin cfg0.N) (r : Fin 512) : Fin 65536 := ⟨t.val * 512 + r.val, by have := lt_points t; omega⟩

/-- The two zero offsets. -/
theorem hz2 : (![0, 0] : Fin 2 → Nat) = fun _ => 0 := funext fun a => by fin_cases a <;> rfl

/-- Window 0's block at a point. -/
theorem index0 (t : Fin cfg0.N) : win0_0.index t 0 = t.val ∧ win0_0.index t 1 = 0 := by revert t; decide +kernel
/-- Window 1's block at a point. -/
theorem index1 (t : Fin cfg0.N) : win0_1.index t 0 = t.val / 4 ∧ win0_1.index t 1 = 0 ∧ win0_1.index t 2 = 0 := by revert t; decide +kernel
/-- Window 2's block at a point. -/
theorem index2 (t : Fin cfg0.N) : win0_2.index t 0 = 0 ∧ win0_2.index t 1 = 0 := by revert t; decide +kernel
/-- Window 3's block at a point. -/
theorem index3 (t : Fin cfg0.N) : win0_3.index t 0 = 0 ∧ win0_3.index t 1 = 0 := by revert t; decide +kernel
/-- Window 4's block at a point. -/
theorem index4 (t : Fin cfg0.N) : win0_4.index t 0 = t.val % 4 ∧ win0_4.index t 1 = 0 := by revert t; decide +kernel
/-- Window 5's block at a point. -/
theorem index5 (t : Fin cfg0.N) : win0_5.index t 0 = t.val % 4 ∧ win0_5.index t 1 = 0 := by revert t; decide +kernel
/-- Window 6's block at a point. -/
theorem index6 (t : Fin cfg0.N) : win0_6.index t 0 = 0 ∧ win0_6.index t 1 = 0 := by revert t; decide +kernel
/-- Window 7's block at a point. -/
theorem index7 (t : Fin cfg0.N) : win0_7.index t 0 = 0 ∧ win0_7.index t 1 = 0 := by revert t; decide +kernel
/-- Window 8's block at a point. -/
theorem index8 (t : Fin cfg0.N) : win0_8.index t 0 = 0 ∧ win0_8.index t 1 = 0 := by revert t; decide +kernel
/-- Window 9's block at a point, and its size. -/
theorem index9 (t : Fin cfg0.N) : win0_9.index t 0 = t.val ∧ win0_9.index t 1 = 0
    ∧ win0_9.xsize (grid0.coords t) 0 = 512 ∧ win0_9.xsize (grid0.coords t) 1 = 512 := by revert t; decide +kernel
/-- Window 10's block at a point, and its size. -/
theorem index10 (t : Fin cfg0.N) : win0_10.index t 0 = t.val ∧ win0_10.index t 1 = 0
    ∧ win0_10.xsize (grid0.coords t) 0 = 512 ∧ win0_10.xsize (grid0.coords t) 1 = 128 := by revert t; decide +kernel
/-- Window 11's block at a point, and its size. -/
theorem index11 (t : Fin cfg0.N) : win0_11.index t 0 = t.val ∧ win0_11.index t 1 = 0
    ∧ win0_11.xsize (grid0.coords t) 0 = 512 ∧ win0_11.xsize (grid0.coords t) 1 = 128 := by revert t; decide +kernel
/-- Window 12's block at a point, and its size. -/
theorem index12 (t : Fin cfg0.N) : win0_12.index t 0 = t.val ∧ win0_12.index t 1 = 0
    ∧ win0_12.xsize (grid0.coords t) 0 = 512 ∧ win0_12.xsize (grid0.coords t) 1 = 768 := by revert t; decide +kernel
/-- Window 13's block at a point, and its size. -/
theorem index13 (t : Fin cfg0.N) : win0_13.index t 0 = t.val ∧ win0_13.index t 1 = 0
    ∧ win0_13.xsize (grid0.coords t) 0 = 512 ∧ win0_13.xsize (grid0.coords t) 1 = 512 := by revert t; decide +kernel
/-- Window 14's block at a point, and its size. -/
theorem index14 (t : Fin cfg0.N) : win0_14.index t 0 = t.val ∧ win0_14.index t 1 = 0
    ∧ win0_14.xsize (grid0.coords t) 0 = 512 ∧ win0_14.xsize (grid0.coords t) 1 = 3072 := by revert t; decide +kernel

variable (m : (ℓ : Loc nD τ sig) → Buf (Elt Ideal) ℓ) (ρ : Dev nD → PrngReg) (c : Dev nD)

/-- The tokens. -/
abbrev tokens : S65536x1024.Idx → EReal := m ((c : Thread nD τ).loc main_arg0)
/-- The samples' shifts and scales. -/
abbrev mods : S32x1x6144.Idx → EReal := m ((c : Thread nD τ).loc main_arg1)
/-- The tokens' gain. -/
abbrev gain : S1x1024.Idx → EReal := m ((c : Thread nD τ).loc main_arg2)
/-- The weights. -/
abbrev weights : S1024x5120.Idx → EReal := m ((c : Thread nD τ).loc main_arg3)
/-- The table of cosines. -/
abbrev cosines : S2048x64.Idx → EReal := m ((c : Thread nD τ).loc main_arg4)
/-- The table of sines. -/
abbrev sines : S2048x64.Idx → EReal := m ((c : Thread nD τ).loc main_arg5)
/-- The queries' gain. -/
abbrev qgain : S1x64.Idx → EReal := m ((c : Thread nD τ).loc main_arg6)
/-- The keys' gain. -/
abbrev kgain : S1x64.Idx → EReal := m ((c : Thread nD τ).loc main_arg7)

/-- A point's tokens. -/
theorem block0 (t : Fin cfg0.N) (r : Fin 512) (k : Fin 1024) : (iblk m c 0 t : Vec Ideal S512x1024 .f32) (ix2 r k) = tokens m c (ix2 (row t r) k) := by
  unfold iblk
  rw [View.read_apply]
  show V m c main_arg0 _ = _
  rw [V_main_arg0]
  refine (congrArg (tokens m c) (Shape.idx_ext₂ ?_ ?_ : _ = ix2 (row t r) k))
  · show win0_0.index t 0 * 512 + 1 * r.val = t.val * 512 + r.val; rw [(index0 t).1]; omega
  · show win0_0.index t 1 * 1024 + 1 * k.val = k.val; rw [(index0 t).2]; omega

/-- A point's shifts and scales: its sample's. -/
theorem block1 (t : Fin cfg0.N) (u v : Fin 1) (k : Fin 6144) : (iblk m c 1 t : Vec Ideal S1x1x6144 .f32) (ix3 u v k)
    = mods m c (ix3 ⟨t.val / 4, by have := lt_points t; omega⟩ 0 k) := by
  unfold iblk
  rw [View.read_apply]
  show V m c main_arg1 _ = _
  rw [V_main_arg1]
  refine congrArg (mods m c) (funext fun a => Fin.ext ?_)
  match a with
  | ⟨0, _⟩ => show win0_1.index t 0 * 1 + 1 * u.val = t.val / 4; rw [(index1 t).1]; omega
  | ⟨1, _⟩ => show win0_1.index t 1 * 1 + 1 * v.val = 0; rw [(index1 t).2.1]; omega
  | ⟨2, _⟩ => show win0_1.index t 2 * 6144 + 1 * k.val = k.val; rw [(index1 t).2.2]; omega

/-- The tokens' gain at a point. -/
theorem block2 (t : Fin cfg0.N) (r : Fin 1) (k : Fin 1024) : (iblk m c 2 t : Vec Ideal S1x1024 .f32) (ix2 r k) = gain m c (ix2 r k) := by
  unfold iblk
  rw [View.read_apply]
  show V m c main_arg2 _ = _
  rw [V_main_arg2]
  refine (congrArg (gain m c) (Shape.idx_ext₂ ?_ ?_ : _ = ix2 r k))
  · show win0_2.index t 0 * 1 + 1 * r.val = r.val; rw [(index2 t).1]; omega
  · show win0_2.index t 1 * 1024 + 1 * k.val = k.val; rw [(index2 t).2]; omega

/-- The weights at a point. -/
theorem block3 (t : Fin cfg0.N) (r : Fin 1024) (k : Fin 5120) : (iblk m c 3 t : Vec Ideal S1024x5120 .bf16) (ix2 r k) = weights m c (ix2 r k) := by
  unfold iblk
  rw [View.read_apply]
  show V m c main_arg3 _ = _
  rw [V_main_arg3]
  refine (congrArg (weights m c) (Shape.idx_ext₂ ?_ ?_ : _ = ix2 r k))
  · show win0_3.index t 0 * 1024 + 1 * r.val = r.val; rw [(index3 t).1]; omega
  · show win0_3.index t 1 * 5120 + 1 * k.val = k.val; rw [(index3 t).2]; omega

/-- A point's cosines, twice side by side. -/
theorem block4 (t : Fin cfg0.N) (r : Fin 512) (k : Fin 128) : (iblk m c 4 t : Vec Ideal S512x128 .f32) (ix2 r k) = cosines m c (ix2 ⟨t.val % 4 * 512 + r.val, by omega⟩ ⟨k.val % 64, by omega⟩) := by
  unfold iblk
  rw [View.read_apply]
  show V m c main_v0 _ = _
  rw [entry_cos]
  refine (congrArg (twice (cosines m c)) (Shape.idx_ext₂ ?_ ?_ : _ = ix2 ⟨t.val % 4 * 512 + r.val, by omega⟩ k)).trans (twice_apply _ _ _)
  · show win0_4.index t 0 * 512 + 1 * r.val = t.val % 4 * 512 + r.val; rw [(index4 t).1]; omega
  · show win0_4.index t 1 * 128 + 1 * k.val = k.val; rw [(index4 t).2]; omega

/-- A point's sines, twice side by side. -/
theorem block5 (t : Fin cfg0.N) (r : Fin 512) (k : Fin 128) : (iblk m c 5 t : Vec Ideal S512x128 .f32) (ix2 r k) = sines m c (ix2 ⟨t.val % 4 * 512 + r.val, by omega⟩ ⟨k.val % 64, by omega⟩) := by
  unfold iblk
  rw [View.read_apply]
  show V m c main_v1 _ = _
  rw [entry_sin]
  refine (congrArg (twice (sines m c)) (Shape.idx_ext₂ ?_ ?_ : _ = ix2 ⟨t.val % 4 * 512 + r.val, by omega⟩ k)).trans (twice_apply _ _ _)
  · show win0_5.index t 0 * 512 + 1 * r.val = t.val % 4 * 512 + r.val; rw [(index5 t).1]; omega
  · show win0_5.index t 1 * 128 + 1 * k.val = k.val; rw [(index5 t).2]; omega

/-- The queries' gain at a point, twice side by side. -/
theorem block6 (t : Fin cfg0.N) (k : Fin 128) : (iblk m c 6 t : Vec Ideal S1x128 .f32) (ix2 0 k) = qgain m c (ix2 0 ⟨k.val % 64, by omega⟩) := by
  unfold iblk
  rw [View.read_apply]
  show V m c main_v4 _ = _
  rw [entry_qgain]
  refine (congrArg (twiceRow (qgain m c)) (Shape.idx_ext₂ ?_ ?_ : _ = ix2 0 k)).trans (twiceRow_apply _ _)
  · show win0_6.index t 0 * 1 + 1 * 0 = 0; rw [(index6 t).1]
  · show win0_6.index t 1 * 128 + 1 * k.val = k.val; rw [(index6 t).2]; omega

/-- The keys' gain at a point, twice side by side. -/
theorem block7 (t : Fin cfg0.N) (k : Fin 128) : (iblk m c 7 t : Vec Ideal S1x128 .f32) (ix2 0 k) = kgain m c (ix2 0 ⟨k.val % 64, by omega⟩) := by
  unfold iblk
  rw [View.read_apply]
  show V m c main_v7 _ = _
  rw [entry_kgain]
  refine (congrArg (twiceRow (kgain m c)) (Shape.idx_ext₂ ?_ ?_ : _ = ix2 0 k)).trans (twiceRow_apply _ _)
  · show win0_7.index t 0 * 1 + 1 * 0 = 0; rw [(index7 t).1]
  · show win0_7.index t 1 * 128 + 1 * k.val = k.val; rw [(index7 t).2]; omega

/-- The matrix of head means at a point. -/
theorem block8 (t : Fin cfg0.N) (r : Fin 128) (k : Fin 128) : (iblk m c 8 t : Vec Ideal S128x128 .bf16) (ix2 r k) = if r.val / 64 = k.val / 64 then ((1 / 64 : ℝ) : EReal) else 0 := by
  unfold iblk
  rw [View.read_apply]
  show V m c main_v14 _ = _
  rw [entry_means]
  refine (congrArg (means) (Shape.idx_ext₂ ?_ ?_ : _ = ix2 r k)).trans (means_apply r k)
  · show win0_8.index t 0 * 128 + 1 * r.val = r.val; rw [(index8 t).1]; omega
  · show win0_8.index t 1 * 128 + 1 * k.val = k.val; rw [(index8 t).2]; omega

/-! ## What the body computes at a point -/

/-- The shifts and scales read from a column on. -/
theorem ld_mods (x : Vec Ideal S1x1x6144 .f32) (k : Fin 1024) :
    View.ld x r0_2 (ix3 0 0 k) = x (ix3 0 0 ⟨k.val, by omega⟩) ∧ View.ld x r0_3 (ix3 0 0 k) = x (ix3 0 0 ⟨1024 + k.val, by omega⟩) := by
  constructor
  · refine congrArg x (funext fun a => Fin.ext ?_)
    match a with
    | ⟨0, _⟩ => rfl
    | ⟨1, _⟩ => rfl
    | ⟨2, _⟩ => show 0 + 1 * k.val = k.val; omega
  · refine congrArg x (funext fun a => Fin.ext ?_)
    match a with
    | ⟨0, _⟩ => rfl
    | ⟨1, _⟩ => rfl
    | ⟨2, _⟩ => show 1024 + 1 * k.val = 1024 + k.val; omega

/-- A point's tokens normed and modulated. -/
abbrev pointTokens (t : Fin cfg0.N) : FVec Ideal S512x1024 .bf16 := k0_pay28 (F := Ideal) (iblk m c 0 t) (iblk m c 1 t) (iblk m c 2 t) (iblk m c 3 t) (iblk m c 4 t) (iblk m c 5 t) (iblk m c 6 t) (iblk m c 7 t) (iblk m c 8 t)

/-- They are the tokens of the point's rows. -/
theorem pointTokens_apply (t : Fin cfg0.N) (r : Fin 512) (k : Fin 1024) :
    pointTokens m c t (ix2 r k) = tokenAt (tokens m c) (mods m c) (gain m c) (row t r) k := by
  unfold pointTokens k0_pay28
  rw [View.ld_unit_zero (S := S512x1024) hz2, View.ld_unit_zero (S := S1x1024) hz2]
  refine (tokens_apply _ _ _ _ r k).trans ?_
  have eb : (⟨t.val / 4, by have := lt_points t; omega⟩ : Fin 32) = ⟨(row t r).val / 2048, by have := (row t r).isLt; omega⟩ :=
    Fin.ext (by show t.val / 4 = (t.val * 512 + r.val) / 2048; omega)
  have e0 : (fun k : Fin 1024 => (iblk m c 0 t : Vec Ideal S512x1024 .f32) (ix2 r k)) = fun k => tokens m c (ix2 (row t r) k) :=
    funext fun k => block0 m c t r k
  have e1 : (fun k : Fin 1024 => (iblk m c 2 t : Vec Ideal S1x1024 .f32) (ix2 0 k)) = fun k => gain m c (ix2 0 k) :=
    funext fun k => block2 m c t 0 k
  have e2 : (fun k : Fin 1024 => View.ld (iblk m c 1 t : Vec Ideal S1x1x6144 .f32) r0_2 (ix3 0 0 k))
      = fun k => mods m c (ix3 ⟨(row t r).val / 2048, by have := (row t r).isLt; omega⟩ 0 ⟨k.val, by omega⟩) :=
    funext fun k => ((ld_mods _ k).1.trans (block1 m c t 0 0 _)).trans (congrArg (fun b => mods m c (ix3 b 0 ⟨k.val, by omega⟩)) eb)
  have e3 : (fun k : Fin 1024 => View.ld (iblk m c 1 t : Vec Ideal S1x1x6144 .f32) r0_3 (ix3 0 0 k))
      = fun k => mods m c (ix3 ⟨(row t r).val / 2048, by have := (row t r).isLt; omega⟩ 0 ⟨1024 + k.val, by omega⟩) :=
    funext fun k => ((ld_mods _ k).2.trans (block1 m c t 0 0 _)).trans (congrArg (fun b => mods m c (ix3 b 0 ⟨1024 + k.val, by omega⟩)) eb)
  exact congrFun (congr (congr (congr (congrArg modulated e0) e1) e2) e3) k

/-- A point's products with the columns of weights from one on. -/
theorem product_apply (off N : Nat) (ho : off + N ≤ 5120) (inb) (t : Fin cfg0.N) (r : Fin 512) (n : Fin N) :
    matmul (φ₂ := .bf16) (DotDims.plain 512 1024 N) none (pointTokens m c t)
      (View.ld (iblk m c 3 t : Vec Ideal S1024x5120 .bf16) (Rect.unit (s := S1024x5120) ![0, off] (⟨2, ![1024, N]⟩ : Shape).size inb))
      (constant ⟨2, ![512, N]⟩ .f32 0x00000000#32) (ix2 r n)
      = columnsAt (tokens m c) (mods m c) (gain m c) (weights m c) off N ho (row t r) n := by
  unfold columnsAt productAt
  refine (dot_apply _ _ r n).trans (Finset.sum_congr rfl fun k _ => ?_)
  refine congrArg₂ (fun a b : EReal => a * b) (pointTokens_apply m c t r k) ?_
  refine (congrArg (iblk m c 3 t : Vec Ideal S1024x5120 .bf16) ?_).trans (block3 m c t k ⟨off + n.val, by omega⟩)
  refine Shape.idx_ext₂ ?_ ?_
  · show 0 + 1 * k.val = k.val; omega
  · show off + 1 * n.val = off + n.val; omega

end Cert.Kernel6Ideal.Projection

end
-- ==== Proof.ProjectionOut.lean ====
/-
  What the input projection's body leaves in its six output blocks at a point, and so the six result arrays.
-/
module

public import proofs.«01_k».proof.Proof.ProjectionValue

@[expose] public section

noncomputable section

namespace Cert.Kernel6Ideal.Projection

open Cert.Kernel6Ideal Cert.Kernel6Ideal.Gen Idealize.ShloMosaic.TcCoe Idealize.SL.Sem
open Idealize.ShloMosaic hiding ix1 ix2 ix3 ix4 eq_ix2
open Idealize.ShloMosaic.ValueIdx
open Idealize.ShloMosaic.Pipeline (Dat)

variable (m : (ℓ : Loc nD τ sig) → Buf (Elt Ideal) ℓ) (ρ : Dev nD → PrngReg) (c : Dev nD)

/-- A query. -/
abbrev query : Fin 65536 → Fin 512 → EReal :=
  queryAt (tokens m c) (mods m c) (gain m c) (weights m c) (cosines m c) (sines m c) (qgain m c)
/-- A key. -/
abbrev key : Fin 65536 → Fin 128 → EReal :=
  keyAt (tokens m c) (mods m c) (gain m c) (weights m c) (cosines m c) (sines m c) (kgain m c)
/-- A token's products with the columns of weights from one on. -/
abbrev columns (off N : Nat) (ho : off + N ≤ 5120) : Fin 65536 → Fin N → EReal :=
  columnsAt (tokens m c) (mods m c) (gain m c) (weights m c) off N ho

/-- The arguments are real where a head's norm needs them. -/
abbrev Real' : Prop := Reals (tokens m c) (mods m c) (gain m c) (weights m c)

/-- The matrix of head means as the body reads it. -/
abbrev meansOf (t : Fin cfg0.N) : FVec Ideal S128x128 .bf16 := k0_pay9 (F := Ideal) (View.ld (iblk m c 8 t : Vec Ideal S128x128 .bf16) r0_5)
/-- The cosines as the body reads them. -/
abbrev cosOf (t : Fin cfg0.N) : FVec Ideal S512x128 .f32 := k0_pay7 (F := Ideal) (View.ld (iblk m c 4 t : Vec Ideal S512x128 .f32) r0_4)
/-- The sines as the body reads them. -/
abbrev sinOf (t : Fin cfg0.N) : FVec Ideal S512x128 .f32 := k0_pay8 (F := Ideal) (View.ld (iblk m c 5 t : Vec Ideal S512x128 .f32) r0_4)
/-- The queries' gain as the body reads it. -/
abbrev qgainOf (t : Fin cfg0.N) : Vec Ideal S1x128 .f32 := View.ld (iblk m c 6 t : Vec Ideal S1x128 .f32) r0_7
/-- The keys' gain as the body reads it. -/
abbrev kgainOf (t : Fin cfg0.N) : Vec Ideal S1x128 .f32 := View.ld (iblk m c 7 t : Vec Ideal S1x128 .f32) r0_7
/-- The queries before their norm. -/
abbrev queriesAt (t : Fin cfg0.N) : FVec Ideal S512x512 .f32 := k0_pay12 (F := Ideal) (pointTokens m c t) (View.ld (iblk m c 3 t : Vec Ideal S1024x5120 .bf16) r0_6)
/-- The keys and values before the keys' norm. -/
abbrev keysAt (t : Fin cfg0.N) : FVec Ideal S512x256 .f32 := k0_pay25 (F := Ideal) (pointTokens m c t) (View.ld (iblk m c 3 t : Vec Ideal S1024x5120 .bf16) r0_12)

/-- The matrix of head means at a row and column. -/
theorem meansOf_apply (t : Fin cfg0.N) (i j : Fin 128) : meansOf m c t (ix2 i j) = if i.val / 64 = j.val / 64 then ((1 / 64 : ℝ) : EReal) else 0 := by
  unfold meansOf k0_pay9
  rw [View.ld_unit_zero (S := S128x128) hz2, shapeCast_self]
  exact block8 m c t i j

/-- The queries' gain at a lane. -/
theorem qgainOf_apply (t : Fin cfg0.N) (l : Fin 128) : qgainOf m c t (ix2 0 l) = qgain m c (ix2 0 ⟨l.val % 64, by omega⟩) := by
  unfold qgainOf
  rw [View.ld_unit_zero (S := S1x128) hz2]
  exact block6 m c t l

/-- The keys' gain at a lane. -/
theorem kgainOf_apply (t : Fin cfg0.N) (l : Fin 128) : kgainOf m c t (ix2 0 l) = kgain m c (ix2 0 ⟨l.val % 64, by omega⟩) := by
  unfold kgainOf
  rw [View.ld_unit_zero (S := S1x128) hz2]
  exact block7 m c t l

/-- The cosines at a row and lane. -/
theorem cosOf_apply (t : Fin cfg0.N) (r : Fin 512) (l : Fin 128) : cosOf m c t (ix2 r l)
    = cosines m c (ix2 ⟨(row t r).val % 2048, by omega⟩ ⟨l.val % 64, by omega⟩) := by
  unfold cosOf k0_pay7
  rw [View.ld_unit_zero (S := S512x128) hz2, shapeCast_self]
  refine (block4 m c t r l).trans (congrArg (fun i => cosines m c (ix2 i ⟨l.val % 64, by omega⟩)) (Fin.ext ?_))
  show t.val % 4 * 512 + r.val = (t.val * 512 + r.val) % 2048; omega

/-- The sines at a row and lane. -/
theorem sinOf_apply (t : Fin cfg0.N) (r : Fin 512) (l : Fin 128) : sinOf m c t (ix2 r l)
    = sines m c (ix2 ⟨(row t r).val % 2048, by omega⟩ ⟨l.val % 64, by omega⟩) := by
  unfold sinOf k0_pay8
  rw [View.ld_unit_zero (S := S512x128) hz2, shapeCast_self]
  refine (block5 m c t r l).trans (congrArg (fun i => sines m c (ix2 i ⟨l.val % 64, by omega⟩)) (Fin.ext ?_))
  show t.val % 4 * 512 + r.val = (t.val * 512 + r.val) % 2048; omega

/-- A block of queries at a row and lane. -/
theorem query_apply (off : Nat) (ho : off + 128 ≤ 512) (hd : off % 64 = 0) (hs : S512x512.Slices ![0, off] S512x128) (h : Real' m c) (t : Fin cfg0.N)
    (r : Fin 512) (l : Fin 128) :
    rotatedBlock (F := Ideal) (extractStridedSlice S512x128 ![0, off] (queriesAt m c t) hs) (meansOf m c t) (qgainOf m c t)
      (cosOf m c t) (sinOf m c t) quarter factor (ix2 r l) = query m c (row t r) ⟨off + l.val, by omega⟩ := by
  have hl := l.isLt
  have ez : ∀ l : Fin 128, extractStridedSlice S512x128 ![0, off] (queriesAt m c t) hs (ix2 r l)
      = columns m c 0 512 (by decide) (row t r) ⟨off + l.val, by omega⟩ := fun l =>
    (extractStridedSlice_apply _ _ _ (ix2 r l) (ix2 r ⟨off + l.val, by omega⟩) (fun a => by
      match a with
      | ⟨0, _⟩ => show r.val = 0 + r.val; omega
      | ⟨1, _⟩ => rfl)).trans (product_apply m c 0 512 (by decide) _ t r ⟨off + l.val, by omega⟩)
  refine (rotatedBlock_apply _ (meansOf m c t) (qgainOf m c t) (cosOf m c t) (sinOf m c t) r (fun l => ?_) (meansOf_apply m c t)
    (fun d => qgain m c (ix2 0 d)) (fun d => cosines m c (ix2 ⟨(row t r).val % 2048, by omega⟩ d))
    (fun d => sines m c (ix2 ⟨(row t r).val % 2048, by omega⟩ d)) (qgainOf_apply m c t) (cosOf_apply m c t r)
    (sinOf_apply m c t r) factor l).trans ?_
  · obtain ⟨y, hy⟩ := h.product (row t r) ⟨0 + (off + l.val), by omega⟩ (by show 0 + (off + l.val) < 640; omega)
    exact ⟨y, (ez l).trans hy⟩
  · unfold query queryAt
    refine congrArg (fun a : EReal => a * factor) (congr (congrArg (fun z => rotated z _ _ _) (funext fun d => ?_)) (Fin.ext ?_))
    · refine (ez ⟨l.val / 64 * 64 + d.val, by omega⟩).trans (congrArg (productAt _ _ _ _ (row t r)) (Fin.ext ?_))
      show 0 + (off + (l.val / 64 * 64 + d.val)) = (off + l.val) / 64 * 64 + d.val; omega
    · show l.val % 64 = (off + l.val) % 64; omega

/-- The block of keys, at a row and lane. -/
theorem key_apply (h : Real' m c) (t : Fin cfg0.N) (r : Fin 512) (l : Fin 128) :
    rotatedBlock (F := Ideal) (extractStridedSlice S512x128 ![0, 0] (keysAt m c t) slices_S512x256_o0_0_S512x128) (meansOf m c t) (kgainOf m c t)
      (cosOf m c t) (sinOf m c t) quarter one (ix2 r l) = key m c (row t r) l := by
  have hl := l.isLt
  have ez : ∀ l : Fin 128, extractStridedSlice S512x128 ![0, 0] (keysAt m c t) slices_S512x256_o0_0_S512x128 (ix2 r l)
      = columns m c 512 256 (by decide) (row t r) ⟨l.val, by omega⟩ := fun l =>
    (extractStridedSlice_apply _ _ _ (ix2 r l) (ix2 r ⟨l.val, by omega⟩) (fun a => by
      match a with
      | ⟨0, _⟩ => show r.val = 0 + r.val; omega
      | ⟨1, _⟩ => show l.val = 0 + l.val; omega)).trans (product_apply m c 512 256 (by decide) _ t r ⟨l.val, by omega⟩)
  refine (rotatedBlock_apply _ (meansOf m c t) (kgainOf m c t) (cosOf m c t) (sinOf m c t) r (fun l => ?_) (meansOf_apply m c t)
    (fun d => kgain m c (ix2 0 d)) (fun d => cosines m c (ix2 ⟨(row t r).val % 2048, by omega⟩ d))
    (fun d => sines m c (ix2 ⟨(row t r).val % 2048, by omega⟩ d)) (kgainOf_apply m c t) (cosOf_apply m c t r)
    (sinOf_apply m c t r) one l).trans ?_
  · obtain ⟨y, hy⟩ := h.product (row t r) ⟨512 + l.val, by omega⟩ (by show 512 + l.val < 640; omega)
    exact ⟨y, (ez l).trans hy⟩
  · unfold key keyAt
    rw [one_eq, mul_one]
    refine congrArg (fun z => rotated z _ _ _ _) (funext fun d => ?_)
    exact ez ⟨l.val / 64 * 64 + d.val, by omega⟩

/-- The values, at a row and lane. -/
theorem value_apply (t : Fin cfg0.N) (r : Fin 512) (l : Fin 128) :
    k0_pay27 (F := Ideal) (pointTokens m c t) (View.ld (iblk m c 3 t : Vec Ideal S1024x5120 .bf16) r0_12) (ix2 r l)
      = columns m c 640 128 (by decide) (row t r) l := by
  show extractStridedSlice S512x128 ![0, 128] (keysAt m c t) slices_S512x256_o0_128_S512x128 (ix2 r l) = _
  refine ((extractStridedSlice_apply _ _ _ (ix2 r l) (ix2 r ⟨128 + l.val, by omega⟩) (fun a => by
      match a with
      | ⟨0, _⟩ => show r.val = 0 + r.val; omega
      | ⟨1, _⟩ => rfl)).trans (product_apply m c 512 256 (by decide) _ t r ⟨128 + l.val, by omega⟩)).trans
        (congrArg (productAt _ _ _ _ (row t r)) (Fin.ext ?_))
  show 512 + (128 + l.val) = 640 + l.val; omega

/-- A stored block of columns, read where it lies. -/
theorem canon_in {N W : Nat} {φ : EltTy} (off : Nat) (inb) (f : Fin W → Elt Ideal φ) (L) (x : Vec Ideal ⟨2, ![512, N]⟩ φ) (r : Fin 512)
    (h : ∀ l : Fin N, ∀ hl : off + l.val < W, x (ix2 r l) = f ⟨off + l.val, hl⟩) (n : Fin W) (h0 : off ≤ n.val) (h1 : n.val < off + N) :
    View.canon (Val := Elt Ideal) (⟨Rect.unit (s := ⟨2, ![512, W]⟩) ![0, off] (⟨2, ![512, N]⟩ : Shape).size inb, x⟩ :: L) (ix2 r n) = f n := by
  have e : ix2 r n = (Rect.unit (s := ⟨2, ![512, W]⟩) ![0, off] (⟨2, ![512, N]⟩ : Shape).size inb).emb (ix2 r ⟨n.val - off, by omega⟩) := by
    refine Shape.idx_ext₂ ?_ ?_
    · show r.val = 0 + 1 * r.val; omega
    · show n.val = off + 1 * (n.val - off); omega
  refine (congrArg _ e).trans ((View.canon_cons_emb _ _ _ _).trans ((h _ (by show off + (n.val - off) < W; omega)).trans (congrArg f (Fin.ext ?_))))
  show off + (n.val - off) = n.val; omega

/-- A stored block of columns, passed over before it. -/
theorem canon_out {N W : Nat} {φ : EltTy} (off : Nat) (inb) (L) (x : Vec Ideal ⟨2, ![512, N]⟩ φ) (r : Fin 512) (n : Fin W) (h : ¬off ≤ n.val) :
    View.canon (Val := Elt Ideal) (⟨Rect.unit (s := ⟨2, ![512, W]⟩) ![0, off] (⟨2, ![512, N]⟩ : Shape).size inb, x⟩ :: L) (ix2 r n)
      = View.canon L (ix2 r n) :=
  View.canon_cons_of_not_mem _ _ (by rw [Rect.mem_set_unit]; exact fun hh => h (hh 1).1)

/-- Four stored blocks of 128 lanes, read back. -/
theorem canon_queries (f : Fin 512 → EReal) (a b c d : Vec Ideal S512x128 .bf16) (r : Fin 512)
    (ha : ∀ l : Fin 128, a (ix2 r l) = f ⟨0 + l.val, by omega⟩)
    (hb : ∀ l : Fin 128, b (ix2 r l) = f ⟨128 + l.val, by omega⟩)
    (hc : ∀ l : Fin 128, c (ix2 r l) = f ⟨256 + l.val, by omega⟩)
    (hd : ∀ l : Fin 128, d (ix2 r l) = f ⟨384 + l.val, by omega⟩)
    (n : Fin 512) : View.canon (Val := Elt Ideal) [⟨r0_11, d⟩, ⟨r0_10, c⟩, ⟨r0_9, b⟩, ⟨r0_8, a⟩] (ix2 r n) = f n := by
  by_cases h3 : 384 ≤ n.val
  · exact canon_in 384 _ f _ d r (fun l _ => hd l) n h3 (by omega)
  refine (canon_out 384 _ _ d r n h3).trans ?_
  by_cases h2 : 256 ≤ n.val
  · exact canon_in 256 _ f _ c r (fun l _ => hc l) n h2 (by omega)
  refine (canon_out 256 _ _ c r n h2).trans ?_
  by_cases h1 : 128 ≤ n.val
  · exact canon_in 128 _ f _ b r (fun l _ => hb l) n h1 (by omega)
  refine (canon_out 128 _ _ b r n h1).trans ?_
  exact canon_in 0 _ f _ a r (fun l _ => ha l) n (by omega) (by omega)

/-- Three stored blocks of 1024 lanes, read back. -/
theorem canon_gates (f : Fin 3072 → EReal) (a b c : Vec Ideal S512x1024 .f32) (r : Fin 512)
    (ha : ∀ l : Fin 1024, a (ix2 r l) = f ⟨0 + l.val, by omega⟩)
    (hb : ∀ l : Fin 1024, b (ix2 r l) = f ⟨1024 + l.val, by omega⟩)
    (hc : ∀ l : Fin 1024, c (ix2 r l) = f ⟨2048 + l.val, by omega⟩)
    (n : Fin 3072) : View.canon (Val := Elt Ideal) [⟨r0_22, c⟩, ⟨r0_20, b⟩, ⟨r0_18, a⟩] (ix2 r n) = f n := by
  by_cases h2 : 2048 ≤ n.val
  · exact canon_in 2048 _ f _ c r (fun l _ => hc l) n h2 (by omega)
  refine (canon_out 2048 _ _ c r n h2).trans ?_
  by_cases h1 : 1024 ≤ n.val
  · exact canon_in 1024 _ f _ b r (fun l _ => hb l) n h1 (by omega)
  refine (canon_out 1024 _ _ b r n h1).trans ?_
  exact canon_in 0 _ f _ a r (fun l _ => ha l) n (by omega) (by omega)

/-! ## The output blocks and the result arrays -/

/-- The point that writes a row. -/
theorem pointOf (i : Fin 65536) : ∃ t : Fin cfg0.N, t.val = i.val / 512 := ⟨⟨i.val / 512, by rw [points]; omega⟩, rfl⟩

/-- A place within a block, from the block's number and size. -/
theorem in_block {a q x s i : Nat} (ha : a = q) (hx : x = s) (h : q * s ≤ i ∧ i < q * s + s) : a * s ≤ i ∧ i < a * s + x := by
  rw [ha, hx]; exact h

/-- What a point leaves of the queries. -/
theorem out9 (h : Real' m c) (t : Fin cfg0.N) : out0_9 (F := Ideal) (iblk m c 0 t) (iblk m c 1 t) (iblk m c 2 t) (iblk m c 3 t) (iblk m c 4 t) (iblk m c 5 t) (iblk m c 6 t) (iblk m c 7 t) (iblk m c 8 t)
    = fun j : S512x512.Idx => query m c (row t (j 0)) (j 1) := by
  refine funext fun j : S512x512.Idx => (congrArg _ (eq_ix2 j)).trans ?_
  generalize (j 0 : Fin 512) = r, (j 1 : Fin 512) = n
  unfold out0_9
  exact canon_queries _ _ _ _ _ r (query_apply m c 0 (by decide) (by decide) slices_S512x512_o0_0_S512x128 h t r) (query_apply m c 128 (by decide) (by decide) slices_S512x512_o0_128_S512x128 h t r)
    (query_apply m c 256 (by decide) (by decide) slices_S512x512_o0_256_S512x128 h t r) (query_apply m c 384 (by decide) (by decide) slices_S512x512_o0_384_S512x128 h t r) n

/-- The array of the queries. -/
def queries : Buf (Elt Ideal) ((c : Thread nD τ).loc main_v15_0) := fun j : S65536x512.Idx => query m c (j 0) (j 1)

/-- The array ends holding the queries. -/
theorem final9 (h : Real' m c) : (dats m 0 c).arrAt 9 cfg0.N = queries m c := by
  refine (dats m 0 c).arrAt_eq_of_cover 9 (queries m c) (fun t _ => ?_) fun (i : S65536x512.Idx) => ?_
  · rw [Value.flushed9, out9 m c h t]
    refine funext fun (j : S512x512.Idx) => Eq.trans ?_ (View.read_apply _ _).symm
    refine congr (congrArg (query m c) (Fin.ext ?_)) (Fin.ext ?_)
    · show t.val * 512 + (j 0).val = win0_9.index t 0 * 512 + 1 * (j 0).val; rw [(index9 t).1]; omega
    · show (j 1).val = win0_9.index t 1 * 512 + 1 * (j 1).val; rw [(index9 t).2.1]; omega
  · obtain ⟨t, ht⟩ := pointOf (i 0)
    refine ⟨t, flush0_9 t, ?_⟩
    show i ∈ ((View.whole main_v15_0).slice (win0_9.rect t)).set
    rw [View.set_slice_whole, Rect.mem_set_unit]
    have h1 : (i 1).val < 512 := (i 1).isLt
    obtain ⟨e0, e1, e2, e3⟩ := index9 t
    intro a
    match a with
    | ⟨0, _⟩ => exact in_block (s := 512) (i := (i 0).val) e0 e2 (by omega)
    | ⟨1, _⟩ => exact in_block (s := 512) (i := (i 1).val) e1 e3 (by omega)

/-- What a point leaves of the keys. -/
theorem out10 (h : Real' m c) (t : Fin cfg0.N) : out0_10 (F := Ideal) (iblk m c 0 t) (iblk m c 1 t) (iblk m c 2 t) (iblk m c 3 t) (iblk m c 4 t) (iblk m c 5 t) (iblk m c 6 t) (iblk m c 7 t) (iblk m c 8 t)
    = fun j : S512x128.Idx => key m c (row t (j 0)) (j 1) := by
  refine funext fun j : S512x128.Idx => (congrArg _ (eq_ix2 j)).trans ?_
  generalize (j 0 : Fin 512) = r, (j 1 : Fin 128) = n
  unfold out0_10
  exact (congrFun (View.canon_unit_zero (S := S512x128) hz2 _ _) (ix2 r n)).trans (key_apply m c h t r n)

/-- The array of the keys. -/
def keys : Buf (Elt Ideal) ((c : Thread nD τ).loc main_v15_1) := fun j : S65536x128.Idx => key m c (j 0) (j 1)

/-- The array ends holding the keys. -/
theorem final10 (h : Real' m c) : (dats m 0 c).arrAt 10 cfg0.N = keys m c := by
  refine (dats m 0 c).arrAt_eq_of_cover 10 (keys m c) (fun t _ => ?_) fun (i : S65536x128.Idx) => ?_
  · rw [Value.flushed10, out10 m c h t]
    refine funext fun (j : S512x128.Idx) => Eq.trans ?_ (View.read_apply _ _).symm
    refine congr (congrArg (key m c) (Fin.ext ?_)) (Fin.ext ?_)
    · show t.val * 512 + (j 0).val = win0_10.index t 0 * 512 + 1 * (j 0).val; rw [(index10 t).1]; omega
    · show (j 1).val = win0_10.index t 1 * 128 + 1 * (j 1).val; rw [(index10 t).2.1]; omega
  · obtain ⟨t, ht⟩ := pointOf (i 0)
    refine ⟨t, flush0_10 t, ?_⟩
    show i ∈ ((View.whole main_v15_1).slice (win0_10.rect t)).set
    rw [View.set_slice_whole, Rect.mem_set_unit]
    have h1 : (i 1).val < 128 := (i 1).isLt
    obtain ⟨e0, e1, e2, e3⟩ := index10 t
    intro a
    match a with
    | ⟨0, _⟩ => exact in_block (s := 512) (i := (i 0).val) e0 e2 (by omega)
    | ⟨1, _⟩ => exact in_block (s := 128) (i := (i 1).val) e1 e3 (by omega)

/-- What a point leaves of the values. -/
theorem out11 (t : Fin cfg0.N) : out0_11 (F := Ideal) (iblk m c 0 t) (iblk m c 1 t) (iblk m c 2 t) (iblk m c 3 t) (iblk m c 4 t) (iblk m c 5 t) (iblk m c 6 t) (iblk m c 7 t) (iblk m c 8 t)
    = fun j : S512x128.Idx => columns m c 640 128 (by decide) (row t (j 0)) (j 1) := by
  refine funext fun j : S512x128.Idx => (congrArg _ (eq_ix2 j)).trans ?_
  generalize (j 0 : Fin 512) = r, (j 1 : Fin 128) = n
  unfold out0_11
  exact (congrFun (View.canon_unit_zero (S := S512x128) hz2 _ _) (ix2 r n)).trans (value_apply m c t r n)

/-- The array of the values. -/
def values : Buf (Elt Ideal) ((c : Thread nD τ).loc main_v15_2) := fun j : S65536x128.Idx => columns m c 640 128 (by decide) (j 0) (j 1)

/-- The array ends holding the values. -/
theorem final11 : (dats m 0 c).arrAt 11 cfg0.N = values m c := by
  refine (dats m 0 c).arrAt_eq_of_cover 11 (values m c) (fun t _ => ?_) fun (i : S65536x128.Idx) => ?_
  · rw [Value.flushed11, out11 m c t]
    refine funext fun (j : S512x128.Idx) => Eq.trans ?_ (View.read_apply _ _).symm
    refine congr (congrArg (columns m c 640 128 (by decide)) (Fin.ext ?_)) (Fin.ext ?_)
    · show t.val * 512 + (j 0).val = win0_11.index t 0 * 512 + 1 * (j 0).val; rw [(index11 t).1]; omega
    · show (j 1).val = win0_11.index t 1 * 128 + 1 * (j 1).val; rw [(index11 t).2.1]; omega
  · obtain ⟨t, ht⟩ := pointOf (i 0)
    refine ⟨t, flush0_11 t, ?_⟩
    show i ∈ ((View.whole main_v15_2).slice (win0_11.rect t)).set
    rw [View.set_slice_whole, Rect.mem_set_unit]
    have h1 : (i 1).val < 128 := (i 1).isLt
    obtain ⟨e0, e1, e2, e3⟩ := index11 t
    intro a
    match a with
    | ⟨0, _⟩ => exact in_block (s := 512) (i := (i 0).val) e0 e2 (by omega)
    | ⟨1, _⟩ => exact in_block (s := 128) (i := (i 1).val) e1 e3 (by omega)

/-- What a point leaves of the fourth result. -/
theorem out12 (t : Fin cfg0.N) : out0_12 (F := Ideal) (iblk m c 0 t) (iblk m c 1 t) (iblk m c 2 t) (iblk m c 3 t) (iblk m c 4 t) (iblk m c 5 t) (iblk m c 6 t) (iblk m c 7 t) (iblk m c 8 t)
    = fun j : S512x768.Idx => columns m c 768 768 (by decide) (row t (j 0)) (j 1) := by
  refine funext fun j : S512x768.Idx => (congrArg _ (eq_ix2 j)).trans ?_
  generalize (j 0 : Fin 512) = r, (j 1 : Fin 768) = n
  unfold out0_12
  exact (congrFun (View.canon_unit_zero (S := S512x768) hz2 _ _) (ix2 r n)).trans (product_apply m c 768 768 (by decide) _ t r n)

/-- The array of the fourth result. -/
def fourth : Buf (Elt Ideal) ((c : Thread nD τ).loc main_v15_3) := fun j : S65536x768.Idx => columns m c 768 768 (by decide) (j 0) (j 1)

/-- The array ends holding the fourth result. -/
theorem final12 : (dats m 0 c).arrAt 12 cfg0.N = fourth m c := by
  refine (dats m 0 c).arrAt_eq_of_cover 12 (fourth m c) (fun t _ => ?_) fun (i : S65536x768.Idx) => ?_
  · rw [Value.flushed12, out12 m c t]
    refine funext fun (j : S512x768.Idx) => Eq.trans ?_ (View.read_apply _ _).symm
    refine congr (congrArg (columns m c 768 768 (by decide)) (Fin.ext ?_)) (Fin.ext ?_)
    · show t.val * 512 + (j 0).val = win0_12.index t 0 * 512 + 1 * (j 0).val; rw [(index12 t).1]; omega
    · show (j 1).val = win0_12.index t 1 * 768 + 1 * (j 1).val; rw [(index12 t).2.1]; omega
  · obtain ⟨t, ht⟩ := pointOf (i 0)
    refine ⟨t, flush0_12 t, ?_⟩
    show i ∈ ((View.whole main_v15_3).slice (win0_12.rect t)).set
    rw [View.set_slice_whole, Rect.mem_set_unit]
    have h1 : (i 1).val < 768 := (i 1).isLt
    obtain ⟨e0, e1, e2, e3⟩ := index12 t
    intro a
    match a with
    | ⟨0, _⟩ => exact in_block (s := 512) (i := (i 0).val) e0 e2 (by omega)
    | ⟨1, _⟩ => exact in_block (s := 768) (i := (i 1).val) e1 e3 (by omega)

/-- What a point leaves of the fifth result. -/
theorem out13 (t : Fin cfg0.N) : out0_13 (F := Ideal) (iblk m c 0 t) (iblk m c 1 t) (iblk m c 2 t) (iblk m c 3 t) (iblk m c 4 t) (iblk m c 5 t) (iblk m c 6 t) (iblk m c 7 t) (iblk m c 8 t)
    = fun j : S512x512.Idx => columns m c 1536 512 (by decide) (row t (j 0)) (j 1) := by
  refine funext fun j : S512x512.Idx => (congrArg _ (eq_ix2 j)).trans ?_
  generalize (j 0 : Fin 512) = r, (j 1 : Fin 512) = n
  unfold out0_13
  exact (congrFun (View.canon_unit_zero (S := S512x512) hz2 _ _) (ix2 r n)).trans (product_apply m c 1536 512 (by decide) _ t r n)

/-- The array of the fifth result. -/
def fifth : Buf (Elt Ideal) ((c : Thread nD τ).loc main_v15_4) := fun j : S65536x512.Idx => columns m c 1536 512 (by decide) (j 0) (j 1)

/-- The array ends holding the fifth result. -/
theorem final13 : (dats m 0 c).arrAt 13 cfg0.N = fifth m c := by
  refine (dats m 0 c).arrAt_eq_of_cover 13 (fifth m c) (fun t _ => ?_) fun (i : S65536x512.Idx) => ?_
  · rw [Value.flushed13, out13 m c t]
    refine funext fun (j : S512x512.Idx) => Eq.trans ?_ (View.read_apply _ _).symm
    refine congr (congrArg (columns m c 1536 512 (by decide)) (Fin.ext ?_)) (Fin.ext ?_)
    · show t.val * 512 + (j 0).val = win0_13.index t 0 * 512 + 1 * (j 0).val; rw [(index13 t).1]; omega
    · show (j 1).val = win0_13.index t 1 * 512 + 1 * (j 1).val; rw [(index13 t).2.1]; omega
  · obtain ⟨t, ht⟩ := pointOf (i 0)
    refine ⟨t, flush0_13 t, ?_⟩
    show i ∈ ((View.whole main_v15_4).slice (win0_13.rect t)).set
    rw [View.set_slice_whole, Rect.mem_set_unit]
    have h1 : (i 1).val < 512 := (i 1).isLt
    obtain ⟨e0, e1, e2, e3⟩ := index13 t
    intro a
    match a with
    | ⟨0, _⟩ => exact in_block (s := 512) (i := (i 0).val) e0 e2 (by omega)
    | ⟨1, _⟩ => exact in_block (s := 512) (i := (i 1).val) e1 e3 (by omega)

/-- What a point leaves of the gates. -/
theorem out14 (t : Fin cfg0.N) : out0_14 (F := Ideal) (iblk m c 0 t) (iblk m c 1 t) (iblk m c 2 t) (iblk m c 3 t) (iblk m c 4 t) (iblk m c 5 t) (iblk m c 6 t) (iblk m c 7 t) (iblk m c 8 t)
    = fun j : S512x3072.Idx => columns m c 2048 3072 (by decide) (row t (j 0)) (j 1) := by
  refine funext fun j : S512x3072.Idx => (congrArg _ (eq_ix2 j)).trans ?_
  generalize (j 0 : Fin 512) = r, (j 1 : Fin 3072) = n
  unfold out0_14
  refine canon_gates _ _ _ _ r (fun l => ?_) (fun l => ?_) (fun l => ?_) n
  · exact (product_apply m c 2048 1024 (by decide) _ t r l).trans (congrArg (productAt _ _ _ _ (row t r)) (Fin.ext (by show 2048 + l.val = 2048 + (0 + l.val); omega)))
  · exact (product_apply m c 3072 1024 (by decide) _ t r l).trans (congrArg (productAt _ _ _ _ (row t r)) (Fin.ext (by show 3072 + l.val = 2048 + (1024 + l.val); omega)))
  · exact (product_apply m c 4096 1024 (by decide) _ t r l).trans (congrArg (productAt _ _ _ _ (row t r)) (Fin.ext (by show 4096 + l.val = 2048 + (2048 + l.val); omega)))

/-- The array of the gates. -/
def gates : Buf (Elt Ideal) ((c : Thread nD τ).loc main_v15_5) := fun j : S65536x3072.Idx => columns m c 2048 3072 (by decide) (j 0) (j 1)

/-- The array ends holding the gates. -/
theorem final14 : (dats m 0 c).arrAt 14 cfg0.N = gates m c := by
  refine (dats m 0 c).arrAt_eq_of_cover 14 (gates m c) (fun t _ => ?_) fun (i : S65536x3072.Idx) => ?_
  · rw [Value.flushed14, out14 m c t]
    refine funext fun (j : S512x3072.Idx) => Eq.trans ?_ (View.read_apply _ _).symm
    refine congr (congrArg (columns m c 2048 3072 (by decide)) (Fin.ext ?_)) (Fin.ext ?_)
    · show t.val * 512 + (j 0).val = win0_14.index t 0 * 512 + 1 * (j 0).val; rw [(index14 t).1]; omega
    · show (j 1).val = win0_14.index t 1 * 3072 + 1 * (j 1).val; rw [(index14 t).2.1]; omega
  · obtain ⟨t, ht⟩ := pointOf (i 0)
    refine ⟨t, flush0_14 t, ?_⟩
    show i ∈ ((View.whole main_v15_5).slice (win0_14.rect t)).set
    rw [View.set_slice_whole, Rect.mem_set_unit]
    have h1 : (i 1).val < 3072 := (i 1).isLt
    obtain ⟨e0, e1, e2, e3⟩ := index14 t
    intro a
    match a with
    | ⟨0, _⟩ => exact in_block (s := 512) (i := (i 0).val) e0 e2 (by omega)
    | ⟨1, _⟩ => exact in_block (s := 3072) (i := (i 1).val) e1 e3 (by omega)

end Cert.Kernel6Ideal.Projection

end
-- ==== Proof.ProjectionRef.lean ====
/-
  The projection's reference over the extended reals: its results at a row and column.
-/
module

public import proofs.«01_k».proof.Proof.ProjectionValue
public import proofs.«01_k».proof.Proof.Gen.Reference6Ideal.Read

@[expose] public section

noncomputable section

namespace Cert.Projection

open Idealize.ShloMosaic hiding ix1 ix2 ix3 ix4 eq_ix2
open Idealize.ShloMosaic.TcCoe Idealize.SL.Sem Idealize.ShloMosaic.ValueIdx
open Cert.Reference6Ideal Cert.Reference6Ideal.Read
open Cert.Kernel6Ideal.Projection (eps one factor modulated normed turned rotated tokenAt productAt columnsAt queryAt keyAt)

/-- Two indices of three coordinates are equal where their coordinates are. -/
theorem ext3 {n : Fin 3 → Nat} {i j : (⟨3, n⟩ : Shape).Idx} (h0 : (i 0).val = (j 0).val) (h1 : (i 1).val = (j 1).val) (h2 : (i 2).val = (j 2).val) :
    i = j := funext fun a => Fin.ext (match a with
  | ⟨0, _⟩ => h0
  | ⟨1, _⟩ => h1
  | ⟨2, _⟩ => h2)

/-- Four quarters of a head joined, the first and third negated: the head turned. -/
theorem joined_at {H : Nat} (p0 p1 p2 p3 : (⟨3, ![65536, H, 16]⟩ : Shape).Idx → EReal) (hc) (r : Fin 65536) (h : Fin H) (y : Fin 64 → EReal)
    (h0 : ∀ d : Fin 16, p0 (ix3 r h d) = -y ⟨16 + d.val, by omega⟩) (h1 : ∀ d : Fin 16, p1 (ix3 r h d) = y ⟨d.val, by omega⟩)
    (h2 : ∀ d : Fin 16, p2 (ix3 r h d) = -y ⟨48 + d.val, by omega⟩) (h3 : ∀ d : Fin 16, p3 (ix3 r h d) = y ⟨32 + d.val, by omega⟩) (d : Fin 64) :
    concatenate ⟨3, ![65536, H, 64]⟩ 2 [⟨⟨3, ![65536, H, 16]⟩, p0⟩, ⟨⟨3, ![65536, H, 16]⟩, p1⟩, ⟨⟨3, ![65536, H, 16]⟩, p2⟩, ⟨⟨3, ![65536, H, 16]⟩, p3⟩] hc
      (ix3 r h d) = turned y d := by
  have off : ∀ e : Fin 16, ∀ b : Fin 3, b.cast (rfl : 3 = 3) ≠ (2 : Fin 3) → ((ix3 r h e : (⟨3, ![65536, H, 16]⟩ : Shape).Idx) b).val
      = ((ix3 r h d : (⟨3, ![65536, H, 64]⟩ : Shape).Idx) (b.cast rfl)).val := fun e b hb => match b with
    | ⟨0, _⟩ => rfl
    | ⟨1, _⟩ => rfl
    | ⟨2, _⟩ => absurd rfl hb
  have hd := d.isLt
  unfold turned
  by_cases q0 : d.val < 16
  · rw [if_pos (by omega)]
    refine (concatenate_apply_piece _ _ hc _ 0 (by decide : 0 < 4) _ p0 rfl rfl 0 rfl (ix3 r h ⟨d.val, q0⟩) (off _) (by show 0 + d.val = d.val; omega)).trans ((h0 _).trans ?_)
    exact congrArg (fun a => -y a) (Fin.ext (by show 16 + d.val = (d.val + 16) % 64; omega))
  by_cases q1 : d.val < 32
  · rw [if_neg (by omega)]
    refine (concatenate_apply_piece _ _ hc _ 1 (by decide : 1 < 4) _ p1 rfl rfl 16 rfl (ix3 r h ⟨d.val - 16, by omega⟩) (off _)
      (by show 16 + (d.val - 16) = d.val; omega)).trans ((h1 _).trans ?_)
    exact congrArg y (Fin.ext (by show d.val - 16 = (d.val + 48) % 64; omega))
  by_cases q2 : d.val < 48
  · rw [if_pos (by omega)]
    refine (concatenate_apply_piece _ _ hc _ 2 (by decide : 2 < 4) _ p2 rfl rfl 32 rfl (ix3 r h ⟨d.val - 32, by omega⟩) (off _)
      (by show 32 + (d.val - 32) = d.val; omega)).trans ((h2 _).trans ?_)
    exact congrArg (fun a => -y a) (Fin.ext (by show 48 + (d.val - 32) = (d.val + 16) % 64; omega))
  · rw [if_neg (by omega)]
    refine (concatenate_apply_piece _ _ hc _ 3 (by decide : 3 < 4) _ p3 rfl rfl 48 rfl (ix3 r h ⟨d.val - 48, by omega⟩) (off _)
      (by show 48 + (d.val - 48) = d.val; omega)).trans ((h3 _).trans ?_)
    exact congrArg y (Fin.ext (by show 32 + (d.val - 48) = (d.val + 48) % 64; omega))

variable (x0 : S65536x1024.Idx → EReal) (x1 : S32x1x6144.Idx → EReal) (x2 : S1x1024.Idx → EReal) (x3 : S1024x5120.Idx → EReal)
  (x4 x5 : S2048x64.Idx → EReal) (x6 x7 : S1x64.Idx → EReal)

/-- The reference's tokens, normed and modulated. -/
theorem token_at (r : Fin 65536) (k : Fin 1024) : val_main_v25 (F := Ideal) x0 x1 x2 (ix2 r k) = tokenAt x0 x1 x2 r k := by
  have e : idx_main_v25 (ix2 r k) = ix3 ⟨r.val / 2048, by omega⟩ ⟨r.val % 2048, by omega⟩ k :=
    ext3 (by show (r.val * 1024 + k.val) / 2097152 = r.val / 2048; omega) (by show (r.val * 1024 + k.val) / 1024 % 2048 = r.val % 2048; omega)
      (by show (r.val * 1024 + k.val) % 1024 = k.val; omega)
  have e' : idx_main_v18 (ix3 ⟨r.val / 2048, by omega⟩ ⟨r.val % 2048, by omega⟩ k) = ix2 r k :=
    Shape.idx_ext₂ (by show ((r.val / 2048 * 2048 + r.val % 2048) * 1024 + k.val) / 1024 = r.val; omega)
      (by show ((r.val / 2048 * 2048 + r.val % 2048) * 1024 + k.val) % 1024 = k.val; omega)
  rw [val_main_v25_apply, e, val_main_v24_apply, val_main_v22_apply, val_main_v18_apply, e', val_main_v17_apply, val_main_v15_apply, val_main_v14_apply,
    val_main_v13_apply, val_main_v12_apply, val_main_v10_apply, val_main_v8_apply, val_main_v7_apply, val_main_v9_apply, val_main_cst_0_apply,
    val_main_v11_apply, val_main_cst_1_apply, val_main_v16_apply, val_main_v21_apply, val_main_v20_apply, val_main_v19_apply, val_main_cst_2_apply,
    val_main_v1_apply, val_main_v23_apply, val_main_v0_apply, val_main_cst_apply]
  unfold tokenAt modulated
  refine congrArg₂ (fun a b : EReal => a + b) (congrArg₂ (fun a b : EReal => a * b) (congrArg₂ (fun a b : EReal => a * b)
    (congrArg (fun s : EReal => x0 (ix2 r k) * Ideal.rsqrt (Ideal.div s (Ideal.ofBits .f32 0x44800000#32) + eps)) ?_)
    (congrArg x2 (Shape.idx_ext₂ rfl rfl))) (congrArg (fun s : EReal => one + s) (congrArg x1 (ext3 rfl rfl rfl)))) (congrArg x1 (ext3 rfl rfl rfl))
  show Ideal.ofBits .f32 0x00000000#32 + _ = _
  rw [Ideal.ofBits_zero_f32, zero_add]
  exact Finset.sum_congr rfl fun k _ => (val_main_v6_apply _ _).trans (congrArg (fun a => x0 a * x0 a) (Shape.idx_ext₂ rfl rfl))

/-- The reference's products. -/
theorem product_at (r : Fin 65536) (n : Fin 5120) : val_main_v27 (F := Ideal) x0 x1 x2 x3 (ix2 r n) = productAt x0 x1 x2 x3 r n := by
  rw [val_main_v27_apply]
  unfold productAt
  refine Finset.sum_congr rfl fun k _ => congrArg₂ (fun a b : EReal => a * b) ?_ ?_
  · exact (congrArg (val_main_v25 (F := Ideal) x0 x1 x2) (Shape.idx_ext₂ rfl rfl)).trans (token_at x0 x1 x2 r k)
  · rw [val_main_v26_apply]
    exact congrArg x3 (Shape.idx_ext₂ rfl rfl)

/-- The reference's tables at a row. -/
theorem table_at (x : S2048x64.Idx → EReal) (r : Fin 65536) (d : Fin 64) :
    val_main_v58 (F := Ideal) x (ix3 r 0 d) = x (ix2 ⟨r.val % 2048, by omega⟩ d) := by
  rw [val_main_v58_apply, val_main_v57_apply, val_main_v56_apply, val_main_v55_apply]
  refine congrArg x (Shape.idx_ext₂ ?_ ?_)
  · show (((0 * 2048 + (r.val * 64 + d.val) / 64 % 2048) * 1 + 0) * 64 + (r.val * 64 + d.val) % 64) / 64 = r.val % 2048; omega
  · show (((0 * 2048 + (r.val * 64 + d.val) / 64 % 2048) * 1 + 0) * 64 + (r.val * 64 + d.val) % 64) % 64 = d.val; omega

/-- The reference's queries before the norm, by head. -/
theorem queryHead_at (r : Fin 65536) (h : Fin 8) (d : Fin 64) :
    val_main_v34 (F := Ideal) x0 x1 x2 x3 (ix3 r h d) = productAt x0 x1 x2 x3 r ⟨h.val * 64 + d.val, by omega⟩ := by
  rw [val_main_v34_apply, val_main_v28_apply]
  refine (congrArg (val_main_v27 (F := Ideal) x0 x1 x2 x3) (Shape.idx_ext₂ ?_ ?_)).trans (product_at x0 x1 x2 x3 r ⟨h.val * 64 + d.val, by omega⟩)
  · show ((r.val * 8 + h.val) * 64 + d.val) / 512 = r.val; omega
  · show ((r.val * 8 + h.val) * 64 + d.val) % 512 = h.val * 64 + d.val; omega

/-- The reference's queries normed, by head. -/
theorem queryNormed_at (r : Fin 65536) (h : Fin 8) (d : Fin 64) : val_main_v47 (F := Ideal) x0 x1 x2 x3 x6 (ix3 r h d)
    = normed (fun d => productAt x0 x1 x2 x3 r ⟨h.val * 64 + d.val, by omega⟩) (fun d => x6 (ix2 0 d)) d := by
  rw [val_main_v47_apply, val_main_v44_apply, val_main_v43_apply, val_main_v42_apply, val_main_v41_apply, val_main_v39_apply, val_main_v37_apply,
    val_main_v36_apply, val_main_v38_apply, val_main_cst_4_apply, val_main_v40_apply, val_main_cst_5_apply, val_main_v46_apply, val_main_v45_apply,
    val_main_cst_3_apply, queryHead_at]
  unfold normed
  refine congrArg₂ (fun a b : EReal => a * b)
    (congrArg (fun s : EReal => productAt x0 x1 x2 x3 r ⟨h.val * 64 + d.val, by omega⟩ * Ideal.rsqrt (Ideal.div s (Ideal.ofBits .f32 0x42800000#32) + eps)) ?_)
    (congrArg x6 (Shape.idx_ext₂ rfl rfl))
  show Ideal.ofBits .f32 0x00000000#32 + _ = _
  rw [Ideal.ofBits_zero_f32, zero_add]
  refine Finset.sum_congr rfl fun d _ => (val_main_v35_apply _ _ _ _ _).trans (congrArg (fun a : EReal => a * a) ?_)
  exact (congrArg (val_main_v34 (F := Ideal) x0 x1 x2 x3) (ext3 rfl rfl rfl)).trans (queryHead_at x0 x1 x2 x3 r h d)

/-- The reference's queries rotated, by head. -/
theorem queryRotated_at (r : Fin 65536) (h : Fin 8) (d : Fin 64) : val_main_v67 (F := Ideal) x0 x1 x2 x3 x4 x5 x6 (ix3 r h d)
    = rotated (fun d => productAt x0 x1 x2 x3 r ⟨h.val * 64 + d.val, by omega⟩) (fun d => x6 (ix2 0 d))
      (fun d => x4 (ix2 ⟨r.val % 2048, by omega⟩ d)) (fun d => x5 (ix2 ⟨r.val % 2048, by omega⟩ d)) d := by
  have n : ∀ i (d : Fin 64), i = ix3 r h d → val_main_v47 (F := Ideal) x0 x1 x2 x3 x6 i = normed _ _ d := fun i d e => e ▸ queryNormed_at x0 x1 x2 x3 x6 r h d
  rw [val_main_v67_apply, val_main_v64_apply, val_main_v66_apply, val_main_v63_apply, val_main_v65_apply, n _ d rfl]
  unfold rotated val_main_v54
  refine congrArg₂ (fun a b : EReal => a + b) (congrArg (fun a : EReal => normed _ _ d * a)
    ((congrArg (val_main_v58 (F := Ideal) x4) (ext3 rfl rfl rfl)).trans (table_at x4 r d))) (congrArg₂ (fun a b : EReal => a * b)
    (joined_at _ _ _ _ _ r h _ (fun d => ?_) (fun d => ?_) (fun d => ?_) (fun d => ?_) d)
    ((congrArg (val_main_v58 (F := Ideal) x5) (ext3 rfl rfl rfl)).trans (table_at x5 r d)))
  · rw [val_main_v52_apply, val_main_v49_apply]
    exact congrArg (fun a : EReal => -a) (n _ ⟨16 + d.val, by omega⟩ (ext3 rfl rfl rfl))
  · rw [val_main_v48_apply]
    exact n _ ⟨d.val, by omega⟩ (ext3 rfl rfl rfl)
  · rw [val_main_v53_apply, val_main_v51_apply]
    exact congrArg (fun a : EReal => -a) (n _ ⟨48 + d.val, by omega⟩ (ext3 rfl rfl rfl))
  · rw [val_main_v50_apply]
    exact n _ ⟨32 + d.val, by omega⟩ (ext3 rfl rfl rfl)

/-- The reference's keys before the norm, by head. -/
theorem keyHead_at (r : Fin 65536) (h : Fin 2) (d : Fin 64) :
    val_main_v71 (F := Ideal) x0 x1 x2 x3 (ix3 r h d) = productAt x0 x1 x2 x3 r ⟨512 + (h.val * 64 + d.val), by omega⟩ := by
  rw [val_main_v71_apply, val_main_v29_apply]
  refine (congrArg (val_main_v27 (F := Ideal) x0 x1 x2 x3) (Shape.idx_ext₂ ?_ ?_)).trans (product_at x0 x1 x2 x3 r ⟨512 + (h.val * 64 + d.val), by omega⟩)
  · show ((r.val * 2 + h.val) * 64 + d.val) / 128 = r.val; omega
  · show 512 + ((r.val * 2 + h.val) * 64 + d.val) % 128 = 512 + (h.val * 64 + d.val); omega

/-- The reference's keys normed, by head. -/
theorem keyNormed_at (r : Fin 65536) (h : Fin 2) (d : Fin 64) : val_main_v84 (F := Ideal) x0 x1 x2 x3 x7 (ix3 r h d)
    = normed (fun d => productAt x0 x1 x2 x3 r ⟨512 + (h.val * 64 + d.val), by omega⟩) (fun d => x7 (ix2 0 d)) d := by
  rw [val_main_v84_apply, val_main_v81_apply, val_main_v80_apply, val_main_v79_apply, val_main_v78_apply, val_main_v76_apply, val_main_v74_apply,
    val_main_v73_apply, val_main_v75_apply, val_main_cst_8_apply, val_main_v77_apply, val_main_cst_9_apply, val_main_v83_apply, val_main_v82_apply,
    val_main_cst_7_apply, keyHead_at]
  unfold normed
  refine congrArg₂ (fun a b : EReal => a * b)
    (congrArg (fun s : EReal => productAt x0 x1 x2 x3 r ⟨512 + (h.val * 64 + d.val), by omega⟩ * Ideal.rsqrt (Ideal.div s (Ideal.ofBits .f32 0x42800000#32) + eps)) ?_)
    (congrArg x7 (Shape.idx_ext₂ rfl rfl))
  show Ideal.ofBits .f32 0x00000000#32 + _ = _
  rw [Ideal.ofBits_zero_f32, zero_add]
  refine Finset.sum_congr rfl fun d _ => (val_main_v72_apply _ _ _ _ _).trans (congrArg (fun a : EReal => a * a) ?_)
  exact (congrArg (val_main_v71 (F := Ideal) x0 x1 x2 x3) (ext3 rfl rfl rfl)).trans (keyHead_at x0 x1 x2 x3 r h d)

/-- The reference's keys rotated, by head. -/
theorem keyRotated_at (r : Fin 65536) (h : Fin 2) (d : Fin 64) : val_main_v104 (F := Ideal) x0 x1 x2 x3 x4 x5 x7 (ix3 r h d)
    = rotated (fun d => productAt x0 x1 x2 x3 r ⟨512 + (h.val * 64 + d.val), by omega⟩) (fun d => x7 (ix2 0 d))
      (fun d => x4 (ix2 ⟨r.val % 2048, by omega⟩ d)) (fun d => x5 (ix2 ⟨r.val % 2048, by omega⟩ d)) d := by
  have n : ∀ i (d : Fin 64), i = ix3 r h d → val_main_v84 (F := Ideal) x0 x1 x2 x3 x7 i = normed _ _ d := fun i d e => e ▸ keyNormed_at x0 x1 x2 x3 x7 r h d
  rw [val_main_v104_apply, val_main_v101_apply, val_main_v103_apply, val_main_v100_apply, val_main_v102_apply, n _ d rfl]
  unfold rotated val_main_v91
  refine congrArg₂ (fun a b : EReal => a + b) (congrArg (fun a : EReal => normed _ _ d * a)
    ((congrArg (val_main_v58 (F := Ideal) x4) (ext3 rfl rfl rfl)).trans (table_at x4 r d))) (congrArg₂ (fun a b : EReal => a * b)
    (joined_at _ _ _ _ _ r h _ (fun d => ?_) (fun d => ?_) (fun d => ?_) (fun d => ?_) d)
    ((congrArg (val_main_v58 (F := Ideal) x5) (ext3 rfl rfl rfl)).trans (table_at x5 r d)))
  · rw [val_main_v89_apply, val_main_v86_apply]
    exact congrArg (fun a : EReal => -a) (n _ ⟨16 + d.val, by omega⟩ (ext3 rfl rfl rfl))
  · rw [val_main_v85_apply]
    exact n _ ⟨d.val, by omega⟩ (ext3 rfl rfl rfl)
  · rw [val_main_v90_apply, val_main_v88_apply]
    exact congrArg (fun a : EReal => -a) (n _ ⟨48 + d.val, by omega⟩ (ext3 rfl rfl rfl))
  · rw [val_main_v87_apply]
    exact n _ ⟨32 + d.val, by omega⟩ (ext3 rfl rfl rfl)

/-- The reference's queries. -/
theorem query_at (r : Fin 65536) (n : Fin 512) :
    val_main_v106 (F := Ideal) x0 x1 x2 x3 x4 x5 x6 (ix2 r n) = queryAt x0 x1 x2 x3 x4 x5 x6 r n := by
  have e : idx_main_v68 (ix2 r n) = ix3 r ⟨n.val / 64, by omega⟩ ⟨n.val % 64, by omega⟩ :=
    ext3 (by show (r.val * 512 + n.val) / 512 = r.val; omega) (by show (r.val * 512 + n.val) / 64 % 8 = n.val / 64; omega)
      (by show (r.val * 512 + n.val) % 64 = n.val % 64; omega)
  rw [val_main_v106_apply, val_main_v70_apply, val_main_v68_apply, e, queryRotated_at, val_main_v69_apply, val_main_cst_6_apply]
  rfl

/-- The reference's keys. -/
theorem key_at (r : Fin 65536) (n : Fin 128) :
    val_main_v107 (F := Ideal) x0 x1 x2 x3 x4 x5 x7 (ix2 r n) = keyAt x0 x1 x2 x3 x4 x5 x7 r n := by
  have e : idx_main_v105 (ix2 r n) = ix3 r ⟨n.val / 64, by omega⟩ ⟨n.val % 64, by omega⟩ :=
    ext3 (by show (r.val * 128 + n.val) / 128 = r.val; omega) (by show (r.val * 128 + n.val) / 64 % 2 = n.val / 64; omega)
      (by show (r.val * 128 + n.val) % 64 = n.val % 64; omega)
  rw [val_main_v107_apply, val_main_v105_apply, e, keyRotated_at]
  rfl

/-- The reference's values. -/
theorem value_at (r : Fin 65536) (n : Fin 128) :
    val_main_v108 (F := Ideal) x0 x1 x2 x3 (ix2 r n) = columnsAt x0 x1 x2 x3 640 128 (by decide) r n := by
  rw [val_main_v108_apply, val_main_v30_apply]
  unfold columnsAt
  refine (congrArg (val_main_v27 (F := Ideal) x0 x1 x2 x3) (Shape.idx_ext₂ ?_ ?_)).trans (product_at x0 x1 x2 x3 r ⟨640 + n.val, by omega⟩)
  · rfl
  · rfl

/-- The reference's fourth result. -/
theorem fourth_at (r : Fin 65536) (n : Fin 768) :
    val_main_v31 (F := Ideal) x0 x1 x2 x3 (ix2 r n) = columnsAt x0 x1 x2 x3 768 768 (by decide) r n := by
  rw [val_main_v31_apply]
  unfold columnsAt
  refine (congrArg (val_main_v27 (F := Ideal) x0 x1 x2 x3) (Shape.idx_ext₂ ?_ ?_)).trans (product_at x0 x1 x2 x3 r ⟨768 + n.val, by omega⟩)
  · rfl
  · rfl

/-- The reference's fifth result. -/
theorem fifth_at (r : Fin 65536) (n : Fin 512) :
    val_main_v32 (F := Ideal) x0 x1 x2 x3 (ix2 r n) = columnsAt x0 x1 x2 x3 1536 512 (by decide) r n := by
  rw [val_main_v32_apply]
  unfold columnsAt
  refine (congrArg (val_main_v27 (F := Ideal) x0 x1 x2 x3) (Shape.idx_ext₂ ?_ ?_)).trans (product_at x0 x1 x2 x3 r ⟨1536 + n.val, by omega⟩)
  · rfl
  · rfl

/-- The reference's gates. -/
theorem gate_at (r : Fin 65536) (n : Fin 3072) :
    val_main_v33 (F := Ideal) x0 x1 x2 x3 (ix2 r n) = columnsAt x0 x1 x2 x3 2048 3072 (by decide) r n := by
  rw [val_main_v33_apply]
  unfold columnsAt
  refine (congrArg (val_main_v27 (F := Ideal) x0 x1 x2 x3) (Shape.idx_ext₂ ?_ ?_)).trans (product_at x0 x1 x2 x3 r ⟨2048 + n.val, by omega⟩)
  · rfl
  · rfl

end Cert.Projection

end
-- ==== Proof.Projection.lean ====
/-
  The claims about the projection kernel: frames, and its six results the reference's over the extended reals.
-/
module

public import proofs.«01_k».proof.Proof.Finite
public import proofs.«01_k».proof.Proof.ProjectionOut
public import proofs.«01_k».proof.Proof.ProjectionRef
public import proofs.«01_k».proof.Proof.Gen.Kernel6.Frame
public import proofs.«01_k».proof.Proof.Gen.Reference6Ideal.Run
public import proofs.«01_k».proof.Proof.Gen.Pre_finite_tokens
public import Idealize.ShloMosaic.Lib.Quiescent

@[expose] public section

noncomputable section

namespace Cert.Projection

open Idealize.ShloMosaic hiding ix1 ix2 ix3 ix4 eq_ix2
open Idealize.ShloMosaic.TcCoe Idealize.SL.Sem Idealize.ShloMosaic.ValueIdx
open Cert.Kernel6Ideal (S65536x1024 S32x1x6144 S1x1024 S1024x5120 S2048x64 S1x64 S65536x512 S65536x128 S65536x768 S65536x3072)
open Cert.Kernel6Ideal.Projection (Reals queries keys values fourth fifth gates)

/-- The reference runs, leaves its arguments and declares no semaphore. -/
theorem reference_frame : Cert.quiescent_Reference6Ideal := fun m ρ _ =>
  (θ_run Cert.Reference6Ideal.defs _ _).mono (fun r h => ⟨fun c => (h c).2.2.2.2.2.2,
      Idealize.ShloMosaic.sem_eq_zero_of_no_sems (by decide) r.2⟩)
    (Cert.Reference6Ideal.Value.run (F := Ideal) m ρ)

/-- The precondition: the tokens, the first shifts and scales, the gain and the queries' and keys' weights are real numbers. -/
theorem reals_of_pre (x0 : S65536x1024.Idx → EReal) (x1 : S32x1x6144.Idx → EReal) (x2 : S1x1024.Idx → EReal) (x3 : S1024x5120.Idx → EReal)
    (x4 x5 : S2048x64.Idx → EReal) (x6 x7 : S1x64.Idx → EReal)
    (h : Cert.Pre_finite_tokens.fn (F := Ideal) x0 x1 x2 x3 x4 x5 x6 x7 = fun _ => 1#1) : Reals x0 x1 x2 x3 := by
  have h0 := congrFun h (fun a : Fin 0 => a.elim0)
  have : Subsingleton Cert.Pre_finite_tokens.S_.Idx := ⟨fun a b => funext fun d : Fin 0 => d.elim0⟩
  unfold Cert.Pre_finite_tokens.fn Cert.Pre_finite_tokens.fn_part1 at h0
  obtain ⟨h1, hw⟩ := IntOp.andi_eq_one.1 h0
  obtain ⟨h2, hg⟩ := IntOp.andi_eq_one.1 h1
  obtain ⟨hx, hm⟩ := IntOp.andi_eq_one.1 h2
  refine ⟨fun i => Cert.Attention.real_of_lt _ (Host.reduce_andi_all _ _ _ _ _ hx i), fun b k => ?_,
    fun i => Cert.Attention.real_of_lt _ (Host.reduce_andi_all _ _ _ _ _ hg i), fun k n => ?_⟩
  · obtain ⟨y, hy⟩ := Cert.Attention.real_of_lt _ (Host.reduce_andi_all _ _ _ _ _ hm (ix3 b 0 k))
    refine ⟨y, Eq.trans (extractStridedSlice_apply _ x1 Cert.Pre_finite_tokens.Gen.facts.slices_S32x1x6144_S32x1x2048_0_0_0 (ix3 b 0 k) (ix3 b 0 ⟨k.val, by omega⟩) (fun a => ?_)).symm hy⟩
    match a with
    | ⟨0, _⟩ => show b.val = 0 + b.val; omega
    | ⟨1, _⟩ => rfl
    | ⟨2, _⟩ => show k.val = 0 + k.val; omega
  · obtain ⟨y, hy⟩ := Cert.Attention.real_of_lt _ (Host.reduce_andi_all _ _ _ _ _ hw (ix2 k n))
    refine ⟨y, Eq.trans (extractStridedSlice_apply _ x3 Cert.Pre_finite_tokens.Gen.facts.slices_S1024x5120_S1024x640_0_0 (ix2 k n) (ix2 k ⟨n.val, by omega⟩) (fun a => ?_)).symm hy⟩
    match a with
    | ⟨0, _⟩ => show k.val = 0 + k.val; omega
    | ⟨1, _⟩ => show n.val = 0 + n.val; omega

set_option maxHeartbeats 1000000 in
/-- Under the precondition the kernel's six result arrays are the reference's. -/
theorem algebraic : Cert.algebraic_Kernel6Ideal_Reference6Ideal_pre_finite_tokens := by
  intro m ρ m' ρ' hpre hagree
  refine ⟨fun c => queries m c, fun c => keys m c, fun c => values m c, fun c => fourth m c, fun c => fifth m c, fun c => gates m c, ?_, ?_⟩
  · refine (θ_run Cert.Kernel6Ideal.defs _ _).mono (fun _ h c => ?_) (Cert.Kernel6Ideal.Value.run_blocks (F := Ideal) m ρ)
    have hr := reals_of_pre _ _ _ _ _ _ _ _ (hpre c)
    obtain ⟨h0, h1, h2, h3, h4, h5, hk⟩ := h c
    exact ⟨h0.trans (Cert.Kernel6Ideal.Projection.final9 m c hr), h1.trans (Cert.Kernel6Ideal.Projection.final10 m c hr),
      h2.trans (Cert.Kernel6Ideal.Projection.final11 m c), h3.trans (Cert.Kernel6Ideal.Projection.final12 m c),
      h4.trans (Cert.Kernel6Ideal.Projection.final13 m c), h5.trans (Cert.Kernel6Ideal.Projection.final14 m c), hk⟩
  · refine (θ_run Cert.Reference6Ideal.defs _ _).mono (fun _ h c => ?_) (Cert.Reference6Ideal.Value.run (F := Ideal) m' ρ')
    obtain ⟨a0, a1, a2, a3, a4, a5, a6, a7⟩ := hagree c
    obtain ⟨h0, h1, h2, h3, h4, h5, hk⟩ := h c
    refine ⟨h0.trans ?_, h1.trans ?_, h2.trans ?_, h3.trans ?_, h4.trans ?_, h5.trans ?_, hk⟩
    · rw [Cert.Reference6Ideal.Read.val_main_v106_eq, a0, a1, a2, a3, a4, a5, a6]
      refine funext fun j : S65536x512.Idx => ?_
      rw [eq_ix2 j]
      exact query_at _ _ _ _ _ _ _ (j 0) (j 1)
    · rw [Cert.Reference6Ideal.Read.val_main_v107_eq, a0, a1, a2, a3, a4, a5, a7]
      refine funext fun j : S65536x128.Idx => ?_
      rw [eq_ix2 j]
      exact key_at _ _ _ _ _ _ _ (j 0) (j 1)
    · rw [Cert.Reference6Ideal.Read.val_main_v108_eq, a0, a1, a2, a3]
      refine funext fun j : S65536x128.Idx => ?_
      rw [eq_ix2 j]
      exact value_at _ _ _ _ (j 0) (j 1)
    · rw [Cert.Reference6Ideal.Read.val_main_v31_eq, a0, a1, a2, a3]
      refine funext fun j : S65536x768.Idx => ?_
      rw [eq_ix2 j]
      exact fourth_at _ _ _ _ (j 0) (j 1)
    · rw [Cert.Reference6Ideal.Read.val_main_v32_eq, a0, a1, a2, a3]
      refine funext fun j : S65536x512.Idx => ?_
      rw [eq_ix2 j]
      exact fifth_at _ _ _ _ (j 0) (j 1)
    · rw [Cert.Reference6Ideal.Read.val_main_v33_eq, a0, a1, a2, a3]
      refine funext fun j : S65536x3072.Idx => ?_
      rw [eq_ix2 j]
      exact gate_at _ _ _ _ (j 0) (j 1)

end Cert.Projection

end
-- ==== Proof.lean ====
module

public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Read
public import proofs.«01_k».proof.Proof.Gen.Pre_finite_conditioning
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Read
public import proofs.«01_k».proof.Proof.Gen.Pre_finite_tokens
public import proofs.«01_k».proof.Defs
public import proofs.«01_k».proof.Proof.Attention
public import proofs.«01_k».proof.Proof.Experts
public import proofs.«01_k».proof.Proof.LastExperts
public import proofs.«01_k».proof.Proof.Combine
public import proofs.«01_k».proof.Proof.Modulation
public import proofs.«01_k».proof.Proof.Projection

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_queries_keys.Gen.facts, Cert.Pre_experts_named.Gen.facts, Cert.Pre_experts_named_weights_real.Gen.facts,
  Cert.Pre_experts_named_last.Gen.facts, Cert.Pre_experts_named_weights_real_last.Gen.facts,
  Cert.Pre_positions_named.Gen.facts, Cert.Pre_finite_conditioning.Gen.facts, Cert.Pre_finite_tokens.Gen.facts,
  fun m ρ _ => Cert.Kernel.Gen.frame m ρ, fun m ρ _ => Cert.KernelIdeal.Gen.frame m ρ, fun m ρ _ => Cert.KernelIdeal.Gen.frame m ρ,
  Cert.Attention.reference_frame, fun m ρ _ => Cert.Attention.reference_frame m ρ trivial,
  Cert.Experts.kernel_frame, Cert.Experts.ideal_frame, Cert.Experts.ideal_frame_real,
  Cert.Experts.reference_frame, fun m ρ _ => Cert.Experts.reference_frame m ρ trivial,
  Cert.LastExperts.kernel_frame, Cert.LastExperts.ideal_frame, Cert.LastExperts.ideal_frame_real,
  Cert.LastExperts.reference_frame, fun m ρ _ => Cert.LastExperts.reference_frame m ρ trivial,
  Cert.Combine.kernel_frame, Cert.Combine.ideal_frame,
  Cert.Combine.reference_frame, fun m ρ _ => Cert.Combine.reference_frame m ρ trivial,
  fun m ρ _ => Cert.Kernel5.Gen.frame m ρ, fun m ρ _ => Cert.Kernel5Ideal.Gen.frame m ρ, fun m ρ _ => Cert.Kernel5Ideal.Gen.frame m ρ,
  Cert.Modulation.reference_frame, fun m ρ _ => Cert.Modulation.reference_frame m ρ trivial,
  fun m ρ _ => Cert.Kernel6.Gen.frame m ρ, fun m ρ _ => Cert.Kernel6Ideal.Gen.frame m ρ, fun m ρ _ => Cert.Kernel6Ideal.Gen.frame m ρ,
  Cert.Projection.reference_frame, fun m ρ _ => Cert.Projection.reference_frame m ρ trivial,
  trivial, Cert.Attention.algebraic, trivial, Cert.Experts.algebraic,
  trivial, Cert.LastExperts.algebraic,
  trivial, Cert.Combine.algebraic,
  trivial, Cert.Modulation.algebraic,
  trivial, Cert.Projection.algebraic⟩

end Cert.Proof

end
